-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_Experts [hPre_tables : Cert.Pre_tables.Facts] (m : (ℓ : Loc Cert.Experts.nD Cert.Experts.τ Cert.Experts.sig) → Buf (Elt Bits) ℓ) : Prop :=
  ∀ c : Dev Cert.Experts.nD,
    (Cert.Pre_tables.fn (F := Bits) (m ((c.tc : Thread Cert.Experts.nD Cert.Experts.τ).loc Cert.Experts.main_arg0)) (m ((c.tc : Thread Cert.Experts.nD Cert.Experts.τ).loc Cert.Experts.main_arg1)) (m ((c.tc : Thread Cert.Experts.nD Cert.Experts.τ).loc Cert.Experts.main_arg2)) (m ((c.tc : Thread Cert.Experts.nD Cert.Experts.τ).loc Cert.Experts.main_arg3)) (m ((c.tc : Thread Cert.Experts.nD Cert.Experts.τ).loc Cert.Experts.main_arg4)) (m ((c.tc : Thread Cert.Experts.nD Cert.Experts.τ).loc Cert.Experts.main_arg5))) = (fun _ => 1#1)

def Pre_ExpertsIdeal [hPre_tables : Cert.Pre_tables.Facts] (m : (ℓ : Loc Cert.ExpertsIdeal.nD Cert.ExpertsIdeal.τ Cert.ExpertsIdeal.sig) → Buf (Elt Ideal) ℓ) : Prop :=
  ∀ c : Dev Cert.ExpertsIdeal.nD,
    (Cert.Pre_tables.fn (F := Ideal) (m ((c.tc : Thread Cert.ExpertsIdeal.nD Cert.ExpertsIdeal.τ).loc Cert.ExpertsIdeal.main_arg0)) (m ((c.tc : Thread Cert.ExpertsIdeal.nD Cert.ExpertsIdeal.τ).loc Cert.ExpertsIdeal.main_arg1)) (m ((c.tc : Thread Cert.ExpertsIdeal.nD Cert.ExpertsIdeal.τ).loc Cert.ExpertsIdeal.main_arg2)) (m ((c.tc : Thread Cert.ExpertsIdeal.nD Cert.ExpertsIdeal.τ).loc Cert.ExpertsIdeal.main_arg3)) (m ((c.tc : Thread Cert.ExpertsIdeal.nD Cert.ExpertsIdeal.τ).loc Cert.ExpertsIdeal.main_arg4)) (m ((c.tc : Thread Cert.ExpertsIdeal.nD Cert.ExpertsIdeal.τ).loc Cert.ExpertsIdeal.main_arg5))) = (fun _ => 1#1)

def Pre_AllExpertsIdeal (m : (ℓ : Loc Cert.AllExpertsIdeal.nD Cert.AllExpertsIdeal.τ Cert.AllExpertsIdeal.sig) → Buf (Elt Ideal) ℓ) : Prop :=
  True

def Pre_AllExpertsIdeal_tables [hPre_tables : Cert.Pre_tables.Facts] (m : (ℓ : Loc Cert.AllExpertsIdeal.nD Cert.AllExpertsIdeal.τ Cert.AllExpertsIdeal.sig) → Buf (Elt Ideal) ℓ) : Prop :=
  ∀ c : Dev Cert.AllExpertsIdeal.nD,
    (Cert.Pre_tables.fn (F := Ideal) (m ((c.tc : Thread Cert.AllExpertsIdeal.nD Cert.AllExpertsIdeal.τ).loc Cert.AllExpertsIdeal.main_arg0)) (m ((c.tc : Thread Cert.AllExpertsIdeal.nD Cert.AllExpertsIdeal.τ).loc Cert.AllExpertsIdeal.main_arg1)) (m ((c.tc : Thread Cert.AllExpertsIdeal.nD Cert.AllExpertsIdeal.τ).loc Cert.AllExpertsIdeal.main_arg2)) (m ((c.tc : Thread Cert.AllExpertsIdeal.nD Cert.AllExpertsIdeal.τ).loc Cert.AllExpertsIdeal.main_arg3)) (m ((c.tc : Thread Cert.AllExpertsIdeal.nD Cert.AllExpertsIdeal.τ).loc Cert.AllExpertsIdeal.main_arg4)) (m ((c.tc : Thread Cert.AllExpertsIdeal.nD Cert.AllExpertsIdeal.τ).loc Cert.AllExpertsIdeal.main_arg5))) = (fun _ => 1#1)

def Pre_Dense (m : (ℓ : Loc Cert.Dense.nD Cert.Dense.τ Cert.Dense.sig) → Buf (Elt Bits) ℓ) : Prop :=
  True

def Pre_DenseIdeal (m : (ℓ : Loc Cert.DenseIdeal.nD Cert.DenseIdeal.τ Cert.DenseIdeal.sig) → Buf (Elt Ideal) ℓ) : Prop :=
  True

def Pre_PlainDenseIdeal (m : (ℓ : Loc Cert.PlainDenseIdeal.nD Cert.PlainDenseIdeal.τ Cert.PlainDenseIdeal.sig) → Buf (Elt Ideal) ℓ) : Prop :=
  True

def Pre_Mixed (m : (ℓ : Loc Cert.Mixed.nD Cert.Mixed.τ Cert.Mixed.sig) → Buf (Elt Bits) ℓ) : Prop :=
  True

def Pre_MixedIdeal (m : (ℓ : Loc Cert.MixedIdeal.nD Cert.MixedIdeal.τ Cert.MixedIdeal.sig) → Buf (Elt Ideal) ℓ) : Prop :=
  True

def Pre_PlainMixedIdeal (m : (ℓ : Loc Cert.PlainMixedIdeal.nD Cert.PlainMixedIdeal.τ Cert.PlainMixedIdeal.sig) → Buf (Elt Ideal) ℓ) : Prop :=
  True

def Pre_Prep (m : (ℓ : Loc Cert.Prep.nD Cert.Prep.τ Cert.Prep.sig) → Buf (Elt Bits) ℓ) : Prop :=
  True

def Pre_PrepIdeal (m : (ℓ : Loc Cert.PrepIdeal.nD Cert.PrepIdeal.τ Cert.PrepIdeal.sig) → Buf (Elt Ideal) ℓ) : Prop :=
  True

def Pre_PlainPrepIdeal (m : (ℓ : Loc Cert.PlainPrepIdeal.nD Cert.PlainPrepIdeal.τ Cert.PlainPrepIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Experts [hExperts : Cert.Experts.Facts] [hPre_tables : Cert.Pre_tables.Facts] : Prop :=
  ∀ (m : (ℓ : Loc Cert.Experts.nD Cert.Experts.τ Cert.Experts.sig) → Buf (Elt Bits) ℓ) (g : Dev Cert.Experts.nD → PrngReg), Pre_Experts m →
    θ_run (Cert.Experts.defs (F := Bits)) (onTc (τ := Cert.Experts.τ) (Cert.Experts.main (F := Bits))) ⟨m, fun _ => 0, g⟩ (fun r => (∀ c : Dev Cert.Experts.nD,
      r.2.mem ((c.tc : Thread Cert.Experts.nD Cert.Experts.τ).loc Cert.Experts.main_arg0) = m ((c.tc : Thread Cert.Experts.nD Cert.Experts.τ).loc Cert.Experts.main_arg0)
      ∧ r.2.mem ((c.tc : Thread Cert.Experts.nD Cert.Experts.τ).loc Cert.Experts.main_arg1) = m ((c.tc : Thread Cert.Experts.nD Cert.Experts.τ).loc Cert.Experts.main_arg1)
      ∧ r.2.mem ((c.tc : Thread Cert.Experts.nD Cert.Experts.τ).loc Cert.Experts.main_arg2) = m ((c.tc : Thread Cert.Experts.nD Cert.Experts.τ).loc Cert.Experts.main_arg2)
      ∧ r.2.mem ((c.tc : Thread Cert.Experts.nD Cert.Experts.τ).loc Cert.Experts.main_arg3) = m ((c.tc : Thread Cert.Experts.nD Cert.Experts.τ).loc Cert.Experts.main_arg3)
      ∧ r.2.mem ((c.tc : Thread Cert.Experts.nD Cert.Experts.τ).loc Cert.Experts.main_arg4) = m ((c.tc : Thread Cert.Experts.nD Cert.Experts.τ).loc Cert.Experts.main_arg4)
      ∧ r.2.mem ((c.tc : Thread Cert.Experts.nD Cert.Experts.τ).loc Cert.Experts.main_arg5) = m ((c.tc : Thread Cert.Experts.nD Cert.Experts.τ).loc Cert.Experts.main_arg5))
      ∧ r.2.sem = fun _ => 0)

def quiescent_ExpertsIdeal [hExpertsIdeal : Cert.ExpertsIdeal.Facts] [hPre_tables : Cert.Pre_tables.Facts] : Prop :=
  ∀ (m : (ℓ : Loc Cert.ExpertsIdeal.nD Cert.ExpertsIdeal.τ Cert.ExpertsIdeal.sig) → Buf (Elt Ideal) ℓ) (g : Dev Cert.ExpertsIdeal.nD → PrngReg), Pre_ExpertsIdeal m →
    θ_run (Cert.ExpertsIdeal.defs (F := Ideal)) (onTc (τ := Cert.ExpertsIdeal.τ) (Cert.ExpertsIdeal.main (F := Ideal))) ⟨m, fun _ => 0, g⟩ (fun r => (∀ c : Dev Cert.ExpertsIdeal.nD,
      r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
      ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
      ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
      ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3)
      ∧ r.2.mem ((c.tc : Thread Cert.ExpertsIdeal.nD Cert.ExpertsIdeal.τ).loc Cert.ExpertsIdeal.main_arg4) = m ((c.tc : Thread Cert.ExpertsIdeal.nD Cert.ExpertsIdeal.τ).loc Cert.ExpertsIdeal.main_arg4)
      ∧ r.2.mem ((c.tc : Thread Cert.ExpertsIdeal.nD Cert.ExpertsIdeal.τ).loc Cert.ExpertsIdeal.main_arg5) = m ((c.tc : Thread Cert.ExpertsIdeal.nD Cert.ExpertsIdeal.τ).loc Cert.ExpertsIdeal.main_arg5))
      ∧ r.2.sem = fun _ => 0)

def quiescent_AllExpertsIdeal [hAllExpertsIdeal : Cert.AllExpertsIdeal.Facts] : Prop :=
  ∀ (m : (ℓ : Loc Cert.AllExpertsIdeal.nD Cert.AllExpertsIdeal.τ Cert.AllExpertsIdeal.sig) → Buf (Elt Ideal) ℓ) (g : Dev Cert.AllExpertsIdeal.nD → PrngReg), Pre_AllExpertsIdeal m →
    θ_run (Cert.AllExpertsIdeal.defs (F := Ideal)) (onTc (τ := Cert.AllExpertsIdeal.τ) (Cert.AllExpertsIdeal.main (F := Ideal))) ⟨m, fun _ => 0, g⟩ (fun r => (∀ c : Dev Cert.AllExpertsIdeal.nD,
      r.2.mem ((c.tc : Thread Cert.AllExpertsIdeal.nD Cert.AllExpertsIdeal.τ).loc Cert.AllExpertsIdeal.main_arg0) = m ((c.tc : Thread Cert.AllExpertsIdeal.nD Cert.AllExpertsIdeal.τ).loc Cert.AllExpertsIdeal.main_arg0)
      ∧ r.2.mem ((c.tc : Thread Cert.AllExpertsIdeal.nD Cert.AllExpertsIdeal.τ).loc Cert.AllExpertsIdeal.main_arg1) = m ((c.tc : Thread Cert.AllExpertsIdeal.nD Cert.AllExpertsIdeal.τ).loc Cert.AllExpertsIdeal.main_arg1)
      ∧ r.2.mem ((c.tc : Thread Cert.AllExpertsIdeal.nD Cert.AllExpertsIdeal.τ).loc Cert.AllExpertsIdeal.main_arg2) = m ((c.tc : Thread Cert.AllExpertsIdeal.nD Cert.AllExpertsIdeal.τ).loc Cert.AllExpertsIdeal.main_arg2)
      ∧ r.2.mem ((c.tc : Thread Cert.AllExpertsIdeal.nD Cert.AllExpertsIdeal.τ).loc Cert.AllExpertsIdeal.main_arg3) = m ((c.tc : Thread Cert.AllExpertsIdeal.nD Cert.AllExpertsIdeal.τ).loc Cert.AllExpertsIdeal.main_arg3)
      ∧ r.2.mem ((c.tc : Thread Cert.AllExpertsIdeal.nD Cert.AllExpertsIdeal.τ).loc Cert.AllExpertsIdeal.main_arg4) = m ((c.tc : Thread Cert.AllExpertsIdeal.nD Cert.AllExpertsIdeal.τ).loc Cert.AllExpertsIdeal.main_arg4)
      ∧ r.2.mem ((c.tc : Thread Cert.AllExpertsIdeal.nD Cert.AllExpertsIdeal.τ).loc Cert.AllExpertsIdeal.main_arg5) = m ((c.tc : Thread Cert.AllExpertsIdeal.nD Cert.AllExpertsIdeal.τ).loc Cert.AllExpertsIdeal.main_arg5))
      ∧ r.2.sem = fun _ => 0)

def quiescent_AllExpertsIdeal_pre_tables [hAllExpertsIdeal : Cert.AllExpertsIdeal.Facts] [hPre_tables : Cert.Pre_tables.Facts] : Prop :=
  ∀ (m : (ℓ : Loc Cert.AllExpertsIdeal.nD Cert.AllExpertsIdeal.τ Cert.AllExpertsIdeal.sig) → Buf (Elt Ideal) ℓ) (g : Dev Cert.AllExpertsIdeal.nD → PrngReg), Pre_AllExpertsIdeal_tables m →
    θ_run (Cert.AllExpertsIdeal.defs (F := Ideal)) (onTc (τ := Cert.AllExpertsIdeal.τ) (Cert.AllExpertsIdeal.main (F := Ideal))) ⟨m, fun _ => 0, g⟩ (fun r => (∀ c : Dev Cert.AllExpertsIdeal.nD,
      r.2.mem ((c.tc : Thread Cert.AllExpertsIdeal.nD Cert.AllExpertsIdeal.τ).loc Cert.AllExpertsIdeal.main_arg0) = m ((c.tc : Thread Cert.AllExpertsIdeal.nD Cert.AllExpertsIdeal.τ).loc Cert.AllExpertsIdeal.main_arg0)
      ∧ r.2.mem ((c.tc : Thread Cert.AllExpertsIdeal.nD Cert.AllExpertsIdeal.τ).loc Cert.AllExpertsIdeal.main_arg1) = m ((c.tc : Thread Cert.AllExpertsIdeal.nD Cert.AllExpertsIdeal.τ).loc Cert.AllExpertsIdeal.main_arg1)
      ∧ r.2.mem ((c.tc : Thread Cert.AllExpertsIdeal.nD Cert.AllExpertsIdeal.τ).loc Cert.AllExpertsIdeal.main_arg2) = m ((c.tc : Thread Cert.AllExpertsIdeal.nD Cert.AllExpertsIdeal.τ).loc Cert.AllExpertsIdeal.main_arg2)
      ∧ r.2.mem ((c.tc : Thread Cert.AllExpertsIdeal.nD Cert.AllExpertsIdeal.τ).loc Cert.AllExpertsIdeal.main_arg3) = m ((c.tc : Thread Cert.AllExpertsIdeal.nD Cert.AllExpertsIdeal.τ).loc Cert.AllExpertsIdeal.main_arg3)
      ∧ r.2.mem ((c.tc : Thread Cert.AllExpertsIdeal.nD Cert.AllExpertsIdeal.τ).loc Cert.AllExpertsIdeal.main_arg4) = m ((c.tc : Thread Cert.AllExpertsIdeal.nD Cert.AllExpertsIdeal.τ).loc Cert.AllExpertsIdeal.main_arg4)
      ∧ r.2.mem ((c.tc : Thread Cert.AllExpertsIdeal.nD Cert.AllExpertsIdeal.τ).loc Cert.AllExpertsIdeal.main_arg5) = m ((c.tc : Thread Cert.AllExpertsIdeal.nD Cert.AllExpertsIdeal.τ).loc Cert.AllExpertsIdeal.main_arg5))
      ∧ r.2.sem = fun _ => 0)

def quiescent_Dense [hDense : Cert.Dense.Facts] : Prop :=
  ∀ (m : (ℓ : Loc Cert.Dense.nD Cert.Dense.τ Cert.Dense.sig) → Buf (Elt Bits) ℓ) (g : Dev Cert.Dense.nD → PrngReg), Pre_Dense m →
    θ_run (Cert.Dense.defs (F := Bits)) (onTc (τ := Cert.Dense.τ) (Cert.Dense.main (F := Bits))) ⟨m, fun _ => 0, g⟩ (fun r => (∀ c : Dev Cert.Dense.nD,
      r.2.mem ((c.tc : Thread Cert.Dense.nD Cert.Dense.τ).loc Cert.Dense.main_arg0) = m ((c.tc : Thread Cert.Dense.nD Cert.Dense.τ).loc Cert.Dense.main_arg0)
      ∧ r.2.mem ((c.tc : Thread Cert.Dense.nD Cert.Dense.τ).loc Cert.Dense.main_arg1) = m ((c.tc : Thread Cert.Dense.nD Cert.Dense.τ).loc Cert.Dense.main_arg1)
      ∧ r.2.mem ((c.tc : Thread Cert.Dense.nD Cert.Dense.τ).loc Cert.Dense.main_arg2) = m ((c.tc : Thread Cert.Dense.nD Cert.Dense.τ).loc Cert.Dense.main_arg2)
      ∧ r.2.mem ((c.tc : Thread Cert.Dense.nD Cert.Dense.τ).loc Cert.Dense.main_arg3) = m ((c.tc : Thread Cert.Dense.nD Cert.Dense.τ).loc Cert.Dense.main_arg3)
      ∧ r.2.mem ((c.tc : Thread Cert.Dense.nD Cert.Dense.τ).loc Cert.Dense.main_arg4) = m ((c.tc : Thread Cert.Dense.nD Cert.Dense.τ).loc Cert.Dense.main_arg4)
      ∧ r.2.mem ((c.tc : Thread Cert.Dense.nD Cert.Dense.τ).loc Cert.Dense.main_arg5) = m ((c.tc : Thread Cert.Dense.nD Cert.Dense.τ).loc Cert.Dense.main_arg5))
      ∧ r.2.sem = fun _ => 0)

def quiescent_DenseIdeal [hDenseIdeal : Cert.DenseIdeal.Facts] : Prop :=
  ∀ (m : (ℓ : Loc Cert.DenseIdeal.nD Cert.DenseIdeal.τ Cert.DenseIdeal.sig) → Buf (Elt Ideal) ℓ) (g : Dev Cert.DenseIdeal.nD → PrngReg), Pre_DenseIdeal m →
    θ_run (Cert.DenseIdeal.defs (F := Ideal)) (onTc (τ := Cert.DenseIdeal.τ) (Cert.DenseIdeal.main (F := Ideal))) ⟨m, fun _ => 0, g⟩ (fun r => (∀ c : Dev Cert.DenseIdeal.nD,
      r.2.mem ((c.tc : Thread Cert.DenseIdeal.nD Cert.DenseIdeal.τ).loc Cert.DenseIdeal.main_arg0) = m ((c.tc : Thread Cert.DenseIdeal.nD Cert.DenseIdeal.τ).loc Cert.DenseIdeal.main_arg0)
      ∧ r.2.mem ((c.tc : Thread Cert.DenseIdeal.nD Cert.DenseIdeal.τ).loc Cert.DenseIdeal.main_arg1) = m ((c.tc : Thread Cert.DenseIdeal.nD Cert.DenseIdeal.τ).loc Cert.DenseIdeal.main_arg1)
      ∧ r.2.mem ((c.tc : Thread Cert.DenseIdeal.nD Cert.DenseIdeal.τ).loc Cert.DenseIdeal.main_arg2) = m ((c.tc : Thread Cert.DenseIdeal.nD Cert.DenseIdeal.τ).loc Cert.DenseIdeal.main_arg2)
      ∧ r.2.mem ((c.tc : Thread Cert.DenseIdeal.nD Cert.DenseIdeal.τ).loc Cert.DenseIdeal.main_arg3) = m ((c.tc : Thread Cert.DenseIdeal.nD Cert.DenseIdeal.τ).loc Cert.DenseIdeal.main_arg3)
      ∧ r.2.mem ((c.tc : Thread Cert.DenseIdeal.nD Cert.DenseIdeal.τ).loc Cert.DenseIdeal.main_arg4) = m ((c.tc : Thread Cert.DenseIdeal.nD Cert.DenseIdeal.τ).loc Cert.DenseIdeal.main_arg4)
      ∧ r.2.mem ((c.tc : Thread Cert.DenseIdeal.nD Cert.DenseIdeal.τ).loc Cert.DenseIdeal.main_arg5) = m ((c.tc : Thread Cert.DenseIdeal.nD Cert.DenseIdeal.τ).loc Cert.DenseIdeal.main_arg5))
      ∧ r.2.sem = fun _ => 0)

def quiescent_PlainDenseIdeal [hPlainDenseIdeal : Cert.PlainDenseIdeal.Facts] : Prop :=
  ∀ (m : (ℓ : Loc Cert.PlainDenseIdeal.nD Cert.PlainDenseIdeal.τ Cert.PlainDenseIdeal.sig) → Buf (Elt Ideal) ℓ) (g : Dev Cert.PlainDenseIdeal.nD → PrngReg), Pre_PlainDenseIdeal m →
    θ_run (Cert.PlainDenseIdeal.defs (F := Ideal)) (onTc (τ := Cert.PlainDenseIdeal.τ) (Cert.PlainDenseIdeal.main (F := Ideal))) ⟨m, fun _ => 0, g⟩ (fun r => (∀ c : Dev Cert.PlainDenseIdeal.nD,
      r.2.mem ((c.tc : Thread Cert.PlainDenseIdeal.nD Cert.PlainDenseIdeal.τ).loc Cert.PlainDenseIdeal.main_arg0) = m ((c.tc : Thread Cert.PlainDenseIdeal.nD Cert.PlainDenseIdeal.τ).loc Cert.PlainDenseIdeal.main_arg0)
      ∧ r.2.mem ((c.tc : Thread Cert.PlainDenseIdeal.nD Cert.PlainDenseIdeal.τ).loc Cert.PlainDenseIdeal.main_arg1) = m ((c.tc : Thread Cert.PlainDenseIdeal.nD Cert.PlainDenseIdeal.τ).loc Cert.PlainDenseIdeal.main_arg1)
      ∧ r.2.mem ((c.tc : Thread Cert.PlainDenseIdeal.nD Cert.PlainDenseIdeal.τ).loc Cert.PlainDenseIdeal.main_arg2) = m ((c.tc : Thread Cert.PlainDenseIdeal.nD Cert.PlainDenseIdeal.τ).loc Cert.PlainDenseIdeal.main_arg2)
      ∧ r.2.mem ((c.tc : Thread Cert.PlainDenseIdeal.nD Cert.PlainDenseIdeal.τ).loc Cert.PlainDenseIdeal.main_arg3) = m ((c.tc : Thread Cert.PlainDenseIdeal.nD Cert.PlainDenseIdeal.τ).loc Cert.PlainDenseIdeal.main_arg3)
      ∧ r.2.mem ((c.tc : Thread Cert.PlainDenseIdeal.nD Cert.PlainDenseIdeal.τ).loc Cert.PlainDenseIdeal.main_arg4) = m ((c.tc : Thread Cert.PlainDenseIdeal.nD Cert.PlainDenseIdeal.τ).loc Cert.PlainDenseIdeal.main_arg4)
      ∧ r.2.mem ((c.tc : Thread Cert.PlainDenseIdeal.nD Cert.PlainDenseIdeal.τ).loc Cert.PlainDenseIdeal.main_arg5) = m ((c.tc : Thread Cert.PlainDenseIdeal.nD Cert.PlainDenseIdeal.τ).loc Cert.PlainDenseIdeal.main_arg5))
      ∧ r.2.sem = fun _ => 0)

def quiescent_Mixed [hMixed : Cert.Mixed.Facts] : Prop :=
  ∀ (m : (ℓ : Loc Cert.Mixed.nD Cert.Mixed.τ Cert.Mixed.sig) → Buf (Elt Bits) ℓ) (g : Dev Cert.Mixed.nD → PrngReg), Pre_Mixed m →
    θ_run (Cert.Mixed.defs (F := Bits)) (onTc (τ := Cert.Mixed.τ) (Cert.Mixed.main (F := Bits))) ⟨m, fun _ => 0, g⟩ (fun r => (∀ c : Dev Cert.Mixed.nD,
      r.2.mem ((c.tc : Thread Cert.Mixed.nD Cert.Mixed.τ).loc Cert.Mixed.main_arg0) = m ((c.tc : Thread Cert.Mixed.nD Cert.Mixed.τ).loc Cert.Mixed.main_arg0)
      ∧ r.2.mem ((c.tc : Thread Cert.Mixed.nD Cert.Mixed.τ).loc Cert.Mixed.main_arg1) = m ((c.tc : Thread Cert.Mixed.nD Cert.Mixed.τ).loc Cert.Mixed.main_arg1)
      ∧ r.2.mem ((c.tc : Thread Cert.Mixed.nD Cert.Mixed.τ).loc Cert.Mixed.main_arg2) = m ((c.tc : Thread Cert.Mixed.nD Cert.Mixed.τ).loc Cert.Mixed.main_arg2)
      ∧ r.2.mem ((c.tc : Thread Cert.Mixed.nD Cert.Mixed.τ).loc Cert.Mixed.main_arg3) = m ((c.tc : Thread Cert.Mixed.nD Cert.Mixed.τ).loc Cert.Mixed.main_arg3)
      ∧ r.2.mem ((c.tc : Thread Cert.Mixed.nD Cert.Mixed.τ).loc Cert.Mixed.main_arg4) = m ((c.tc : Thread Cert.Mixed.nD Cert.Mixed.τ).loc Cert.Mixed.main_arg4)
      ∧ r.2.mem ((c.tc : Thread Cert.Mixed.nD Cert.Mixed.τ).loc Cert.Mixed.main_arg5) = m ((c.tc : Thread Cert.Mixed.nD Cert.Mixed.τ).loc Cert.Mixed.main_arg5)
      ∧ r.2.mem ((c.tc : Thread Cert.Mixed.nD Cert.Mixed.τ).loc Cert.Mixed.main_arg6) = m ((c.tc : Thread Cert.Mixed.nD Cert.Mixed.τ).loc Cert.Mixed.main_arg6))
      ∧ r.2.sem = fun _ => 0)

def quiescent_MixedIdeal [hMixedIdeal : Cert.MixedIdeal.Facts] : Prop :=
  ∀ (m : (ℓ : Loc Cert.MixedIdeal.nD Cert.MixedIdeal.τ Cert.MixedIdeal.sig) → Buf (Elt Ideal) ℓ) (g : Dev Cert.MixedIdeal.nD → PrngReg), Pre_MixedIdeal m →
    θ_run (Cert.MixedIdeal.defs (F := Ideal)) (onTc (τ := Cert.MixedIdeal.τ) (Cert.MixedIdeal.main (F := Ideal))) ⟨m, fun _ => 0, g⟩ (fun r => (∀ c : Dev Cert.MixedIdeal.nD,
      r.2.mem ((c.tc : Thread Cert.MixedIdeal.nD Cert.MixedIdeal.τ).loc Cert.MixedIdeal.main_arg0) = m ((c.tc : Thread Cert.MixedIdeal.nD Cert.MixedIdeal.τ).loc Cert.MixedIdeal.main_arg0)
      ∧ r.2.mem ((c.tc : Thread Cert.MixedIdeal.nD Cert.MixedIdeal.τ).loc Cert.MixedIdeal.main_arg1) = m ((c.tc : Thread Cert.MixedIdeal.nD Cert.MixedIdeal.τ).loc Cert.MixedIdeal.main_arg1)
      ∧ r.2.mem ((c.tc : Thread Cert.MixedIdeal.nD Cert.MixedIdeal.τ).loc Cert.MixedIdeal.main_arg2) = m ((c.tc : Thread Cert.MixedIdeal.nD Cert.MixedIdeal.τ).loc Cert.MixedIdeal.main_arg2)
      ∧ r.2.mem ((c.tc : Thread Cert.MixedIdeal.nD Cert.MixedIdeal.τ).loc Cert.MixedIdeal.main_arg3) = m ((c.tc : Thread Cert.MixedIdeal.nD Cert.MixedIdeal.τ).loc Cert.MixedIdeal.main_arg3)
      ∧ r.2.mem ((c.tc : Thread Cert.MixedIdeal.nD Cert.MixedIdeal.τ).loc Cert.MixedIdeal.main_arg4) = m ((c.tc : Thread Cert.MixedIdeal.nD Cert.MixedIdeal.τ).loc Cert.MixedIdeal.main_arg4)
      ∧ r.2.mem ((c.tc : Thread Cert.MixedIdeal.nD Cert.MixedIdeal.τ).loc Cert.MixedIdeal.main_arg5) = m ((c.tc : Thread Cert.MixedIdeal.nD Cert.MixedIdeal.τ).loc Cert.MixedIdeal.main_arg5)
      ∧ r.2.mem ((c.tc : Thread Cert.MixedIdeal.nD Cert.MixedIdeal.τ).loc Cert.MixedIdeal.main_arg6) = m ((c.tc : Thread Cert.MixedIdeal.nD Cert.MixedIdeal.τ).loc Cert.MixedIdeal.main_arg6))
      ∧ r.2.sem = fun _ => 0)

def quiescent_PlainMixedIdeal [hPlainMixedIdeal : Cert.PlainMixedIdeal.Facts] : Prop :=
  ∀ (m : (ℓ : Loc Cert.PlainMixedIdeal.nD Cert.PlainMixedIdeal.τ Cert.PlainMixedIdeal.sig) → Buf (Elt Ideal) ℓ) (g : Dev Cert.PlainMixedIdeal.nD → PrngReg), Pre_PlainMixedIdeal m →
    θ_run (Cert.PlainMixedIdeal.defs (F := Ideal)) (onTc (τ := Cert.PlainMixedIdeal.τ) (Cert.PlainMixedIdeal.main (F := Ideal))) ⟨m, fun _ => 0, g⟩ (fun r => (∀ c : Dev Cert.PlainMixedIdeal.nD,
      r.2.mem ((c.tc : Thread Cert.PlainMixedIdeal.nD Cert.PlainMixedIdeal.τ).loc Cert.PlainMixedIdeal.main_arg0) = m ((c.tc : Thread Cert.PlainMixedIdeal.nD Cert.PlainMixedIdeal.τ).loc Cert.PlainMixedIdeal.main_arg0)
      ∧ r.2.mem ((c.tc : Thread Cert.PlainMixedIdeal.nD Cert.PlainMixedIdeal.τ).loc Cert.PlainMixedIdeal.main_arg1) = m ((c.tc : Thread Cert.PlainMixedIdeal.nD Cert.PlainMixedIdeal.τ).loc Cert.PlainMixedIdeal.main_arg1)
      ∧ r.2.mem ((c.tc : Thread Cert.PlainMixedIdeal.nD Cert.PlainMixedIdeal.τ).loc Cert.PlainMixedIdeal.main_arg2) = m ((c.tc : Thread Cert.PlainMixedIdeal.nD Cert.PlainMixedIdeal.τ).loc Cert.PlainMixedIdeal.main_arg2)
      ∧ r.2.mem ((c.tc : Thread Cert.PlainMixedIdeal.nD Cert.PlainMixedIdeal.τ).loc Cert.PlainMixedIdeal.main_arg3) = m ((c.tc : Thread Cert.PlainMixedIdeal.nD Cert.PlainMixedIdeal.τ).loc Cert.PlainMixedIdeal.main_arg3)
      ∧ r.2.mem ((c.tc : Thread Cert.PlainMixedIdeal.nD Cert.PlainMixedIdeal.τ).loc Cert.PlainMixedIdeal.main_arg4) = m ((c.tc : Thread Cert.PlainMixedIdeal.nD Cert.PlainMixedIdeal.τ).loc Cert.PlainMixedIdeal.main_arg4)
      ∧ r.2.mem ((c.tc : Thread Cert.PlainMixedIdeal.nD Cert.PlainMixedIdeal.τ).loc Cert.PlainMixedIdeal.main_arg5) = m ((c.tc : Thread Cert.PlainMixedIdeal.nD Cert.PlainMixedIdeal.τ).loc Cert.PlainMixedIdeal.main_arg5)
      ∧ r.2.mem ((c.tc : Thread Cert.PlainMixedIdeal.nD Cert.PlainMixedIdeal.τ).loc Cert.PlainMixedIdeal.main_arg6) = m ((c.tc : Thread Cert.PlainMixedIdeal.nD Cert.PlainMixedIdeal.τ).loc Cert.PlainMixedIdeal.main_arg6))
      ∧ r.2.sem = fun _ => 0)

def quiescent_Prep [hPrep : Cert.Prep.Facts] : Prop :=
  ∀ (m : (ℓ : Loc Cert.Prep.nD Cert.Prep.τ Cert.Prep.sig) → Buf (Elt Bits) ℓ) (g : Dev Cert.Prep.nD → PrngReg), Pre_Prep m →
    θ_run (Cert.Prep.defs (F := Bits)) (onTc (τ := Cert.Prep.τ) (Cert.Prep.main (F := Bits))) ⟨m, fun _ => 0, g⟩ (fun r => (∀ c : Dev Cert.Prep.nD,
      r.2.mem ((c.tc : Thread Cert.Prep.nD Cert.Prep.τ).loc Cert.Prep.main_arg0) = m ((c.tc : Thread Cert.Prep.nD Cert.Prep.τ).loc Cert.Prep.main_arg0)
      ∧ r.2.mem ((c.tc : Thread Cert.Prep.nD Cert.Prep.τ).loc Cert.Prep.main_arg1) = m ((c.tc : Thread Cert.Prep.nD Cert.Prep.τ).loc Cert.Prep.main_arg1)
      ∧ r.2.mem ((c.tc : Thread Cert.Prep.nD Cert.Prep.τ).loc Cert.Prep.main_arg2) = m ((c.tc : Thread Cert.Prep.nD Cert.Prep.τ).loc Cert.Prep.main_arg2)
      ∧ r.2.mem ((c.tc : Thread Cert.Prep.nD Cert.Prep.τ).loc Cert.Prep.main_arg3) = m ((c.tc : Thread Cert.Prep.nD Cert.Prep.τ).loc Cert.Prep.main_arg3)
      ∧ r.2.mem ((c.tc : Thread Cert.Prep.nD Cert.Prep.τ).loc Cert.Prep.main_arg4) = m ((c.tc : Thread Cert.Prep.nD Cert.Prep.τ).loc Cert.Prep.main_arg4)
      ∧ r.2.mem ((c.tc : Thread Cert.Prep.nD Cert.Prep.τ).loc Cert.Prep.main_arg5) = m ((c.tc : Thread Cert.Prep.nD Cert.Prep.τ).loc Cert.Prep.main_arg5)
      ∧ r.2.mem ((c.tc : Thread Cert.Prep.nD Cert.Prep.τ).loc Cert.Prep.main_arg6) = m ((c.tc : Thread Cert.Prep.nD Cert.Prep.τ).loc Cert.Prep.main_arg6)
      ∧ r.2.mem ((c.tc : Thread Cert.Prep.nD Cert.Prep.τ).loc Cert.Prep.main_arg7) = m ((c.tc : Thread Cert.Prep.nD Cert.Prep.τ).loc Cert.Prep.main_arg7)
      ∧ r.2.mem ((c.tc : Thread Cert.Prep.nD Cert.Prep.τ).loc Cert.Prep.main_arg8) = m ((c.tc : Thread Cert.Prep.nD Cert.Prep.τ).loc Cert.Prep.main_arg8)
      ∧ r.2.mem ((c.tc : Thread Cert.Prep.nD Cert.Prep.τ).loc Cert.Prep.main_arg9) = m ((c.tc : Thread Cert.Prep.nD Cert.Prep.τ).loc Cert.Prep.main_arg9)
      ∧ r.2.mem ((c.tc : Thread Cert.Prep.nD Cert.Prep.τ).loc Cert.Prep.main_arg10) = m ((c.tc : Thread Cert.Prep.nD Cert.Prep.τ).loc Cert.Prep.main_arg10)
      ∧ r.2.mem ((c.tc : Thread Cert.Prep.nD Cert.Prep.τ).loc Cert.Prep.main_arg11) = m ((c.tc : Thread Cert.Prep.nD Cert.Prep.τ).loc Cert.Prep.main_arg11)
      ∧ r.2.mem ((c.tc : Thread Cert.Prep.nD Cert.Prep.τ).loc Cert.Prep.main_arg12) = m ((c.tc : Thread Cert.Prep.nD Cert.Prep.τ).loc Cert.Prep.main_arg12)
      ∧ r.2.mem ((c.tc : Thread Cert.Prep.nD Cert.Prep.τ).loc Cert.Prep.main_arg13) = m ((c.tc : Thread Cert.Prep.nD Cert.Prep.τ).loc Cert.Prep.main_arg13)
      ∧ r.2.mem ((c.tc : Thread Cert.Prep.nD Cert.Prep.τ).loc Cert.Prep.main_arg14) = m ((c.tc : Thread Cert.Prep.nD Cert.Prep.τ).loc Cert.Prep.main_arg14)
      ∧ r.2.mem ((c.tc : Thread Cert.Prep.nD Cert.Prep.τ).loc Cert.Prep.main_arg15) = m ((c.tc : Thread Cert.Prep.nD Cert.Prep.τ).loc Cert.Prep.main_arg15)
      ∧ r.2.mem ((c.tc : Thread Cert.Prep.nD Cert.Prep.τ).loc Cert.Prep.main_arg16) = m ((c.tc : Thread Cert.Prep.nD Cert.Prep.τ).loc Cert.Prep.main_arg16)
      ∧ r.2.mem ((c.tc : Thread Cert.Prep.nD Cert.Prep.τ).loc Cert.Prep.main_arg17) = m ((c.tc : Thread Cert.Prep.nD Cert.Prep.τ).loc Cert.Prep.main_arg17))
      ∧ r.2.sem = fun _ => 0)

def quiescent_PrepIdeal [hPrepIdeal : Cert.PrepIdeal.Facts] : Prop :=
  ∀ (m : (ℓ : Loc Cert.PrepIdeal.nD Cert.PrepIdeal.τ Cert.PrepIdeal.sig) → Buf (Elt Ideal) ℓ) (g : Dev Cert.PrepIdeal.nD → PrngReg), Pre_PrepIdeal m →
    θ_run (Cert.PrepIdeal.defs (F := Ideal)) (onTc (τ := Cert.PrepIdeal.τ) (Cert.PrepIdeal.main (F := Ideal))) ⟨m, fun _ => 0, g⟩ (fun r => (∀ c : Dev Cert.PrepIdeal.nD,
      r.2.mem ((c.tc : Thread Cert.PrepIdeal.nD Cert.PrepIdeal.τ).loc Cert.PrepIdeal.main_arg0) = m ((c.tc : Thread Cert.PrepIdeal.nD Cert.PrepIdeal.τ).loc Cert.PrepIdeal.main_arg0)
      ∧ r.2.mem ((c.tc : Thread Cert.PrepIdeal.nD Cert.PrepIdeal.τ).loc Cert.PrepIdeal.main_arg1) = m ((c.tc : Thread Cert.PrepIdeal.nD Cert.PrepIdeal.τ).loc Cert.PrepIdeal.main_arg1)
      ∧ r.2.mem ((c.tc : Thread Cert.PrepIdeal.nD Cert.PrepIdeal.τ).loc Cert.PrepIdeal.main_arg2) = m ((c.tc : Thread Cert.PrepIdeal.nD Cert.PrepIdeal.τ).loc Cert.PrepIdeal.main_arg2)
      ∧ r.2.mem ((c.tc : Thread Cert.PrepIdeal.nD Cert.PrepIdeal.τ).loc Cert.PrepIdeal.main_arg3) = m ((c.tc : Thread Cert.PrepIdeal.nD Cert.PrepIdeal.τ).loc Cert.PrepIdeal.main_arg3)
      ∧ r.2.mem ((c.tc : Thread Cert.PrepIdeal.nD Cert.PrepIdeal.τ).loc Cert.PrepIdeal.main_arg4) = m ((c.tc : Thread Cert.PrepIdeal.nD Cert.PrepIdeal.τ).loc Cert.PrepIdeal.main_arg4)
      ∧ r.2.mem ((c.tc : Thread Cert.PrepIdeal.nD Cert.PrepIdeal.τ).loc Cert.PrepIdeal.main_arg5) = m ((c.tc : Thread Cert.PrepIdeal.nD Cert.PrepIdeal.τ).loc Cert.PrepIdeal.main_arg5)
      ∧ r.2.mem ((c.tc : Thread Cert.PrepIdeal.nD Cert.PrepIdeal.τ).loc Cert.PrepIdeal.main_arg6) = m ((c.tc : Thread Cert.PrepIdeal.nD Cert.PrepIdeal.τ).loc Cert.PrepIdeal.main_arg6)
      ∧ r.2.mem ((c.tc : Thread Cert.PrepIdeal.nD Cert.PrepIdeal.τ).loc Cert.PrepIdeal.main_arg7) = m ((c.tc : Thread Cert.PrepIdeal.nD Cert.PrepIdeal.τ).loc Cert.PrepIdeal.main_arg7)
      ∧ r.2.mem ((c.tc : Thread Cert.PrepIdeal.nD Cert.PrepIdeal.τ).loc Cert.PrepIdeal.main_arg8) = m ((c.tc : Thread Cert.PrepIdeal.nD Cert.PrepIdeal.τ).loc Cert.PrepIdeal.main_arg8)
      ∧ r.2.mem ((c.tc : Thread Cert.PrepIdeal.nD Cert.PrepIdeal.τ).loc Cert.PrepIdeal.main_arg9) = m ((c.tc : Thread Cert.PrepIdeal.nD Cert.PrepIdeal.τ).loc Cert.PrepIdeal.main_arg9)
      ∧ r.2.mem ((c.tc : Thread Cert.PrepIdeal.nD Cert.PrepIdeal.τ).loc Cert.PrepIdeal.main_arg10) = m ((c.tc : Thread Cert.PrepIdeal.nD Cert.PrepIdeal.τ).loc Cert.PrepIdeal.main_arg10)
      ∧ r.2.mem ((c.tc : Thread Cert.PrepIdeal.nD Cert.PrepIdeal.τ).loc Cert.PrepIdeal.main_arg11) = m ((c.tc : Thread Cert.PrepIdeal.nD Cert.PrepIdeal.τ).loc Cert.PrepIdeal.main_arg11)
      ∧ r.2.mem ((c.tc : Thread Cert.PrepIdeal.nD Cert.PrepIdeal.τ).loc Cert.PrepIdeal.main_arg12) = m ((c.tc : Thread Cert.PrepIdeal.nD Cert.PrepIdeal.τ).loc Cert.PrepIdeal.main_arg12)
      ∧ r.2.mem ((c.tc : Thread Cert.PrepIdeal.nD Cert.PrepIdeal.τ).loc Cert.PrepIdeal.main_arg13) = m ((c.tc : Thread Cert.PrepIdeal.nD Cert.PrepIdeal.τ).loc Cert.PrepIdeal.main_arg13)
      ∧ r.2.mem ((c.tc : Thread Cert.PrepIdeal.nD Cert.PrepIdeal.τ).loc Cert.PrepIdeal.main_arg14) = m ((c.tc : Thread Cert.PrepIdeal.nD Cert.PrepIdeal.τ).loc Cert.PrepIdeal.main_arg14)
      ∧ r.2.mem ((c.tc : Thread Cert.PrepIdeal.nD Cert.PrepIdeal.τ).loc Cert.PrepIdeal.main_arg15) = m ((c.tc : Thread Cert.PrepIdeal.nD Cert.PrepIdeal.τ).loc Cert.PrepIdeal.main_arg15)
      ∧ r.2.mem ((c.tc : Thread Cert.PrepIdeal.nD Cert.PrepIdeal.τ).loc Cert.PrepIdeal.main_arg16) = m ((c.tc : Thread Cert.PrepIdeal.nD Cert.PrepIdeal.τ).loc Cert.PrepIdeal.main_arg16)
      ∧ r.2.mem ((c.tc : Thread Cert.PrepIdeal.nD Cert.PrepIdeal.τ).loc Cert.PrepIdeal.main_arg17) = m ((c.tc : Thread Cert.PrepIdeal.nD Cert.PrepIdeal.τ).loc Cert.PrepIdeal.main_arg17))
      ∧ r.2.sem = fun _ => 0)

def quiescent_PlainPrepIdeal [hPlainPrepIdeal : Cert.PlainPrepIdeal.Facts] : Prop :=
  ∀ (m : (ℓ : Loc Cert.PlainPrepIdeal.nD Cert.PlainPrepIdeal.τ Cert.PlainPrepIdeal.sig) → Buf (Elt Ideal) ℓ) (g : Dev Cert.PlainPrepIdeal.nD → PrngReg), Pre_PlainPrepIdeal m →
    θ_run (Cert.PlainPrepIdeal.defs (F := Ideal)) (onTc (τ := Cert.PlainPrepIdeal.τ) (Cert.PlainPrepIdeal.main (F := Ideal))) ⟨m, fun _ => 0, g⟩ (fun r => (∀ c : Dev Cert.PlainPrepIdeal.nD,
      r.2.mem ((c.tc : Thread Cert.PlainPrepIdeal.nD Cert.PlainPrepIdeal.τ).loc Cert.PlainPrepIdeal.main_arg0) = m ((c.tc : Thread Cert.PlainPrepIdeal.nD Cert.PlainPrepIdeal.τ).loc Cert.PlainPrepIdeal.main_arg0)
      ∧ r.2.mem ((c.tc : Thread Cert.PlainPrepIdeal.nD Cert.PlainPrepIdeal.τ).loc Cert.PlainPrepIdeal.main_arg1) = m ((c.tc : Thread Cert.PlainPrepIdeal.nD Cert.PlainPrepIdeal.τ).loc Cert.PlainPrepIdeal.main_arg1)
      ∧ r.2.mem ((c.tc : Thread Cert.PlainPrepIdeal.nD Cert.PlainPrepIdeal.τ).loc Cert.PlainPrepIdeal.main_arg2) = m ((c.tc : Thread Cert.PlainPrepIdeal.nD Cert.PlainPrepIdeal.τ).loc Cert.PlainPrepIdeal.main_arg2)
      ∧ r.2.mem ((c.tc : Thread Cert.PlainPrepIdeal.nD Cert.PlainPrepIdeal.τ).loc Cert.PlainPrepIdeal.main_arg3) = m ((c.tc : Thread Cert.PlainPrepIdeal.nD Cert.PlainPrepIdeal.τ).loc Cert.PlainPrepIdeal.main_arg3)
      ∧ r.2.mem ((c.tc : Thread Cert.PlainPrepIdeal.nD Cert.PlainPrepIdeal.τ).loc Cert.PlainPrepIdeal.main_arg4) = m ((c.tc : Thread Cert.PlainPrepIdeal.nD Cert.PlainPrepIdeal.τ).loc Cert.PlainPrepIdeal.main_arg4)
      ∧ r.2.mem ((c.tc : Thread Cert.PlainPrepIdeal.nD Cert.PlainPrepIdeal.τ).loc Cert.PlainPrepIdeal.main_arg5) = m ((c.tc : Thread Cert.PlainPrepIdeal.nD Cert.PlainPrepIdeal.τ).loc Cert.PlainPrepIdeal.main_arg5)
      ∧ r.2.mem ((c.tc : Thread Cert.PlainPrepIdeal.nD Cert.PlainPrepIdeal.τ).loc Cert.PlainPrepIdeal.main_arg6) = m ((c.tc : Thread Cert.PlainPrepIdeal.nD Cert.PlainPrepIdeal.τ).loc Cert.PlainPrepIdeal.main_arg6)
      ∧ r.2.mem ((c.tc : Thread Cert.PlainPrepIdeal.nD Cert.PlainPrepIdeal.τ).loc Cert.PlainPrepIdeal.main_arg7) = m ((c.tc : Thread Cert.PlainPrepIdeal.nD Cert.PlainPrepIdeal.τ).loc Cert.PlainPrepIdeal.main_arg7)
      ∧ r.2.mem ((c.tc : Thread Cert.PlainPrepIdeal.nD Cert.PlainPrepIdeal.τ).loc Cert.PlainPrepIdeal.main_arg8) = m ((c.tc : Thread Cert.PlainPrepIdeal.nD Cert.PlainPrepIdeal.τ).loc Cert.PlainPrepIdeal.main_arg8)
      ∧ r.2.mem ((c.tc : Thread Cert.PlainPrepIdeal.nD Cert.PlainPrepIdeal.τ).loc Cert.PlainPrepIdeal.main_arg9) = m ((c.tc : Thread Cert.PlainPrepIdeal.nD Cert.PlainPrepIdeal.τ).loc Cert.PlainPrepIdeal.main_arg9)
      ∧ r.2.mem ((c.tc : Thread Cert.PlainPrepIdeal.nD Cert.PlainPrepIdeal.τ).loc Cert.PlainPrepIdeal.main_arg10) = m ((c.tc : Thread Cert.PlainPrepIdeal.nD Cert.PlainPrepIdeal.τ).loc Cert.PlainPrepIdeal.main_arg10)
      ∧ r.2.mem ((c.tc : Thread Cert.PlainPrepIdeal.nD Cert.PlainPrepIdeal.τ).loc Cert.PlainPrepIdeal.main_arg11) = m ((c.tc : Thread Cert.PlainPrepIdeal.nD Cert.PlainPrepIdeal.τ).loc Cert.PlainPrepIdeal.main_arg11)
      ∧ r.2.mem ((c.tc : Thread Cert.PlainPrepIdeal.nD Cert.PlainPrepIdeal.τ).loc Cert.PlainPrepIdeal.main_arg12) = m ((c.tc : Thread Cert.PlainPrepIdeal.nD Cert.PlainPrepIdeal.τ).loc Cert.PlainPrepIdeal.main_arg12)
      ∧ r.2.mem ((c.tc : Thread Cert.PlainPrepIdeal.nD Cert.PlainPrepIdeal.τ).loc Cert.PlainPrepIdeal.main_arg13) = m ((c.tc : Thread Cert.PlainPrepIdeal.nD Cert.PlainPrepIdeal.τ).loc Cert.PlainPrepIdeal.main_arg13)
      ∧ r.2.mem ((c.tc : Thread Cert.PlainPrepIdeal.nD Cert.PlainPrepIdeal.τ).loc Cert.PlainPrepIdeal.main_arg14) = m ((c.tc : Thread Cert.PlainPrepIdeal.nD Cert.PlainPrepIdeal.τ).loc Cert.PlainPrepIdeal.main_arg14)
      ∧ r.2.mem ((c.tc : Thread Cert.PlainPrepIdeal.nD Cert.PlainPrepIdeal.τ).loc Cert.PlainPrepIdeal.main_arg15) = m ((c.tc : Thread Cert.PlainPrepIdeal.nD Cert.PlainPrepIdeal.τ).loc Cert.PlainPrepIdeal.main_arg15)
      ∧ r.2.mem ((c.tc : Thread Cert.PlainPrepIdeal.nD Cert.PlainPrepIdeal.τ).loc Cert.PlainPrepIdeal.main_arg16) = m ((c.tc : Thread Cert.PlainPrepIdeal.nD Cert.PlainPrepIdeal.τ).loc Cert.PlainPrepIdeal.main_arg16)
      ∧ r.2.mem ((c.tc : Thread Cert.PlainPrepIdeal.nD Cert.PlainPrepIdeal.τ).loc Cert.PlainPrepIdeal.main_arg17) = m ((c.tc : Thread Cert.PlainPrepIdeal.nD Cert.PlainPrepIdeal.τ).loc Cert.PlainPrepIdeal.main_arg17))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Experts_ExpertsIdeal : Prop :=
  True

def algebraic_ExpertsIdeal_AllExpertsIdeal_on_written [hExpertsIdeal : Cert.ExpertsIdeal.Facts] [hAllExpertsIdeal : Cert.AllExpertsIdeal.Facts] [hPre_tables : Cert.Pre_tables.Facts] [hOn_written : Cert.On_written.Facts] : Prop :=
  ∀ (m : (ℓ : Loc Cert.ExpertsIdeal.nD Cert.ExpertsIdeal.τ Cert.ExpertsIdeal.sig) → Buf (Elt Ideal) ℓ) (g : Dev Cert.ExpertsIdeal.nD → PrngReg)
    (m' : (ℓ : Loc Cert.AllExpertsIdeal.nD Cert.AllExpertsIdeal.τ Cert.AllExpertsIdeal.sig) → Buf (Elt Ideal) ℓ) (g' : Dev Cert.AllExpertsIdeal.nD → PrngReg), Pre_ExpertsIdeal m →
    (∀ c : Dev Cert.ExpertsIdeal.nD,
      m' ((c.tc : Thread Cert.AllExpertsIdeal.nD Cert.AllExpertsIdeal.τ).loc Cert.AllExpertsIdeal.main_arg0) = m ((c.tc : Thread Cert.ExpertsIdeal.nD Cert.ExpertsIdeal.τ).loc Cert.ExpertsIdeal.main_arg0)
      ∧ m' ((c.tc : Thread Cert.AllExpertsIdeal.nD Cert.AllExpertsIdeal.τ).loc Cert.AllExpertsIdeal.main_arg1) = m ((c.tc : Thread Cert.ExpertsIdeal.nD Cert.ExpertsIdeal.τ).loc Cert.ExpertsIdeal.main_arg1)
      ∧ m' ((c.tc : Thread Cert.AllExpertsIdeal.nD Cert.AllExpertsIdeal.τ).loc Cert.AllExpertsIdeal.main_arg2) = m ((c.tc : Thread Cert.ExpertsIdeal.nD Cert.ExpertsIdeal.τ).loc Cert.ExpertsIdeal.main_arg2)
      ∧ m' ((c.tc : Thread Cert.AllExpertsIdeal.nD Cert.AllExpertsIdeal.τ).loc Cert.AllExpertsIdeal.main_arg3) = m ((c.tc : Thread Cert.ExpertsIdeal.nD Cert.ExpertsIdeal.τ).loc Cert.ExpertsIdeal.main_arg3)
      ∧ m' ((c.tc : Thread Cert.AllExpertsIdeal.nD Cert.AllExpertsIdeal.τ).loc Cert.AllExpertsIdeal.main_arg4) = m ((c.tc : Thread Cert.ExpertsIdeal.nD Cert.ExpertsIdeal.τ).loc Cert.ExpertsIdeal.main_arg4)
      ∧ m' ((c.tc : Thread Cert.AllExpertsIdeal.nD Cert.AllExpertsIdeal.τ).loc Cert.AllExpertsIdeal.main_arg5) = m ((c.tc : Thread Cert.ExpertsIdeal.nD Cert.ExpertsIdeal.τ).loc Cert.ExpertsIdeal.main_arg5)) →
    ∃ (v0 : (c : Dev Cert.ExpertsIdeal.nD) → Buf (Elt Ideal) ((c.tc : Thread Cert.ExpertsIdeal.nD Cert.ExpertsIdeal.τ).loc Cert.ExpertsIdeal.main_v0)),
      θ_run (Cert.ExpertsIdeal.defs (F := Ideal)) (onTc (τ := Cert.ExpertsIdeal.τ) (Cert.ExpertsIdeal.main (F := Ideal))) ⟨m, fun _ => 0, g⟩ (fun r => ∀ c : Dev Cert.ExpertsIdeal.nD,
          (∀ i : (⟨2, ![36864, 1024]⟩ : Shape).Idx, (Cert.On_written.fn (F := Ideal) (m ((c.tc : Thread Cert.ExpertsIdeal.nD Cert.ExpertsIdeal.τ).loc Cert.ExpertsIdeal.main_arg0)) (m ((c.tc : Thread Cert.ExpertsIdeal.nD Cert.ExpertsIdeal.τ).loc Cert.ExpertsIdeal.main_arg1)) (m ((c.tc : Thread Cert.ExpertsIdeal.nD Cert.ExpertsIdeal.τ).loc Cert.ExpertsIdeal.main_arg2)) (m ((c.tc : Thread Cert.ExpertsIdeal.nD Cert.ExpertsIdeal.τ).loc Cert.ExpertsIdeal.main_arg3)) (m ((c.tc : Thread Cert.ExpertsIdeal.nD Cert.ExpertsIdeal.τ).loc Cert.ExpertsIdeal.main_arg4)) (m ((c.tc : Thread Cert.ExpertsIdeal.nD Cert.ExpertsIdeal.τ).loc Cert.ExpertsIdeal.main_arg5))) i = 1#1 → r.2.mem ((c.tc : Thread Cert.ExpertsIdeal.nD Cert.ExpertsIdeal.τ).loc Cert.ExpertsIdeal.main_v0) i = v0 c i)
          ∧ r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
          ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
          ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
          ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3)
          ∧ r.2.mem ((c.tc : Thread Cert.ExpertsIdeal.nD Cert.ExpertsIdeal.τ).loc Cert.ExpertsIdeal.main_arg4) = m ((c.tc : Thread Cert.ExpertsIdeal.nD Cert.ExpertsIdeal.τ).loc Cert.ExpertsIdeal.main_arg4)
          ∧ r.2.mem ((c.tc : Thread Cert.ExpertsIdeal.nD Cert.ExpertsIdeal.τ).loc Cert.ExpertsIdeal.main_arg5) = m ((c.tc : Thread Cert.ExpertsIdeal.nD Cert.ExpertsIdeal.τ).loc Cert.ExpertsIdeal.main_arg5))
      ∧ θ_run (Cert.AllExpertsIdeal.defs (F := Ideal)) (onTc (τ := Cert.AllExpertsIdeal.τ) (Cert.AllExpertsIdeal.main (F := Ideal))) ⟨m', fun _ => 0, g'⟩ (fun r => ∀ c : Dev Cert.AllExpertsIdeal.nD,
          (∀ i : (⟨2, ![36864, 1024]⟩ : Shape).Idx, (Cert.On_written.fn (F := Ideal) (m ((c.tc : Thread Cert.ExpertsIdeal.nD Cert.ExpertsIdeal.τ).loc Cert.ExpertsIdeal.main_arg0)) (m ((c.tc : Thread Cert.ExpertsIdeal.nD Cert.ExpertsIdeal.τ).loc Cert.ExpertsIdeal.main_arg1)) (m ((c.tc : Thread Cert.ExpertsIdeal.nD Cert.ExpertsIdeal.τ).loc Cert.ExpertsIdeal.main_arg2)) (m ((c.tc : Thread Cert.ExpertsIdeal.nD Cert.ExpertsIdeal.τ).loc Cert.ExpertsIdeal.main_arg3)) (m ((c.tc : Thread Cert.ExpertsIdeal.nD Cert.ExpertsIdeal.τ).loc Cert.ExpertsIdeal.main_arg4)) (m ((c.tc : Thread Cert.ExpertsIdeal.nD Cert.ExpertsIdeal.τ).loc Cert.ExpertsIdeal.main_arg5))) i = 1#1 → r.2.mem ((c.tc : Thread Cert.AllExpertsIdeal.nD Cert.AllExpertsIdeal.τ).loc Cert.AllExpertsIdeal.main_v119) i = v0 c i)
          ∧ r.2.mem ((c.tc : Thread Cert.AllExpertsIdeal.nD Cert.AllExpertsIdeal.τ).loc Cert.AllExpertsIdeal.main_arg0) = m' ((c.tc : Thread Cert.AllExpertsIdeal.nD Cert.AllExpertsIdeal.τ).loc Cert.AllExpertsIdeal.main_arg0)
          ∧ r.2.mem ((c.tc : Thread Cert.AllExpertsIdeal.nD Cert.AllExpertsIdeal.τ).loc Cert.AllExpertsIdeal.main_arg1) = m' ((c.tc : Thread Cert.AllExpertsIdeal.nD Cert.AllExpertsIdeal.τ).loc Cert.AllExpertsIdeal.main_arg1)
          ∧ r.2.mem ((c.tc : Thread Cert.AllExpertsIdeal.nD Cert.AllExpertsIdeal.τ).loc Cert.AllExpertsIdeal.main_arg2) = m' ((c.tc : Thread Cert.AllExpertsIdeal.nD Cert.AllExpertsIdeal.τ).loc Cert.AllExpertsIdeal.main_arg2)
          ∧ r.2.mem ((c.tc : Thread Cert.AllExpertsIdeal.nD Cert.AllExpertsIdeal.τ).loc Cert.AllExpertsIdeal.main_arg3) = m' ((c.tc : Thread Cert.AllExpertsIdeal.nD Cert.AllExpertsIdeal.τ).loc Cert.AllExpertsIdeal.main_arg3)
          ∧ r.2.mem ((c.tc : Thread Cert.AllExpertsIdeal.nD Cert.AllExpertsIdeal.τ).loc Cert.AllExpertsIdeal.main_arg4) = m' ((c.tc : Thread Cert.AllExpertsIdeal.nD Cert.AllExpertsIdeal.τ).loc Cert.AllExpertsIdeal.main_arg4)
          ∧ r.2.mem ((c.tc : Thread Cert.AllExpertsIdeal.nD Cert.AllExpertsIdeal.τ).loc Cert.AllExpertsIdeal.main_arg5) = m' ((c.tc : Thread Cert.AllExpertsIdeal.nD Cert.AllExpertsIdeal.τ).loc Cert.AllExpertsIdeal.main_arg5))

def preserves_Dense_DenseIdeal : Prop :=
  True

def algebraic_DenseIdeal_PlainDenseIdeal [hDenseIdeal : Cert.DenseIdeal.Facts] [hPlainDenseIdeal : Cert.PlainDenseIdeal.Facts] : Prop :=
  ∀ (m : (ℓ : Loc Cert.DenseIdeal.nD Cert.DenseIdeal.τ Cert.DenseIdeal.sig) → Buf (Elt Ideal) ℓ) (g : Dev Cert.DenseIdeal.nD → PrngReg)
    (m' : (ℓ : Loc Cert.PlainDenseIdeal.nD Cert.PlainDenseIdeal.τ Cert.PlainDenseIdeal.sig) → Buf (Elt Ideal) ℓ) (g' : Dev Cert.PlainDenseIdeal.nD → PrngReg), Pre_DenseIdeal m →
    (∀ c : Dev Cert.DenseIdeal.nD,
      m' ((c.tc : Thread Cert.PlainDenseIdeal.nD Cert.PlainDenseIdeal.τ).loc Cert.PlainDenseIdeal.main_arg0) = m ((c.tc : Thread Cert.DenseIdeal.nD Cert.DenseIdeal.τ).loc Cert.DenseIdeal.main_arg0)
      ∧ m' ((c.tc : Thread Cert.PlainDenseIdeal.nD Cert.PlainDenseIdeal.τ).loc Cert.PlainDenseIdeal.main_arg1) = m ((c.tc : Thread Cert.DenseIdeal.nD Cert.DenseIdeal.τ).loc Cert.DenseIdeal.main_arg1)
      ∧ m' ((c.tc : Thread Cert.PlainDenseIdeal.nD Cert.PlainDenseIdeal.τ).loc Cert.PlainDenseIdeal.main_arg2) = m ((c.tc : Thread Cert.DenseIdeal.nD Cert.DenseIdeal.τ).loc Cert.DenseIdeal.main_arg2)
      ∧ m' ((c.tc : Thread Cert.PlainDenseIdeal.nD Cert.PlainDenseIdeal.τ).loc Cert.PlainDenseIdeal.main_arg3) = m ((c.tc : Thread Cert.DenseIdeal.nD Cert.DenseIdeal.τ).loc Cert.DenseIdeal.main_arg3)
      ∧ m' ((c.tc : Thread Cert.PlainDenseIdeal.nD Cert.PlainDenseIdeal.τ).loc Cert.PlainDenseIdeal.main_arg4) = m ((c.tc : Thread Cert.DenseIdeal.nD Cert.DenseIdeal.τ).loc Cert.DenseIdeal.main_arg4)
      ∧ m' ((c.tc : Thread Cert.PlainDenseIdeal.nD Cert.PlainDenseIdeal.τ).loc Cert.PlainDenseIdeal.main_arg5) = m ((c.tc : Thread Cert.DenseIdeal.nD Cert.DenseIdeal.τ).loc Cert.DenseIdeal.main_arg5)) →
    ∃ (v0 : (c : Dev Cert.DenseIdeal.nD) → Buf (Elt Ideal) ((c.tc : Thread Cert.DenseIdeal.nD Cert.DenseIdeal.τ).loc Cert.DenseIdeal.main_v0_0)) (v1 : (c : Dev Cert.DenseIdeal.nD) → Buf (Elt Ideal) ((c.tc : Thread Cert.DenseIdeal.nD Cert.DenseIdeal.τ).loc Cert.DenseIdeal.main_v0_1)),
      θ_run (Cert.DenseIdeal.defs (F := Ideal)) (onTc (τ := Cert.DenseIdeal.τ) (Cert.DenseIdeal.main (F := Ideal))) ⟨m, fun _ => 0, g⟩ (fun r => ∀ c : Dev Cert.DenseIdeal.nD,
          r.2.mem ((c.tc : Thread Cert.DenseIdeal.nD Cert.DenseIdeal.τ).loc Cert.DenseIdeal.main_v0_0) = v0 c
          ∧ r.2.mem ((c.tc : Thread Cert.DenseIdeal.nD Cert.DenseIdeal.τ).loc Cert.DenseIdeal.main_v0_1) = v1 c
          ∧ r.2.mem ((c.tc : Thread Cert.DenseIdeal.nD Cert.DenseIdeal.τ).loc Cert.DenseIdeal.main_arg0) = m ((c.tc : Thread Cert.DenseIdeal.nD Cert.DenseIdeal.τ).loc Cert.DenseIdeal.main_arg0)
          ∧ r.2.mem ((c.tc : Thread Cert.DenseIdeal.nD Cert.DenseIdeal.τ).loc Cert.DenseIdeal.main_arg1) = m ((c.tc : Thread Cert.DenseIdeal.nD Cert.DenseIdeal.τ).loc Cert.DenseIdeal.main_arg1)
          ∧ r.2.mem ((c.tc : Thread Cert.DenseIdeal.nD Cert.DenseIdeal.τ).loc Cert.DenseIdeal.main_arg2) = m ((c.tc : Thread Cert.DenseIdeal.nD Cert.DenseIdeal.τ).loc Cert.DenseIdeal.main_arg2)
          ∧ r.2.mem ((c.tc : Thread Cert.DenseIdeal.nD Cert.DenseIdeal.τ).loc Cert.DenseIdeal.main_arg3) = m ((c.tc : Thread Cert.DenseIdeal.nD Cert.DenseIdeal.τ).loc Cert.DenseIdeal.main_arg3)
          ∧ r.2.mem ((c.tc : Thread Cert.DenseIdeal.nD Cert.DenseIdeal.τ).loc Cert.DenseIdeal.main_arg4) = m ((c.tc : Thread Cert.DenseIdeal.nD Cert.DenseIdeal.τ).loc Cert.DenseIdeal.main_arg4)
          ∧ r.2.mem ((c.tc : Thread Cert.DenseIdeal.nD Cert.DenseIdeal.τ).loc Cert.DenseIdeal.main_arg5) = m ((c.tc : Thread Cert.DenseIdeal.nD Cert.DenseIdeal.τ).loc Cert.DenseIdeal.main_arg5))
      ∧ θ_run (Cert.PlainDenseIdeal.defs (F := Ideal)) (onTc (τ := Cert.PlainDenseIdeal.τ) (Cert.PlainDenseIdeal.main (F := Ideal))) ⟨m', fun _ => 0, g'⟩ (fun r => ∀ c : Dev Cert.PlainDenseIdeal.nD,
          r.2.mem ((c.tc : Thread Cert.PlainDenseIdeal.nD Cert.PlainDenseIdeal.τ).loc Cert.PlainDenseIdeal.main_v34) = v0 c
          ∧ r.2.mem ((c.tc : Thread Cert.PlainDenseIdeal.nD Cert.PlainDenseIdeal.τ).loc Cert.PlainDenseIdeal.main_v35) = v1 c
          ∧ r.2.mem ((c.tc : Thread Cert.PlainDenseIdeal.nD Cert.PlainDenseIdeal.τ).loc Cert.PlainDenseIdeal.main_arg0) = m' ((c.tc : Thread Cert.PlainDenseIdeal.nD Cert.PlainDenseIdeal.τ).loc Cert.PlainDenseIdeal.main_arg0)
          ∧ r.2.mem ((c.tc : Thread Cert.PlainDenseIdeal.nD Cert.PlainDenseIdeal.τ).loc Cert.PlainDenseIdeal.main_arg1) = m' ((c.tc : Thread Cert.PlainDenseIdeal.nD Cert.PlainDenseIdeal.τ).loc Cert.PlainDenseIdeal.main_arg1)
          ∧ r.2.mem ((c.tc : Thread Cert.PlainDenseIdeal.nD Cert.PlainDenseIdeal.τ).loc Cert.PlainDenseIdeal.main_arg2) = m' ((c.tc : Thread Cert.PlainDenseIdeal.nD Cert.PlainDenseIdeal.τ).loc Cert.PlainDenseIdeal.main_arg2)
          ∧ r.2.mem ((c.tc : Thread Cert.PlainDenseIdeal.nD Cert.PlainDenseIdeal.τ).loc Cert.PlainDenseIdeal.main_arg3) = m' ((c.tc : Thread Cert.PlainDenseIdeal.nD Cert.PlainDenseIdeal.τ).loc Cert.PlainDenseIdeal.main_arg3)
          ∧ r.2.mem ((c.tc : Thread Cert.PlainDenseIdeal.nD Cert.PlainDenseIdeal.τ).loc Cert.PlainDenseIdeal.main_arg4) = m' ((c.tc : Thread Cert.PlainDenseIdeal.nD Cert.PlainDenseIdeal.τ).loc Cert.PlainDenseIdeal.main_arg4)
          ∧ r.2.mem ((c.tc : Thread Cert.PlainDenseIdeal.nD Cert.PlainDenseIdeal.τ).loc Cert.PlainDenseIdeal.main_arg5) = m' ((c.tc : Thread Cert.PlainDenseIdeal.nD Cert.PlainDenseIdeal.τ).loc Cert.PlainDenseIdeal.main_arg5))

def preserves_Mixed_MixedIdeal : Prop :=
  True

def algebraic_MixedIdeal_PlainMixedIdeal [hMixedIdeal : Cert.MixedIdeal.Facts] [hPlainMixedIdeal : Cert.PlainMixedIdeal.Facts] : Prop :=
  ∀ (m : (ℓ : Loc Cert.MixedIdeal.nD Cert.MixedIdeal.τ Cert.MixedIdeal.sig) → Buf (Elt Ideal) ℓ) (g : Dev Cert.MixedIdeal.nD → PrngReg)
    (m' : (ℓ : Loc Cert.PlainMixedIdeal.nD Cert.PlainMixedIdeal.τ Cert.PlainMixedIdeal.sig) → Buf (Elt Ideal) ℓ) (g' : Dev Cert.PlainMixedIdeal.nD → PrngReg), Pre_MixedIdeal m →
    (∀ c : Dev Cert.MixedIdeal.nD,
      m' ((c.tc : Thread Cert.PlainMixedIdeal.nD Cert.PlainMixedIdeal.τ).loc Cert.PlainMixedIdeal.main_arg0) = m ((c.tc : Thread Cert.MixedIdeal.nD Cert.MixedIdeal.τ).loc Cert.MixedIdeal.main_arg0)
      ∧ m' ((c.tc : Thread Cert.PlainMixedIdeal.nD Cert.PlainMixedIdeal.τ).loc Cert.PlainMixedIdeal.main_arg1) = m ((c.tc : Thread Cert.MixedIdeal.nD Cert.MixedIdeal.τ).loc Cert.MixedIdeal.main_arg1)
      ∧ m' ((c.tc : Thread Cert.PlainMixedIdeal.nD Cert.PlainMixedIdeal.τ).loc Cert.PlainMixedIdeal.main_arg2) = m ((c.tc : Thread Cert.MixedIdeal.nD Cert.MixedIdeal.τ).loc Cert.MixedIdeal.main_arg2)
      ∧ m' ((c.tc : Thread Cert.PlainMixedIdeal.nD Cert.PlainMixedIdeal.τ).loc Cert.PlainMixedIdeal.main_arg3) = m ((c.tc : Thread Cert.MixedIdeal.nD Cert.MixedIdeal.τ).loc Cert.MixedIdeal.main_arg3)
      ∧ m' ((c.tc : Thread Cert.PlainMixedIdeal.nD Cert.PlainMixedIdeal.τ).loc Cert.PlainMixedIdeal.main_arg4) = m ((c.tc : Thread Cert.MixedIdeal.nD Cert.MixedIdeal.τ).loc Cert.MixedIdeal.main_arg4)
      ∧ m' ((c.tc : Thread Cert.PlainMixedIdeal.nD Cert.PlainMixedIdeal.τ).loc Cert.PlainMixedIdeal.main_arg5) = m ((c.tc : Thread Cert.MixedIdeal.nD Cert.MixedIdeal.τ).loc Cert.MixedIdeal.main_arg5)
      ∧ m' ((c.tc : Thread Cert.PlainMixedIdeal.nD Cert.PlainMixedIdeal.τ).loc Cert.PlainMixedIdeal.main_arg6) = m ((c.tc : Thread Cert.MixedIdeal.nD Cert.MixedIdeal.τ).loc Cert.MixedIdeal.main_arg6)) →
    ∃ (v0 : (c : Dev Cert.MixedIdeal.nD) → Buf (Elt Ideal) ((c.tc : Thread Cert.MixedIdeal.nD Cert.MixedIdeal.τ).loc Cert.MixedIdeal.main_v2_0)) (v1 : (c : Dev Cert.MixedIdeal.nD) → Buf (Elt Ideal) ((c.tc : Thread Cert.MixedIdeal.nD Cert.MixedIdeal.τ).loc Cert.MixedIdeal.main_v2_1)),
      θ_run (Cert.MixedIdeal.defs (F := Ideal)) (onTc (τ := Cert.MixedIdeal.τ) (Cert.MixedIdeal.main (F := Ideal))) ⟨m, fun _ => 0, g⟩ (fun r => ∀ c : Dev Cert.MixedIdeal.nD,
          r.2.mem ((c.tc : Thread Cert.MixedIdeal.nD Cert.MixedIdeal.τ).loc Cert.MixedIdeal.main_v2_0) = v0 c
          ∧ r.2.mem ((c.tc : Thread Cert.MixedIdeal.nD Cert.MixedIdeal.τ).loc Cert.MixedIdeal.main_v2_1) = v1 c
          ∧ r.2.mem ((c.tc : Thread Cert.MixedIdeal.nD Cert.MixedIdeal.τ).loc Cert.MixedIdeal.main_arg0) = m ((c.tc : Thread Cert.MixedIdeal.nD Cert.MixedIdeal.τ).loc Cert.MixedIdeal.main_arg0)
          ∧ r.2.mem ((c.tc : Thread Cert.MixedIdeal.nD Cert.MixedIdeal.τ).loc Cert.MixedIdeal.main_arg1) = m ((c.tc : Thread Cert.MixedIdeal.nD Cert.MixedIdeal.τ).loc Cert.MixedIdeal.main_arg1)
          ∧ r.2.mem ((c.tc : Thread Cert.MixedIdeal.nD Cert.MixedIdeal.τ).loc Cert.MixedIdeal.main_arg2) = m ((c.tc : Thread Cert.MixedIdeal.nD Cert.MixedIdeal.τ).loc Cert.MixedIdeal.main_arg2)
          ∧ r.2.mem ((c.tc : Thread Cert.MixedIdeal.nD Cert.MixedIdeal.τ).loc Cert.MixedIdeal.main_arg3) = m ((c.tc : Thread Cert.MixedIdeal.nD Cert.MixedIdeal.τ).loc Cert.MixedIdeal.main_arg3)
          ∧ r.2.mem ((c.tc : Thread Cert.MixedIdeal.nD Cert.MixedIdeal.τ).loc Cert.MixedIdeal.main_arg4) = m ((c.tc : Thread Cert.MixedIdeal.nD Cert.MixedIdeal.τ).loc Cert.MixedIdeal.main_arg4)
          ∧ r.2.mem ((c.tc : Thread Cert.MixedIdeal.nD Cert.MixedIdeal.τ).loc Cert.MixedIdeal.main_arg5) = m ((c.tc : Thread Cert.MixedIdeal.nD Cert.MixedIdeal.τ).loc Cert.MixedIdeal.main_arg5)
          ∧ r.2.mem ((c.tc : Thread Cert.MixedIdeal.nD Cert.MixedIdeal.τ).loc Cert.MixedIdeal.main_arg6) = m ((c.tc : Thread Cert.MixedIdeal.nD Cert.MixedIdeal.τ).loc Cert.MixedIdeal.main_arg6))
      ∧ θ_run (Cert.PlainMixedIdeal.defs (F := Ideal)) (onTc (τ := Cert.PlainMixedIdeal.τ) (Cert.PlainMixedIdeal.main (F := Ideal))) ⟨m', fun _ => 0, g'⟩ (fun r => ∀ c : Dev Cert.PlainMixedIdeal.nD,
          r.2.mem ((c.tc : Thread Cert.PlainMixedIdeal.nD Cert.PlainMixedIdeal.τ).loc Cert.PlainMixedIdeal.main_v12) = v0 c
          ∧ r.2.mem ((c.tc : Thread Cert.PlainMixedIdeal.nD Cert.PlainMixedIdeal.τ).loc Cert.PlainMixedIdeal.main_v31) = v1 c
          ∧ r.2.mem ((c.tc : Thread Cert.PlainMixedIdeal.nD Cert.PlainMixedIdeal.τ).loc Cert.PlainMixedIdeal.main_arg0) = m' ((c.tc : Thread Cert.PlainMixedIdeal.nD Cert.PlainMixedIdeal.τ).loc Cert.PlainMixedIdeal.main_arg0)
          ∧ r.2.mem ((c.tc : Thread Cert.PlainMixedIdeal.nD Cert.PlainMixedIdeal.τ).loc Cert.PlainMixedIdeal.main_arg1) = m' ((c.tc : Thread Cert.PlainMixedIdeal.nD Cert.PlainMixedIdeal.τ).loc Cert.PlainMixedIdeal.main_arg1)
          ∧ r.2.mem ((c.tc : Thread Cert.PlainMixedIdeal.nD Cert.PlainMixedIdeal.τ).loc Cert.PlainMixedIdeal.main_arg2) = m' ((c.tc : Thread Cert.PlainMixedIdeal.nD Cert.PlainMixedIdeal.τ).loc Cert.PlainMixedIdeal.main_arg2)
          ∧ r.2.mem ((c.tc : Thread Cert.PlainMixedIdeal.nD Cert.PlainMixedIdeal.τ).loc Cert.PlainMixedIdeal.main_arg3) = m' ((c.tc : Thread Cert.PlainMixedIdeal.nD Cert.PlainMixedIdeal.τ).loc Cert.PlainMixedIdeal.main_arg3)
          ∧ r.2.mem ((c.tc : Thread Cert.PlainMixedIdeal.nD Cert.PlainMixedIdeal.τ).loc Cert.PlainMixedIdeal.main_arg4) = m' ((c.tc : Thread Cert.PlainMixedIdeal.nD Cert.PlainMixedIdeal.τ).loc Cert.PlainMixedIdeal.main_arg4)
          ∧ r.2.mem ((c.tc : Thread Cert.PlainMixedIdeal.nD Cert.PlainMixedIdeal.τ).loc Cert.PlainMixedIdeal.main_arg5) = m' ((c.tc : Thread Cert.PlainMixedIdeal.nD Cert.PlainMixedIdeal.τ).loc Cert.PlainMixedIdeal.main_arg5)
          ∧ r.2.mem ((c.tc : Thread Cert.PlainMixedIdeal.nD Cert.PlainMixedIdeal.τ).loc Cert.PlainMixedIdeal.main_arg6) = m' ((c.tc : Thread Cert.PlainMixedIdeal.nD Cert.PlainMixedIdeal.τ).loc Cert.PlainMixedIdeal.main_arg6))

def preserves_Prep_PrepIdeal : Prop :=
  True

def algebraic_PrepIdeal_PlainPrepIdeal [hPrepIdeal : Cert.PrepIdeal.Facts] [hPlainPrepIdeal : Cert.PlainPrepIdeal.Facts] : Prop :=
  ∀ (m : (ℓ : Loc Cert.PrepIdeal.nD Cert.PrepIdeal.τ Cert.PrepIdeal.sig) → Buf (Elt Ideal) ℓ) (g : Dev Cert.PrepIdeal.nD → PrngReg)
    (m' : (ℓ : Loc Cert.PlainPrepIdeal.nD Cert.PlainPrepIdeal.τ Cert.PlainPrepIdeal.sig) → Buf (Elt Ideal) ℓ) (g' : Dev Cert.PlainPrepIdeal.nD → PrngReg), Pre_PrepIdeal m →
    (∀ c : Dev Cert.PrepIdeal.nD,
      m' ((c.tc : Thread Cert.PlainPrepIdeal.nD Cert.PlainPrepIdeal.τ).loc Cert.PlainPrepIdeal.main_arg0) = m ((c.tc : Thread Cert.PrepIdeal.nD Cert.PrepIdeal.τ).loc Cert.PrepIdeal.main_arg0)
      ∧ m' ((c.tc : Thread Cert.PlainPrepIdeal.nD Cert.PlainPrepIdeal.τ).loc Cert.PlainPrepIdeal.main_arg1) = m ((c.tc : Thread Cert.PrepIdeal.nD Cert.PrepIdeal.τ).loc Cert.PrepIdeal.main_arg1)
      ∧ m' ((c.tc : Thread Cert.PlainPrepIdeal.nD Cert.PlainPrepIdeal.τ).loc Cert.PlainPrepIdeal.main_arg2) = m ((c.tc : Thread Cert.PrepIdeal.nD Cert.PrepIdeal.τ).loc Cert.PrepIdeal.main_arg2)
      ∧ m' ((c.tc : Thread Cert.PlainPrepIdeal.nD Cert.PlainPrepIdeal.τ).loc Cert.PlainPrepIdeal.main_arg3) = m ((c.tc : Thread Cert.PrepIdeal.nD Cert.PrepIdeal.τ).loc Cert.PrepIdeal.main_arg3)
      ∧ m' ((c.tc : Thread Cert.PlainPrepIdeal.nD Cert.PlainPrepIdeal.τ).loc Cert.PlainPrepIdeal.main_arg4) = m ((c.tc : Thread Cert.PrepIdeal.nD Cert.PrepIdeal.τ).loc Cert.PrepIdeal.main_arg4)
      ∧ m' ((c.tc : Thread Cert.PlainPrepIdeal.nD Cert.PlainPrepIdeal.τ).loc Cert.PlainPrepIdeal.main_arg5) = m ((c.tc : Thread Cert.PrepIdeal.nD Cert.PrepIdeal.τ).loc Cert.PrepIdeal.main_arg5)
      ∧ m' ((c.tc : Thread Cert.PlainPrepIdeal.nD Cert.PlainPrepIdeal.τ).loc Cert.PlainPrepIdeal.main_arg6) = m ((c.tc : Thread Cert.PrepIdeal.nD Cert.PrepIdeal.τ).loc Cert.PrepIdeal.main_arg6)
      ∧ m' ((c.tc : Thread Cert.PlainPrepIdeal.nD Cert.PlainPrepIdeal.τ).loc Cert.PlainPrepIdeal.main_arg7) = m ((c.tc : Thread Cert.PrepIdeal.nD Cert.PrepIdeal.τ).loc Cert.PrepIdeal.main_arg7)
      ∧ m' ((c.tc : Thread Cert.PlainPrepIdeal.nD Cert.PlainPrepIdeal.τ).loc Cert.PlainPrepIdeal.main_arg8) = m ((c.tc : Thread Cert.PrepIdeal.nD Cert.PrepIdeal.τ).loc Cert.PrepIdeal.main_arg8)
      ∧ m' ((c.tc : Thread Cert.PlainPrepIdeal.nD Cert.PlainPrepIdeal.τ).loc Cert.PlainPrepIdeal.main_arg9) = m ((c.tc : Thread Cert.PrepIdeal.nD Cert.PrepIdeal.τ).loc Cert.PrepIdeal.main_arg9)
      ∧ m' ((c.tc : Thread Cert.PlainPrepIdeal.nD Cert.PlainPrepIdeal.τ).loc Cert.PlainPrepIdeal.main_arg10) = m ((c.tc : Thread Cert.PrepIdeal.nD Cert.PrepIdeal.τ).loc Cert.PrepIdeal.main_arg10)
      ∧ m' ((c.tc : Thread Cert.PlainPrepIdeal.nD Cert.PlainPrepIdeal.τ).loc Cert.PlainPrepIdeal.main_arg11) = m ((c.tc : Thread Cert.PrepIdeal.nD Cert.PrepIdeal.τ).loc Cert.PrepIdeal.main_arg11)
      ∧ m' ((c.tc : Thread Cert.PlainPrepIdeal.nD Cert.PlainPrepIdeal.τ).loc Cert.PlainPrepIdeal.main_arg12) = m ((c.tc : Thread Cert.PrepIdeal.nD Cert.PrepIdeal.τ).loc Cert.PrepIdeal.main_arg12)
      ∧ m' ((c.tc : Thread Cert.PlainPrepIdeal.nD Cert.PlainPrepIdeal.τ).loc Cert.PlainPrepIdeal.main_arg13) = m ((c.tc : Thread Cert.PrepIdeal.nD Cert.PrepIdeal.τ).loc Cert.PrepIdeal.main_arg13)
      ∧ m' ((c.tc : Thread Cert.PlainPrepIdeal.nD Cert.PlainPrepIdeal.τ).loc Cert.PlainPrepIdeal.main_arg14) = m ((c.tc : Thread Cert.PrepIdeal.nD Cert.PrepIdeal.τ).loc Cert.PrepIdeal.main_arg14)
      ∧ m' ((c.tc : Thread Cert.PlainPrepIdeal.nD Cert.PlainPrepIdeal.τ).loc Cert.PlainPrepIdeal.main_arg15) = m ((c.tc : Thread Cert.PrepIdeal.nD Cert.PrepIdeal.τ).loc Cert.PrepIdeal.main_arg15)
      ∧ m' ((c.tc : Thread Cert.PlainPrepIdeal.nD Cert.PlainPrepIdeal.τ).loc Cert.PlainPrepIdeal.main_arg16) = m ((c.tc : Thread Cert.PrepIdeal.nD Cert.PrepIdeal.τ).loc Cert.PrepIdeal.main_arg16)
      ∧ m' ((c.tc : Thread Cert.PlainPrepIdeal.nD Cert.PlainPrepIdeal.τ).loc Cert.PlainPrepIdeal.main_arg17) = m ((c.tc : Thread Cert.PrepIdeal.nD Cert.PrepIdeal.τ).loc Cert.PrepIdeal.main_arg17)) →
    ∃ (v0 : (c : Dev Cert.PrepIdeal.nD) → Buf (Elt Ideal) ((c.tc : Thread Cert.PrepIdeal.nD Cert.PrepIdeal.τ).loc Cert.PrepIdeal.main_v0_0)) (v1 : (c : Dev Cert.PrepIdeal.nD) → Buf (Elt Ideal) ((c.tc : Thread Cert.PrepIdeal.nD Cert.PrepIdeal.τ).loc Cert.PrepIdeal.main_v0_3)) (v2 : (c : Dev Cert.PrepIdeal.nD) → Buf (Elt Ideal) ((c.tc : Thread Cert.PrepIdeal.nD Cert.PrepIdeal.τ).loc Cert.PrepIdeal.main_v0_4)),
      θ_run (Cert.PrepIdeal.defs (F := Ideal)) (onTc (τ := Cert.PrepIdeal.τ) (Cert.PrepIdeal.main (F := Ideal))) ⟨m, fun _ => 0, g⟩ (fun r => ∀ c : Dev Cert.PrepIdeal.nD,
          r.2.mem ((c.tc : Thread Cert.PrepIdeal.nD Cert.PrepIdeal.τ).loc Cert.PrepIdeal.main_v0_0) = v0 c
          ∧ r.2.mem ((c.tc : Thread Cert.PrepIdeal.nD Cert.PrepIdeal.τ).loc Cert.PrepIdeal.main_v0_3) = v1 c
          ∧ r.2.mem ((c.tc : Thread Cert.PrepIdeal.nD Cert.PrepIdeal.τ).loc Cert.PrepIdeal.main_v0_4) = v2 c
          ∧ r.2.mem ((c.tc : Thread Cert.PrepIdeal.nD Cert.PrepIdeal.τ).loc Cert.PrepIdeal.main_arg0) = m ((c.tc : Thread Cert.PrepIdeal.nD Cert.PrepIdeal.τ).loc Cert.PrepIdeal.main_arg0)
          ∧ r.2.mem ((c.tc : Thread Cert.PrepIdeal.nD Cert.PrepIdeal.τ).loc Cert.PrepIdeal.main_arg1) = m ((c.tc : Thread Cert.PrepIdeal.nD Cert.PrepIdeal.τ).loc Cert.PrepIdeal.main_arg1)
          ∧ r.2.mem ((c.tc : Thread Cert.PrepIdeal.nD Cert.PrepIdeal.τ).loc Cert.PrepIdeal.main_arg2) = m ((c.tc : Thread Cert.PrepIdeal.nD Cert.PrepIdeal.τ).loc Cert.PrepIdeal.main_arg2)
          ∧ r.2.mem ((c.tc : Thread Cert.PrepIdeal.nD Cert.PrepIdeal.τ).loc Cert.PrepIdeal.main_arg3) = m ((c.tc : Thread Cert.PrepIdeal.nD Cert.PrepIdeal.τ).loc Cert.PrepIdeal.main_arg3)
          ∧ r.2.mem ((c.tc : Thread Cert.PrepIdeal.nD Cert.PrepIdeal.τ).loc Cert.PrepIdeal.main_arg4) = m ((c.tc : Thread Cert.PrepIdeal.nD Cert.PrepIdeal.τ).loc Cert.PrepIdeal.main_arg4)
          ∧ r.2.mem ((c.tc : Thread Cert.PrepIdeal.nD Cert.PrepIdeal.τ).loc Cert.PrepIdeal.main_arg5) = m ((c.tc : Thread Cert.PrepIdeal.nD Cert.PrepIdeal.τ).loc Cert.PrepIdeal.main_arg5)
          ∧ r.2.mem ((c.tc : Thread Cert.PrepIdeal.nD Cert.PrepIdeal.τ).loc Cert.PrepIdeal.main_arg6) = m ((c.tc : Thread Cert.PrepIdeal.nD Cert.PrepIdeal.τ).loc Cert.PrepIdeal.main_arg6)
          ∧ r.2.mem ((c.tc : Thread Cert.PrepIdeal.nD Cert.PrepIdeal.τ).loc Cert.PrepIdeal.main_arg7) = m ((c.tc : Thread Cert.PrepIdeal.nD Cert.PrepIdeal.τ).loc Cert.PrepIdeal.main_arg7)
          ∧ r.2.mem ((c.tc : Thread Cert.PrepIdeal.nD Cert.PrepIdeal.τ).loc Cert.PrepIdeal.main_arg8) = m ((c.tc : Thread Cert.PrepIdeal.nD Cert.PrepIdeal.τ).loc Cert.PrepIdeal.main_arg8)
          ∧ r.2.mem ((c.tc : Thread Cert.PrepIdeal.nD Cert.PrepIdeal.τ).loc Cert.PrepIdeal.main_arg9) = m ((c.tc : Thread Cert.PrepIdeal.nD Cert.PrepIdeal.τ).loc Cert.PrepIdeal.main_arg9)
          ∧ r.2.mem ((c.tc : Thread Cert.PrepIdeal.nD Cert.PrepIdeal.τ).loc Cert.PrepIdeal.main_arg10) = m ((c.tc : Thread Cert.PrepIdeal.nD Cert.PrepIdeal.τ).loc Cert.PrepIdeal.main_arg10)
          ∧ r.2.mem ((c.tc : Thread Cert.PrepIdeal.nD Cert.PrepIdeal.τ).loc Cert.PrepIdeal.main_arg11) = m ((c.tc : Thread Cert.PrepIdeal.nD Cert.PrepIdeal.τ).loc Cert.PrepIdeal.main_arg11)
          ∧ r.2.mem ((c.tc : Thread Cert.PrepIdeal.nD Cert.PrepIdeal.τ).loc Cert.PrepIdeal.main_arg12) = m ((c.tc : Thread Cert.PrepIdeal.nD Cert.PrepIdeal.τ).loc Cert.PrepIdeal.main_arg12)
          ∧ r.2.mem ((c.tc : Thread Cert.PrepIdeal.nD Cert.PrepIdeal.τ).loc Cert.PrepIdeal.main_arg13) = m ((c.tc : Thread Cert.PrepIdeal.nD Cert.PrepIdeal.τ).loc Cert.PrepIdeal.main_arg13)
          ∧ r.2.mem ((c.tc : Thread Cert.PrepIdeal.nD Cert.PrepIdeal.τ).loc Cert.PrepIdeal.main_arg14) = m ((c.tc : Thread Cert.PrepIdeal.nD Cert.PrepIdeal.τ).loc Cert.PrepIdeal.main_arg14)
          ∧ r.2.mem ((c.tc : Thread Cert.PrepIdeal.nD Cert.PrepIdeal.τ).loc Cert.PrepIdeal.main_arg15) = m ((c.tc : Thread Cert.PrepIdeal.nD Cert.PrepIdeal.τ).loc Cert.PrepIdeal.main_arg15)
          ∧ r.2.mem ((c.tc : Thread Cert.PrepIdeal.nD Cert.PrepIdeal.τ).loc Cert.PrepIdeal.main_arg16) = m ((c.tc : Thread Cert.PrepIdeal.nD Cert.PrepIdeal.τ).loc Cert.PrepIdeal.main_arg16)
          ∧ r.2.mem ((c.tc : Thread Cert.PrepIdeal.nD Cert.PrepIdeal.τ).loc Cert.PrepIdeal.main_arg17) = m ((c.tc : Thread Cert.PrepIdeal.nD Cert.PrepIdeal.τ).loc Cert.PrepIdeal.main_arg17))
      ∧ θ_run (Cert.PlainPrepIdeal.defs (F := Ideal)) (onTc (τ := Cert.PlainPrepIdeal.τ) (Cert.PlainPrepIdeal.main (F := Ideal))) ⟨m', fun _ => 0, g'⟩ (fun r => ∀ c : Dev Cert.PlainPrepIdeal.nD,
          r.2.mem ((c.tc : Thread Cert.PlainPrepIdeal.nD Cert.PlainPrepIdeal.τ).loc Cert.PlainPrepIdeal.main_v75) = v0 c
          ∧ r.2.mem ((c.tc : Thread Cert.PlainPrepIdeal.nD Cert.PlainPrepIdeal.τ).loc Cert.PlainPrepIdeal.main_v77) = v1 c
          ∧ r.2.mem ((c.tc : Thread Cert.PlainPrepIdeal.nD Cert.PlainPrepIdeal.τ).loc Cert.PlainPrepIdeal.main_v78) = v2 c
          ∧ r.2.mem ((c.tc : Thread Cert.PlainPrepIdeal.nD Cert.PlainPrepIdeal.τ).loc Cert.PlainPrepIdeal.main_arg0) = m' ((c.tc : Thread Cert.PlainPrepIdeal.nD Cert.PlainPrepIdeal.τ).loc Cert.PlainPrepIdeal.main_arg0)
          ∧ r.2.mem ((c.tc : Thread Cert.PlainPrepIdeal.nD Cert.PlainPrepIdeal.τ).loc Cert.PlainPrepIdeal.main_arg1) = m' ((c.tc : Thread Cert.PlainPrepIdeal.nD Cert.PlainPrepIdeal.τ).loc Cert.PlainPrepIdeal.main_arg1)
          ∧ r.2.mem ((c.tc : Thread Cert.PlainPrepIdeal.nD Cert.PlainPrepIdeal.τ).loc Cert.PlainPrepIdeal.main_arg2) = m' ((c.tc : Thread Cert.PlainPrepIdeal.nD Cert.PlainPrepIdeal.τ).loc Cert.PlainPrepIdeal.main_arg2)
          ∧ r.2.mem ((c.tc : Thread Cert.PlainPrepIdeal.nD Cert.PlainPrepIdeal.τ).loc Cert.PlainPrepIdeal.main_arg3) = m' ((c.tc : Thread Cert.PlainPrepIdeal.nD Cert.PlainPrepIdeal.τ).loc Cert.PlainPrepIdeal.main_arg3)
          ∧ r.2.mem ((c.tc : Thread Cert.PlainPrepIdeal.nD Cert.PlainPrepIdeal.τ).loc Cert.PlainPrepIdeal.main_arg4) = m' ((c.tc : Thread Cert.PlainPrepIdeal.nD Cert.PlainPrepIdeal.τ).loc Cert.PlainPrepIdeal.main_arg4)
          ∧ r.2.mem ((c.tc : Thread Cert.PlainPrepIdeal.nD Cert.PlainPrepIdeal.τ).loc Cert.PlainPrepIdeal.main_arg5) = m' ((c.tc : Thread Cert.PlainPrepIdeal.nD Cert.PlainPrepIdeal.τ).loc Cert.PlainPrepIdeal.main_arg5)
          ∧ r.2.mem ((c.tc : Thread Cert.PlainPrepIdeal.nD Cert.PlainPrepIdeal.τ).loc Cert.PlainPrepIdeal.main_arg6) = m' ((c.tc : Thread Cert.PlainPrepIdeal.nD Cert.PlainPrepIdeal.τ).loc Cert.PlainPrepIdeal.main_arg6)
          ∧ r.2.mem ((c.tc : Thread Cert.PlainPrepIdeal.nD Cert.PlainPrepIdeal.τ).loc Cert.PlainPrepIdeal.main_arg7) = m' ((c.tc : Thread Cert.PlainPrepIdeal.nD Cert.PlainPrepIdeal.τ).loc Cert.PlainPrepIdeal.main_arg7)
          ∧ r.2.mem ((c.tc : Thread Cert.PlainPrepIdeal.nD Cert.PlainPrepIdeal.τ).loc Cert.PlainPrepIdeal.main_arg8) = m' ((c.tc : Thread Cert.PlainPrepIdeal.nD Cert.PlainPrepIdeal.τ).loc Cert.PlainPrepIdeal.main_arg8)
          ∧ r.2.mem ((c.tc : Thread Cert.PlainPrepIdeal.nD Cert.PlainPrepIdeal.τ).loc Cert.PlainPrepIdeal.main_arg9) = m' ((c.tc : Thread Cert.PlainPrepIdeal.nD Cert.PlainPrepIdeal.τ).loc Cert.PlainPrepIdeal.main_arg9)
          ∧ r.2.mem ((c.tc : Thread Cert.PlainPrepIdeal.nD Cert.PlainPrepIdeal.τ).loc Cert.PlainPrepIdeal.main_arg10) = m' ((c.tc : Thread Cert.PlainPrepIdeal.nD Cert.PlainPrepIdeal.τ).loc Cert.PlainPrepIdeal.main_arg10)
          ∧ r.2.mem ((c.tc : Thread Cert.PlainPrepIdeal.nD Cert.PlainPrepIdeal.τ).loc Cert.PlainPrepIdeal.main_arg11) = m' ((c.tc : Thread Cert.PlainPrepIdeal.nD Cert.PlainPrepIdeal.τ).loc Cert.PlainPrepIdeal.main_arg11)
          ∧ r.2.mem ((c.tc : Thread Cert.PlainPrepIdeal.nD Cert.PlainPrepIdeal.τ).loc Cert.PlainPrepIdeal.main_arg12) = m' ((c.tc : Thread Cert.PlainPrepIdeal.nD Cert.PlainPrepIdeal.τ).loc Cert.PlainPrepIdeal.main_arg12)
          ∧ r.2.mem ((c.tc : Thread Cert.PlainPrepIdeal.nD Cert.PlainPrepIdeal.τ).loc Cert.PlainPrepIdeal.main_arg13) = m' ((c.tc : Thread Cert.PlainPrepIdeal.nD Cert.PlainPrepIdeal.τ).loc Cert.PlainPrepIdeal.main_arg13)
          ∧ r.2.mem ((c.tc : Thread Cert.PlainPrepIdeal.nD Cert.PlainPrepIdeal.τ).loc Cert.PlainPrepIdeal.main_arg14) = m' ((c.tc : Thread Cert.PlainPrepIdeal.nD Cert.PlainPrepIdeal.τ).loc Cert.PlainPrepIdeal.main_arg14)
          ∧ r.2.mem ((c.tc : Thread Cert.PlainPrepIdeal.nD Cert.PlainPrepIdeal.τ).loc Cert.PlainPrepIdeal.main_arg15) = m' ((c.tc : Thread Cert.PlainPrepIdeal.nD Cert.PlainPrepIdeal.τ).loc Cert.PlainPrepIdeal.main_arg15)
          ∧ r.2.mem ((c.tc : Thread Cert.PlainPrepIdeal.nD Cert.PlainPrepIdeal.τ).loc Cert.PlainPrepIdeal.main_arg16) = m' ((c.tc : Thread Cert.PlainPrepIdeal.nD Cert.PlainPrepIdeal.τ).loc Cert.PlainPrepIdeal.main_arg16)
          ∧ r.2.mem ((c.tc : Thread Cert.PlainPrepIdeal.nD Cert.PlainPrepIdeal.τ).loc Cert.PlainPrepIdeal.main_arg17) = m' ((c.tc : Thread Cert.PlainPrepIdeal.nD Cert.PlainPrepIdeal.τ).loc Cert.PlainPrepIdeal.main_arg17))

def Claim : Prop :=
  ∃ (hKernel : Cert.Kernel.Facts) (hKernelIdeal : Cert.KernelIdeal.Facts) (hReferenceIdeal : Cert.ReferenceIdeal.Facts) (hExperts : Cert.Experts.Facts) (hExpertsIdeal : Cert.ExpertsIdeal.Facts) (hAllExpertsIdeal : Cert.AllExpertsIdeal.Facts) (hDense : Cert.Dense.Facts) (hDenseIdeal : Cert.DenseIdeal.Facts) (hPlainDenseIdeal : Cert.PlainDenseIdeal.Facts) (hMixed : Cert.Mixed.Facts) (hMixedIdeal : Cert.MixedIdeal.Facts) (hPlainMixedIdeal : Cert.PlainMixedIdeal.Facts) (hPrep : Cert.Prep.Facts) (hPrepIdeal : Cert.PrepIdeal.Facts) (hPlainPrepIdeal : Cert.PlainPrepIdeal.Facts) (hPre_finite : Cert.Pre_finite.Facts) (hPre_tables : Cert.Pre_tables.Facts) (hOn_written : Cert.On_written.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Experts (hExperts := hExperts) (hPre_tables := hPre_tables)
    ∧ quiescent_ExpertsIdeal (hExpertsIdeal := hExpertsIdeal) (hPre_tables := hPre_tables)
    ∧ quiescent_AllExpertsIdeal (hAllExpertsIdeal := hAllExpertsIdeal)
    ∧ quiescent_AllExpertsIdeal_pre_tables (hAllExpertsIdeal := hAllExpertsIdeal) (hPre_tables := hPre_tables)
    ∧ quiescent_Dense (hDense := hDense)
    ∧ quiescent_DenseIdeal (hDenseIdeal := hDenseIdeal)
    ∧ quiescent_PlainDenseIdeal (hPlainDenseIdeal := hPlainDenseIdeal)
    ∧ quiescent_Mixed (hMixed := hMixed)
    ∧ quiescent_MixedIdeal (hMixedIdeal := hMixedIdeal)
    ∧ quiescent_PlainMixedIdeal (hPlainMixedIdeal := hPlainMixedIdeal)
    ∧ quiescent_Prep (hPrep := hPrep)
    ∧ quiescent_PrepIdeal (hPrepIdeal := hPrepIdeal)
    ∧ quiescent_PlainPrepIdeal (hPlainPrepIdeal := hPlainPrepIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_Experts_ExpertsIdeal
    ∧ algebraic_ExpertsIdeal_AllExpertsIdeal_on_written (hExpertsIdeal := hExpertsIdeal) (hAllExpertsIdeal := hAllExpertsIdeal) (hPre_tables := hPre_tables) (hOn_written := hOn_written)
    ∧ preserves_Dense_DenseIdeal
    ∧ algebraic_DenseIdeal_PlainDenseIdeal (hDenseIdeal := hDenseIdeal) (hPlainDenseIdeal := hPlainDenseIdeal)
    ∧ preserves_Mixed_MixedIdeal
    ∧ algebraic_MixedIdeal_PlainMixedIdeal (hMixedIdeal := hMixedIdeal) (hPlainMixedIdeal := hPlainMixedIdeal)
    ∧ preserves_Prep_PrepIdeal
    ∧ algebraic_PrepIdeal_PlainPrepIdeal (hPrepIdeal := hPrepIdeal) (hPlainPrepIdeal := hPlainPrepIdeal)
-- ==== On_written.lean ====
abbrev S72 : Shape := ⟨1, ![72]⟩
abbrev S1 : Shape := ⟨1, ![1]⟩
abbrev S36864x1024 : Shape := ⟨2, ![36864, 1024]⟩
abbrev S8x1024x7168 : Shape := ⟨3, ![8, 1024, 7168]⟩
abbrev S8x3584x1024 : Shape := ⟨3, ![8, 3584, 1024]⟩
abbrev S72x512x1024 : Shape := ⟨3, ![72, 512, 1024]⟩
abbrev S72x1x1 : Shape := ⟨3, ![72, 1, 1]⟩
abbrev S1x1x1 : Shape := ⟨3, ![1, 1, 1]⟩
abbrev S_ : Shape := ⟨0, ![]⟩

class Facts : Prop where
  bcast_S72_S72x1x1_0 : S72.BroadcastsInDim S72x1x1 (![0] : Fin 1 → Fin S72x1x1.rank)
  bcast_S72x1x1_S72x512x1024_0_1_2 : S72x1x1.BroadcastsInDim S72x512x1024 (![0, 1, 2] : Fin 3 → Fin S72x512x1024.rank)
  bcast_S1_S1x1x1_0 : S1.BroadcastsInDim S1x1x1 (![0] : Fin 1 → Fin S1x1x1.rank)
  bcast_S1x1x1_S72x512x1024_0_1_2 : S1x1x1.BroadcastsInDim S72x512x1024 (![0, 1, 2] : Fin 3 → Fin S72x512x1024.rank)
  bcast_S_S72x512x1024 : S_.BroadcastsInDim S72x512x1024 (![] : Fin 0 → Fin S72x512x1024.rank)
  shapeCasts_S72x512x1024_S36864x1024 : S72x512x1024.ShapeCasts S36864x1024

variable [Facts]

def fn_part1 {F : FTy → Type} [FloatOps F] (main_v16 : IVec S72x512x1024 1) (main_v19 : IVec S72x512x1024 1) : IVec S36864x1024 1 :=
  let main_v20 : IVec S72x512x1024 1 := andi main_v19 main_v16
  let main_v21 : IVec S36864x1024 1 := shapeCast S36864x1024 main_v20 shapeCasts_S72x512x1024_S36864x1024
  main_v21

def fn {F : FTy → Type} [FloatOps F] (main_arg0 : IVec S72 32) (main_arg1 : IVec S1 32) (main_arg2 : IVec S72 32) (main_arg3 : FVec F S36864x1024 .bf16) (main_arg4 : FVec F S8x1024x7168 .bf16) (main_arg5 : FVec F S8x3584x1024 .bf16) : IVec S36864x1024 1 :=
  let main_v0 : IVec S72x512x1024 32 := iotaInDim S72x512x1024 32 0
  let main_v1 : IVec S72x512x1024 32 := iotaInDim S72x512x1024 32 1
  let main_v2 : IVec S72x1x1 32 := broadcastInDim S72x1x1 ![0] bcast_S72_S72x1x1_0 main_arg2
  let main_v3 : IVec S72x512x1024 32 := broadcastInDim S72x512x1024 ![0, 1, 2] bcast_S72x1x1_S72x512x1024_0_1_2 main_v2
  let main_v4 : IVec S1x1x1 32 := broadcastInDim S1x1x1 ![0] bcast_S1_S1x1x1_0 main_arg1
  let main_v5 : IVec S72x512x1024 32 := broadcastInDim S72x512x1024 ![0, 1, 2] bcast_S1x1x1_S72x512x1024_0_1_2 main_v4
  let main_c : IVec S_ 32 := constantI S_ 32 128#32
  let main_v6 : IVec S72x512x1024 32 := broadcastInDim S72x512x1024 ![] bcast_S_S72x512x1024 main_c
  let main_v7 : IVec S72x512x1024 1 := cmpi .eq main_v3 main_v6
  let main_c_0 : IVec S_ 32 := constantI S_ 32 256#32
  let main_v8 : IVec S72x512x1024 32 := broadcastInDim S72x512x1024 ![] bcast_S_S72x512x1024 main_c_0
  let main_v9 : IVec S72x512x1024 1 := cmpi .eq main_v3 main_v8
  let main_v10 : IVec S72x512x1024 1 := ori main_v7 main_v9
  let main_c_1 : IVec S_ 32 := constantI S_ 32 384#32
  let main_v11 : IVec S72x512x1024 32 := broadcastInDim S72x512x1024 ![] bcast_S_S72x512x1024 main_c_1
  let main_v12 : IVec S72x512x1024 1 := cmpi .eq main_v3 main_v11
  let main_v13 : IVec S72x512x1024 1 := ori main_v10 main_v12
  let main_c_2 : IVec S_ 32 := constantI S_ 32 512#32
  let main_v14 : IVec S72x512x1024 32 := broadcastInDim S72x512x1024 ![] bcast_S_S72x512x1024 main_c_2
  let main_v15 : IVec S72x512x1024 1 := cmpi .eq main_v3 main_v14
  let main_v16 : IVec S72x512x1024 1 := ori main_v13 main_v15
  let main_v17 : IVec S72x512x1024 1 := cmpi .slt main_v0 main_v5
  let main_v18 : IVec S72x512x1024 1 := cmpi .slt main_v1 main_v3
  let main_v19 : IVec S72x512x1024 1 := andi main_v17 main_v18
  fn_part1 (F := F) main_v16 main_v19
-- ==== Pre_finite.lean ====
abbrev S4x256x16384 : Shape := ⟨3, ![4, 256, 16384]⟩
abbrev S4x16384x256 : Shape := ⟨3, ![4, 16384, 256]⟩
abbrev S4x144x16384 : Shape := ⟨3, ![4, 144, 16384]⟩
abbrev S_ : Shape := ⟨0, ![]⟩

class Facts : Prop where
  bitsLt_bf16_f32 : FTy.bits .bf16 < FTy.bits .f32
  bcast_S_S4x256x16384 : S_.BroadcastsInDim S4x256x16384 (![] : Fin 0 → Fin S4x256x16384.rank)
  reducesTo_S4x256x16384_S_d0_1_2 : S4x256x16384.ReducesTo [0, 1, 2] S_
  h_S_ : 0 < S_.numel
  bcast_S_S4x16384x256 : S_.BroadcastsInDim S4x16384x256 (![] : Fin 0 → Fin S4x16384x256.rank)
  reducesTo_S4x16384x256_S_d0_1_2 : S4x16384x256.ReducesTo [0, 1, 2] S_

variable [Facts]

def fn {F : FTy → Type} [FloatOps F] (main_arg0 : FVec F S4x256x16384 .bf16) (main_arg1 : FVec F S4x16384x256 .bf16) (main_arg2 : FVec F S4x144x16384 .bf16) : IVec S_ 1 :=
  let main_v0 : FVec F S4x256x16384 .f32 := (extf .f32 · bitsLt_bf16_f32) main_arg0
  let main_v1 : FVec F S4x256x16384 .f32 := Host.absf main_v0
  let main_cst : FVec F S_ .f32 := constant S_ .f32 0x7F800000#32
  let main_v2 : FVec F S4x256x16384 .f32 := broadcastInDim S4x256x16384 ![] bcast_S_S4x256x16384 main_cst
  let main_v3 : IVec S4x256x16384 1 := cmpf .olt main_v1 main_v2
  let main_c : IVec S_ 1 := constantI S_ 1 1#1
  let main_v4 : IVec S_ 1 := (fun x v => Host.reduce IntOp.andi x v reducesTo_S4x256x16384_S_d0_1_2 h_S_) main_v3 main_c
  let main_v5 : FVec F S4x16384x256 .f32 := (extf .f32 · bitsLt_bf16_f32) main_arg1
  let main_v6 : FVec F S4x16384x256 .f32 := Host.absf main_v5
  let main_cst_0 : FVec F S_ .f32 := constant S_ .f32 0x7F800000#32
  let main_v7 : FVec F S4x16384x256 .f32 := broadcastInDim S4x16384x256 ![] bcast_S_S4x16384x256 main_cst_0
  let main_v8 : IVec S4x16384x256 1 := cmpf .olt main_v6 main_v7
  let main_c_1 : IVec S_ 1 := constantI S_ 1 1#1
  let main_v9 : IVec S_ 1 := (fun x v => Host.reduce IntOp.andi x v reducesTo_S4x16384x256_S_d0_1_2 h_S_) main_v8 main_c_1
  let main_v10 : IVec S_ 1 := andi main_v4 main_v9
  main_v10
-- ==== Pre_tables.lean ====
abbrev S72 : Shape := ⟨1, ![72]⟩
abbrev S1 : Shape := ⟨1, ![1]⟩
abbrev S36864x1024 : Shape := ⟨2, ![36864, 1024]⟩
abbrev S8x1024x7168 : Shape := ⟨3, ![8, 1024, 7168]⟩
abbrev S8x3584x1024 : Shape := ⟨3, ![8, 3584, 1024]⟩
abbrev S_ : Shape := ⟨0, ![]⟩

class Facts : Prop where
  bcast_S_S72 : S_.BroadcastsInDim S72 (![] : Fin 0 → Fin S72.rank)
  reducesTo_S72_S_d0 : S72.ReducesTo [0] S_
  h_S_ : 0 < S_.numel
  bcast_S_S1 : S_.BroadcastsInDim S1 (![] : Fin 0 → Fin S1.rank)
  reducesTo_S1_S_d0 : S1.ReducesTo [0] S_

variable [Facts]

def fn {F : FTy → Type} [FloatOps F] (main_arg0 : IVec S72 32) (main_arg1 : IVec S1 32) (main_arg2 : IVec S72 32) (main_arg3 : FVec F S36864x1024 .bf16) (main_arg4 : FVec F S8x1024x7168 .bf16) (main_arg5 : FVec F S8x3584x1024 .bf16) : IVec S_ 1 :=
  let main_c : IVec S_ 32 := constantI S_ 32 0#32
  let main_v0 : IVec S72 32 := broadcastInDim S72 ![] bcast_S_S72 main_c
  let main_v1 : IVec S72 1 := cmpi .sge main_arg0 main_v0
  let main_c_0 : IVec S_ 32 := constantI S_ 32 8#32
  let main_v2 : IVec S72 32 := broadcastInDim S72 ![] bcast_S_S72 main_c_0
  let main_v3 : IVec S72 1 := cmpi .slt main_arg0 main_v2
  let main_v4 : IVec S72 1 := andi main_v1 main_v3
  let main_c_1 : IVec S_ 1 := constantI S_ 1 1#1
  let main_v5 : IVec S_ 1 := (fun x v => Host.reduce IntOp.andi x v reducesTo_S72_S_d0 h_S_) main_v4 main_c_1
  let main_c_2 : IVec S_ 32 := constantI S_ 32 1#32
  let main_v6 : IVec S1 32 := broadcastInDim S1 ![] bcast_S_S1 main_c_2
  let main_v7 : IVec S1 1 := cmpi .sge main_arg1 main_v6
  let main_c_3 : IVec S_ 1 := constantI S_ 1 1#1
  let main_v8 : IVec S_ 1 := (fun x v => Host.reduce IntOp.andi x v reducesTo_S1_S_d0 h_S_) main_v7 main_c_3
  let main_v9 : IVec S_ 1 := andi main_v5 main_v8
  main_v9
-- ==== Kernel.lean ====
abbrev S4x256x16384 : Shape := ⟨3, ![4, 256, 16384]⟩
abbrev S4x16384x256 : Shape := ⟨3, ![4, 16384, 256]⟩
abbrev S4x144x16384 : Shape := ⟨3, ![4, 144, 16384]⟩
abbrev S16384x512 : Shape := ⟨2, ![16384, 512]⟩
abbrev S1x256x2048 : Shape := ⟨3, ![1, 256, 2048]⟩
abbrev S1x16384x256 : Shape := ⟨3, ![1, 16384, 256]⟩
abbrev S1x144x16384 : Shape := ⟨3, ![1, 144, 16384]⟩
abbrev S2048x128 : Shape := ⟨2, ![2048, 128]⟩
abbrev S128x2048 : Shape := ⟨2, ![128, 2048]⟩
abbrev S8x2048 : Shape := ⟨2, ![8, 2048]⟩
abbrev S1x512x256 : Shape := ⟨3, ![1, 512, 256]⟩
abbrev S512x256 : Shape := ⟨2, ![512, 256]⟩
abbrev S256x2048 : Shape := ⟨2, ![256, 2048]⟩
abbrev S512x2048 : Shape := ⟨2, ![512, 2048]⟩
abbrev S64x8x2048 : Shape := ⟨3, ![64, 8, 2048]⟩
abbrev S1x128x512 : Shape := ⟨3, ![1, 128, 512]⟩
abbrev S128x512 : Shape := ⟨2, ![128, 512]⟩
abbrev S1x256x1536 : Shape := ⟨3, ![1, 256, 1536]⟩
abbrev S256x1536 : Shape := ⟨2, ![256, 1536]⟩
abbrev S512x1536 : Shape := ⟨2, ![512, 1536]⟩
abbrev S8x1536 : Shape := ⟨2, ![8, 1536]⟩
abbrev S64x8x1536 : Shape := ⟨3, ![64, 8, 1536]⟩
abbrev S128x1536 : Shape := ⟨2, ![128, 1536]⟩
abbrev S1x256x1024 : Shape := ⟨3, ![1, 256, 1024]⟩
abbrev S256x1024 : Shape := ⟨2, ![256, 1024]⟩
abbrev S512x1024 : Shape := ⟨2, ![512, 1024]⟩
abbrev S8x1024 : Shape := ⟨2, ![8, 1024]⟩
abbrev S64x8x1024 : Shape := ⟨3, ![64, 8, 1024]⟩
abbrev S128x1024 : Shape := ⟨2, ![128, 1024]⟩
abbrev S1x256x512 : Shape := ⟨3, ![1, 256, 512]⟩
abbrev S256x512 : Shape := ⟨2, ![256, 512]⟩
abbrev S512x512 : Shape := ⟨2, ![512, 512]⟩
abbrev S8x512 : Shape := ⟨2, ![8, 512]⟩
abbrev S64x8x512 : Shape := ⟨3, ![64, 8, 512]⟩
abbrev S2048 : Shape := ⟨1, ![2048]⟩
abbrev S1x2048 : Shape := ⟨2, ![1, 2048]⟩

abbrev nBuf : Space → Nat
  | .hbm => 4
  | .vmem => 10
  | .smem => 0
  | _ => 0

abbrev bufTy : (tb : Table) → Fin (tcTables nBuf tb) → BufTy
  | .hbm, ⟨0, _⟩ => ⟨S4x256x16384, .bf16⟩
  | .hbm, ⟨1, _⟩ => ⟨S4x16384x256, .bf16⟩
  | .hbm, ⟨2, _⟩ => ⟨S4x144x16384, .bf16⟩
  | .hbm, ⟨3, _⟩ => ⟨S16384x512, .bf16⟩
  | .local _ .vmem, ⟨0, _⟩ => ⟨S1x256x2048, .bf16⟩
  | .local _ .vmem, ⟨1, _⟩ => ⟨S1x256x2048, .bf16⟩
  | .local _ .vmem, ⟨2, _⟩ => ⟨S1x16384x256, .bf16⟩
  | .local _ .vmem, ⟨3, _⟩ => ⟨S1x16384x256, .bf16⟩
  | .local _ .vmem, ⟨4, _⟩ => ⟨S1x144x16384, .bf16⟩
  | .local _ .vmem, ⟨5, _⟩ => ⟨S1x144x16384, .bf16⟩
  | .local _ .vmem, ⟨6, _⟩ => ⟨S2048x128, .bf16⟩
  | .local _ .vmem, ⟨7, _⟩ => ⟨S2048x128, .bf16⟩
  | .local _ .vmem, ⟨8, _⟩ => ⟨S128x2048, .f32⟩
  | .local _ .vmem, ⟨9, _⟩ => ⟨S8x2048, .f32⟩
  | _, _ => ⟨S4x256x16384, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 8], ![false, false]⟩

@[reducible] def k0_t1_loop (i : grid0.Coords) : Scf.Loop 32 :=
  let c0_i32_4 : BitVec 32 := 0#32
  let arg1 : BitVec 32 := BitVec.ofNat 32 (i 1).val
  let v8 : BitVec 32 := Scalar.subi arg1 c0_i32_4
  let c1_i32 : BitVec 32 := 1#32
  let v10 : BitVec 32 := Scalar.divsi v8 c1_i32
  let v11 : BitVec 32 := Scalar.muli v10 c1_i32
  let v12 : BitVec 32 := Scalar.addi c0_i32_4 v11
  let c1_i32_5 : BitVec 32 := 1#32
  ⟨c0_i32_4, v12, c1_i32_5⟩
def k0_mult1 (i : grid0.Coords) (k0_t1 : Fin (k0_t1_loop i).trips) : BitVec 32 :=
  let c4_i32_99 : BitVec 32 := 4#32
  let c0_i32_4 : BitVec 32 := 0#32
  let c1_i32_5 : BitVec 32 := 1#32
  let arg8 : BitVec 32 := Scf.iv c0_i32_4 c1_i32_5 k0_t1
  let v162 : BitVec 32 := Scalar.muli c4_i32_99 arg8
  let c0_i32_100 : BitVec 32 := 0#32
  let v163 : BitVec 32 := Scalar.addi v162 c0_i32_100
  let c512_i32_101 : BitVec 32 := 512#32
  let v164 : BitVec 32 := Scalar.muli v163 c512_i32_101
  v164
def k0_off1 (i : grid0.Coords) (k0_t1 : Fin (k0_t1_loop i).trips) (c0_i32_100 : BitVec 32) : Fin 3 → Nat :=
  let c0_102 : Index := 0#32
  let c4_i32_99 : BitVec 32 := 4#32
  let c0_i32_4 : BitVec 32 := 0#32
  let c1_i32_5 : BitVec 32 := 1#32
  let arg8 : BitVec 32 := Scf.iv c0_i32_4 c1_i32_5 k0_t1
  let v162 : BitVec 32 := Scalar.muli c4_i32_99 arg8
  let v163 : BitVec 32 := Scalar.addi v162 c0_i32_100
  let c512_i32_101 : BitVec 32 := 512#32
  let v164 : BitVec 32 := Scalar.muli v163 c512_i32_101
  let v165 : BitVec 32 := v164
  let v166 : Index := Scalar.indexCast v165
  let c0_103 : Index := 0#32
  ![0, v166.toNat, 0]
def k0_off2 (i : grid0.Coords) (k0_t1 : Fin (k0_t1_loop i).trips) (c0_i32_100 : BitVec 32) : Fin 3 → Nat :=
  let c0_115 : Index := 0#32
  let c0_116 : Index := 0#32
  let c4_i32_99 : BitVec 32 := 4#32
  let c0_i32_4 : BitVec 32 := 0#32
  let c1_i32_5 : BitVec 32 := 1#32
  let arg8 : BitVec 32 := Scf.iv c0_i32_4 c1_i32_5 k0_t1
  let v162 : BitVec 32 := Scalar.muli c4_i32_99 arg8
  let v163 : BitVec 32 := Scalar.addi v162 c0_i32_100
  let c512_i32_101 : BitVec 32 := 512#32
  let v164 : BitVec 32 := Scalar.muli v163 c512_i32_101
  let v165 : BitVec 32 := v164
  let v181 : Index := Scalar.indexCast v165
  ![0, 0, v181.toNat]
def k0_mult2 (i : grid0.Coords) (k0_t1 : Fin (k0_t1_loop i).trips) : BitVec 32 :=
  let c4_i32_120 : BitVec 32 := 4#32
  let c0_i32_4 : BitVec 32 := 0#32
  let c1_i32_5 : BitVec 32 := 1#32
  let arg8 : BitVec 32 := Scf.iv c0_i32_4 c1_i32_5 k0_t1
  let v190 : BitVec 32 := Scalar.muli c4_i32_120 arg8
  let c1_i32_121 : BitVec 32 := 1#32
  let v191 : BitVec 32 := Scalar.addi v190 c1_i32_121
  let c512_i32_122 : BitVec 32 := 512#32
  let v192 : BitVec 32 := Scalar.muli v191 c512_i32_122
  v192
def k0_mult3 (i : grid0.Coords) (k0_t1 : Fin (k0_t1_loop i).trips) : BitVec 32 :=
  let c4_i32_141 : BitVec 32 := 4#32
  let c0_i32_4 : BitVec 32 := 0#32
  let c1_i32_5 : BitVec 32 := 1#32
  let arg8 : BitVec 32 := Scf.iv c0_i32_4 c1_i32_5 k0_t1
  let v218 : BitVec 32 := Scalar.muli c4_i32_141 arg8
  let c2_i32_142 : BitVec 32 := 2#32
  let v219 : BitVec 32 := Scalar.addi v218 c2_i32_142
  let c512_i32_143 : BitVec 32 := 512#32
  let v220 : BitVec 32 := Scalar.muli v219 c512_i32_143
  v220
def k0_mult4 (i : grid0.Coords) (k0_t1 : Fin (k0_t1_loop i).trips) : BitVec 32 :=
  let c4_i32_162 : BitVec 32 := 4#32
  let c0_i32_4 : BitVec 32 := 0#32
  let c1_i32_5 : BitVec 32 := 1#32
  let arg8 : BitVec 32 := Scf.iv c0_i32_4 c1_i32_5 k0_t1
  let v246 : BitVec 32 := Scalar.muli c4_i32_162 arg8
  let c3_i32_163 : BitVec 32 := 3#32
  let v247 : BitVec 32 := Scalar.addi v246 c3_i32_163
  let c512_i32_164 : BitVec 32 := 512#32
  let v248 : BitVec 32 := Scalar.muli v247 c512_i32_164
  v248
@[reducible] def k0_t2_loop (i : grid0.Coords) : Scf.Loop 32 :=
  let c0_i32_4 : BitVec 32 := 0#32
  let arg1 : BitVec 32 := BitVec.ofNat 32 (i 1).val
  let v8 : BitVec 32 := Scalar.subi arg1 c0_i32_4
  let c1_i32 : BitVec 32 := 1#32
  let v10 : BitVec 32 := Scalar.divsi v8 c1_i32
  let v11 : BitVec 32 := Scalar.muli v10 c1_i32
  let v12 : BitVec 32 := Scalar.addi c0_i32_4 v11
  let v9 : BitVec 32 := Scalar.addi c0_i32_4 v8
  let c1_i32_6 : BitVec 32 := 1#32
  ⟨v12, v9, c1_i32_6⟩
def k0_mult5 (i : grid0.Coords) (k0_t2 : Fin (k0_t2_loop i).trips) : BitVec 32 :=
  let c4_i32_99 : BitVec 32 := 4#32
  let c0_i32_4 : BitVec 32 := 0#32
  let arg1 : BitVec 32 := BitVec.ofNat 32 (i 1).val
  let v8 : BitVec 32 := Scalar.subi arg1 c0_i32_4
  let c1_i32 : BitVec 32 := 1#32
  let v10 : BitVec 32 := Scalar.divsi v8 c1_i32
  let v11 : BitVec 32 := Scalar.muli v10 c1_i32
  let v12 : BitVec 32 := Scalar.addi c0_i32_4 v11
  let c1_i32_6 : BitVec 32 := 1#32
  let arg8 : BitVec 32 := Scf.iv v12 c1_i32_6 k0_t2
  let v162 : BitVec 32 := Scalar.muli c4_i32_99 arg8
  let c0_i32_100 : BitVec 32 := 0#32
  let v163 : BitVec 32 := Scalar.addi v162 c0_i32_100
  let c512_i32_101 : BitVec 32 := 512#32
  let v164 : BitVec 32 := Scalar.muli v163 c512_i32_101
  v164
def k0_off3 (i : grid0.Coords) (k0_t2 : Fin (k0_t2_loop i).trips) (c0_i32_100 : BitVec 32) : Fin 3 → Nat :=
  let c0_102 : Index := 0#32
  let c4_i32_99 : BitVec 32 := 4#32
  let c0_i32_4 : BitVec 32 := 0#32
  let arg1 : BitVec 32 := BitVec.ofNat 32 (i 1).val
  let v8 : BitVec 32 := Scalar.subi arg1 c0_i32_4
  let c1_i32 : BitVec 32 := 1#32
  let v10 : BitVec 32 := Scalar.divsi v8 c1_i32
  let v11 : BitVec 32 := Scalar.muli v10 c1_i32
  let v12 : BitVec 32 := Scalar.addi c0_i32_4 v11
  let c1_i32_6 : BitVec 32 := 1#32
  let arg8 : BitVec 32 := Scf.iv v12 c1_i32_6 k0_t2
  let v162 : BitVec 32 := Scalar.muli c4_i32_99 arg8
  let v163 : BitVec 32 := Scalar.addi v162 c0_i32_100
  let c512_i32_101 : BitVec 32 := 512#32
  let v164 : BitVec 32 := Scalar.muli v163 c512_i32_101
  let v165 : BitVec 32 := v164
  let v166 : Index := Scalar.indexCast v165
  let c0_103 : Index := 0#32
  ![0, v166.toNat, 0]
def k0_off4 (i : grid0.Coords) (k0_t2 : Fin (k0_t2_loop i).trips) (c0_i32_100 : BitVec 32) : Fin 3 → Nat :=
  let c0_115 : Index := 0#32
  let c0_116 : Index := 0#32
  let c4_i32_99 : BitVec 32 := 4#32
  let c0_i32_4 : BitVec 32 := 0#32
  let arg1 : BitVec 32 := BitVec.ofNat 32 (i 1).val
  let v8 : BitVec 32 := Scalar.subi arg1 c0_i32_4
  let c1_i32 : BitVec 32 := 1#32
  let v10 : BitVec 32 := Scalar.divsi v8 c1_i32
  let v11 : BitVec 32 := Scalar.muli v10 c1_i32
  let v12 : BitVec 32 := Scalar.addi c0_i32_4 v11
  let c1_i32_6 : BitVec 32 := 1#32
  let arg8 : BitVec 32 := Scf.iv v12 c1_i32_6 k0_t2
  let v162 : BitVec 32 := Scalar.muli c4_i32_99 arg8
  let v163 : BitVec 32 := Scalar.addi v162 c0_i32_100
  let c512_i32_101 : BitVec 32 := 512#32
  let v164 : BitVec 32 := Scalar.muli v163 c512_i32_101
  let v165 : BitVec 32 := v164
  let v181 : Index := Scalar.indexCast v165
  ![0, 0, v181.toNat]
def k0_mult6 (i : grid0.Coords) (k0_t2 : Fin (k0_t2_loop i).trips) : BitVec 32 :=
  let c4_i32_120 : BitVec 32 := 4#32
  let c0_i32_4 : BitVec 32 := 0#32
  let arg1 : BitVec 32 := BitVec.ofNat 32 (i 1).val
  let v8 : BitVec 32 := Scalar.subi arg1 c0_i32_4
  let c1_i32 : BitVec 32 := 1#32
  let v10 : BitVec 32 := Scalar.divsi v8 c1_i32
  let v11 : BitVec 32 := Scalar.muli v10 c1_i32
  let v12 : BitVec 32 := Scalar.addi c0_i32_4 v11
  let c1_i32_6 : BitVec 32 := 1#32
  let arg8 : BitVec 32 := Scf.iv v12 c1_i32_6 k0_t2
  let v190 : BitVec 32 := Scalar.muli c4_i32_120 arg8
  let c1_i32_121 : BitVec 32 := 1#32
  let v191 : BitVec 32 := Scalar.addi v190 c1_i32_121
  let c512_i32_122 : BitVec 32 := 512#32
  let v192 : BitVec 32 := Scalar.muli v191 c512_i32_122
  v192
def k0_mult7 (i : grid0.Coords) (k0_t2 : Fin (k0_t2_loop i).trips) : BitVec 32 :=
  let c4_i32_141 : BitVec 32 := 4#32
  let c0_i32_4 : BitVec 32 := 0#32
  let arg1 : BitVec 32 := BitVec.ofNat 32 (i 1).val
  let v8 : BitVec 32 := Scalar.subi arg1 c0_i32_4
  let c1_i32 : BitVec 32 := 1#32
  let v10 : BitVec 32 := Scalar.divsi v8 c1_i32
  let v11 : BitVec 32 := Scalar.muli v10 c1_i32
  let v12 : BitVec 32 := Scalar.addi c0_i32_4 v11
  let c1_i32_6 : BitVec 32 := 1#32
  let arg8 : BitVec 32 := Scf.iv v12 c1_i32_6 k0_t2
  let v218 : BitVec 32 := Scalar.muli c4_i32_141 arg8
  let c2_i32_142 : BitVec 32 := 2#32
  let v219 : BitVec 32 := Scalar.addi v218 c2_i32_142
  let c512_i32_143 : BitVec 32 := 512#32
  let v220 : BitVec 32 := Scalar.muli v219 c512_i32_143
  v220
def k0_mult8 (i : grid0.Coords) (k0_t2 : Fin (k0_t2_loop i).trips) : BitVec 32 :=
  let c4_i32_162 : BitVec 32 := 4#32
  let c0_i32_4 : BitVec 32 := 0#32
  let arg1 : BitVec 32 := BitVec.ofNat 32 (i 1).val
  let v8 : BitVec 32 := Scalar.subi arg1 c0_i32_4
  let c1_i32 : BitVec 32 := 1#32
  let v10 : BitVec 32 := Scalar.divsi v8 c1_i32
  let v11 : BitVec 32 := Scalar.muli v10 c1_i32
  let v12 : BitVec 32 := Scalar.addi c0_i32_4 v11
  let c1_i32_6 : BitVec 32 := 1#32
  let arg8 : BitVec 32 := Scf.iv v12 c1_i32_6 k0_t2
  let v246 : BitVec 32 := Scalar.muli c4_i32_162 arg8
  let c3_i32_163 : BitVec 32 := 3#32
  let v247 : BitVec 32 := Scalar.addi v246 c3_i32_163
  let c512_i32_164 : BitVec 32 := 512#32
  let v248 : BitVec 32 := Scalar.muli v247 c512_i32_164
  v248
def k0_mult9 (i : grid0.Coords) : BitVec 32 :=
  let c4_i32 : BitVec 32 := 4#32
  let arg1 : BitVec 32 := BitVec.ofNat 32 (i 1).val
  let v13 : BitVec 32 := Scalar.muli c4_i32 arg1
  let c0_i32_7 : BitVec 32 := 0#32
  let v14 : BitVec 32 := Scalar.addi v13 c0_i32_7
  let c512_i32 : BitVec 32 := 512#32
  let v15 : BitVec 32 := Scalar.muli v14 c512_i32
  v15
def k0_off5 (i : grid0.Coords) (c0_i32_7 : BitVec 32) : Fin 3 → Nat :=
  let c0_8 : Index := 0#32
  let c4_i32 : BitVec 32 := 4#32
  let arg1 : BitVec 32 := BitVec.ofNat 32 (i 1).val
  let v13 : BitVec 32 := Scalar.muli c4_i32 arg1
  let v14 : BitVec 32 := Scalar.addi v13 c0_i32_7
  let c512_i32 : BitVec 32 := 512#32
  let v15 : BitVec 32 := Scalar.muli v14 c512_i32
  let v16 : BitVec 32 := v15
  let v17 : Index := Scalar.indexCast v16
  let c0_9 : Index := 0#32
  ![0, v17.toNat, 0]
def k0_off6 (i : grid0.Coords) (c0_i32_7 : BitVec 32) : Fin 3 → Nat :=
  let c0_23 : Index := 0#32
  let c0_24 : Index := 0#32
  let c4_i32 : BitVec 32 := 4#32
  let arg1 : BitVec 32 := BitVec.ofNat 32 (i 1).val
  let v13 : BitVec 32 := Scalar.muli c4_i32 arg1
  let v14 : BitVec 32 := Scalar.addi v13 c0_i32_7
  let c512_i32 : BitVec 32 := 512#32
  let v15 : BitVec 32 := Scalar.muli v14 c512_i32
  let v16 : BitVec 32 := v15
  let v39 : Index := Scalar.indexCast v16
  ![0, 0, v39.toNat]
def k0_mult10 (i : grid0.Coords) : BitVec 32 :=
  let c4_i32_28 : BitVec 32 := 4#32
  let arg1 : BitVec 32 := BitVec.ofNat 32 (i 1).val
  let v48 : BitVec 32 := Scalar.muli c4_i32_28 arg1
  let c1_i32_29 : BitVec 32 := 1#32
  let v49 : BitVec 32 := Scalar.addi v48 c1_i32_29
  let c512_i32_30 : BitVec 32 := 512#32
  let v50 : BitVec 32 := Scalar.muli v49 c512_i32_30
  v50
def k0_mult11 (i : grid0.Coords) : BitVec 32 :=
  let c4_i32_50 : BitVec 32 := 4#32
  let arg1 : BitVec 32 := BitVec.ofNat 32 (i 1).val
  let v83 : BitVec 32 := Scalar.muli c4_i32_50 arg1
  let c2_i32 : BitVec 32 := 2#32
  let v84 : BitVec 32 := Scalar.addi v83 c2_i32
  let c512_i32_51 : BitVec 32 := 512#32
  let v85 : BitVec 32 := Scalar.muli v84 c512_i32_51
  v85
def k0_mult12 (i : grid0.Coords) : BitVec 32 :=
  let c4_i32_71 : BitVec 32 := 4#32
  let arg1 : BitVec 32 := BitVec.ofNat 32 (i 1).val
  let v118 : BitVec 32 := Scalar.muli c4_i32_71 arg1
  let c3_i32 : BitVec 32 := 3#32
  let v119 : BitVec 32 := Scalar.addi v118 c3_i32
  let c512_i32_72 : BitVec 32 := 512#32
  let v120 : BitVec 32 := Scalar.muli v119 c512_i32_72
  v120
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1x256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x16384x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x144x16384 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S2048x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== KernelIdeal.lean ====
variable {F : FTy → Type} [FloatOps F] [Named F]
def κ : String → Option EReal := fun
  | "mask" => some ⊥
  | _ => none
-- ==== ReferenceIdeal.lean ====
abbrev S4x256x16384 : Shape := ⟨3, ![4, 256, 16384]⟩
abbrev S4x16384x256 : Shape := ⟨3, ![4, 16384, 256]⟩
abbrev S4x144x16384 : Shape := ⟨3, ![4, 144, 16384]⟩
abbrev S4x128x16384 : Shape := ⟨3, ![4, 128, 16384]⟩
abbrev S4x16384x128 : Shape := ⟨3, ![4, 16384, 128]⟩
abbrev S4x16384x16384 : Shape := ⟨3, ![4, 16384, 16384]⟩
abbrev S16384 : Shape := ⟨1, ![16384]⟩
abbrev S1x16384 : Shape := ⟨2, ![1, 16384]⟩
abbrev S16384x1 : Shape := ⟨2, ![16384, 1]⟩
abbrev S16384x16384 : Shape := ⟨2, ![16384, 16384]⟩
abbrev S1x16384x16384 : Shape := ⟨3, ![1, 16384, 16384]⟩
abbrev S_ : Shape := ⟨0, ![]⟩
abbrev S4x16384 : Shape := ⟨2, ![4, 16384]⟩
abbrev S4x16384x1 : Shape := ⟨3, ![4, 16384, 1]⟩
abbrev S16384x4x128 : Shape := ⟨3, ![16384, 4, 128]⟩
abbrev S16384x512 : Shape := ⟨2, ![16384, 512]⟩

abbrev nBuf : Space → Nat
  | .hbm => 44
  | .vmem => 0
  | .smem => 0
  | _ => 0

abbrev bufTy : (tb : Table) → Fin (tcTables nBuf tb) → BufTy
  | .hbm, ⟨0, _⟩ => ⟨S4x256x16384, .bf16⟩
  | .hbm, ⟨1, _⟩ => ⟨S4x16384x256, .bf16⟩
  | .hbm, ⟨2, _⟩ => ⟨S4x144x16384, .bf16⟩
  | .hbm, ⟨3, _⟩ => ⟨S4x256x16384, .f32⟩
  | .hbm, ⟨4, _⟩ => ⟨S4x16384x256, .f32⟩
  | .hbm, ⟨5, _⟩ => ⟨S4x16384x256, .f32⟩
  | .hbm, ⟨6, _⟩ => ⟨S4x144x16384, .f32⟩
  | .hbm, ⟨7, _⟩ => ⟨S4x128x16384, .f32⟩
  | .hbm, ⟨8, _⟩ => ⟨S4x16384x128, .f32⟩
  | .hbm, ⟨9, _⟩ => ⟨S4x16384x16384, .f32⟩
  | .hbm, ⟨10, _⟩ => ⟨S16384, .i32⟩
  | .hbm, ⟨11, _⟩ => ⟨S1x16384, .i32⟩
  | .hbm, ⟨12, _⟩ => ⟨S16384x1, .i32⟩
  | .hbm, ⟨13, _⟩ => ⟨S16384x16384, .i32⟩
  | .hbm, ⟨14, _⟩ => ⟨S16384x16384, .i32⟩
  | .hbm, ⟨15, _⟩ => ⟨S16384x16384, .i1⟩
  | .hbm, ⟨16, _⟩ => ⟨S1x16384x16384, .i1⟩
  | .hbm, ⟨17, _⟩ => ⟨S_, .f32⟩
  | .hbm, ⟨18, _⟩ => ⟨S_, .f32⟩
  | .hbm, ⟨19, _⟩ => ⟨S4x16384x16384, .i1⟩
  | .hbm, ⟨20, _⟩ => ⟨S4x16384x16384, .f32⟩
  | .hbm, ⟨21, _⟩ => ⟨S4x16384x16384, .f32⟩
  | .hbm, ⟨22, _⟩ => ⟨S_, .f32⟩
  | .hbm, ⟨23, _⟩ => ⟨S_, .f32⟩
  | .hbm, ⟨24, _⟩ => ⟨S4x16384x16384, .f32⟩
  | .hbm, ⟨25, _⟩ => ⟨S4x16384x16384, .f32⟩
  | .hbm, ⟨26, _⟩ => ⟨S_, .f32⟩
  | .hbm, ⟨27, _⟩ => ⟨S4x16384, .f32⟩
  | .hbm, ⟨28, _⟩ => ⟨S_, .f32⟩
  | .hbm, ⟨29, _⟩ => ⟨S4x16384, .f32⟩
  | .hbm, ⟨30, _⟩ => ⟨S4x16384, .f32⟩
  | .hbm, ⟨31, _⟩ => ⟨S4x16384x1, .f32⟩
  | .hbm, ⟨32, _⟩ => ⟨S4x16384x16384, .f32⟩
  | .hbm, ⟨33, _⟩ => ⟨S4x16384x16384, .f32⟩
  | .hbm, ⟨34, _⟩ => ⟨S4x16384x16384, .f32⟩
  | .hbm, ⟨35, _⟩ => ⟨S_, .f32⟩
  | .hbm, ⟨36, _⟩ => ⟨S4x16384, .f32⟩
  | .hbm, ⟨37, _⟩ => ⟨S4x16384x1, .f32⟩
  | .hbm, ⟨38, _⟩ => ⟨S4x16384x16384, .f32⟩
  | .hbm, ⟨39, _⟩ => ⟨S4x16384x16384, .f32⟩
  | .hbm, ⟨40, _⟩ => ⟨S4x128x16384, .f32⟩
  | .hbm, ⟨41, _⟩ => ⟨S16384x4x128, .f32⟩
  | .hbm, ⟨42, _⟩ => ⟨S16384x512, .f32⟩
  | .hbm, ⟨43, _⟩ => ⟨S16384x512, .bf16⟩
  | _, _ => ⟨S4x256x16384, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_cst : Ref sig .tc := ⟨.hbm, 17, rfl⟩
abbrev main_call0_v0 : Ref sig .tc := ⟨.hbm, 18, rfl⟩
abbrev main_call0_v1 : Ref sig .tc := ⟨.hbm, 19, rfl⟩
abbrev main_call0_v2 : Ref sig .tc := ⟨.hbm, 20, rfl⟩
abbrev main_v14 : Ref sig .tc := ⟨.hbm, 21, rfl⟩
abbrev main_cst_0 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_1 : Ref sig .tc := ⟨.hbm, 26, rfl⟩
abbrev main_v18 : Ref sig .tc := ⟨.hbm, 27, rfl⟩
abbrev main_cst_2 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_3 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩

abbrev nD : Nat := 1
abbrev τ : Topo := Topo.v7x

variable {F : FTy → Type} [FloatOps F]
-- ==== Experts.lean ====
abbrev S72 : Shape := ⟨1, ![72]⟩
abbrev S1 : Shape := ⟨1, ![1]⟩
abbrev S36864x1024 : Shape := ⟨2, ![36864, 1024]⟩
abbrev S8x1024x7168 : Shape := ⟨3, ![8, 1024, 7168]⟩
abbrev S8x3584x1024 : Shape := ⟨3, ![8, 3584, 1024]⟩
abbrev S512x1024 : Shape := ⟨2, ![512, 1024]⟩
abbrev S1x1024x3584 : Shape := ⟨3, ![1, 1024, 3584]⟩
abbrev S1x3584x1024 : Shape := ⟨3, ![1, 3584, 1024]⟩
abbrev S128x1024 : Shape := ⟨2, ![128, 1024]⟩
abbrev S1x1024x1792 : Shape := ⟨3, ![1, 1024, 1792]⟩
abbrev S1024x1792 : Shape := ⟨2, ![1024, 1792]⟩
abbrev S128x1792 : Shape := ⟨2, ![128, 1792]⟩
abbrev S1x1792x1024 : Shape := ⟨3, ![1, 1792, 1024]⟩
abbrev S1792x1024 : Shape := ⟨2, ![1792, 1024]⟩
abbrev S256x1024 : Shape := ⟨2, ![256, 1024]⟩
abbrev S256x1792 : Shape := ⟨2, ![256, 1792]⟩
abbrev S384x1024 : Shape := ⟨2, ![384, 1024]⟩
abbrev S384x1792 : Shape := ⟨2, ![384, 1792]⟩
abbrev S512x1792 : Shape := ⟨2, ![512, 1792]⟩

abbrev nBuf : Space → Nat
  | .hbm => 4
  | .vmem => 10
  | .smem => 3
  | _ => 0

abbrev bufTy : (tb : Table) → Fin (tcTables nBuf tb) → BufTy
  | .hbm, ⟨0, _⟩ => ⟨S36864x1024, .bf16⟩
  | .hbm, ⟨1, _⟩ => ⟨S8x1024x7168, .bf16⟩
  | .hbm, ⟨2, _⟩ => ⟨S8x3584x1024, .bf16⟩
  | .hbm, ⟨3, _⟩ => ⟨S36864x1024, .bf16⟩
  | .local _ .vmem, ⟨0, _⟩ => ⟨S512x1024, .bf16⟩
  | .local _ .vmem, ⟨1, _⟩ => ⟨S512x1024, .bf16⟩
  | .local _ .vmem, ⟨2, _⟩ => ⟨S1x1024x3584, .bf16⟩
  | .local _ .vmem, ⟨3, _⟩ => ⟨S1x1024x3584, .bf16⟩
  | .local _ .vmem, ⟨4, _⟩ => ⟨S1x1024x3584, .bf16⟩
  | .local _ .vmem, ⟨5, _⟩ => ⟨S1x1024x3584, .bf16⟩
  | .local _ .vmem, ⟨6, _⟩ => ⟨S1x3584x1024, .bf16⟩
  | .local _ .vmem, ⟨7, _⟩ => ⟨S1x3584x1024, .bf16⟩
  | .local _ .vmem, ⟨8, _⟩ => ⟨S512x1024, .bf16⟩
  | .local _ .vmem, ⟨9, _⟩ => ⟨S512x1024, .bf16⟩
  | .local _ .smem, ⟨0, _⟩ => ⟨S72, .i32⟩
  | .local _ .smem, ⟨1, _⟩ => ⟨S1, .i32⟩
  | .local _ .smem, ⟨2, _⟩ => ⟨S72, .i32⟩
  | _, _ => ⟨S36864x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg3 : Ref sig .tc := ⟨.hbm, 0, rfl⟩
abbrev main_arg4 : Ref sig .tc := ⟨.hbm, 1, rfl⟩
abbrev main_arg5 : Ref sig .tc := ⟨.hbm, 2, rfl⟩
abbrev main_v0 : Ref sig .tc := ⟨.hbm, 3, rfl⟩
abbrev main_arg0 : Ref sig .tc := ⟨.smem, 0, rfl⟩
abbrev main_arg1 : Ref sig .tc := ⟨.smem, 1, rfl⟩
abbrev main_arg2 : Ref sig .tc := ⟨.smem, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![72], ![false]⟩

abbrev pre0 : Pipeline.Prefetch sig := ⟨3, ![main_arg0.idx, main_arg1.idx, main_arg2.idx], fun | 0 => main_arg0.names | 1 => main_arg1.names | 2 => main_arg2.names | ⟨_ + 3, h⟩ => absurd h (Nat.not_lt.2 (Nat.le_add_left _ _)), fun | 0 => rfl | 1 => rfl | 2 => rfl | ⟨_ + 3, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_off2 (i : grid0.Coords) : Fin 1 → Nat :=
  let arg0 : BitVec 32 := BitVec.ofNat 32 (i 0).val
  let v4 : Index := Scalar.indexCast arg0
  ![v4.toNat]
def k0_off3 (i : grid0.Coords) : Fin 1 → Nat :=
  let arg0 : BitVec 32 := BitVec.ofNat 32 (i 0).val
  let v9 : Index := Scalar.indexCast arg0
  ![v9.toNat]
def k0_off4 (i : grid0.Coords) : Fin 1 → Nat :=
  let arg0 : BitVec 32 := BitVec.ofNat 32 (i 0).val
  let v14 : Index := Scalar.indexCast arg0
  ![v14.toNat]
def k0_off5 (i : grid0.Coords) : Fin 1 → Nat :=
  let arg0 : BitVec 32 := BitVec.ofNat 32 (i 0).val
  let v19 : Index := Scalar.indexCast arg0
  ![v19.toNat]
def k0_cond1 (i : grid0.Coords) (v0 : BitVec 32) : BitVec 1 :=
  let arg0 : BitVec 32 := BitVec.ofNat 32 (i 0).val
  let v1 : BitVec 1 := Scalar.cmpi .slt arg0 v0
  let v2 : BitVec 32 := Scalar.extui v1
  let c0_i32 : BitVec 32 := 0#32
  let v3 : BitVec 1 := Scalar.cmpi .ne v2 c0_i32
  v3

def k0_cond2 (v5 : BitVec 32) : BitVec 1 :=
  let c128_i32 : BitVec 32 := 128#32
  let v6 : BitVec 1 := Scalar.cmpi .eq v5 c128_i32
  let v7 : BitVec 32 := Scalar.extui v6
  let c0_i32_0 : BitVec 32 := 0#32
  let v8 : BitVec 1 := Scalar.cmpi .ne v7 c0_i32_0
  v8

def k0_cond3 (v10 : BitVec 32) : BitVec 1 :=
  let c256_i32 : BitVec 32 := 256#32
  let v11 : BitVec 1 := Scalar.cmpi .eq v10 c256_i32
  let v12 : BitVec 32 := Scalar.extui v11
  let c0_i32_1 : BitVec 32 := 0#32
  let v13 : BitVec 1 := Scalar.cmpi .ne v12 c0_i32_1
  v13

def k0_cond4 (v15 : BitVec 32) : BitVec 1 :=
  let c384_i32 : BitVec 32 := 384#32
  let v16 : BitVec 1 := Scalar.cmpi .eq v15 c384_i32
  let v17 : BitVec 32 := Scalar.extui v16
  let c0_i32_2 : BitVec 32 := 0#32
  let v18 : BitVec 1 := Scalar.cmpi .ne v17 c0_i32_2
  v18

def k0_cond5 (v20 : BitVec 32) : BitVec 1 :=
  let c512_i32 : BitVec 32 := 512#32
  let v21 : BitVec 1 := Scalar.cmpi .eq v20 c512_i32
  let v22 : BitVec 32 := Scalar.extui v21
  let c0_i32_3 : BitVec 32 := 0#32
  let v23 : BitVec 1 := Scalar.cmpi .ne v22 c0_i32_3
  v23

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let c0 : Index := 0#32
  let v0 : BitVec 32 := pf.at 1 (Rect.unit (s := S1) ![0] S1.size inb_S1_S1_0) numel1_S1
  let c1_i32 : BitVec 32 := 1#32
  let v1 : BitVec 32 := Scalar.subi v0 c1_i32
  let v2 : BitVec 32 := Scalar.minsi arg0 v1
  let c0_i32 : BitVec 32 := 0#32
  let c0_i32_0 : BitVec 32 := 0#32
  ![v2.toNat, c0_i32.toNat]

def cc0_transform_1 (k0_off1_inb : ∀ i : grid0.Coords, ∀ a, (k0_off1 i) a + S1.size a ≤ S72.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S72) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_2 (k0_off1_inb : ∀ i : grid0.Coords, ∀ a, (k0_off1 i) a + S1.size a ≤ S72.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S72) ![v0.toNat] S1.size (k0_off1_inb i)) numel1_S1
  let c0_i32 : BitVec 32 := 0#32
  let c1_i32 : BitVec 32 := 1#32
  let c0_i32_0 : BitVec 32 := 0#32
  ![v1.toNat, c0_i32.toNat, c1_i32.toNat]

def cc0_transform_3 (k0_off1_inb : ∀ i : grid0.Coords, ∀ a, (k0_off1 i) a + S1.size a ≤ S72.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S72) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_4 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let c0 : Index := 0#32
  let v0 : BitVec 32 := pf.at 1 (Rect.unit (s := S1) ![0] S1.size inb_S1_S1_0) numel1_S1
  let c1_i32 : BitVec 32 := 1#32
  let v1 : BitVec 32 := Scalar.subi v0 c1_i32
  let v2 : BitVec 32 := Scalar.minsi arg0 v1
  let c0_i32 : BitVec 32 := 0#32
  let c0_i32_0 : BitVec 32 := 0#32
  ![v2.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x3584 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024x3584 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x3584x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== AllExpertsIdeal.lean ====
abbrev S72 : Shape := ⟨1, ![72]⟩
abbrev S1 : Shape := ⟨1, ![1]⟩
abbrev S36864x1024 : Shape := ⟨2, ![36864, 1024]⟩
abbrev S8x1024x7168 : Shape := ⟨3, ![8, 1024, 7168]⟩
abbrev S8x3584x1024 : Shape := ⟨3, ![8, 3584, 1024]⟩
abbrev S72x512 : Shape := ⟨2, ![72, 512]⟩
abbrev S36864 : Shape := ⟨1, ![36864]⟩
abbrev S36864x1 : Shape := ⟨2, ![36864, 1]⟩
abbrev S1x8 : Shape := ⟨2, ![1, 8]⟩
abbrev S36864x8 : Shape := ⟨2, ![36864, 8]⟩
abbrev S_ : Shape := ⟨0, ![]⟩
abbrev S1x1024x7168 : Shape := ⟨3, ![1, 1024, 7168]⟩
abbrev S1024x7168 : Shape := ⟨2, ![1024, 7168]⟩
abbrev S1x3584x1024 : Shape := ⟨3, ![1, 3584, 1024]⟩
abbrev S3584x1024 : Shape := ⟨2, ![3584, 1024]⟩
abbrev S36864x7168 : Shape := ⟨2, ![36864, 7168]⟩
abbrev S36864x3584 : Shape := ⟨2, ![36864, 3584]⟩

abbrev nBuf : Space → Nat
  | .hbm => 196
  | .vmem => 0
  | .smem => 0
  | _ => 0

abbrev hbmTy0_0 (i : Nat) : BufTy := match i % 128 with
  | 0 => ⟨S72, .i32⟩
  | 1 => ⟨S1, .i32⟩
  | 2 => ⟨S72, .i32⟩
  | 3 => ⟨S36864x1024, .bf16⟩
  | 4 => ⟨S8x1024x7168, .bf16⟩
  | 5 => ⟨S8x3584x1024, .bf16⟩
  | 6 => ⟨S36864x1024, .f32⟩
  | 7 => ⟨S8x1024x7168, .f32⟩
  | 8 => ⟨S8x3584x1024, .f32⟩
  | 9 => ⟨S72x512, .i32⟩
  | 10 => ⟨S36864, .i32⟩
  | 11 => ⟨S36864x1, .i32⟩
  | 12 => ⟨S1x8, .i32⟩
  | 13 => ⟨S36864x8, .i32⟩
  | 14 => ⟨S36864x8, .i32⟩
  | 15 => ⟨S36864x8, .i1⟩
  | 16 => ⟨S36864x8, .f32⟩
  | 17 => ⟨S_, .f32⟩
  | 18 => ⟨S36864x1024, .f32⟩
  | 19 => ⟨S36864x1, .f32⟩
  | 20 => ⟨S1x1024x7168, .f32⟩
  | 21 => ⟨S1024x7168, .f32⟩
  | 22 => ⟨S1x3584x1024, .f32⟩
  | 23 => ⟨S3584x1024, .f32⟩
  | 24 => ⟨S36864x7168, .f32⟩
  | 25 => ⟨S36864x3584, .f32⟩
  | 26 => ⟨S36864x3584, .f32⟩
  | 27 => ⟨S36864x3584, .f32⟩
  | 28 => ⟨S36864x3584, .f32⟩
  | 29 => ⟨S_, .f32⟩
  | 30 => ⟨S36864x3584, .f32⟩
  | 31 => ⟨S36864x3584, .f32⟩
  | 32 => ⟨S_, .f32⟩
  | 33 => ⟨S36864x3584, .f32⟩
  | 34 => ⟨S36864x3584, .f32⟩
  | 35 => ⟨S36864x3584, .f32⟩
  | 36 => ⟨S36864x3584, .f32⟩
  | 37 => ⟨S36864x1024, .f32⟩
  | 38 => ⟨S36864x1024, .f32⟩
  | 39 => ⟨S36864x1024, .f32⟩
  | 40 => ⟨S36864x1024, .f32⟩
  | 41 => ⟨S36864x1, .f32⟩
  | 42 => ⟨S1x1024x7168, .f32⟩
  | 43 => ⟨S1024x7168, .f32⟩
  | 44 => ⟨S1x3584x1024, .f32⟩
  | 45 => ⟨S3584x1024, .f32⟩
  | 46 => ⟨S36864x7168, .f32⟩
  | 47 => ⟨S36864x3584, .f32⟩
  | 48 => ⟨S36864x3584, .f32⟩
  | 49 => ⟨S36864x3584, .f32⟩
  | 50 => ⟨S36864x3584, .f32⟩
  | 51 => ⟨S_, .f32⟩
  | 52 => ⟨S36864x3584, .f32⟩
  | 53 => ⟨S36864x3584, .f32⟩
  | 54 => ⟨S_, .f32⟩
  | 55 => ⟨S36864x3584, .f32⟩
  | 56 => ⟨S36864x3584, .f32⟩
  | 57 => ⟨S36864x3584, .f32⟩
  | 58 => ⟨S36864x3584, .f32⟩
  | 59 => ⟨S36864x1024, .f32⟩
  | 60 => ⟨S36864x1024, .f32⟩
  | 61 => ⟨S36864x1024, .f32⟩
  | 62 => ⟨S36864x1024, .f32⟩
  | 63 => ⟨S36864x1, .f32⟩
  | 64 => ⟨S1x1024x7168, .f32⟩
  | 65 => ⟨S1024x7168, .f32⟩
  | 66 => ⟨S1x3584x1024, .f32⟩
  | 67 => ⟨S3584x1024, .f32⟩
  | 68 => ⟨S36864x7168, .f32⟩
  | 69 => ⟨S36864x3584, .f32⟩
  | 70 => ⟨S36864x3584, .f32⟩
  | 71 => ⟨S36864x3584, .f32⟩
  | 72 => ⟨S36864x3584, .f32⟩
  | 73 => ⟨S_, .f32⟩
  | 74 => ⟨S36864x3584, .f32⟩
  | 75 => ⟨S36864x3584, .f32⟩
  | 76 => ⟨S_, .f32⟩
  | 77 => ⟨S36864x3584, .f32⟩
  | 78 => ⟨S36864x3584, .f32⟩
  | 79 => ⟨S36864x3584, .f32⟩
  | 80 => ⟨S36864x3584, .f32⟩
  | 81 => ⟨S36864x1024, .f32⟩
  | 82 => ⟨S36864x1024, .f32⟩
  | 83 => ⟨S36864x1024, .f32⟩
  | 84 => ⟨S36864x1024, .f32⟩
  | 85 => ⟨S36864x1, .f32⟩
  | 86 => ⟨S1x1024x7168, .f32⟩
  | 87 => ⟨S1024x7168, .f32⟩
  | 88 => ⟨S1x3584x1024, .f32⟩
  | 89 => ⟨S3584x1024, .f32⟩
  | 90 => ⟨S36864x7168, .f32⟩
  | 91 => ⟨S36864x3584, .f32⟩
  | 92 => ⟨S36864x3584, .f32⟩
  | 93 => ⟨S36864x3584, .f32⟩
  | 94 => ⟨S36864x3584, .f32⟩
  | 95 => ⟨S_, .f32⟩
  | 96 => ⟨S36864x3584, .f32⟩
  | 97 => ⟨S36864x3584, .f32⟩
  | 98 => ⟨S_, .f32⟩
  | 99 => ⟨S36864x3584, .f32⟩
  | 100 => ⟨S36864x3584, .f32⟩
  | 101 => ⟨S36864x3584, .f32⟩
  | 102 => ⟨S36864x3584, .f32⟩
  | 103 => ⟨S36864x1024, .f32⟩
  | 104 => ⟨S36864x1024, .f32⟩
  | 105 => ⟨S36864x1024, .f32⟩
  | 106 => ⟨S36864x1024, .f32⟩
  | 107 => ⟨S36864x1, .f32⟩
  | 108 => ⟨S1x1024x7168, .f32⟩
  | 109 => ⟨S1024x7168, .f32⟩
  | 110 => ⟨S1x3584x1024, .f32⟩
  | 111 => ⟨S3584x1024, .f32⟩
  | 112 => ⟨S36864x7168, .f32⟩
  | 113 => ⟨S36864x3584, .f32⟩
  | 114 => ⟨S36864x3584, .f32⟩
  | 115 => ⟨S36864x3584, .f32⟩
  | 116 => ⟨S36864x3584, .f32⟩
  | 117 => ⟨S_, .f32⟩
  | 118 => ⟨S36864x3584, .f32⟩
  | 119 => ⟨S36864x3584, .f32⟩
  | 120 => ⟨S_, .f32⟩
  | 121 => ⟨S36864x3584, .f32⟩
  | 122 => ⟨S36864x3584, .f32⟩
  | 123 => ⟨S36864x3584, .f32⟩
  | 124 => ⟨S36864x3584, .f32⟩
  | 125 => ⟨S36864x1024, .f32⟩
  | 126 => ⟨S36864x1024, .f32⟩
  | 127 => ⟨S36864x1024, .f32⟩
  | _ => ⟨S72, .i32⟩

abbrev hbmTy0_1 (i : Nat) : BufTy := match i % 128 with
  | 0 => ⟨S36864x1024, .f32⟩
  | 1 => ⟨S36864x1, .f32⟩
  | 2 => ⟨S1x1024x7168, .f32⟩
  | 3 => ⟨S1024x7168, .f32⟩
  | 4 => ⟨S1x3584x1024, .f32⟩
  | 5 => ⟨S3584x1024, .f32⟩
  | 6 => ⟨S36864x7168, .f32⟩
  | 7 => ⟨S36864x3584, .f32⟩
  | 8 => ⟨S36864x3584, .f32⟩
  | 9 => ⟨S36864x3584, .f32⟩
  | 10 => ⟨S36864x3584, .f32⟩
  | 11 => ⟨S_, .f32⟩
  | 12 => ⟨S36864x3584, .f32⟩
  | 13 => ⟨S36864x3584, .f32⟩
  | 14 => ⟨S_, .f32⟩
  | 15 => ⟨S36864x3584, .f32⟩
  | 16 => ⟨S36864x3584, .f32⟩
  | 17 => ⟨S36864x3584, .f32⟩
  | 18 => ⟨S36864x3584, .f32⟩
  | 19 => ⟨S36864x1024, .f32⟩
  | 20 => ⟨S36864x1024, .f32⟩
  | 21 => ⟨S36864x1024, .f32⟩
  | 22 => ⟨S36864x1024, .f32⟩
  | 23 => ⟨S36864x1, .f32⟩
  | 24 => ⟨S1x1024x7168, .f32⟩
  | 25 => ⟨S1024x7168, .f32⟩
  | 26 => ⟨S1x3584x1024, .f32⟩
  | 27 => ⟨S3584x1024, .f32⟩
  | 28 => ⟨S36864x7168, .f32⟩
  | 29 => ⟨S36864x3584, .f32⟩
  | 30 => ⟨S36864x3584, .f32⟩
  | 31 => ⟨S36864x3584, .f32⟩
  | 32 => ⟨S36864x3584, .f32⟩
  | 33 => ⟨S_, .f32⟩
  | 34 => ⟨S36864x3584, .f32⟩
  | 35 => ⟨S36864x3584, .f32⟩
  | 36 => ⟨S_, .f32⟩
  | 37 => ⟨S36864x3584, .f32⟩
  | 38 => ⟨S36864x3584, .f32⟩
  | 39 => ⟨S36864x3584, .f32⟩
  | 40 => ⟨S36864x3584, .f32⟩
  | 41 => ⟨S36864x1024, .f32⟩
  | 42 => ⟨S36864x1024, .f32⟩
  | 43 => ⟨S36864x1024, .f32⟩
  | 44 => ⟨S36864x1024, .f32⟩
  | 45 => ⟨S36864x1, .f32⟩
  | 46 => ⟨S1x1024x7168, .f32⟩
  | 47 => ⟨S1024x7168, .f32⟩
  | 48 => ⟨S1x3584x1024, .f32⟩
  | 49 => ⟨S3584x1024, .f32⟩
  | 50 => ⟨S36864x7168, .f32⟩
  | 51 => ⟨S36864x3584, .f32⟩
  | 52 => ⟨S36864x3584, .f32⟩
  | 53 => ⟨S36864x3584, .f32⟩
  | 54 => ⟨S36864x3584, .f32⟩
  | 55 => ⟨S_, .f32⟩
  | 56 => ⟨S36864x3584, .f32⟩
  | 57 => ⟨S36864x3584, .f32⟩
  | 58 => ⟨S_, .f32⟩
  | 59 => ⟨S36864x3584, .f32⟩
  | 60 => ⟨S36864x3584, .f32⟩
  | 61 => ⟨S36864x3584, .f32⟩
  | 62 => ⟨S36864x3584, .f32⟩
  | 63 => ⟨S36864x1024, .f32⟩
  | 64 => ⟨S36864x1024, .f32⟩
  | 65 => ⟨S36864x1024, .f32⟩
  | 66 => ⟨S36864x1024, .f32⟩
  | 67 => ⟨S36864x1024, .bf16⟩
  | _ => ⟨S72, .i32⟩

abbrev hbmTy (i : Nat) : BufTy := match i / 128 with
  | 0 => hbmTy0_0 i
  | 1 => hbmTy0_1 i
  | _ => ⟨S72, .i32⟩

abbrev bufTy : (tb : Table) → Fin (tcTables nBuf tb) → BufTy
  | .hbm, ⟨i, _⟩ => hbmTy i
  | _, _ => ⟨S72, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_call0_v0 : Ref sig .tc := ⟨.hbm, 11, rfl⟩
abbrev main_call0_v1 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_v5 : Ref sig .tc := ⟨.hbm, 16, rfl⟩
abbrev main_cst : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_call1_v0 : Ref sig .tc := ⟨.hbm, 27, rfl⟩
abbrev main_call1_v1 : Ref sig .tc := ⟨.hbm, 28, rfl⟩
abbrev main_call1_cst : Ref sig .tc := ⟨.hbm, 29, rfl⟩
abbrev main_call1_v2 : Ref sig .tc := ⟨.hbm, 30, rfl⟩
abbrev main_call1_v3 : Ref sig .tc := ⟨.hbm, 31, rfl⟩
abbrev main_call1_cst_0 : Ref sig .tc := ⟨.hbm, 32, rfl⟩
abbrev main_call1_v4 : Ref sig .tc := ⟨.hbm, 33, rfl⟩
abbrev main_call1_v5 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_call2_v0 : Ref sig .tc := ⟨.hbm, 49, rfl⟩
abbrev main_call2_v1 : Ref sig .tc := ⟨.hbm, 50, rfl⟩
abbrev main_call2_cst : Ref sig .tc := ⟨.hbm, 51, rfl⟩
abbrev main_call2_v2 : Ref sig .tc := ⟨.hbm, 52, rfl⟩
abbrev main_call2_v3 : Ref sig .tc := ⟨.hbm, 53, rfl⟩
abbrev main_call2_cst_0 : Ref sig .tc := ⟨.hbm, 54, rfl⟩
abbrev main_call2_v4 : Ref sig .tc := ⟨.hbm, 55, rfl⟩
abbrev main_call2_v5 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_call3_v0 : Ref sig .tc := ⟨.hbm, 71, rfl⟩
abbrev main_call3_v1 : Ref sig .tc := ⟨.hbm, 72, rfl⟩
abbrev main_call3_cst : Ref sig .tc := ⟨.hbm, 73, rfl⟩
abbrev main_call3_v2 : Ref sig .tc := ⟨.hbm, 74, rfl⟩
abbrev main_call3_v3 : Ref sig .tc := ⟨.hbm, 75, rfl⟩
abbrev main_call3_cst_0 : Ref sig .tc := ⟨.hbm, 76, rfl⟩
abbrev main_call3_v4 : Ref sig .tc := ⟨.hbm, 77, rfl⟩
abbrev main_call3_v5 : Ref sig .tc := ⟨.hbm, 78, rfl⟩
abbrev main_v43 : Ref sig .tc := ⟨.hbm, 79, rfl⟩
abbrev main_v44 : Ref sig .tc := ⟨.hbm, 80, rfl⟩
abbrev main_v45 : Ref sig .tc := ⟨.hbm, 81, rfl⟩
abbrev main_v46 : Ref sig .tc := ⟨.hbm, 82, rfl⟩
abbrev main_v47 : Ref sig .tc := ⟨.hbm, 83, rfl⟩
abbrev main_v48 : Ref sig .tc := ⟨.hbm, 84, rfl⟩
abbrev main_v49 : Ref sig .tc := ⟨.hbm, 85, rfl⟩
abbrev main_v50 : Ref sig .tc := ⟨.hbm, 86, rfl⟩
abbrev main_v51 : Ref sig .tc := ⟨.hbm, 87, rfl⟩
abbrev main_v52 : Ref sig .tc := ⟨.hbm, 88, rfl⟩
abbrev main_v53 : Ref sig .tc := ⟨.hbm, 89, rfl⟩
abbrev main_v54 : Ref sig .tc := ⟨.hbm, 90, rfl⟩
abbrev main_v55 : Ref sig .tc := ⟨.hbm, 91, rfl⟩
abbrev main_v56 : Ref sig .tc := ⟨.hbm, 92, rfl⟩
abbrev main_call4_v0 : Ref sig .tc := ⟨.hbm, 93, rfl⟩
abbrev main_call4_v1 : Ref sig .tc := ⟨.hbm, 94, rfl⟩
abbrev main_call4_cst : Ref sig .tc := ⟨.hbm, 95, rfl⟩
abbrev main_call4_v2 : Ref sig .tc := ⟨.hbm, 96, rfl⟩
abbrev main_call4_v3 : Ref sig .tc := ⟨.hbm, 97, rfl⟩
abbrev main_call4_cst_0 : Ref sig .tc := ⟨.hbm, 98, rfl⟩
abbrev main_call4_v4 : Ref sig .tc := ⟨.hbm, 99, rfl⟩
abbrev main_call4_v5 : Ref sig .tc := ⟨.hbm, 100, rfl⟩
abbrev main_v57 : Ref sig .tc := ⟨.hbm, 101, rfl⟩
abbrev main_v58 : Ref sig .tc := ⟨.hbm, 102, rfl⟩
abbrev main_v59 : Ref sig .tc := ⟨.hbm, 103, rfl⟩
abbrev main_v60 : Ref sig .tc := ⟨.hbm, 104, rfl⟩
abbrev main_v61 : Ref sig .tc := ⟨.hbm, 105, rfl⟩
abbrev main_v62 : Ref sig .tc := ⟨.hbm, 106, rfl⟩
abbrev main_v63 : Ref sig .tc := ⟨.hbm, 107, rfl⟩
abbrev main_v64 : Ref sig .tc := ⟨.hbm, 108, rfl⟩
abbrev main_v65 : Ref sig .tc := ⟨.hbm, 109, rfl⟩
abbrev main_v66 : Ref sig .tc := ⟨.hbm, 110, rfl⟩
abbrev main_v67 : Ref sig .tc := ⟨.hbm, 111, rfl⟩
abbrev main_v68 : Ref sig .tc := ⟨.hbm, 112, rfl⟩
abbrev main_v69 : Ref sig .tc := ⟨.hbm, 113, rfl⟩
abbrev main_v70 : Ref sig .tc := ⟨.hbm, 114, rfl⟩
abbrev main_call5_v0 : Ref sig .tc := ⟨.hbm, 115, rfl⟩
abbrev main_call5_v1 : Ref sig .tc := ⟨.hbm, 116, rfl⟩
abbrev main_call5_cst : Ref sig .tc := ⟨.hbm, 117, rfl⟩
abbrev main_call5_v2 : Ref sig .tc := ⟨.hbm, 118, rfl⟩
abbrev main_call5_v3 : Ref sig .tc := ⟨.hbm, 119, rfl⟩
abbrev main_call5_cst_0 : Ref sig .tc := ⟨.hbm, 120, rfl⟩
abbrev main_call5_v4 : Ref sig .tc := ⟨.hbm, 121, rfl⟩
abbrev main_call5_v5 : Ref sig .tc := ⟨.hbm, 122, rfl⟩
abbrev main_v71 : Ref sig .tc := ⟨.hbm, 123, rfl⟩
abbrev main_v72 : Ref sig .tc := ⟨.hbm, 124, rfl⟩
abbrev main_v73 : Ref sig .tc := ⟨.hbm, 125, rfl⟩
abbrev main_v74 : Ref sig .tc := ⟨.hbm, 126, rfl⟩
abbrev main_v75 : Ref sig .tc := ⟨.hbm, 127, rfl⟩
abbrev main_v76 : Ref sig .tc := ⟨.hbm, 128, rfl⟩
abbrev main_v77 : Ref sig .tc := ⟨.hbm, 129, rfl⟩
abbrev main_v78 : Ref sig .tc := ⟨.hbm, 130, rfl⟩
abbrev main_v79 : Ref sig .tc := ⟨.hbm, 131, rfl⟩
abbrev main_v80 : Ref sig .tc := ⟨.hbm, 132, rfl⟩
abbrev main_v81 : Ref sig .tc := ⟨.hbm, 133, rfl⟩
abbrev main_v82 : Ref sig .tc := ⟨.hbm, 134, rfl⟩
abbrev main_v83 : Ref sig .tc := ⟨.hbm, 135, rfl⟩
abbrev main_v84 : Ref sig .tc := ⟨.hbm, 136, rfl⟩
abbrev main_call6_v0 : Ref sig .tc := ⟨.hbm, 137, rfl⟩
abbrev main_call6_v1 : Ref sig .tc := ⟨.hbm, 138, rfl⟩
abbrev main_call6_cst : Ref sig .tc := ⟨.hbm, 139, rfl⟩
abbrev main_call6_v2 : Ref sig .tc := ⟨.hbm, 140, rfl⟩
abbrev main_call6_v3 : Ref sig .tc := ⟨.hbm, 141, rfl⟩
abbrev main_call6_cst_0 : Ref sig .tc := ⟨.hbm, 142, rfl⟩
abbrev main_call6_v4 : Ref sig .tc := ⟨.hbm, 143, rfl⟩
abbrev main_call6_v5 : Ref sig .tc := ⟨.hbm, 144, rfl⟩
abbrev main_v85 : Ref sig .tc := ⟨.hbm, 145, rfl⟩
abbrev main_v86 : Ref sig .tc := ⟨.hbm, 146, rfl⟩
abbrev main_v87 : Ref sig .tc := ⟨.hbm, 147, rfl⟩
abbrev main_v88 : Ref sig .tc := ⟨.hbm, 148, rfl⟩
abbrev main_v89 : Ref sig .tc := ⟨.hbm, 149, rfl⟩
abbrev main_v90 : Ref sig .tc := ⟨.hbm, 150, rfl⟩
abbrev main_v91 : Ref sig .tc := ⟨.hbm, 151, rfl⟩
abbrev main_v92 : Ref sig .tc := ⟨.hbm, 152, rfl⟩
abbrev main_v93 : Ref sig .tc := ⟨.hbm, 153, rfl⟩
abbrev main_v94 : Ref sig .tc := ⟨.hbm, 154, rfl⟩
abbrev main_v95 : Ref sig .tc := ⟨.hbm, 155, rfl⟩
abbrev main_v96 : Ref sig .tc := ⟨.hbm, 156, rfl⟩
abbrev main_v97 : Ref sig .tc := ⟨.hbm, 157, rfl⟩
abbrev main_v98 : Ref sig .tc := ⟨.hbm, 158, rfl⟩
abbrev main_call7_v0 : Ref sig .tc := ⟨.hbm, 159, rfl⟩
abbrev main_call7_v1 : Ref sig .tc := ⟨.hbm, 160, rfl⟩
abbrev main_call7_cst : Ref sig .tc := ⟨.hbm, 161, rfl⟩
abbrev main_call7_v2 : Ref sig .tc := ⟨.hbm, 162, rfl⟩
abbrev main_call7_v3 : Ref sig .tc := ⟨.hbm, 163, rfl⟩
abbrev main_call7_cst_0 : Ref sig .tc := ⟨.hbm, 164, rfl⟩
abbrev main_call7_v4 : Ref sig .tc := ⟨.hbm, 165, rfl⟩
abbrev main_call7_v5 : Ref sig .tc := ⟨.hbm, 166, rfl⟩
abbrev main_v99 : Ref sig .tc := ⟨.hbm, 167, rfl⟩
abbrev main_v100 : Ref sig .tc := ⟨.hbm, 168, rfl⟩
abbrev main_v101 : Ref sig .tc := ⟨.hbm, 169, rfl⟩
abbrev main_v102 : Ref sig .tc := ⟨.hbm, 170, rfl⟩
abbrev main_v103 : Ref sig .tc := ⟨.hbm, 171, rfl⟩
abbrev main_v104 : Ref sig .tc := ⟨.hbm, 172, rfl⟩
abbrev main_v105 : Ref sig .tc := ⟨.hbm, 173, rfl⟩
abbrev main_v106 : Ref sig .tc := ⟨.hbm, 174, rfl⟩
abbrev main_v107 : Ref sig .tc := ⟨.hbm, 175, rfl⟩
abbrev main_v108 : Ref sig .tc := ⟨.hbm, 176, rfl⟩
abbrev main_v109 : Ref sig .tc := ⟨.hbm, 177, rfl⟩
abbrev main_v110 : Ref sig .tc := ⟨.hbm, 178, rfl⟩
abbrev main_v111 : Ref sig .tc := ⟨.hbm, 179, rfl⟩
abbrev main_v112 : Ref sig .tc := ⟨.hbm, 180, rfl⟩
abbrev main_call8_v0 : Ref sig .tc := ⟨.hbm, 181, rfl⟩
abbrev main_call8_v1 : Ref sig .tc := ⟨.hbm, 182, rfl⟩
abbrev main_call8_cst : Ref sig .tc := ⟨.hbm, 183, rfl⟩
abbrev main_call8_v2 : Ref sig .tc := ⟨.hbm, 184, rfl⟩
abbrev main_call8_v3 : Ref sig .tc := ⟨.hbm, 185, rfl⟩
abbrev main_call8_cst_0 : Ref sig .tc := ⟨.hbm, 186, rfl⟩
abbrev main_call8_v4 : Ref sig .tc := ⟨.hbm, 187, rfl⟩
abbrev main_call8_v5 : Ref sig .tc := ⟨.hbm, 188, rfl⟩
abbrev main_v113 : Ref sig .tc := ⟨.hbm, 189, rfl⟩
abbrev main_v114 : Ref sig .tc := ⟨.hbm, 190, rfl⟩
abbrev main_v115 : Ref sig .tc := ⟨.hbm, 191, rfl⟩
abbrev main_v116 : Ref sig .tc := ⟨.hbm, 192, rfl⟩
abbrev main_v117 : Ref sig .tc := ⟨.hbm, 193, rfl⟩
abbrev main_v118 : Ref sig .tc := ⟨.hbm, 194, rfl⟩
abbrev main_v119 : Ref sig .tc := ⟨.hbm, 195, rfl⟩

abbrev nD : Nat := 1
abbrev τ : Topo := Topo.v7x

variable {F : FTy → Type} [FloatOps F]
-- ==== Dense.lean ====
abbrev S16384x1024 : Shape := ⟨2, ![16384, 1024]⟩
abbrev S1x6144 : Shape := ⟨2, ![1, 6144]⟩
abbrev S1x1024 : Shape := ⟨2, ![1, 1024]⟩
abbrev S1024x5632 : Shape := ⟨2, ![1024, 5632]⟩
abbrev S2816x1024 : Shape := ⟨2, ![2816, 1024]⟩
abbrev S8x1024x7168 : Shape := ⟨3, ![8, 1024, 7168]⟩
abbrev S512x1024 : Shape := ⟨2, ![512, 1024]⟩
abbrev S1x1024x1792 : Shape := ⟨3, ![1, 1024, 1792]⟩
abbrev S512 : Shape := ⟨1, ![512]⟩
abbrev S512x1 : Shape := ⟨2, ![512, 1]⟩
abbrev S1024x256 : Shape := ⟨2, ![1024, 256]⟩
abbrev S512x256 : Shape := ⟨2, ![512, 256]⟩
abbrev S256x1024 : Shape := ⟨2, ![256, 1024]⟩

abbrev nBuf : Space → Nat
  | .hbm => 8
  | .vmem => 12
  | .smem => 0
  | _ => 0

abbrev bufTy : (tb : Table) → Fin (tcTables nBuf tb) → BufTy
  | .hbm, ⟨0, _⟩ => ⟨S16384x1024, .f32⟩
  | .hbm, ⟨1, _⟩ => ⟨S1x6144, .f32⟩
  | .hbm, ⟨2, _⟩ => ⟨S1x1024, .f32⟩
  | .hbm, ⟨3, _⟩ => ⟨S1024x5632, .bf16⟩
  | .hbm, ⟨4, _⟩ => ⟨S2816x1024, .bf16⟩
  | .hbm, ⟨5, _⟩ => ⟨S8x1024x7168, .f32⟩
  | .hbm, ⟨6, _⟩ => ⟨S16384x1024, .f32⟩
  | .hbm, ⟨7, _⟩ => ⟨S8x1024x7168, .bf16⟩
  | .local _ .vmem, ⟨0, _⟩ => ⟨S512x1024, .f32⟩
  | .local _ .vmem, ⟨1, _⟩ => ⟨S512x1024, .f32⟩
  | .local _ .vmem, ⟨2, _⟩ => ⟨S1x6144, .f32⟩
  | .local _ .vmem, ⟨3, _⟩ => ⟨S1x1024, .f32⟩
  | .local _ .vmem, ⟨4, _⟩ => ⟨S1024x5632, .bf16⟩
  | .local _ .vmem, ⟨5, _⟩ => ⟨S2816x1024, .bf16⟩
  | .local _ .vmem, ⟨6, _⟩ => ⟨S1x1024x1792, .f32⟩
  | .local _ .vmem, ⟨7, _⟩ => ⟨S1x1024x1792, .f32⟩
  | .local _ .vmem, ⟨8, _⟩ => ⟨S512x1024, .f32⟩
  | .local _ .vmem, ⟨9, _⟩ => ⟨S512x1024, .f32⟩
  | .local _ .vmem, ⟨10, _⟩ => ⟨S1x1024x1792, .bf16⟩
  | .local _ .vmem, ⟨11, _⟩ => ⟨S1x1024x1792, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x6144 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x5632 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x1024x1792 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x1024x1792 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== PlainDenseIdeal.lean ====
abbrev S16384x1024 : Shape := ⟨2, ![16384, 1024]⟩
abbrev S1x6144 : Shape := ⟨2, ![1, 6144]⟩
abbrev S1x1024 : Shape := ⟨2, ![1, 1024]⟩
abbrev S1024x5632 : Shape := ⟨2, ![1024, 5632]⟩
abbrev S2816x1024 : Shape := ⟨2, ![2816, 1024]⟩
abbrev S8x1024x7168 : Shape := ⟨3, ![8, 1024, 7168]⟩
abbrev S_ : Shape := ⟨0, ![]⟩
abbrev S16384 : Shape := ⟨1, ![16384]⟩
abbrev S16384x1 : Shape := ⟨2, ![16384, 1]⟩
abbrev S16384x5632 : Shape := ⟨2, ![16384, 5632]⟩
abbrev S16384x2816 : Shape := ⟨2, ![16384, 2816]⟩

abbrev nBuf : Space → Nat
  | .hbm => 54
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1x6144, .f32⟩
  | .hbm, ⟨2, _⟩ => ⟨S1x1024, .f32⟩
  | .hbm, ⟨3, _⟩ => ⟨S1024x5632, .bf16⟩
  | .hbm, ⟨4, _⟩ => ⟨S2816x1024, .bf16⟩
  | .hbm, ⟨5, _⟩ => ⟨S8x1024x7168, .f32⟩
  | .hbm, ⟨6, _⟩ => ⟨S1x1024, .f32⟩
  | .hbm, ⟨7, _⟩ => ⟨S1x1024, .f32⟩
  | .hbm, ⟨8, _⟩ => ⟨S1x1024, .f32⟩
  | .hbm, ⟨9, _⟩ => ⟨S1x1024, .f32⟩
  | .hbm, ⟨10, _⟩ => ⟨S1x1024, .f32⟩
  | .hbm, ⟨11, _⟩ => ⟨S1x1024, .f32⟩
  | .hbm, ⟨12, _⟩ => ⟨S16384x1024, .f32⟩
  | .hbm, ⟨13, _⟩ => ⟨S_, .f32⟩
  | .hbm, ⟨14, _⟩ => ⟨S16384, .f32⟩
  | .hbm, ⟨15, _⟩ => ⟨S16384x1, .f32⟩
  | .hbm, ⟨16, _⟩ => ⟨S_, .f32⟩
  | .hbm, ⟨17, _⟩ => ⟨S16384x1, .f32⟩
  | .hbm, ⟨18, _⟩ => ⟨S16384x1, .f32⟩
  | .hbm, ⟨19, _⟩ => ⟨S_, .f32⟩
  | .hbm, ⟨20, _⟩ => ⟨S16384x1, .f32⟩
  | .hbm, ⟨21, _⟩ => ⟨S16384x1, .f32⟩
  | .hbm, ⟨22, _⟩ => ⟨S16384x1, .f32⟩
  | .hbm, ⟨23, _⟩ => ⟨S16384x1024, .f32⟩
  | .hbm, ⟨24, _⟩ => ⟨S16384x1024, .f32⟩
  | .hbm, ⟨25, _⟩ => ⟨S16384x1024, .f32⟩
  | .hbm, ⟨26, _⟩ => ⟨S16384x1024, .f32⟩
  | .hbm, ⟨27, _⟩ => ⟨S_, .f32⟩
  | .hbm, ⟨28, _⟩ => ⟨S1x1024, .f32⟩
  | .hbm, ⟨29, _⟩ => ⟨S1x1024, .f32⟩
  | .hbm, ⟨30, _⟩ => ⟨S16384x1024, .f32⟩
  | .hbm, ⟨31, _⟩ => ⟨S16384x1024, .f32⟩
  | .hbm, ⟨32, _⟩ => ⟨S16384x1024, .f32⟩
  | .hbm, ⟨33, _⟩ => ⟨S16384x1024, .f32⟩
  | .hbm, ⟨34, _⟩ => ⟨S1024x5632, .f32⟩
  | .hbm, ⟨35, _⟩ => ⟨S2816x1024, .f32⟩
  | .hbm, ⟨36, _⟩ => ⟨S16384x5632, .f32⟩
  | .hbm, ⟨37, _⟩ => ⟨S16384x2816, .f32⟩
  | .hbm, ⟨38, _⟩ => ⟨S16384x2816, .f32⟩
  | .hbm, ⟨39, _⟩ => ⟨S16384x2816, .f32⟩
  | .hbm, ⟨40, _⟩ => ⟨S16384x2816, .f32⟩
  | .hbm, ⟨41, _⟩ => ⟨S_, .f32⟩
  | .hbm, ⟨42, _⟩ => ⟨S16384x2816, .f32⟩
  | .hbm, ⟨43, _⟩ => ⟨S16384x2816, .f32⟩
  | .hbm, ⟨44, _⟩ => ⟨S_, .f32⟩
  | .hbm, ⟨45, _⟩ => ⟨S16384x2816, .f32⟩
  | .hbm, ⟨46, _⟩ => ⟨S16384x2816, .f32⟩
  | .hbm, ⟨47, _⟩ => ⟨S16384x2816, .f32⟩
  | .hbm, ⟨48, _⟩ => ⟨S16384x2816, .f32⟩
  | .hbm, ⟨49, _⟩ => ⟨S16384x1024, .f32⟩
  | .hbm, ⟨50, _⟩ => ⟨S16384x1024, .f32⟩
  | .hbm, ⟨51, _⟩ => ⟨S16384x1024, .f32⟩
  | .hbm, ⟨52, _⟩ => ⟨S16384x1024, .f32⟩
  | .hbm, ⟨53, _⟩ => ⟨S8x1024x7168, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_2 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_call0_v0 : Ref sig .tc := ⟨.hbm, 39, rfl⟩
abbrev main_call0_v1 : Ref sig .tc := ⟨.hbm, 40, rfl⟩
abbrev main_call0_cst : Ref sig .tc := ⟨.hbm, 41, rfl⟩
abbrev main_call0_v2 : Ref sig .tc := ⟨.hbm, 42, rfl⟩
abbrev main_call0_v3 : Ref sig .tc := ⟨.hbm, 43, rfl⟩
abbrev main_call0_cst_0 : Ref sig .tc := ⟨.hbm, 44, rfl⟩
abbrev main_call0_v4 : Ref sig .tc := ⟨.hbm, 45, rfl⟩
abbrev main_call0_v5 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩

abbrev nD : Nat := 1
abbrev τ : Topo := Topo.v7x

variable {F : FTy → Type} [FloatOps F]
-- ==== Mixed.lean ====
abbrev S16384x1024 : Shape := ⟨2, ![16384, 1024]⟩
abbrev S16384x512 : Shape := ⟨2, ![16384, 512]⟩
abbrev S1x6144 : Shape := ⟨2, ![1, 6144]⟩
abbrev S1x1024 : Shape := ⟨2, ![1, 1024]⟩
abbrev S1024x1024 : Shape := ⟨2, ![1024, 1024]⟩
abbrev S1024x256 : Shape := ⟨2, ![1024, 256]⟩
abbrev S_ : Shape := ⟨0, ![]⟩
abbrev S16384x128 : Shape := ⟨2, ![16384, 128]⟩
abbrev S8x16384 : Shape := ⟨2, ![8, 16384]⟩
abbrev S8x1 : Shape := ⟨2, ![8, 1]⟩
abbrev S1024x512 : Shape := ⟨2, ![1024, 512]⟩
abbrev S1024x128 : Shape := ⟨2, ![1024, 128]⟩
abbrev S8x1024 : Shape := ⟨2, ![8, 1024]⟩
abbrev S512x1024 : Shape := ⟨2, ![512, 1024]⟩
abbrev S1024 : Shape := ⟨1, ![1024]⟩
abbrev S1024x1 : Shape := ⟨2, ![1024, 1]⟩
abbrev S128x1024 : Shape := ⟨2, ![128, 1024]⟩
abbrev S8 : Shape := ⟨1, ![8]⟩

abbrev nBuf : Space → Nat
  | .hbm => 23
  | .vmem => 20
  | .smem => 0
  | _ => 0

abbrev bufTy : (tb : Table) → Fin (tcTables nBuf tb) → BufTy
  | .hbm, ⟨0, _⟩ => ⟨S16384x1024, .f32⟩
  | .hbm, ⟨1, _⟩ => ⟨S16384x512, .bf16⟩
  | .hbm, ⟨2, _⟩ => ⟨S16384x512, .bf16⟩
  | .hbm, ⟨3, _⟩ => ⟨S1x6144, .f32⟩
  | .hbm, ⟨4, _⟩ => ⟨S1x1024, .f32⟩
  | .hbm, ⟨5, _⟩ => ⟨S1024x1024, .bf16⟩
  | .hbm, ⟨6, _⟩ => ⟨S1024x256, .bf16⟩
  | .hbm, ⟨7, _⟩ => ⟨S_, .bf16⟩
  | .hbm, ⟨8, _⟩ => ⟨S1024x1024, .bf16⟩
  | .hbm, ⟨9, _⟩ => ⟨S1024x1024, .i32⟩
  | .hbm, ⟨10, _⟩ => ⟨S_, .i32⟩
  | .hbm, ⟨11, _⟩ => ⟨S1024x1024, .i32⟩
  | .hbm, ⟨12, _⟩ => ⟨S1024x1024, .i32⟩
  | .hbm, ⟨13, _⟩ => ⟨S1024x1024, .i32⟩
  | .hbm, ⟨14, _⟩ => ⟨S1024x1024, .i1⟩
  | .hbm, ⟨15, _⟩ => ⟨S_, .bf16⟩
  | .hbm, ⟨16, _⟩ => ⟨S1024x1024, .bf16⟩
  | .hbm, ⟨17, _⟩ => ⟨S1024x1024, .bf16⟩
  | .hbm, ⟨18, _⟩ => ⟨S16384x1024, .f32⟩
  | .hbm, ⟨19, _⟩ => ⟨S16384x1024, .bf16⟩
  | .hbm, ⟨20, _⟩ => ⟨S16384x128, .f32⟩
  | .hbm, ⟨21, _⟩ => ⟨S8x16384, .i32⟩
  | .hbm, ⟨22, _⟩ => ⟨S8x1, .f32⟩
  | .local _ .vmem, ⟨0, _⟩ => ⟨S1024x1024, .f32⟩
  | .local _ .vmem, ⟨1, _⟩ => ⟨S1024x1024, .f32⟩
  | .local _ .vmem, ⟨2, _⟩ => ⟨S1024x512, .bf16⟩
  | .local _ .vmem, ⟨3, _⟩ => ⟨S1024x512, .bf16⟩
  | .local _ .vmem, ⟨4, _⟩ => ⟨S1024x512, .bf16⟩
  | .local _ .vmem, ⟨5, _⟩ => ⟨S1024x512, .bf16⟩
  | .local _ .vmem, ⟨6, _⟩ => ⟨S1x6144, .f32⟩
  | .local _ .vmem, ⟨7, _⟩ => ⟨S1x1024, .f32⟩
  | .local _ .vmem, ⟨8, _⟩ => ⟨S1024x1024, .bf16⟩
  | .local _ .vmem, ⟨9, _⟩ => ⟨S1024x256, .bf16⟩
  | .local _ .vmem, ⟨10, _⟩ => ⟨S1024x1024, .bf16⟩
  | .local _ .vmem, ⟨11, _⟩ => ⟨S1024x1024, .f32⟩
  | .local _ .vmem, ⟨12, _⟩ => ⟨S1024x1024, .f32⟩
  | .local _ .vmem, ⟨13, _⟩ => ⟨S1024x1024, .bf16⟩
  | .local _ .vmem, ⟨14, _⟩ => ⟨S1024x1024, .bf16⟩
  | .local _ .vmem, ⟨15, _⟩ => ⟨S1024x128, .f32⟩
  | .local _ .vmem, ⟨16, _⟩ => ⟨S1024x128, .f32⟩
  | .local _ .vmem, ⟨17, _⟩ => ⟨S8x1024, .i32⟩
  | .local _ .vmem, ⟨18, _⟩ => ⟨S8x1024, .i32⟩
  | .local _ .vmem, ⟨19, _⟩ => ⟨S8x1, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_call0_v0 : Ref sig .tc := ⟨.hbm, 9, rfl⟩
abbrev main_call0_c : Ref sig .tc := ⟨.hbm, 10, rfl⟩
abbrev main_call0_v1 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_call0_cst : Ref sig .tc := ⟨.hbm, 15, rfl⟩
abbrev main_call0_v5 : Ref sig .tc := ⟨.hbm, 16, rfl⟩
abbrev main_v1 : Ref sig .tc := ⟨.hbm, 17, rfl⟩
abbrev main_v2_0 : Ref sig .tc := ⟨.hbm, 18, rfl⟩
abbrev main_v2_1 : Ref sig .tc := ⟨.hbm, 19, rfl⟩
abbrev main_v2_2 : Ref sig .tc := ⟨.hbm, 20, rfl⟩
abbrev main_v2_3 : Ref sig .tc := ⟨.hbm, 21, rfl⟩
abbrev main_v2_4 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x6144 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S1024x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1024x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1024x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S8x1024 .i32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S8x1 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]
-- ==== PlainMixedIdeal.lean ====
abbrev S16384x1024 : Shape := ⟨2, ![16384, 1024]⟩
abbrev S16384x512 : Shape := ⟨2, ![16384, 512]⟩
abbrev S1x6144 : Shape := ⟨2, ![1, 6144]⟩
abbrev S1x1024 : Shape := ⟨2, ![1, 1024]⟩
abbrev S1024x1024 : Shape := ⟨2, ![1024, 1024]⟩
abbrev S1024x256 : Shape := ⟨2, ![1024, 256]⟩
abbrev S_ : Shape := ⟨0, ![]⟩
abbrev S16384 : Shape := ⟨1, ![16384]⟩
abbrev S16384x1 : Shape := ⟨2, ![16384, 1]⟩

abbrev nBuf : Space → Nat
  | .hbm => 43
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x512, .bf16⟩
  | .hbm, ⟨2, _⟩ => ⟨S16384x512, .bf16⟩
  | .hbm, ⟨3, _⟩ => ⟨S1x6144, .f32⟩
  | .hbm, ⟨4, _⟩ => ⟨S1x1024, .f32⟩
  | .hbm, ⟨5, _⟩ => ⟨S1024x1024, .bf16⟩
  | .hbm, ⟨6, _⟩ => ⟨S1024x256, .bf16⟩
  | .hbm, ⟨7, _⟩ => ⟨S1x1024, .f32⟩
  | .hbm, ⟨8, _⟩ => ⟨S1x1024, .f32⟩
  | .hbm, ⟨9, _⟩ => ⟨S1x1024, .f32⟩
  | .hbm, ⟨10, _⟩ => ⟨S1x1024, .f32⟩
  | .hbm, ⟨11, _⟩ => ⟨S1x1024, .f32⟩
  | .hbm, ⟨12, _⟩ => ⟨S1x1024, .f32⟩
  | .hbm, ⟨13, _⟩ => ⟨S16384x1024, .bf16⟩
  | .hbm, ⟨14, _⟩ => ⟨S16384x1024, .f32⟩
  | .hbm, ⟨15, _⟩ => ⟨S1024x1024, .f32⟩
  | .hbm, ⟨16, _⟩ => ⟨S16384x1024, .f32⟩
  | .hbm, ⟨17, _⟩ => ⟨S16384x1024, .f32⟩
  | .hbm, ⟨18, _⟩ => ⟨S16384x1024, .f32⟩
  | .hbm, ⟨19, _⟩ => ⟨S16384x1024, .f32⟩
  | .hbm, ⟨20, _⟩ => ⟨S16384x1024, .f32⟩
  | .hbm, ⟨21, _⟩ => ⟨S_, .f32⟩
  | .hbm, ⟨22, _⟩ => ⟨S16384, .f32⟩
  | .hbm, ⟨23, _⟩ => ⟨S16384x1, .f32⟩
  | .hbm, ⟨24, _⟩ => ⟨S_, .f32⟩
  | .hbm, ⟨25, _⟩ => ⟨S16384x1, .f32⟩
  | .hbm, ⟨26, _⟩ => ⟨S16384x1, .f32⟩
  | .hbm, ⟨27, _⟩ => ⟨S_, .f32⟩
  | .hbm, ⟨28, _⟩ => ⟨S16384x1, .f32⟩
  | .hbm, ⟨29, _⟩ => ⟨S16384x1, .f32⟩
  | .hbm, ⟨30, _⟩ => ⟨S16384x1, .f32⟩
  | .hbm, ⟨31, _⟩ => ⟨S16384x1024, .f32⟩
  | .hbm, ⟨32, _⟩ => ⟨S16384x1024, .f32⟩
  | .hbm, ⟨33, _⟩ => ⟨S16384x1024, .f32⟩
  | .hbm, ⟨34, _⟩ => ⟨S16384x1024, .f32⟩
  | .hbm, ⟨35, _⟩ => ⟨S_, .f32⟩
  | .hbm, ⟨36, _⟩ => ⟨S1x1024, .f32⟩
  | .hbm, ⟨37, _⟩ => ⟨S1x1024, .f32⟩
  | .hbm, ⟨38, _⟩ => ⟨S16384x1024, .f32⟩
  | .hbm, ⟨39, _⟩ => ⟨S16384x1024, .f32⟩
  | .hbm, ⟨40, _⟩ => ⟨S16384x1024, .f32⟩
  | .hbm, ⟨41, _⟩ => ⟨S16384x1024, .f32⟩
  | .hbm, ⟨42, _⟩ => ⟨S16384x1024, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst : Ref sig .tc := ⟨.hbm, 21, rfl⟩
abbrev main_v14 : Ref sig .tc := ⟨.hbm, 22, rfl⟩
abbrev main_v15 : Ref sig .tc := ⟨.hbm, 23, rfl⟩
abbrev main_cst_0 : Ref sig .tc := ⟨.hbm, 24, rfl⟩
abbrev main_v16 : Ref sig .tc := ⟨.hbm, 25, rfl⟩
abbrev main_v17 : Ref sig .tc := ⟨.hbm, 26, rfl⟩
abbrev main_cst_1 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_2 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩

abbrev nD : Nat := 1
abbrev τ : Topo := Topo.v7x

variable {F : FTy → Type} [FloatOps F]
-- ==== Prep.lean ====
abbrev S16384x1024 : Shape := ⟨2, ![16384, 1024]⟩
abbrev S1x6144 : Shape := ⟨2, ![1, 6144]⟩
abbrev S1x1024 : Shape := ⟨2, ![1, 1024]⟩
abbrev S1024x2048 : Shape := ⟨2, ![1024, 2048]⟩
abbrev S1024x128 : Shape := ⟨2, ![1024, 128]⟩
abbrev S3x512 : Shape := ⟨2, ![3, 512]⟩
abbrev S1x256 : Shape := ⟨2, ![1, 256]⟩
abbrev S768x256 : Shape := ⟨2, ![768, 256]⟩
abbrev S256x512 : Shape := ⟨2, ![256, 512]⟩
abbrev S512x256 : Shape := ⟨2, ![512, 256]⟩
abbrev S192x1 : Shape := ⟨2, ![192, 1]⟩
abbrev S1x192 : Shape := ⟨2, ![1, 192]⟩
abbrev S1x128 : Shape := ⟨2, ![1, 128]⟩
abbrev S32x16384 : Shape := ⟨2, ![32, 16384]⟩
abbrev S8x3584x1024 : Shape := ⟨3, ![8, 3584, 1024]⟩
abbrev S16384x512 : Shape := ⟨2, ![16384, 512]⟩
abbrev S4x256x16384 : Shape := ⟨3, ![4, 256, 16384]⟩
abbrev S4x16384x256 : Shape := ⟨3, ![4, 16384, 256]⟩
abbrev S4x144x16384 : Shape := ⟨3, ![4, 144, 16384]⟩
abbrev S1024x1024 : Shape := ⟨2, ![1024, 1024]⟩
abbrev S32x1024 : Shape := ⟨2, ![32, 1024]⟩
abbrev S1x1792x1024 : Shape := ⟨3, ![1, 1792, 1024]⟩
abbrev S1024x512 : Shape := ⟨2, ![1024, 512]⟩
abbrev S4x256x1024 : Shape := ⟨3, ![4, 256, 1024]⟩
abbrev S4x1024x256 : Shape := ⟨3, ![4, 1024, 256]⟩
abbrev S4x144x1024 : Shape := ⟨3, ![4, 144, 1024]⟩
abbrev S8x512 : Shape := ⟨2, ![8, 512]⟩
abbrev S1024 : Shape := ⟨1, ![1024]⟩
abbrev S1024x1 : Shape := ⟨2, ![1024, 1]⟩
abbrev S1024x64 : Shape := ⟨2, ![1024, 64]⟩
abbrev S1024x256 : Shape := ⟨2, ![1024, 256]⟩
abbrev S8x256 : Shape := ⟨2, ![8, 256]⟩
abbrev S1032x256 : Shape := ⟨2, ![1032, 256]⟩
abbrev S256x1024 : Shape := ⟨2, ![256, 1024]⟩
abbrev S768x1024 : Shape := ⟨2, ![768, 1024]⟩
abbrev S512x1024 : Shape := ⟨2, ![512, 1024]⟩
abbrev S128x1024 : Shape := ⟨2, ![128, 1024]⟩
abbrev S64x1024 : Shape := ⟨2, ![64, 1024]⟩
abbrev S64x1 : Shape := ⟨2, ![64, 1]⟩
abbrev S1x1 : Shape := ⟨2, ![1, 1]⟩
abbrev S16x1024 : Shape := ⟨2, ![16, 1024]⟩
abbrev S192x1024 : Shape := ⟨2, ![192, 1024]⟩
abbrev S1x256x1024 : Shape := ⟨3, ![1, 256, 1024]⟩
abbrev S1x1024x256 : Shape := ⟨3, ![1, 1024, 256]⟩
abbrev S1x128x1024 : Shape := ⟨3, ![1, 128, 1024]⟩
abbrev S1x16x1024 : Shape := ⟨3, ![1, 16, 1024]⟩

abbrev nBuf : Space → Nat
  | .hbm => 23
  | .vmem => 33
  | .smem => 0
  | _ => 0

abbrev bufTy : (tb : Table) → Fin (tcTables nBuf tb) → BufTy
  | .hbm, ⟨0, _⟩ => ⟨S16384x1024, .f32⟩
  | .hbm, ⟨1, _⟩ => ⟨S1x6144, .f32⟩
  | .hbm, ⟨2, _⟩ => ⟨S1x1024, .f32⟩
  | .hbm, ⟨3, _⟩ => ⟨S1024x2048, .bf16⟩
  | .hbm, ⟨4, _⟩ => ⟨S1024x128, .bf16⟩
  | .hbm, ⟨5, _⟩ => ⟨S3x512, .f32⟩
  | .hbm, ⟨6, _⟩ => ⟨S1x256, .f32⟩
  | .hbm, ⟨7, _⟩ => ⟨S768x256, .bf16⟩
  | .hbm, ⟨8, _⟩ => ⟨S1x256, .f32⟩
  | .hbm, ⟨9, _⟩ => ⟨S256x512, .bf16⟩
  | .hbm, ⟨10, _⟩ => ⟨S512x256, .bf16⟩
  | .hbm, ⟨11, _⟩ => ⟨S192x1, .f32⟩
  | .hbm, ⟨12, _⟩ => ⟨S1x192, .f32⟩
  | .hbm, ⟨13, _⟩ => ⟨S192x1, .f32⟩
  | .hbm, ⟨14, _⟩ => ⟨S1x128, .f32⟩
  | .hbm, ⟨15, _⟩ => ⟨S32x16384, .f32⟩
  | .hbm, ⟨16, _⟩ => ⟨S32x16384, .f32⟩
  | .hbm, ⟨17, _⟩ => ⟨S8x3584x1024, .f32⟩
  | .hbm, ⟨18, _⟩ => ⟨S16384x512, .bf16⟩
  | .hbm, ⟨19, _⟩ => ⟨S4x256x16384, .bf16⟩
  | .hbm, ⟨20, _⟩ => ⟨S4x16384x256, .bf16⟩
  | .hbm, ⟨21, _⟩ => ⟨S4x144x16384, .bf16⟩
  | .hbm, ⟨22, _⟩ => ⟨S8x3584x1024, .bf16⟩
  | .local _ .vmem, ⟨0, _⟩ => ⟨S1024x1024, .f32⟩
  | .local _ .vmem, ⟨1, _⟩ => ⟨S1024x1024, .f32⟩
  | .local _ .vmem, ⟨2, _⟩ => ⟨S1x6144, .f32⟩
  | .local _ .vmem, ⟨3, _⟩ => ⟨S1x1024, .f32⟩
  | .local _ .vmem, ⟨4, _⟩ => ⟨S1024x2048, .bf16⟩
  | .local _ .vmem, ⟨5, _⟩ => ⟨S1024x128, .bf16⟩
  | .local _ .vmem, ⟨6, _⟩ => ⟨S3x512, .f32⟩
  | .local _ .vmem, ⟨7, _⟩ => ⟨S1x256, .f32⟩
  | .local _ .vmem, ⟨8, _⟩ => ⟨S768x256, .bf16⟩
  | .local _ .vmem, ⟨9, _⟩ => ⟨S1x256, .f32⟩
  | .local _ .vmem, ⟨10, _⟩ => ⟨S256x512, .bf16⟩
  | .local _ .vmem, ⟨11, _⟩ => ⟨S512x256, .bf16⟩
  | .local _ .vmem, ⟨12, _⟩ => ⟨S192x1, .f32⟩
  | .local _ .vmem, ⟨13, _⟩ => ⟨S1x192, .f32⟩
  | .local _ .vmem, ⟨14, _⟩ => ⟨S192x1, .f32⟩
  | .local _ .vmem, ⟨15, _⟩ => ⟨S1x128, .f32⟩
  | .local _ .vmem, ⟨16, _⟩ => ⟨S32x1024, .f32⟩
  | .local _ .vmem, ⟨17, _⟩ => ⟨S32x1024, .f32⟩
  | .local _ .vmem, ⟨18, _⟩ => ⟨S32x1024, .f32⟩
  | .local _ .vmem, ⟨19, _⟩ => ⟨S32x1024, .f32⟩
  | .local _ .vmem, ⟨20, _⟩ => ⟨S1x1792x1024, .f32⟩
  | .local _ .vmem, ⟨21, _⟩ => ⟨S1x1792x1024, .f32⟩
  | .local _ .vmem, ⟨22, _⟩ => ⟨S1024x512, .bf16⟩
  | .local _ .vmem, ⟨23, _⟩ => ⟨S1024x512, .bf16⟩
  | .local _ .vmem, ⟨24, _⟩ => ⟨S4x256x1024, .bf16⟩
  | .local _ .vmem, ⟨25, _⟩ => ⟨S4x256x1024, .bf16⟩
  | .local _ .vmem, ⟨26, _⟩ => ⟨S4x1024x256, .bf16⟩
  | .local _ .vmem, ⟨27, _⟩ => ⟨S4x1024x256, .bf16⟩
  | .local _ .vmem, ⟨28, _⟩ => ⟨S4x144x1024, .bf16⟩
  | .local _ .vmem, ⟨29, _⟩ => ⟨S4x144x1024, .bf16⟩
  | .local _ .vmem, ⟨30, _⟩ => ⟨S1x1792x1024, .bf16⟩
  | .local _ .vmem, ⟨31, _⟩ => ⟨S1x1792x1024, .bf16⟩
  | .local _ .vmem, ⟨32, _⟩ => ⟨S8x512, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0_0 : Ref sig .tc := ⟨.hbm, 18, rfl⟩
abbrev main_v0_1 : Ref sig .tc := ⟨.hbm, 19, rfl⟩
abbrev main_v0_2 : Ref sig .tc := ⟨.hbm, 20, rfl⟩
abbrev main_v0_3 : Ref sig .tc := ⟨.hbm, 21, rfl⟩
abbrev main_v0_4 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg13_0 : Ref sig .tc := ⟨.vmem, 14, rfl⟩
abbrev cc0_stg14_0 : Ref sig .tc := ⟨.vmem, 15, rfl⟩
abbrev cc0_stg15_0 : Ref sig .tc := ⟨.vmem, 16, rfl⟩
abbrev cc0_stg15_1 : Ref sig .tc := ⟨.vmem, 17, rfl⟩
abbrev cc0_stg16_0 : Ref sig .tc := ⟨.vmem, 18, rfl⟩
abbrev cc0_stg16_1 : Ref sig .tc := ⟨.vmem, 19, rfl⟩
abbrev cc0_stg17_0 : Ref sig .tc := ⟨.vmem, 20, rfl⟩
abbrev cc0_stg17_1 : Ref sig .tc := ⟨.vmem, 21, rfl⟩
abbrev cc0_stg18_0 : Ref sig .tc := ⟨.vmem, 22, rfl⟩
abbrev cc0_stg18_1 : Ref sig .tc := ⟨.vmem, 23, rfl⟩
abbrev cc0_stg19_0 : Ref sig .tc := ⟨.vmem, 24, rfl⟩
abbrev cc0_stg19_1 : Ref sig .tc := ⟨.vmem, 25, rfl⟩
abbrev cc0_stg20_0 : Ref sig .tc := ⟨.vmem, 26, rfl⟩
abbrev cc0_stg20_1 : Ref sig .tc := ⟨.vmem, 27, rfl⟩
abbrev cc0_stg21_0 : Ref sig .tc := ⟨.vmem, 28, rfl⟩
abbrev cc0_stg21_1 : Ref sig .tc := ⟨.vmem, 29, rfl⟩
abbrev cc0_stg22_0 : Ref sig .tc := ⟨.vmem, 30, rfl⟩
abbrev cc0_stg22_1 : Ref sig .tc := ⟨.vmem, 31, rfl⟩
abbrev cc0_scratch0 : Ref sig .tc := ⟨.vmem, 32, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem13_0 : DmaSem sig := 14
abbrev cc0_sem14_0 : DmaSem sig := 15
abbrev cc0_sem15_0 : DmaSem sig := 16
abbrev cc0_sem15_1 : DmaSem sig := 17
abbrev cc0_sem16_0 : DmaSem sig := 18
abbrev cc0_sem16_1 : DmaSem sig := 19
abbrev cc0_sem17_0 : DmaSem sig := 20
abbrev cc0_sem17_1 : DmaSem sig := 21
abbrev cc0_sem18_0 : DmaSem sig := 22
abbrev cc0_sem18_1 : DmaSem sig := 23
abbrev cc0_sem19_0 : DmaSem sig := 24
abbrev cc0_sem19_1 : DmaSem sig := 25
abbrev cc0_sem20_0 : DmaSem sig := 26
abbrev cc0_sem20_1 : DmaSem sig := 27
abbrev cc0_sem21_0 : DmaSem sig := 28
abbrev cc0_sem21_1 : DmaSem sig := 29
abbrev cc0_sem22_0 : DmaSem sig := 30
abbrev cc0_sem22_1 : DmaSem sig := 31

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_16 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_17 (i : grid0.Coords) : Fin 3 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, v26.toNat, c0_i32_10.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_20 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_21 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_22 (i : grid0.Coords) : Fin 3 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, v26.toNat, c0_i32_10.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x6144 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S3x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S768x256 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S256x512 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S512x256 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S192x1 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x192 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S192x1 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x128 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 2 → Memref sig .tc .vmem S32x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S32x1024 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S1x1792x1024 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S1024x512 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S4x256x1024 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S4x1024x256 .bf16 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 2 → Memref sig .tc .vmem S4x144x1024 .bf16 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]

abbrev stage0_22 : Fin 2 → Memref sig .tc .vmem S1x1792x1024 .bf16 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true]
-- ==== PlainPrepIdeal.lean ====
abbrev S16384x1024 : Shape := ⟨2, ![16384, 1024]⟩
abbrev S1x6144 : Shape := ⟨2, ![1, 6144]⟩
abbrev S1x1024 : Shape := ⟨2, ![1, 1024]⟩
abbrev S1024x2048 : Shape := ⟨2, ![1024, 2048]⟩
abbrev S1024x128 : Shape := ⟨2, ![1024, 128]⟩
abbrev S3x512 : Shape := ⟨2, ![3, 512]⟩
abbrev S1x256 : Shape := ⟨2, ![1, 256]⟩
abbrev S768x256 : Shape := ⟨2, ![768, 256]⟩
abbrev S256x512 : Shape := ⟨2, ![256, 512]⟩
abbrev S512x256 : Shape := ⟨2, ![512, 256]⟩
abbrev S192x1 : Shape := ⟨2, ![192, 1]⟩
abbrev S1x192 : Shape := ⟨2, ![1, 192]⟩
abbrev S1x128 : Shape := ⟨2, ![1, 128]⟩
abbrev S32x16384 : Shape := ⟨2, ![32, 16384]⟩
abbrev S8x3584x1024 : Shape := ⟨3, ![8, 3584, 1024]⟩
abbrev S_ : Shape := ⟨0, ![]⟩
abbrev S16384 : Shape := ⟨1, ![16384]⟩
abbrev S16384x1 : Shape := ⟨2, ![16384, 1]⟩
abbrev S16384x2048 : Shape := ⟨2, ![16384, 2048]⟩
abbrev S16384x512 : Shape := ⟨2, ![16384, 512]⟩
abbrev S16384x256 : Shape := ⟨2, ![16384, 256]⟩
abbrev S16386x512 : Shape := ⟨2, ![16386, 512]⟩
abbrev S1x512 : Shape := ⟨2, ![1, 512]⟩
abbrev S512 : Shape := ⟨1, ![512]⟩
abbrev S16384x4x128 : Shape := ⟨3, ![16384, 4, 128]⟩
abbrev S16384x4x1 : Shape := ⟨3, ![16384, 4, 1]⟩
abbrev S16384x4x15 : Shape := ⟨3, ![16384, 4, 15]⟩
abbrev S16384x4x144 : Shape := ⟨3, ![16384, 4, 144]⟩
abbrev S4x144x16384 : Shape := ⟨3, ![4, 144, 16384]⟩

abbrev nBuf : Space → Nat
  | .hbm => 109
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1x6144, .f32⟩
  | .hbm, ⟨2, _⟩ => ⟨S1x1024, .f32⟩
  | .hbm, ⟨3, _⟩ => ⟨S1024x2048, .bf16⟩
  | .hbm, ⟨4, _⟩ => ⟨S1024x128, .bf16⟩
  | .hbm, ⟨5, _⟩ => ⟨S3x512, .f32⟩
  | .hbm, ⟨6, _⟩ => ⟨S1x256, .f32⟩
  | .hbm, ⟨7, _⟩ => ⟨S768x256, .bf16⟩
  | .hbm, ⟨8, _⟩ => ⟨S1x256, .f32⟩
  | .hbm, ⟨9, _⟩ => ⟨S256x512, .bf16⟩
  | .hbm, ⟨10, _⟩ => ⟨S512x256, .bf16⟩
  | .hbm, ⟨11, _⟩ => ⟨S192x1, .f32⟩
  | .hbm, ⟨12, _⟩ => ⟨S1x192, .f32⟩
  | .hbm, ⟨13, _⟩ => ⟨S192x1, .f32⟩
  | .hbm, ⟨14, _⟩ => ⟨S1x128, .f32⟩
  | .hbm, ⟨15, _⟩ => ⟨S32x16384, .f32⟩
  | .hbm, ⟨16, _⟩ => ⟨S32x16384, .f32⟩
  | .hbm, ⟨17, _⟩ => ⟨S8x3584x1024, .f32⟩
  | .hbm, ⟨18, _⟩ => ⟨S1x1024, .f32⟩
  | .hbm, ⟨19, _⟩ => ⟨S1x1024, .f32⟩
  | .hbm, ⟨20, _⟩ => ⟨S1x1024, .f32⟩
  | .hbm, ⟨21, _⟩ => ⟨S1x1024, .f32⟩
  | .hbm, ⟨22, _⟩ => ⟨S1x1024, .f32⟩
  | .hbm, ⟨23, _⟩ => ⟨S1x1024, .f32⟩
  | .hbm, ⟨24, _⟩ => ⟨S16384x1024, .f32⟩
  | .hbm, ⟨25, _⟩ => ⟨S_, .f32⟩
  | .hbm, ⟨26, _⟩ => ⟨S16384, .f32⟩
  | .hbm, ⟨27, _⟩ => ⟨S16384x1, .f32⟩
  | .hbm, ⟨28, _⟩ => ⟨S_, .f32⟩
  | .hbm, ⟨29, _⟩ => ⟨S16384x1, .f32⟩
  | .hbm, ⟨30, _⟩ => ⟨S16384x1, .f32⟩
  | .hbm, ⟨31, _⟩ => ⟨S_, .f32⟩
  | .hbm, ⟨32, _⟩ => ⟨S16384x1, .f32⟩
  | .hbm, ⟨33, _⟩ => ⟨S16384x1, .f32⟩
  | .hbm, ⟨34, _⟩ => ⟨S16384x1, .f32⟩
  | .hbm, ⟨35, _⟩ => ⟨S16384x1024, .f32⟩
  | .hbm, ⟨36, _⟩ => ⟨S16384x1024, .f32⟩
  | .hbm, ⟨37, _⟩ => ⟨S16384x1024, .f32⟩
  | .hbm, ⟨38, _⟩ => ⟨S16384x1024, .f32⟩
  | .hbm, ⟨39, _⟩ => ⟨S_, .f32⟩
  | .hbm, ⟨40, _⟩ => ⟨S1x1024, .f32⟩
  | .hbm, ⟨41, _⟩ => ⟨S1x1024, .f32⟩
  | .hbm, ⟨42, _⟩ => ⟨S16384x1024, .f32⟩
  | .hbm, ⟨43, _⟩ => ⟨S16384x1024, .f32⟩
  | .hbm, ⟨44, _⟩ => ⟨S16384x1024, .f32⟩
  | .hbm, ⟨45, _⟩ => ⟨S16384x1024, .f32⟩
  | .hbm, ⟨46, _⟩ => ⟨S1024x2048, .f32⟩
  | .hbm, ⟨47, _⟩ => ⟨S16384x2048, .f32⟩
  | .hbm, ⟨48, _⟩ => ⟨S16384x512, .f32⟩
  | .hbm, ⟨49, _⟩ => ⟨S16384x512, .f32⟩
  | .hbm, ⟨50, _⟩ => ⟨S16384x512, .f32⟩
  | .hbm, ⟨51, _⟩ => ⟨S16384x256, .f32⟩
  | .hbm, ⟨52, _⟩ => ⟨S16384x256, .f32⟩
  | .hbm, ⟨53, _⟩ => ⟨S16384x512, .f32⟩
  | .hbm, ⟨54, _⟩ => ⟨S_, .i32⟩
  | .hbm, ⟨55, _⟩ => ⟨S_, .f32⟩
  | .hbm, ⟨56, _⟩ => ⟨S16386x512, .f32⟩
  | .hbm, ⟨57, _⟩ => ⟨S1x512, .f32⟩
  | .hbm, ⟨58, _⟩ => ⟨S512, .f32⟩
  | .hbm, ⟨59, _⟩ => ⟨S16384x512, .f32⟩
  | .hbm, ⟨60, _⟩ => ⟨S1x512, .f32⟩
  | .hbm, ⟨61, _⟩ => ⟨S16384x512, .f32⟩
  | .hbm, ⟨62, _⟩ => ⟨S16384x512, .f32⟩
  | .hbm, ⟨63, _⟩ => ⟨S_, .f32⟩
  | .hbm, ⟨64, _⟩ => ⟨S16384x512, .f32⟩
  | .hbm, ⟨65, _⟩ => ⟨S16384x512, .f32⟩
  | .hbm, ⟨66, _⟩ => ⟨S1x512, .f32⟩
  | .hbm, ⟨67, _⟩ => ⟨S512, .f32⟩
  | .hbm, ⟨68, _⟩ => ⟨S16384x512, .f32⟩
  | .hbm, ⟨69, _⟩ => ⟨S1x512, .f32⟩
  | .hbm, ⟨70, _⟩ => ⟨S16384x512, .f32⟩
  | .hbm, ⟨71, _⟩ => ⟨S16384x512, .f32⟩
  | .hbm, ⟨72, _⟩ => ⟨S16384x512, .f32⟩
  | .hbm, ⟨73, _⟩ => ⟨S1x512, .f32⟩
  | .hbm, ⟨74, _⟩ => ⟨S512, .f32⟩
  | .hbm, ⟨75, _⟩ => ⟨S16384x512, .f32⟩
  | .hbm, ⟨76, _⟩ => ⟨S1x512, .f32⟩
  | .hbm, ⟨77, _⟩ => ⟨S16384x512, .f32⟩
  | .hbm, ⟨78, _⟩ => ⟨S16384x512, .f32⟩
  | .hbm, ⟨79, _⟩ => ⟨S16384x512, .f32⟩
  | .hbm, ⟨80, _⟩ => ⟨S16384x512, .f32⟩
  | .hbm, ⟨81, _⟩ => ⟨S16384x256, .f32⟩
  | .hbm, ⟨82, _⟩ => ⟨S_, .f32⟩
  | .hbm, ⟨83, _⟩ => ⟨S16384, .f32⟩
  | .hbm, ⟨84, _⟩ => ⟨S16384x1, .f32⟩
  | .hbm, ⟨85, _⟩ => ⟨S_, .f32⟩
  | .hbm, ⟨86, _⟩ => ⟨S16384x1, .f32⟩
  | .hbm, ⟨87, _⟩ => ⟨S16384x1, .f32⟩
  | .hbm, ⟨88, _⟩ => ⟨S_, .f32⟩
  | .hbm, ⟨89, _⟩ => ⟨S16384x1, .f32⟩
  | .hbm, ⟨90, _⟩ => ⟨S16384x1, .f32⟩
  | .hbm, ⟨91, _⟩ => ⟨S16384x1, .f32⟩
  | .hbm, ⟨92, _⟩ => ⟨S16384x256, .f32⟩
  | .hbm, ⟨93, _⟩ => ⟨S16384x256, .f32⟩
  | .hbm, ⟨94, _⟩ => ⟨S16384x256, .f32⟩
  | .hbm, ⟨95, _⟩ => ⟨S16384x256, .f32⟩
  | .hbm, ⟨96, _⟩ => ⟨S512x256, .f32⟩
  | .hbm, ⟨97, _⟩ => ⟨S256x512, .f32⟩
  | .hbm, ⟨98, _⟩ => ⟨S16384x512, .f32⟩
  | .hbm, ⟨99, _⟩ => ⟨S16384x4x128, .f32⟩
  | .hbm, ⟨100, _⟩ => ⟨S_, .f32⟩
  | .hbm, ⟨101, _⟩ => ⟨S16384x4x1, .f32⟩
  | .hbm, ⟨102, _⟩ => ⟨S_, .f32⟩
  | .hbm, ⟨103, _⟩ => ⟨S16384x4x15, .f32⟩
  | .hbm, ⟨104, _⟩ => ⟨S16384x4x144, .f32⟩
  | .hbm, ⟨105, _⟩ => ⟨S16384x512, .bf16⟩
  | .hbm, ⟨106, _⟩ => ⟨S4x144x16384, .f32⟩
  | .hbm, ⟨107, _⟩ => ⟨S4x144x16384, .bf16⟩
  | .hbm, ⟨108, _⟩ => ⟨S8x3584x1024, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_cst : Ref sig .tc := ⟨.hbm, 25, rfl⟩
abbrev main_v7 : Ref sig .tc := ⟨.hbm, 26, rfl⟩
abbrev main_v8 : Ref sig .tc := ⟨.hbm, 27, rfl⟩
abbrev main_cst_0 : Ref sig .tc := ⟨.hbm, 28, rfl⟩
abbrev main_v9 : Ref sig .tc := ⟨.hbm, 29, rfl⟩
abbrev main_v10 : Ref sig .tc := ⟨.hbm, 30, rfl⟩
abbrev main_cst_1 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_cst_2 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_c : Ref sig .tc := ⟨.hbm, 54, rfl⟩
abbrev main_call0_v0 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_cst_3 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_cst_4 : Ref sig .tc := ⟨.hbm, 82, rfl⟩
abbrev main_v57 : Ref sig .tc := ⟨.hbm, 83, rfl⟩
abbrev main_v58 : Ref sig .tc := ⟨.hbm, 84, rfl⟩
abbrev main_cst_5 : Ref sig .tc := ⟨.hbm, 85, rfl⟩
abbrev main_v59 : Ref sig .tc := ⟨.hbm, 86, rfl⟩
abbrev main_v60 : Ref sig .tc := ⟨.hbm, 87, rfl⟩
abbrev main_cst_6 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_cst_7 : Ref sig .tc := ⟨.hbm, 100, rfl⟩
abbrev main_v72 : Ref sig .tc := ⟨.hbm, 101, rfl⟩
abbrev main_cst_8 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩

abbrev nD : Nat := 1
abbrev τ : Topo := Topo.v7x

variable {F : FTy → Type} [FloatOps F]
-- ==== Proof.Block.lean ====
/-
  One block of the causal attention, read at an index: what the kernel's payloads add to the running numerator
  (`acc`) and to the running denominator (`l`), for any number `N` of query columns.
-/
module

public import proofs.«01_k».proof.Proof.Gen.KernelIdeal.Skeleton
public import Idealize.ShloMosaic.Lib.Pipeline.ValueKit
public import Idealize.ShloMosaic.Lib.MatmulPlain

@[expose] public section

noncomputable section

namespace Cert.Attn

open Idealize.ShloMosaic hiding ix1 ix2 ix3 ix4 addf_apply subf_apply mulf_apply divf_apply truncf_apply extf_apply constant_apply
open Idealize.ShloMosaic.ValueIdx Idealize.ShloMosaic.Pipeline
open scoped BigOperators

/-- A block with a leading unit axis, viewed as a matrix, reads (0, r, c) at (r, c). -/
theorem cast3_apply {M N : ℕ} {α : Type} (v : (⟨3, ![1, M, N]⟩ : Shape).Idx → α)
    (h : (⟨3, ![1, M, N]⟩ : Shape).ShapeCasts ⟨2, ![M, N]⟩) (r : Fin M) (c : Fin N) :
    shapeCast ⟨2, ![M, N]⟩ v h (ix2 r c) = v (ix3 0 r c) := by
  refine shapeCast_apply v h _ _ ?_
  rw [Shape.rowMajor_val_three, Shape.rowMajor_val_two]
  show ((0 : Fin 1).val * M + r.val) * N + c.val = r.val * N + c.val
  simp

/-- Sixty-four groups of eight sublanes, viewed from the 512 rows: (a, r, c) is row 8·a + r. -/
theorem cast64_apply {N : ℕ} {α : Type} (v : (⟨2, ![512, N]⟩ : Shape).Idx → α)
    (h : (⟨2, ![512, N]⟩ : Shape).ShapeCasts ⟨3, ![64, 8, N]⟩) (a : Fin 64) (r : Fin 8) (c : Fin N) :
    shapeCast ⟨3, ![64, 8, N]⟩ v h (ix3 a r c) = v (ix2 ⟨8 * a.val + r.val, by omega⟩ c) := by
  refine shapeCast_apply v h _ _ ?_
  rw [Shape.rowMajor_val_three, Shape.rowMajor_val_two]
  show (8 * a.val + r.val) * N + c.val = (a.val * 8 + r.val) * N + c.val
  rw [Nat.mul_comm 8]

/-- The sum over the 64 groups, at sublane `r` and column `c`. -/
theorem group_sum_apply {N : ℕ} (P : FVec Ideal ⟨2, ![512, N]⟩ .f32)
    (hc : (⟨2, ![512, N]⟩ : Shape).ShapeCasts ⟨3, ![64, 8, N]⟩)
    (hr : (⟨3, ![64, 8, N]⟩ : Shape).Reduces [0] ⟨2, ![8, N]⟩) (hφ : FKind.Formats .f32)
    (hacc : (0x00000000#32) = FKind.add.neutral .f32 hφ) (r : Fin 8) (c : Fin N) :
    multiReduction .add [0] ⟨2, ![8, N]⟩ (shapeCast ⟨3, ![64, 8, N]⟩ P hc) 0x00000000#32 hr hφ hacc (ix2 r c)
      = ∑ a : Fin 64, P (ix2 ⟨8 * a.val + r.val, by omega⟩ c) := by
  rw [Ideal.multiReduction_add_single]
  refine Finset.sum_congr rfl fun a _ => ?_
  rw [← cast64_apply P hc a r c]
  refine congrArg _ (funext fun d => Fin.ext ?_)
  match d with
  | ⟨0, _⟩ => rfl
  | ⟨1, _⟩ => rfl
  | ⟨2, _⟩ => rfl

/-- A sublane reduction of `[8, N]`, at column `c`. -/
theorem lane_sum_apply {N : ℕ} (l : FVec Ideal ⟨2, ![8, N]⟩ .f32)
    (hr : (⟨2, ![8, N]⟩ : Shape).Reduces [0] ⟨1, ![N]⟩) (hφ : FKind.Formats .f32)
    (hacc : (0x00000000#32) = FKind.add.neutral .f32 hφ) (c : Fin N) :
    multiReduction .add [0] ⟨1, ![N]⟩ l 0x00000000#32 hr hφ hacc (ix1 c) = ∑ r : Fin 8, l (ix2 r c) := by
  rw [Ideal.multiReduction_add_single]
  refine Finset.sum_congr rfl fun a _ => congrArg _ (funext fun d => Fin.ext ?_)
  match d with
  | ⟨0, _⟩ => rfl
  | ⟨1, _⟩ => rfl

/-- The scores of 512 keys against `N` queries. -/
theorem score_apply {N : ℕ} (k : FVec Ideal ⟨3, ![1, 512, 256]⟩ .bf16) (q : FVec Ideal ⟨3, ![1, 256, N]⟩ .bf16)
    (hk : (⟨3, ![1, 512, 256]⟩ : Shape).ShapeCasts ⟨2, ![512, 256]⟩)
    (hq : (⟨3, ![1, 256, N]⟩ : Shape).ShapeCasts ⟨2, ![256, N]⟩) (u : Fin 512) (c : Fin N) :
    matmul (DotDims.plain 512 256 N) none (shapeCast ⟨2, ![512, 256]⟩ k hk) (shapeCast ⟨2, ![256, N]⟩ q hq)
        (constant ⟨2, ![512, N]⟩ .f32 0x00000000#32) (ix2 u c)
      = ∑ e : Fin 256, k (ix3 0 u e) * q (ix3 0 e c) := by
  show FloatOps.matmul _ _ _ _ _ _ = _
  rw [Ideal.matmul_plain_apply, constant_apply, Ideal.ofBits_zero_f32, zero_add]
  exact Finset.sum_congr rfl fun e _ => by rw [cast3_apply, cast3_apply]

/-- The product of the values with the weights of 512 keys. -/
theorem values_apply {N : ℕ} (v : FVec Ideal ⟨3, ![1, 128, 512]⟩ .bf16) (p : FVec Ideal ⟨2, ![512, N]⟩ .bf16)
    (hv : (⟨3, ![1, 128, 512]⟩ : Shape).ShapeCasts ⟨2, ![128, 512]⟩) (d : Fin 128) (c : Fin N) :
    matmul (DotDims.plain 128 512 N) none (shapeCast ⟨2, ![128, 512]⟩ v hv) p
        (constant ⟨2, ![128, N]⟩ .f32 0x00000000#32) (ix2 d c)
      = ∑ u : Fin 512, v (ix3 0 d u) * p (ix2 u c) := by
  show FloatOps.matmul _ _ _ _ _ _ = _
  rw [Ideal.matmul_plain_apply, constant_apply, Ideal.ofBits_zero_f32, zero_add]
  exact Finset.sum_congr rfl fun e _ => by rw [cast3_apply]

/-- Signed comparison of two small numbers written as words. -/
theorem ofNat_sle {u c : ℕ} (hu : u < 512) (hc : c < 2048) :
    IntOp.cmpi .sle (BitVec.ofNat 32 u) (IntOp.addi (0#32) (BitVec.ofNat 32 c)) = if u ≤ c then 1#1 else 0#1 := by
  have h1 : (BitVec.ofNat 32 u).toInt = u := by
    rw [BitVec.toInt_eq_toNat_cond, BitVec.toNat_ofNat]; omega
  have h2 : (BitVec.ofNat 32 c).toInt = c := by
    rw [BitVec.toInt_eq_toNat_cond, BitVec.toNat_ofNat]; omega
  have h3 : IntOp.addi (0#32) (BitVec.ofNat 32 c) = BitVec.ofNat 32 c := BitVec.zero_add _
  rw [h3]
  show BitVec.ofBool (BitVec.sle _ _) = _
  rw [BitVec.sle, h1, h2]
  by_cases h : u ≤ c <;> simp [h]

end Cert.Attn

namespace Cert.KernelIdeal.Gen

open Idealize.ShloMosaic hiding ix1 ix2 ix3 ix4 addf_apply subf_apply mulf_apply divf_apply truncf_apply extf_apply constant_apply
open Idealize.ShloMosaic.ValueIdx Idealize.ShloMosaic.Pipeline Cert.Attn
open scoped BigOperators

/-- The weights of an unmasked block. -/
theorem pay4_apply (k : Vec Ideal S1x512x256 .bf16) (q : Vec Ideal S1x256x2048 .bf16) (u : Fin 512) (c : Fin 2048) :
    k0_pay4 (F := Ideal) k q (ix2 u c) = Ideal.exp2 (∑ e : Fin 256, k (ix3 0 u e) * q (ix3 0 e c)) :=
  congrArg Ideal.exp2 (score_apply k q _ _ u c)

/-- The denominator after an unmasked block. -/
theorem pay5_apply (k : Vec Ideal S1x512x256 .bf16) (q : Vec Ideal S1x256x2048 .bf16) (l : Vec Ideal S8x2048 .f32)
    (r : Fin 8) (c : Fin 2048) :
    k0_pay5 (F := Ideal) k q l (ix2 r c)
      = l (ix2 r c) + ∑ a : Fin 64, k0_pay4 (F := Ideal) k q (ix2 ⟨8 * a.val + r.val, by omega⟩ c) := by
  unfold k0_pay5
  rw [shapeCast_self, addf_apply]
  exact congrArg (l (ix2 r c) + ·) (group_sum_apply _ _ _ _ _ r c)

/-- The numerator after an unmasked block. -/
theorem pay6_apply (k : Vec Ideal S1x512x256 .bf16) (q : Vec Ideal S1x256x2048 .bf16) (acc : Vec Ideal S128x2048 .f32)
    (v : Vec Ideal S1x128x512 .bf16) (d : Fin 128) (c : Fin 2048) :
    k0_pay6 (F := Ideal) k q acc v (ix2 d c)
      = acc (ix2 d c) + ∑ u : Fin 512, v (ix3 0 d u) * k0_pay4 (F := Ideal) k q (ix2 u c) := by
  unfold k0_pay6
  rw [shapeCast_self, addf_apply]
  exact congrArg (acc (ix2 d c) + ·) (values_apply v _ _ d c)

/-- The named constant of the mask is −∞. -/
theorem mask_eq : (Named.named (F := Ideal) κ "mask" (φ := .f32) 0xF149F2CA#32 : EReal) = ⊥ := rfl

/-- One masked weight, from its score: none above the diagonal. -/
theorem masked_weight {u c : ℕ} (hu : u < 512) (hc : c < 2048) (s t : EReal) (h : s = t) :
    Ideal.exp2 (Scalar.select (IntOp.cmpi .sle (BitVec.ofNat 32 u) (IntOp.addi (0#32) (BitVec.ofNat 32 c))) s
        (Named.named (F := Ideal) κ "mask" (φ := .f32) 0xF149F2CA#32 : EReal))
      = if u ≤ c then Ideal.exp2 t else 0 := by
  rw [ofNat_sle hu hc, mask_eq, h]
  by_cases hle : u ≤ c
  · rw [if_pos hle, if_pos hle, select_one]
  · rw [if_neg hle, if_neg hle, select_zero]; rfl

/-- The weights of the diagonal block of 2048 query columns. -/
theorem pay36_apply (k : Vec Ideal S1x512x256 .bf16) (q : Vec Ideal S1x256x2048 .bf16) (u : Fin 512) (c : Fin 2048) :
    k0_pay36 (F := Ideal) k q (ix2 u c)
      = if u.val ≤ c.val then Ideal.exp2 (∑ e : Fin 256, k (ix3 0 u e) * q (ix3 0 e c)) else 0 := by
  rw [← masked_weight u.isLt c.isLt _ _ (score_apply k q shapeCasts_S1x512x256_S512x256 shapeCasts_S1x256x2048_S256x2048 u c)]
  unfold k0_pay36
  show Ideal.exp2 (Scalar.select (IntOp.cmpi .sle (iota .tc S512x2048 32 [0] _ (ix2 u c))
    (IntOp.addi (0#32) (iota .tc S512x2048 32 [1] _ (ix2 u c)))) _ _) = _
  rw [iota_single_apply, iota_single_apply]
  rfl

/-- … of 1536 columns. -/
theorem pay39_apply (k : Vec Ideal S1x512x256 .bf16) (q : Vec Ideal S1x256x1536 .bf16) (u : Fin 512) (c : Fin 1536) :
    k0_pay39 (F := Ideal) k q (ix2 u c)
      = if u.val ≤ c.val then Ideal.exp2 (∑ e : Fin 256, k (ix3 0 u e) * q (ix3 0 e c)) else 0 := by
  rw [← masked_weight u.isLt (by omega) _ _ (score_apply k q shapeCasts_S1x512x256_S512x256 shapeCasts_S1x256x1536_S256x1536 u c)]
  unfold k0_pay39
  show Ideal.exp2 (Scalar.select (IntOp.cmpi .sle (iota .tc S512x1536 32 [0] _ (ix2 u c))
    (IntOp.addi (0#32) (iota .tc S512x1536 32 [1] _ (ix2 u c)))) _ _) = _
  rw [iota_single_apply, iota_single_apply]
  rfl

/-- … of 1024 columns. -/
theorem pay42_apply (k : Vec Ideal S1x512x256 .bf16) (q : Vec Ideal S1x256x1024 .bf16) (u : Fin 512) (c : Fin 1024) :
    k0_pay42 (F := Ideal) k q (ix2 u c)
      = if u.val ≤ c.val then Ideal.exp2 (∑ e : Fin 256, k (ix3 0 u e) * q (ix3 0 e c)) else 0 := by
  rw [← masked_weight u.isLt (by omega) _ _ (score_apply k q shapeCasts_S1x512x256_S512x256 shapeCasts_S1x256x1024_S256x1024 u c)]
  unfold k0_pay42
  show Ideal.exp2 (Scalar.select (IntOp.cmpi .sle (iota .tc S512x1024 32 [0] _ (ix2 u c))
    (IntOp.addi (0#32) (iota .tc S512x1024 32 [1] _ (ix2 u c)))) _ _) = _
  rw [iota_single_apply, iota_single_apply]
  rfl

/-- … of 512 columns. -/
theorem pay45_apply (k : Vec Ideal S1x512x256 .bf16) (q : Vec Ideal S1x256x512 .bf16) (u : Fin 512) (c : Fin 512) :
    k0_pay45 (F := Ideal) k q (ix2 u c)
      = if u.val ≤ c.val then Ideal.exp2 (∑ e : Fin 256, k (ix3 0 u e) * q (ix3 0 e c)) else 0 := by
  rw [← masked_weight u.isLt (by omega) _ _ (score_apply k q shapeCasts_S1x512x256_S512x256 shapeCasts_S1x256x512_S256x512 u c)]
  unfold k0_pay45
  show Ideal.exp2 (Scalar.select (IntOp.cmpi .sle (iota .tc S512x512 32 [0] _ (ix2 u c))
    (IntOp.addi (0#32) (iota .tc S512x512 32 [1] _ (ix2 u c)))) _ _) = _
  rw [iota_single_apply, iota_single_apply]
  rfl

/-- The denominator after the diagonal block of 2048 columns. -/
theorem pay37_apply (P : FVec Ideal S512x2048 .f32) (l : Vec Ideal S8x2048 .f32) (r : Fin 8) (c : Fin 2048) :
    k0_pay37 (F := Ideal) P l (ix2 r c) = l (ix2 r c) + ∑ a : Fin 64, P (ix2 ⟨8 * a.val + r.val, by omega⟩ c) := by
  unfold k0_pay37
  rw [shapeCast_self, addf_apply]
  exact congrArg (l (ix2 r c) + ·) (group_sum_apply _ _ _ _ _ r c)

/-- … of 1536 columns. -/
theorem pay40_apply (P : FVec Ideal S512x1536 .f32) (l : Vec Ideal S8x1536 .f32) (r : Fin 8) (c : Fin 1536) :
    k0_pay40 (F := Ideal) P l (ix2 r c) = l (ix2 r c) + ∑ a : Fin 64, P (ix2 ⟨8 * a.val + r.val, by omega⟩ c) := by
  unfold k0_pay40
  rw [shapeCast_self, addf_apply]
  exact congrArg (l (ix2 r c) + ·) (group_sum_apply _ _ _ _ _ r c)

/-- … of 1024 columns. -/
theorem pay43_apply (P : FVec Ideal S512x1024 .f32) (l : Vec Ideal S8x1024 .f32) (r : Fin 8) (c : Fin 1024) :
    k0_pay43 (F := Ideal) P l (ix2 r c) = l (ix2 r c) + ∑ a : Fin 64, P (ix2 ⟨8 * a.val + r.val, by omega⟩ c) := by
  unfold k0_pay43
  rw [shapeCast_self, addf_apply]
  exact congrArg (l (ix2 r c) + ·) (group_sum_apply _ _ _ _ _ r c)

/-- … of 512 columns. -/
theorem pay1_apply (P : FVec Ideal S512x512 .f32) (l : Vec Ideal S8x512 .f32) (r : Fin 8) (c : Fin 512) :
    k0_pay1 (F := Ideal) P l (ix2 r c) = l (ix2 r c) + ∑ a : Fin 64, P (ix2 ⟨8 * a.val + r.val, by omega⟩ c) := by
  unfold k0_pay1
  rw [shapeCast_self, addf_apply]
  exact congrArg (l (ix2 r c) + ·) (group_sum_apply _ _ _ _ _ r c)

/-- The numerator after the diagonal block of 2048 columns. -/
theorem pay38_apply (P : FVec Ideal S512x2048 .f32) (acc : Vec Ideal S128x2048 .f32) (v : Vec Ideal S1x128x512 .bf16)
    (d : Fin 128) (c : Fin 2048) :
    k0_pay38 (F := Ideal) P acc v (ix2 d c) = acc (ix2 d c) + ∑ u : Fin 512, v (ix3 0 d u) * P (ix2 u c) := by
  unfold k0_pay38
  rw [shapeCast_self, addf_apply]
  exact congrArg (acc (ix2 d c) + ·) (values_apply v _ _ d c)

/-- … of 1536 columns. -/
theorem pay41_apply (P : FVec Ideal S512x1536 .f32) (acc : Vec Ideal S128x1536 .f32) (v : Vec Ideal S1x128x512 .bf16)
    (d : Fin 128) (c : Fin 1536) :
    k0_pay41 (F := Ideal) P acc v (ix2 d c) = acc (ix2 d c) + ∑ u : Fin 512, v (ix3 0 d u) * P (ix2 u c) := by
  unfold k0_pay41
  rw [shapeCast_self, addf_apply]
  exact congrArg (acc (ix2 d c) + ·) (values_apply v _ _ d c)

/-- … of 1024 columns. -/
theorem pay44_apply (P : FVec Ideal S512x1024 .f32) (acc : Vec Ideal S128x1024 .f32) (v : Vec Ideal S1x128x512 .bf16)
    (d : Fin 128) (c : Fin 1024) :
    k0_pay44 (F := Ideal) P acc v (ix2 d c) = acc (ix2 d c) + ∑ u : Fin 512, v (ix3 0 d u) * P (ix2 u c) := by
  unfold k0_pay44
  rw [shapeCast_self, addf_apply]
  exact congrArg (acc (ix2 d c) + ·) (values_apply v _ _ d c)

/-- … of 512 columns. -/
theorem pay2_apply (P : FVec Ideal S512x512 .f32) (acc : Vec Ideal S128x512 .f32) (v : Vec Ideal S1x128x512 .bf16)
    (d : Fin 128) (c : Fin 512) :
    k0_pay2 (F := Ideal) P acc v (ix2 d c) = acc (ix2 d c) + ∑ u : Fin 512, v (ix3 0 d u) * P (ix2 u c) := by
  unfold k0_pay2
  rw [shapeCast_self, addf_apply]
  exact congrArg (acc (ix2 d c) + ·) (values_apply v _ _ d c)

/-- The tile written: numerator over the sum of the eight partial denominators, transposed. -/
theorem pay3_apply (acc : Vec Ideal S128x2048 .f32) (l : Vec Ideal S8x2048 .f32) (c : Fin 2048) (d : Fin 128) :
    k0_pay3 (F := Ideal) acc l (ix2 c d) = Ideal.div (acc (ix2 d c)) (∑ r : Fin 8, l (ix2 r c)) := by
  unfold k0_pay3
  dsimp only
  rw [truncf_apply, transpose_apply (k := ix2 d c), divf_apply]
  · refine congrArg (Ideal.div _) ?_
    rw [broadcastTo_apply (k := ix2 0 c), shapeCast_apply (k := ix1 c)]
    · exact lane_sum_apply l _ _ _ c
    · rw [Shape.rowMajor_val_one, Shape.rowMajor_val_two]
      show c.val = (0 : Fin 1).val * 2048 + c.val
      simp
    · intro a
      match a with
      | ⟨0, _⟩ => rfl
      | ⟨1, _⟩ => rfl
  · intro a
    match a with
    | ⟨0, _⟩ => rfl
    | ⟨1, _⟩ => rfl

end Cert.KernelIdeal.Gen
-- ==== Proof.Tile.lean ====
/-
  One tile of the causal attention: 2048 queries of one head against the keys up to the tile's end. The running
  numerator and denominator are sums over an initial stretch of the keys, with the weight of a key beyond the query
  being 0; a block of 512 keys lengthens the stretch.
-/
module

public import proofs.«01_k».proof.Proof.Block
public import proofs.«01_k».proof.Proof.Gen.KernelIdeal.Loops
public import Idealize.ShloMosaic.Lib.WholeRead

@[expose] public section

noncomputable section

namespace Cert.Attn

open Idealize.ShloMosaic hiding ix1 ix2 ix3 ix4 addf_apply subf_apply mulf_apply divf_apply truncf_apply extf_apply constant_apply
open Idealize.ShloMosaic.ValueIdx Idealize.ShloMosaic.Pipeline
open scoped BigOperators
open Cert.KernelIdeal (S1x256x2048 S1x16384x256 S1x144x16384 S128x2048 S8x2048 S1x512x256 S1x128x512)

/-- The score of key `κ` against the tile's query `c`. -/
def score (Q : S1x256x2048.Idx → EReal) (K : S1x16384x256.Idx → EReal) (κ c : ℕ) : EReal :=
  if h : κ < 16384 ∧ c < 2048 then ∑ e : Fin 256, K (ix3 0 ⟨κ, h.1⟩ e) * Q (ix3 0 e ⟨c, h.2⟩) else 0

/-- The value of key `κ` in coordinate `d`. -/
def val (V : S1x144x16384.Idx → EReal) (d κ : ℕ) : EReal :=
  if h : d < 144 ∧ κ < 16384 then V (ix3 0 ⟨d, h.1⟩ ⟨κ, h.2⟩) else 0

/-- The weight of key `κ` for query `2048 n + c`: two to the score, 0 for a key beyond the query. -/
def wgt (n : ℕ) (Q : S1x256x2048.Idx → EReal) (K : S1x16384x256.Idx → EReal) (κ c : ℕ) : EReal :=
  if κ ≤ 2048 * n + c then Ideal.exp2 (score Q K κ c) else 0

/-- The numerator over the first `512 j` keys. -/
def num (n : ℕ) (Q : S1x256x2048.Idx → EReal) (K : S1x16384x256.Idx → EReal) (V : S1x144x16384.Idx → EReal)
    (j d c : ℕ) : EReal := ∑ κ ∈ Finset.range (512 * j), val V d κ * wgt n Q K κ c

/-- Sublane `r`'s part of the denominator over the first `512 j` keys. -/
def den (n : ℕ) (Q : S1x256x2048.Idx → EReal) (K : S1x16384x256.Idx → EReal) (j r c : ℕ) : EReal :=
  ∑ a ∈ Finset.range (64 * j), wgt n Q K (8 * a + r) c

variable {n : ℕ} {Q : S1x256x2048.Idx → EReal} {K : S1x16384x256.Idx → EReal} {V : S1x144x16384.Idx → EReal}

/-- One more block of 512 keys in the numerator. -/
theorem num_succ (j d c : ℕ) : num n Q K V (j + 1) d c
    = num n Q K V j d c + ∑ u : Fin 512, val V d (512 * j + u.val) * wgt n Q K (512 * j + u.val) c := by
  unfold num
  rw [Nat.mul_add, Nat.mul_one, Finset.sum_range_add, ← Fin.sum_univ_eq_sum_range (n := 512)]

/-- One more block of 512 keys in a sublane's denominator. -/
theorem den_succ (j r c : ℕ) : den n Q K (j + 1) r c
    = den n Q K j r c + ∑ a : Fin 64, wgt n Q K (512 * j + (8 * a.val + r)) c := by
  unfold den
  rw [Nat.mul_add, Nat.mul_one, Finset.sum_range_add, ← Fin.sum_univ_eq_sum_range (n := 64)]
  refine congrArg _ (Finset.sum_congr rfl fun a _ => ?_)
  rw [show 8 * (64 * j + a.val) + r = 512 * j + (8 * a.val + r) by ring]

/-- The eight sublanes together: the denominator over all the keys of the stretch. -/
theorem den_total (j c : ℕ) : ∑ r : Fin 8, den n Q K j r.val c = ∑ κ ∈ Finset.range (512 * j), wgt n Q K κ c := by
  unfold den
  rw [Finset.sum_comm, show Finset.range (512 * j) = Finset.range (64 * j * 8) by congr 1; ring,
    Finset.sum_range_mul_split (64 * j) 8]
  refine Finset.sum_congr rfl fun a _ => ?_
  rw [← Fin.sum_univ_eq_sum_range (n := 8) (fun b => wgt n Q K (a * 8 + b) c)]
  exact Finset.sum_congr rfl fun r _ => by rw [Nat.mul_comm]

/-- A block whose weights are the tile's adds the next 512 keys to the numerator. -/
theorem num_block {N : ℕ} (q0 j : ℕ) (P : (⟨2, ![512, N]⟩ : Shape).Idx → EReal) (acc : (⟨2, ![128, N]⟩ : Shape).Idx → EReal)
    (v : S1x128x512.Idx → EReal)
    (hP : ∀ (u : Fin 512) (c : Fin N), P (ix2 u c) = wgt n Q K (512 * j + u.val) (q0 + c.val))
    (hv : ∀ (d : Fin 128) (u : Fin 512), v (ix3 0 d u) = val V d.val (512 * j + u.val))
    (ha : ∀ (d : Fin 128) (c : Fin N), acc (ix2 d c) = num n Q K V j d.val (q0 + c.val)) (d : Fin 128) (c : Fin N) :
    acc (ix2 d c) + ∑ u : Fin 512, v (ix3 0 d u) * P (ix2 u c) = num n Q K V (j + 1) d.val (q0 + c.val) := by
  rw [num_succ, ha]
  exact congrArg _ (Finset.sum_congr rfl fun u _ => by rw [hP, hv])

/-- … and to the denominator. -/
theorem den_block {N : ℕ} (q0 j : ℕ) (P : (⟨2, ![512, N]⟩ : Shape).Idx → EReal) (l : (⟨2, ![8, N]⟩ : Shape).Idx → EReal)
    (hP : ∀ (u : Fin 512) (c : Fin N), P (ix2 u c) = wgt n Q K (512 * j + u.val) (q0 + c.val))
    (hl : ∀ (r : Fin 8) (c : Fin N), l (ix2 r c) = den n Q K j r.val (q0 + c.val)) (r : Fin 8) (c : Fin N) :
    l (ix2 r c) + ∑ a : Fin 64, P (ix2 ⟨8 * a.val + r.val, by omega⟩ c) = den n Q K (j + 1) r.val (q0 + c.val) := by
  rw [den_succ, hl]
  exact congrArg _ (Finset.sum_congr rfl fun a _ => by rw [hP])

/-- A key beyond every query of a column adds nothing: the numerator stays. -/
theorem num_skip (j d c : ℕ) (h : 2048 * n + c < 512 * j) : num n Q K V (j + 1) d c = num n Q K V j d c := by
  rw [num_succ, Finset.sum_eq_zero, add_zero]
  intro u _
  rw [wgt, if_neg (by omega), mul_zero]

/-- … and so does the denominator. -/
theorem den_skip (j r c : ℕ) (h : 2048 * n + c < 512 * j) : den n Q K (j + 1) r c = den n Q K j r c := by
  rw [den_succ, Finset.sum_eq_zero, add_zero]
  intro u _
  rw [wgt, if_neg (by omega)]

/-- A weight of a key before the tile. -/
theorem wgt_before (κ c : ℕ) (h : κ < 2048 * n) (hκ : κ < 16384) (hc : c < 2048) :
    wgt n Q K κ c = Ideal.exp2 (∑ e : Fin 256, K (ix3 0 ⟨κ, hκ⟩ e) * Q (ix3 0 e ⟨c, hc⟩)) := by
  rw [wgt, if_pos (by omega), score, dif_pos ⟨hκ, hc⟩]

/-- A weight of a key in the tile's diagonal piece `b`. -/
theorem wgt_diag (b u c : ℕ) (hκ : 512 * (4 * n + b) + u < 16384) (hc : 512 * b + c < 2048) :
    wgt n Q K (512 * (4 * n + b) + u) (512 * b + c)
      = if u ≤ c then Ideal.exp2 (∑ e : Fin 256, K (ix3 0 ⟨512 * (4 * n + b) + u, hκ⟩ e) * Q (ix3 0 e ⟨512 * b + c, hc⟩)) else 0 := by
  rw [wgt, score, dif_pos ⟨hκ, hc⟩]
  by_cases h : u ≤ c
  · rw [if_pos h, if_pos (by omega)]
  · rw [if_neg h, if_neg (by omega)]

end Cert.Attn

namespace Cert.KernelIdeal.Gen

open Idealize.ShloMosaic hiding ix1 ix2 ix3 ix4 addf_apply subf_apply mulf_apply divf_apply truncf_apply extf_apply constant_apply
open Idealize.ShloMosaic.ValueIdx Idealize.ShloMosaic.Pipeline Cert.Attn
open scoped BigOperators

/-- The loop over the keys before the tile makes one trip per earlier tile. -/
theorem t1_trips (i : grid0.Coords) : (k0_t1_loop i).trips = (i 1).val := by
  have h : (i 1).val < 8 := (i 1).isLt
  unfold k0_t1_loop
  generalize (i 1).val = x at h
  interval_cases x <;> rfl

/-- The remainder loop makes none. -/
theorem t2_trips (i : grid0.Coords) : (k0_t2_loop i).trips = 0 := by
  have h : (i 1).val < 8 := (i 1).isLt
  unfold k0_t2_loop
  generalize (i 1).val = x at h
  interval_cases x <;> rfl

/-- Where trip `k`'s block `b` begins among the keys. -/
theorem off1_eq (i : grid0.Coords) (k : Fin (k0_t1_loop i).trips) (b : Fin 4) :
    k0_off1 i k (BitVec.ofNat 32 b.val) = ![0, 512 * (4 * k.val + b.val), 0] := by
  have h : k.val < 8 := by exact lt_of_lt_of_le k.isLt ((t1_trips i).le.trans (i 1).isLt.le)
  unfold k0_off1
  generalize k.val = x at h
  interval_cases x <;> fin_cases b <;> rfl

/-- … among the values. -/
theorem off2_eq (i : grid0.Coords) (k : Fin (k0_t1_loop i).trips) (b : Fin 4) :
    k0_off2 i k (BitVec.ofNat 32 b.val) = ![0, 0, 512 * (4 * k.val + b.val)] := by
  have h : k.val < 8 := by exact lt_of_lt_of_le k.isLt ((t1_trips i).le.trans (i 1).isLt.le)
  unfold k0_off2
  generalize k.val = x at h
  interval_cases x <;> fin_cases b <;> rfl

/-- Where the tile's diagonal piece `b` begins among the keys. -/
theorem off5_eq (i : grid0.Coords) (b : Fin 4) :
    k0_off5 i (BitVec.ofNat 32 b.val) = ![0, 512 * (4 * (i 1).val + b.val), 0] := by
  have h : (i 1).val < 8 := (i 1).isLt
  unfold k0_off5
  generalize (i 1).val = x at h
  interval_cases x <;> fin_cases b <;> rfl

/-- … among the values. -/
theorem off6_eq (i : grid0.Coords) (b : Fin 4) :
    k0_off6 i (BitVec.ofNat 32 b.val) = ![0, 0, 512 * (4 * (i 1).val + b.val)] := by
  have h : (i 1).val < 8 := (i 1).isLt
  unfold k0_off6
  generalize (i 1).val = x at h
  interval_cases x <;> fin_cases b <;> rfl

/-- Keys read from a whole buffer at an offset. -/
theorem keys_read {m : Memref sig .tc .vmem S1x16384x256 .bf16} (hm : m.IsWhole) (K : S1x16384x256.Idx → EReal)
    {off : Fin 3 → ℕ} (inb : ∀ a, off a + S1x512x256.size a ≤ S1x16384x256.size a) (o : ℕ) (ho : off = ![0, o, 0])
    (u : Fin 512) (e : Fin 256) (hκ : o + u.val < 16384) :
    View.readAt (Elt Ideal) m.view (Rect.unit (s := S1x16384x256) off S1x512x256.size inb).toLoadRect
        (hm.unread (Val := Elt Ideal) K) (ix3 0 u e)
      = K (ix3 0 ⟨o + u.val, hκ⟩ e) := by
  subst ho
  refine (Memref.IsWhole.readAt_unread (Val := Elt Ideal) hm K _ _).trans (congrArg (β := EReal) K (funext fun a => Fin.ext ?_))
  match a with
  | ⟨0, _⟩ => rfl
  | ⟨1, _⟩ => show o + 1 * u.val = o + u.val; omega
  | ⟨2, _⟩ => show 0 + 1 * e.val = e.val; omega

/-- Values read from a whole buffer at an offset. -/
theorem values_read {m : Memref sig .tc .vmem S1x144x16384 .bf16} (hm : m.IsWhole) (V : S1x144x16384.Idx → EReal)
    {off : Fin 3 → ℕ} (inb : ∀ a, off a + S1x128x512.size a ≤ S1x144x16384.size a) (o : ℕ) (ho : off = ![0, 0, o])
    (d : Fin 128) (u : Fin 512) (hκ : o + u.val < 16384) :
    View.readAt (Elt Ideal) m.view (Rect.unit (s := S1x144x16384) off S1x128x512.size inb).toLoadRect
        (hm.unread (Val := Elt Ideal) V) (ix3 0 d u)
      = val V d.val (o + u.val) := by
  subst ho
  rw [val, dif_pos ⟨by omega, hκ⟩]
  refine (Memref.IsWhole.readAt_unread (Val := Elt Ideal) hm V _ _).trans (congrArg (β := EReal) V (funext fun a => Fin.ext ?_))
  match a with
  | ⟨0, _⟩ => rfl
  | ⟨1, _⟩ => show 0 + 1 * d.val = d.val; omega
  | ⟨2, _⟩ => show o + 1 * u.val = o + u.val; omega

/-- Queries read from a whole buffer from a column on. -/
theorem queries_read {N : ℕ} {m : Memref sig .tc .vmem S1x256x2048 .bf16} (hm : m.IsWhole) (Q : S1x256x2048.Idx → EReal)
    (o : ℕ) (inb : ∀ a, (![0, 0, o] : Fin 3 → ℕ) a + (![1, 256, N] : Fin 3 → ℕ) a ≤ S1x256x2048.size a)
    (e : Fin 256) (c : Fin N) (hc : o + c.val < 2048) :
    View.readAt (Elt Ideal) m.view (Rect.unit (s := S1x256x2048) ![0, 0, o] ![1, 256, N] inb).toLoadRect
        (hm.unread (Val := Elt Ideal) Q) (ix3 0 e c)
      = Q (ix3 0 e ⟨o + c.val, hc⟩) := by
  refine (Memref.IsWhole.readAt_unread (Val := Elt Ideal) hm Q _ _).trans (congrArg (β := EReal) Q (funext fun a => Fin.ext ?_))
  match a with
  | ⟨0, _⟩ => rfl
  | ⟨1, _⟩ => show 0 + 1 * e.val = e.val; omega
  | ⟨2, _⟩ => show o + 1 * c.val = o + c.val; omega

end Cert.KernelIdeal.Gen
-- ==== Proof.Trip.lean ====
/-
  The loop over the keys before the tile: what one trip leaves in the two running sums, and by induction what all
  the trips leave.
-/
module

public import proofs.«01_k».proof.Proof.Tile

@[expose] public section

set_option maxRecDepth 8192

noncomputable section

namespace Cert.KernelIdeal.Gen

open Idealize.ShloMosaic hiding ix1 ix2 ix3 ix4 addf_apply subf_apply mulf_apply divf_apply truncf_apply extf_apply constant_apply
open Idealize.ShloMosaic.ValueIdx Idealize.ShloMosaic.Pipeline Cert.Attn Idealize.ShloMosaic.TcCoe
open scoped BigOperators

section Trip

variable {arg2 : Memref sig .tc .vmem S1x256x2048 .bf16} (harg2 : arg2.IsWhole)
  {arg3 : Memref sig .tc .vmem S1x16384x256 .bf16} (harg3 : arg3.IsWhole)
  {arg4 : Memref sig .tc .vmem S1x144x16384 .bf16} (harg4 : arg4.IsWhole)
  {arg5 : Memref sig .tc .vmem S2048x128 .bf16} (harg5 : arg5.IsWhole)
  {arg6 : Memref sig .tc .vmem S128x2048 .f32} (harg6 : arg6.IsWhole)
  {arg7 : Memref sig .tc .vmem S8x2048 .f32} (harg7 : arg7.IsWhole)
  (Q : S1x256x2048.Idx → EReal) (K : S1x16384x256.Idx → EReal) (V : S1x144x16384.Idx → EReal)

/-- The keys of trip `k`'s block `b`. -/
def keyBlock (i : grid0.Coords) (k : Fin (k0_t1_loop i).trips) (b : Fin 4) : Vec Ideal S1x512x256 .bf16 :=
  View.readAt (Elt Ideal) arg3.view (Rect.unit (s := S1x16384x256) (k0_off1 i k (BitVec.ofNat 32 b.val)) S1x512x256.size
    (k0_off1_inb i k b)).toLoadRect (harg3.unread (Val := Elt Ideal) K)

/-- The values of trip `k`'s block `b`. -/
def valBlock (i : grid0.Coords) (k : Fin (k0_t1_loop i).trips) (b : Fin 4) : Vec Ideal S1x128x512 .bf16 :=
  View.readAt (Elt Ideal) arg4.view (Rect.unit (s := S1x144x16384) (k0_off2 i k (BitVec.ofNat 32 b.val)) S1x128x512.size
    (k0_off2_inb i k b)).toLoadRect (harg4.unread (Val := Elt Ideal) V)

/-- The tile's queries, all columns. -/
def qryBlock : Vec Ideal S1x256x2048 .bf16 :=
  View.readAt (Elt Ideal) arg2.view (Rect.unit (s := S1x256x2048) ![0, 0, 0] S1x256x2048.size
    inb_S1x256x2048_S1x256x2048_0_0_0).toLoadRect (harg2.unread (Val := Elt Ideal) Q)

theorem block_lt (i : grid0.Coords) (k : Fin (k0_t1_loop i).trips) (b : Fin 4) (u : Fin 512) :
    512 * (4 * k.val + b.val) + u.val < 2048 * (i 1).val := by
  have h : k.val < (i 1).val := lt_of_lt_of_le k.isLt (t1_trips i).le
  omega

/-- The weights of trip `k`'s block `b`. -/
theorem weights_loop (i : grid0.Coords) (k : Fin (k0_t1_loop i).trips) (b : Fin 4) (u : Fin 512) (c : Fin 2048) :
    k0_pay4 (F := Ideal) (keyBlock harg3 K i k b) (qryBlock harg2 Q) (ix2 u c)
      = wgt (i 1).val Q K (512 * (4 * k.val + b.val) + u.val) (0 + c.val) := by
  have hlt := block_lt i k b u
  have hi : (i 1).val < 8 := (i 1).isLt
  rw [pay4_apply, wgt_before _ _ hlt (by omega) (by omega)]
  refine congrArg Ideal.exp2 (Finset.sum_congr rfl fun e _ => ?_)
  unfold keyBlock qryBlock
  rw [keys_read harg3 K _ _ (off1_eq i k b) u e (by omega), queries_read (N := 2048) harg2 Q 0 _ e c (by omega)]

theorem values_loop (i : grid0.Coords) (k : Fin (k0_t1_loop i).trips) (b : Fin 4) (d : Fin 128) (u : Fin 512) :
    valBlock harg4 V i k b (ix3 0 d u) = val V d.val (512 * (4 * k.val + b.val) + u.val) := by
  have hlt := block_lt i k b u
  have hi : (i 1).val < 8 := (i 1).isLt
  exact values_read harg4 V _ _ (off2_eq i k b) d u (by omega)

/-- One block of a trip, in the numerator. -/
theorem num_loop (i : grid0.Coords) (k : Fin (k0_t1_loop i).trips) (b : Fin 4) (acc : Vec Ideal S128x2048 .f32)
    (ha : ∀ (d : Fin 128) (c : Fin 2048), acc (ix2 d c) = num (i 1).val Q K V (4 * k.val + b.val) d.val (0 + c.val))
    (d : Fin 128) (c : Fin 2048) :
    k0_pay6 (F := Ideal) (keyBlock harg3 K i k b) (qryBlock harg2 Q) acc (valBlock harg4 V i k b) (ix2 d c)
      = num (i 1).val Q K V (4 * k.val + b.val + 1) d.val (0 + c.val) := by
  rw [pay6_apply]
  exact num_block 0 _ _ acc _ (weights_loop harg2 harg3 Q K i k b) (values_loop harg4 V i k b) ha d c

/-- One block of a trip, in the denominator. -/
theorem den_loop (i : grid0.Coords) (k : Fin (k0_t1_loop i).trips) (b : Fin 4) (l : Vec Ideal S8x2048 .f32)
    (hl : ∀ (r : Fin 8) (c : Fin 2048), l (ix2 r c) = den (i 1).val Q K (4 * k.val + b.val) r.val (0 + c.val))
    (r : Fin 8) (c : Fin 2048) :
    k0_pay5 (F := Ideal) (keyBlock harg3 K i k b) (qryBlock harg2 Q) l (ix2 r c)
      = den (i 1).val Q K (4 * k.val + b.val + 1) r.val (0 + c.val) := by
  rw [pay5_apply]
  exact den_block 0 _ _ l (weights_loop harg2 harg3 Q K i k b) hl r c

/-- A load of a whole rank-2 buffer reads its contents. -/
theorem read_full {s : Shape} {m : Memref sig .tc .vmem s .f32} {off : Fin s.rank → ℕ} (h0 : ∀ a, off a = 0)
    (inb : ∀ a, off a + s.size a ≤ s.size a) (f : BufTy.Contents (Elt Ideal) m.view.ty) :
    View.readAt (Elt Ideal) m.view (Rect.unit (s := s) off s.size inb).toLoadRect f = m.view.read (Elt Ideal) f := by
  funext j
  refine congrArg (m.view.read (Elt Ideal) f) (funext fun a => Fin.ext ?_)
  show off a + 1 * (j a).val = (j a).val
  rw [h0 a]; omega

/-- The numerator a trip leaves: four blocks in turn over what it finds. -/
theorem trip_num (𝒱 : Variants) (c : Dev nD) (bd : Option 𝒱.V) (i : grid0.Coords) (k : Fin (k0_t1_loop i).trips)
    (f6 : BufTy.Contents (Elt Ideal) arg6.view.ty) (f7 : BufTy.Contents (Elt Ideal) arg7.view.ty)
    (L : List (View.Piece (Elt Ideal) S128x2048 .f32)) :
    View.canon ((tripL_k0_t1 (F := Ideal) 𝒱 c bd i arg2 harg2 arg3 harg3 arg4 harg4 arg5 harg5 arg6 harg6 arg7 harg7
        (harg2.unread Q) (harg3.unread K) (harg4.unread V) k f6 f7).1 ++ L)
      = k0_pay6 (F := Ideal) (keyBlock harg3 K i k 3) (qryBlock harg2 Q)
        (k0_pay6 (F := Ideal) (keyBlock harg3 K i k 2) (qryBlock harg2 Q)
          (k0_pay6 (F := Ideal) (keyBlock harg3 K i k 1) (qryBlock harg2 Q)
            (k0_pay6 (F := Ideal) (keyBlock harg3 K i k 0) (qryBlock harg2 Q) (arg6.view.read (Elt Ideal) f6)
              (valBlock harg4 V i k 0)) (valBlock harg4 V i k 1)) (valBlock harg4 V i k 2)) (valBlock harg4 V i k 3) := by
  have e1 : trip_k0_t1.sl.v208 (F := Ideal) i arg2 arg3 arg4 arg6 (harg2.unread Q) (harg3.unread K) (harg4.unread V) k f6
      = k0_pay6 (F := Ideal) (keyBlock harg3 K i k 0) (qryBlock harg2 Q) (arg6.view.read (Elt Ideal) f6) (valBlock harg4 V i k 0) := by
    unfold trip_k0_t1.sl.v208 trip_k0_t1.sl.HW_arg6_1
    rw [View.readCov_cons_toLoadRect]
    unfold trip_k0_t1.sl.v189 trip_k0_t1.sl.v186
    rw [read_full (by decide)]
    rfl
  have e2 : trip_k0_t1.sl.v236 (F := Ideal) i arg2 arg3 arg4 arg6 (harg2.unread Q) (harg3.unread K) (harg4.unread V) k f6
      = k0_pay6 (F := Ideal) (keyBlock harg3 K i k 1) (qryBlock harg2 Q) (trip_k0_t1.sl.v208 (F := Ideal) i arg2 arg3 arg4 arg6
          (harg2.unread Q) (harg3.unread K) (harg4.unread V) k f6) (valBlock harg4 V i k 1) := by
    unfold trip_k0_t1.sl.v236 trip_k0_t1.sl.HW_arg6_2
    rw [View.readCov_cons_toLoadRect]
    rfl
  have e3 : trip_k0_t1.sl.v264 (F := Ideal) i arg2 arg3 arg4 arg6 (harg2.unread Q) (harg3.unread K) (harg4.unread V) k f6
      = k0_pay6 (F := Ideal) (keyBlock harg3 K i k 2) (qryBlock harg2 Q) (trip_k0_t1.sl.v236 (F := Ideal) i arg2 arg3 arg4 arg6
          (harg2.unread Q) (harg3.unread K) (harg4.unread V) k f6) (valBlock harg4 V i k 2) := by
    unfold trip_k0_t1.sl.v264 trip_k0_t1.sl.HW_arg6_3
    rw [View.readCov_cons_toLoadRect]
    rfl
  rw [← e1, ← e2, ← e3]
  unfold tripL_k0_t1 trip_k0_t1
  dsimp only
  rw [List.cons_append, View.canon_cons_unit_lit _ _ _ (by decide)]
  rfl

/-- The denominators a trip leaves: four blocks in turn over what it finds. -/
theorem trip_den (𝒱 : Variants) (c : Dev nD) (bd : Option 𝒱.V) (i : grid0.Coords) (k : Fin (k0_t1_loop i).trips)
    (f6 : BufTy.Contents (Elt Ideal) arg6.view.ty) (f7 : BufTy.Contents (Elt Ideal) arg7.view.ty)
    (L : List (View.Piece (Elt Ideal) S8x2048 .f32)) :
    View.canon ((tripL_k0_t1 (F := Ideal) 𝒱 c bd i arg2 harg2 arg3 harg3 arg4 harg4 arg5 harg5 arg6 harg6 arg7 harg7
        (harg2.unread Q) (harg3.unread K) (harg4.unread V) k f6 f7).2 ++ L)
      = k0_pay5 (F := Ideal) (keyBlock harg3 K i k 3) (qryBlock harg2 Q)
        (k0_pay5 (F := Ideal) (keyBlock harg3 K i k 2) (qryBlock harg2 Q)
          (k0_pay5 (F := Ideal) (keyBlock harg3 K i k 1) (qryBlock harg2 Q)
            (k0_pay5 (F := Ideal) (keyBlock harg3 K i k 0) (qryBlock harg2 Q) (arg7.view.read (Elt Ideal) f7)))) := by
  have e1 : trip_k0_t1.sl.v201 (F := Ideal) i arg2 arg3 arg7 (harg2.unread Q) (harg3.unread K) k f7
      = k0_pay5 (F := Ideal) (keyBlock harg3 K i k 0) (qryBlock harg2 Q) (arg7.view.read (Elt Ideal) f7) := by
    unfold trip_k0_t1.sl.v201 trip_k0_t1.sl.HW_arg7_1
    rw [View.readCov_cons_toLoadRect]
    unfold trip_k0_t1.sl.v179 trip_k0_t1.sl.v176
    rw [read_full (by decide)]
    rfl
  have e2 : trip_k0_t1.sl.v229 (F := Ideal) i arg2 arg3 arg7 (harg2.unread Q) (harg3.unread K) k f7
      = k0_pay5 (F := Ideal) (keyBlock harg3 K i k 1) (qryBlock harg2 Q)
          (trip_k0_t1.sl.v201 (F := Ideal) i arg2 arg3 arg7 (harg2.unread Q) (harg3.unread K) k f7) := by
    unfold trip_k0_t1.sl.v229 trip_k0_t1.sl.HW_arg7_2
    rw [View.readCov_cons_toLoadRect]
    rfl
  have e3 : trip_k0_t1.sl.v257 (F := Ideal) i arg2 arg3 arg7 (harg2.unread Q) (harg3.unread K) k f7
      = k0_pay5 (F := Ideal) (keyBlock harg3 K i k 2) (qryBlock harg2 Q)
          (trip_k0_t1.sl.v229 (F := Ideal) i arg2 arg3 arg7 (harg2.unread Q) (harg3.unread K) k f7) := by
    unfold trip_k0_t1.sl.v257 trip_k0_t1.sl.HW_arg7_3
    rw [View.readCov_cons_toLoadRect]
    rfl
  rw [← e1, ← e2, ← e3]
  unfold tripL_k0_t1 trip_k0_t1
  dsimp only
  rw [List.cons_append, View.canon_cons_unit_lit _ _ _ (by decide)]
  rfl

/-- The pieces of the first `k` trips, over the buffers filled with zeros. -/
abbrev pieces (𝒱 : Variants) (c : Dev nD) (bd : Option 𝒱.V) (i : grid0.Coords)
    (Z6 : List (View.Piece (Elt Ideal) S128x2048 .f32)) (Z7 : List (View.Piece (Elt Ideal) S8x2048 .f32)) (k : ℕ) :=
  pb_k0_t1 (F := Ideal) 𝒱 c bd i arg2 harg2 arg3 harg3 arg4 harg4 arg5 harg5 arg6 harg6 arg7 harg7
    (harg2.unread Q) (harg3.unread K) (harg4.unread V) (arg6.view.writes (Elt Ideal) arg6.view.junk Z6)
    (arg7.view.writes (Elt Ideal) arg7.view.junk Z7) k

/-- After `k` trips: the numerators and denominators over the first `2048 k` keys. -/
theorem loop_value (𝒱 : Variants) (c : Dev nD) (bd : Option 𝒱.V) (i : grid0.Coords)
    (Z6 : List (View.Piece (Elt Ideal) S128x2048 .f32)) (Z7 : List (View.Piece (Elt Ideal) S8x2048 .f32))
    (h6 : ∀ (d : Fin 128) (q : Fin 2048), View.canon Z6 (ix2 d q) = (0 : EReal))
    (h7 : ∀ (r : Fin 8) (q : Fin 2048), View.canon Z7 (ix2 r q) = (0 : EReal)) (k : ℕ) (hk : k ≤ (k0_t1_loop i).trips) :
    (∀ (d : Fin 128) (q : Fin 2048),
      View.canon ((pieces harg2 harg3 harg4 harg5 harg6 harg7 Q K V 𝒱 c bd i Z6 Z7 k).1 ++ Z6) (ix2 d q)
        = num (i 1).val Q K V (4 * k) d.val (0 + q.val)) ∧
    (∀ (r : Fin 8) (q : Fin 2048),
      View.canon ((pieces harg2 harg3 harg4 harg5 harg6 harg7 Q K V 𝒱 c bd i Z6 Z7 k).2 ++ Z7) (ix2 r q)
        = den (i 1).val Q K (4 * k) r.val (0 + q.val)) := by
  induction k with
  | zero =>
    refine ⟨fun d q => ?_, fun r q => ?_⟩
    · rw [show (pieces harg2 harg3 harg4 harg5 harg6 harg7 Q K V 𝒱 c bd i Z6 Z7 0).1 = [] from rfl, List.nil_append, h6]
      simp [num]
    · rw [show (pieces harg2 harg3 harg4 harg5 harg6 harg7 Q K V 𝒱 c bd i Z6 Z7 0).2 = [] from rfl, List.nil_append, h7]
      simp [den]
  | succ k ih =>
    obtain ⟨ih6, ih7⟩ := ih (Nat.le_of_succ_le hk)
    have hs := pb_k0_t1_succ (F := Ideal) 𝒱 c bd i arg2 harg2 arg3 harg3 arg4 harg4 arg5 harg5 arg6 harg6 arg7 harg7
      (harg2.unread Q) (harg3.unread K) (harg4.unread V) (arg6.view.writes (Elt Ideal) arg6.view.junk Z6)
      (arg7.view.writes (Elt Ideal) arg7.view.junk Z7) ⟨k, hk⟩
    refine ⟨fun d q => ?_, fun r q => ?_⟩
    · have hs1 := congrArg Prod.fst hs
      dsimp only at hs1
      unfold pieces
      rw [hs1, List.append_assoc, trip_num]
      refine num_loop harg2 harg3 harg4 Q K V i ⟨k, hk⟩ 3 _ (num_loop harg2 harg3 harg4 Q K V i ⟨k, hk⟩ 2 _
        (num_loop harg2 harg3 harg4 Q K V i ⟨k, hk⟩ 1 _ (num_loop harg2 harg3 harg4 Q K V i ⟨k, hk⟩ 0 _ fun d q => ?_))) d q
      rw [← View.writes_append, View.read_writes_junk_apply_eq_canon]
      exact ih6 d q
    · have hs1 := congrArg Prod.snd hs
      dsimp only at hs1
      unfold pieces
      rw [hs1, List.append_assoc, trip_den]
      refine den_loop harg2 harg3 Q K i ⟨k, hk⟩ 3 _ (den_loop harg2 harg3 Q K i ⟨k, hk⟩ 2 _
        (den_loop harg2 harg3 Q K i ⟨k, hk⟩ 1 _ (den_loop harg2 harg3 Q K i ⟨k, hk⟩ 0 _ fun r q => ?_))) r q
      rw [← View.writes_append, View.read_writes_junk_apply_eq_canon]
      exact ih7 r q

end Trip

end Cert.KernelIdeal.Gen
-- ==== Proof.Diag.lean ====
/-
  The tile's four diagonal pieces, after the loop: each adds 512 keys for the columns not before them, and leaves the
  columns before them alone, whose queries do not reach those keys. Then the tile that is written.
-/
module

public import proofs.«01_k».proof.Proof.Trip
public import proofs.«01_k».proof.Proof.Gen.KernelIdeal.Value

@[expose] public section

set_option maxRecDepth 8192

noncomputable section

namespace Cert.KernelIdeal.Gen

open Idealize.ShloMosaic hiding ix1 ix2 ix3 ix4 addf_apply subf_apply mulf_apply divf_apply truncf_apply extf_apply constant_apply
open Idealize.ShloMosaic.ValueIdx Idealize.ShloMosaic.Pipeline Cert.Attn Idealize.ShloMosaic.TcCoe
open scoped BigOperators

/-- A store of the columns from `q0` on: they read the payload, the columns before are as they were. -/
theorem canon_cols {M N : ℕ} (q0 : ℕ) (hq : q0 + N = 2048)
    (inb : ∀ a, (![0, q0] : Fin 2 → ℕ) a + (![M, N] : Fin 2 → ℕ) a ≤ (⟨2, ![M, 2048]⟩ : Shape).size a)
    (w : (⟨2, ![M, N]⟩ : Shape).Idx → EReal) (L : List (View.Piece (Elt Ideal) ⟨2, ![M, 2048]⟩ .f32)) (d : Fin M) (q : Fin 2048) :
    View.canon ((⟨Rect.unit (s := ⟨2, ![M, 2048]⟩) ![0, q0] ![M, N] inb, w⟩ : View.Piece (Elt Ideal) ⟨2, ![M, 2048]⟩ .f32) :: L) (ix2 d q)
      = if h : q0 ≤ q.val then w (ix2 d ⟨q.val - q0, by omega⟩) else View.canon L (ix2 d q) := by
  by_cases h : q0 ≤ q.val
  · rw [dif_pos h]
    have e : (ix2 d q : (⟨2, ![M, 2048]⟩ : Shape).Idx)
        = (Rect.unit (s := ⟨2, ![M, 2048]⟩) ![0, q0] ![M, N] inb).emb (ix2 d ⟨q.val - q0, by omega⟩) := by
      funext a
      refine Fin.ext ?_
      match a with
      | ⟨0, _⟩ => show d.val = 0 + 1 * d.val; omega
      | ⟨1, _⟩ => show q.val = q0 + 1 * (q.val - q0); omega
    rw [e]
    exact View.canon_cons_emb (Val := Elt Ideal) (Rect.unit (s := ⟨2, ![M, 2048]⟩) ![0, q0] ![M, N] inb) w L _
  · rw [dif_neg h]
    refine View.canon_cons_of_not_mem (Val := Elt Ideal) _ L fun hm => ?_
    exact h ((Rect.mem_set_unit (s := ⟨2, ![M, 2048]⟩) (inb := inb)).mp hm 1).1

/-- A load of the columns from `q0` on. -/
theorem read_cols {M N : ℕ} (q0 : ℕ) (hq : q0 + N = 2048) (m : View sig .tc .vmem ⟨2, ![M, 2048]⟩ .f32)
    (inb : ∀ a, (![0, q0] : Fin 2 → ℕ) a + (![M, N] : Fin 2 → ℕ) a ≤ (⟨2, ![M, 2048]⟩ : Shape).size a)
    (L : List (View.Piece (Elt Ideal) ⟨2, ![M, 2048]⟩ .f32)) (d : Fin M) (q : Fin N) :
    m.readCov L (Rect.unit (s := ⟨2, ![M, 2048]⟩) ![0, q0] ![M, N] inb).toLoadRect (ix2 d q)
      = View.canon L (ix2 d ⟨q0 + q.val, by omega⟩) := by
  rw [View.readCov_eq_canon']
  refine congrArg (View.canon L) (funext fun a => Fin.ext ?_)
  match a with
  | ⟨0, _⟩ => show 0 + 1 * d.val = d.val; omega
  | ⟨1, _⟩ => show q0 + 1 * q.val = q0 + q.val; omega

section Diag

variable {n : ℕ} {Q : S1x256x2048.Idx → EReal} {K : S1x16384x256.Idx → EReal} {V : S1x144x16384.Idx → EReal}

/-- Diagonal piece `b` in the numerator: the stretch grows by 512 keys in every column. -/
theorem num_diag {N : ℕ} (b : ℕ) (hq : 512 * b + N = 2048)
    (inb : ∀ a, (![0, 512 * b] : Fin 2 → ℕ) a + (![128, N] : Fin 2 → ℕ) a ≤ (⟨2, ![128, 2048]⟩ : Shape).size a)
    (w : (⟨2, ![128, N]⟩ : Shape).Idx → EReal) (L : List (View.Piece (Elt Ideal) ⟨2, ![128, 2048]⟩ .f32))
    (hL : ∀ (d : Fin 128) (q : Fin 2048), View.canon L (ix2 d q) = num n Q K V (4 * n + b) d.val (0 + q.val))
    (hw : ∀ (d : Fin 128) (q : Fin N), w (ix2 d q) = num n Q K V (4 * n + b + 1) d.val (512 * b + q.val))
    (d : Fin 128) (q : Fin 2048) :
    View.canon ((⟨Rect.unit (s := ⟨2, ![128, 2048]⟩) ![0, 512 * b] ![128, N] inb, w⟩ :
        View.Piece (Elt Ideal) ⟨2, ![128, 2048]⟩ .f32) :: L) (ix2 d q)
      = num n Q K V (4 * n + (b + 1)) d.val (0 + q.val) := by
  rw [canon_cols (512 * b) hq]
  by_cases h : 512 * b ≤ q.val
  · rw [dif_pos h, hw]
    show num n Q K V (4 * n + b + 1) d.val (512 * b + (q.val - 512 * b)) = _
    rw [show 512 * b + (q.val - 512 * b) = 0 + q.val by omega, Nat.add_assoc]
  · rw [dif_neg h, hL, ← Nat.add_assoc, num_skip _ _ _ (by omega)]

/-- … and in the denominators. -/
theorem den_diag {N : ℕ} (b : ℕ) (hq : 512 * b + N = 2048)
    (inb : ∀ a, (![0, 512 * b] : Fin 2 → ℕ) a + (![8, N] : Fin 2 → ℕ) a ≤ (⟨2, ![8, 2048]⟩ : Shape).size a)
    (w : (⟨2, ![8, N]⟩ : Shape).Idx → EReal) (L : List (View.Piece (Elt Ideal) ⟨2, ![8, 2048]⟩ .f32))
    (hL : ∀ (r : Fin 8) (q : Fin 2048), View.canon L (ix2 r q) = den n Q K (4 * n + b) r.val (0 + q.val))
    (hw : ∀ (r : Fin 8) (q : Fin N), w (ix2 r q) = den n Q K (4 * n + b + 1) r.val (512 * b + q.val))
    (r : Fin 8) (q : Fin 2048) :
    View.canon ((⟨Rect.unit (s := ⟨2, ![8, 2048]⟩) ![0, 512 * b] ![8, N] inb, w⟩ :
        View.Piece (Elt Ideal) ⟨2, ![8, 2048]⟩ .f32) :: L) (ix2 r q)
      = den n Q K (4 * n + (b + 1)) r.val (0 + q.val) := by
  rw [canon_cols (512 * b) hq]
  by_cases h : 512 * b ≤ q.val
  · rw [dif_pos h, hw]
    show den n Q K (4 * n + b + 1) r.val (512 * b + (q.val - 512 * b)) = _
    rw [show 512 * b + (q.val - 512 * b) = 0 + q.val by omega, Nat.add_assoc]
  · rw [dif_neg h, hL, ← Nat.add_assoc, den_skip _ _ _ (by omega)]

end Diag

section Pieces

variable {arg2 : Memref sig .tc .vmem S1x256x2048 .bf16} (harg2 : arg2.IsWhole)
  {arg3 : Memref sig .tc .vmem S1x16384x256 .bf16} (harg3 : arg3.IsWhole)
  {arg4 : Memref sig .tc .vmem S1x144x16384 .bf16} (harg4 : arg4.IsWhole)
  {arg5 : Memref sig .tc .vmem S2048x128 .bf16} (harg5 : arg5.IsWhole)
  {arg6 : Memref sig .tc .vmem S128x2048 .f32} (harg6 : arg6.IsWhole)
  {arg7 : Memref sig .tc .vmem S8x2048 .f32} (harg7 : arg7.IsWhole)
  (Q : S1x256x2048.Idx → EReal) (K : S1x16384x256.Idx → EReal) (V : S1x144x16384.Idx → EReal)
  (i : grid0.Coords)

/-- The scores behind diagonal piece `b`'s weights. -/
theorem diag_scores {N : ℕ} (b : Fin 4) (q0 : ℕ) (h0 : q0 = 512 * b.val) (hN : q0 + N = 2048)
    (inbk : ∀ a, k0_off5 i (BitVec.ofNat 32 b.val) a + S1x512x256.size a ≤ S1x16384x256.size a)
    (inbq : ∀ a, (![0, 0, q0] : Fin 3 → ℕ) a + (![1, 256, N] : Fin 3 → ℕ) a ≤ S1x256x2048.size a)
    (u : Fin 512) (q : Fin N) :
    (if u.val ≤ q.val then Ideal.exp2 (∑ e : Fin 256,
        View.readAt (Elt Ideal) arg3.view (Rect.unit (s := S1x16384x256) (k0_off5 i (BitVec.ofNat 32 b.val)) S1x512x256.size
          inbk).toLoadRect (harg3.unread (Val := Elt Ideal) K) (ix3 0 u e)
        * View.readAt (Elt Ideal) arg2.view (Rect.unit (s := S1x256x2048) ![0, 0, q0] ![1, 256, N] inbq).toLoadRect
          (harg2.unread (Val := Elt Ideal) Q) (ix3 0 e q) : EReal) else 0)
      = wgt (i 1).val Q K (512 * (4 * (i 1).val + b.val) + u.val) (512 * b.val + q.val) := by
  have hi : (i 1).val < 8 := (i 1).isLt
  subst h0
  rw [wgt_diag _ _ _ (by omega) (by omega)]
  refine if_congr Iff.rfl (congrArg Ideal.exp2 (Finset.sum_congr rfl fun e _ => ?_)) rfl
  rw [keys_read harg3 K _ _ (off5_eq i b) u e (by omega), queries_read harg2 Q _ _ e q (by omega)]

theorem r0_apply (u : Fin 512) (q : Fin 2048) :
    kernelRun0_A.sl.r (F := Ideal) i arg2 harg2 arg3 harg3 Q K (ix2 u q)
      = wgt (i 1).val Q K (512 * (4 * (i 1).val + (0 : Fin 4).val) + u.val) (512 * (0 : Fin 4).val + q.val) := by
  unfold kernelRun0_A.sl.r
  exact (pay36_apply _ _ u q).trans (diag_scores harg2 harg3 Q K i 0 0 rfl (by norm_num) (k0_off5_inb i 0) _ u q)

theorem r1_apply (u : Fin 512) (q : Fin 1536) :
    kernelRun0_A.sl.r_1 (F := Ideal) i arg2 harg2 arg3 harg3 Q K (ix2 u q)
      = wgt (i 1).val Q K (512 * (4 * (i 1).val + (1 : Fin 4).val) + u.val) (512 * (1 : Fin 4).val + q.val) := by
  unfold kernelRun0_A.sl.r_1
  exact (pay39_apply _ _ u q).trans (diag_scores harg2 harg3 Q K i 1 512 rfl (by norm_num) (k0_off5_inb i 1) _ u q)

theorem r2_apply (u : Fin 512) (q : Fin 1024) :
    kernelRun0_A.sl.r_2 (F := Ideal) i arg2 harg2 arg3 harg3 Q K (ix2 u q)
      = wgt (i 1).val Q K (512 * (4 * (i 1).val + (2 : Fin 4).val) + u.val) (512 * (2 : Fin 4).val + q.val) := by
  unfold kernelRun0_A.sl.r_2
  exact (pay42_apply _ _ u q).trans (diag_scores harg2 harg3 Q K i 2 1024 rfl (by norm_num) (k0_off5_inb i 2) _ u q)

theorem r3_apply (u : Fin 512) (q : Fin 512) :
    kernelRun0_A.sl.r_3 (F := Ideal) i arg2 harg2 arg3 harg3 Q K (ix2 u q)
      = wgt (i 1).val Q K (512 * (4 * (i 1).val + (3 : Fin 4).val) + u.val) (512 * (3 : Fin 4).val + q.val) := by
  unfold kernelRun0_A.sl.r_3
  exact (pay45_apply _ _ u q).trans (diag_scores harg2 harg3 Q K i 3 1536 rfl (by norm_num) (k0_off5_inb i 3) _ u q)

/-- The values of diagonal piece `b`. -/
theorem diag_values (b : Fin 4)
    (inb : ∀ a, k0_off6 i (BitVec.ofNat 32 b.val) a + S1x128x512.size a ≤ S1x144x16384.size a) (d : Fin 128) (u : Fin 512) :
    View.readAt (Elt Ideal) arg4.view (Rect.unit (s := S1x144x16384) (k0_off6 i (BitVec.ofNat 32 b.val)) S1x128x512.size
        inb).toLoadRect (harg4.unread (Val := Elt Ideal) V) (ix3 0 d u)
      = val V d.val (512 * (4 * (i 1).val + b.val) + u.val) := by
  have hi : (i 1).val < 8 := (i 1).isLt
  exact values_read harg4 V _ _ (off6_eq i b) d u (by omega)

variable (c : Dev nD)

theorem zero6 (d : Fin 128) (q : Fin 2048) : View.canon (kernelRun0_A.sl.HS0_1 (F := Ideal)) (ix2 d q) = (0 : EReal) := by
  unfold kernelRun0_A.sl.HS0_1
  rw [View.canon_cons_unit_lit _ _ _ (by decide)]
  unfold k0_pay30
  rw [shapeCast_self]
  exact Ideal.ofBits_zero_f32

theorem zero7 (r : Fin 8) (q : Fin 2048) : View.canon (kernelRun0_A.sl.HS1_1 (F := Ideal)) (ix2 r q) = (0 : EReal) := by
  unfold kernelRun0_A.sl.HS1_1
  rw [View.canon_cons_unit_lit _ _ _ (by decide)]
  unfold k0_pay31
  rw [shapeCast_self]
  exact Ideal.ofBits_zero_f32

/-- The keys before the tile, in the numerator. -/
theorem num_before (d : Fin 128) (q : Fin 2048) :
    View.canon ((pieces harg2 harg3 harg4 harg5 harg6 harg7 Q K V Variants.none c none i (kernelRun0_A.sl.HS0_1 (F := Ideal))
        (kernelRun0_A.sl.HS1_1 (F := Ideal)) (k0_t1_loop i).trips).1 ++ kernelRun0_A.sl.HS0_1 (F := Ideal)) (ix2 d q)
      = num (i 1).val Q K V (4 * (i 1).val + 0) d.val (0 + q.val) := by
  rw [(loop_value harg2 harg3 harg4 harg5 harg6 harg7 Q K V Variants.none c none i _ _ zero6 zero7 _ le_rfl).1 d q, t1_trips,
    Nat.add_zero]

/-- … and in the denominators. -/
theorem den_before (r : Fin 8) (q : Fin 2048) :
    View.canon ((pieces harg2 harg3 harg4 harg5 harg6 harg7 Q K V Variants.none c none i (kernelRun0_A.sl.HS0_1 (F := Ideal))
        (kernelRun0_A.sl.HS1_1 (F := Ideal)) (k0_t1_loop i).trips).2 ++ kernelRun0_A.sl.HS1_1 (F := Ideal)) (ix2 r q)
      = den (i 1).val Q K (4 * (i 1).val + 0) r.val (0 + q.val) := by
  rw [(loop_value harg2 harg3 harg4 harg5 harg6 harg7 Q K V Variants.none c none i _ _ zero6 zero7 _ le_rfl).2 r q, t1_trips,
    Nat.add_zero]

/-- The remainder loop leaves no pieces. -/
theorem rest_nil {v12 : _} {X2 : _} {X3 : _} {X4 : _} {G6 : _} {G7 : _} :
    pb_k0_t2 (F := Ideal) Variants.none c none i arg2 harg2 arg3 harg3 arg4 harg4 arg5 harg5 arg6 harg6 arg7 harg7
      v12 X2 X3 X4 G6 G7 (k0_t2_loop i).trips = ([], []) := by
  rw [t2_trips]; rfl

/-- The numerator after diagonal piece 0. -/
theorem num_1 (d : Fin 128) (q : Fin 2048) :
    View.canon (kernelRun0_A.sl.HS0_1_1 (F := Ideal) c i arg2 harg2 arg3 harg3 arg4 harg4 arg5 harg5 arg6 harg6 arg7 harg7 Q K V) (ix2 d q)
      = num (i 1).val Q K V (4 * (i 1).val + (0 + 1)) d.val (0 + q.val) := by
  have hL := num_before harg2 harg3 harg4 harg5 harg6 harg7 Q K V i c
  unfold kernelRun0_A.sl.HS0_1_1
  refine num_diag 0 (by norm_num) _ _ _ (fun d q => ?_) (fun d q => ?_) d q
  · rw [rest_nil]
    exact hL d q
  · refine (pay38_apply _ _ _ d q).trans (num_block _ _ _ _ _ (r0_apply harg2 harg3 Q K i) (diag_values harg4 V i 0 (k0_off6_inb i 0)) (fun d q => ?_) d q)
    unfold kernelRun0_A.sl.v38
    rw [rest_nil]
    refine (read_cols 0 (by norm_num) _ _ _ d q).trans ((hL d _).trans ?_)
    simp

/-- The numerator after diagonal piece 1. -/
theorem num_2 (d : Fin 128) (q : Fin 2048) :
    View.canon (kernelRun0_A.sl.HS0_2 (F := Ideal) c i arg2 harg2 arg3 harg3 arg4 harg4 arg5 harg5 arg6 harg6 arg7 harg7 Q K V) (ix2 d q)
      = num (i 1).val Q K V (4 * (i 1).val + (1 + 1)) d.val (0 + q.val) := by
  have hL := num_1 harg2 harg3 harg4 harg5 harg6 harg7 Q K V i c
  unfold kernelRun0_A.sl.HS0_2
  refine num_diag 1 (by norm_num) _ _ _ (hL) (fun d q => ?_) d q
  · refine (pay41_apply _ _ _ d q).trans (num_block _ _ _ _ _ (r1_apply harg2 harg3 Q K i) (diag_values harg4 V i 1 (k0_off6_inb i 1)) (fun d q => ?_) d q)
    unfold kernelRun0_A.sl.v73
    refine (read_cols 512 (by norm_num) _ _ _ d q).trans ((hL d _).trans ?_)
    exact congrArg (num _ _ _ _ _ _) (Nat.zero_add _)

/-- The numerator after diagonal piece 2. -/
theorem num_3 (d : Fin 128) (q : Fin 2048) :
    View.canon (kernelRun0_A.sl.HS0_3 (F := Ideal) c i arg2 harg2 arg3 harg3 arg4 harg4 arg5 harg5 arg6 harg6 arg7 harg7 Q K V) (ix2 d q)
      = num (i 1).val Q K V (4 * (i 1).val + (2 + 1)) d.val (0 + q.val) := by
  have hL := num_2 harg2 harg3 harg4 harg5 harg6 harg7 Q K V i c
  unfold kernelRun0_A.sl.HS0_3
  refine num_diag 2 (by norm_num) _ _ _ (hL) (fun d q => ?_) d q
  · refine (pay44_apply _ _ _ d q).trans (num_block _ _ _ _ _ (r2_apply harg2 harg3 Q K i) (diag_values harg4 V i 2 (k0_off6_inb i 2)) (fun d q => ?_) d q)
    unfold kernelRun0_A.sl.v108
    refine (read_cols 1024 (by norm_num) _ _ _ d q).trans ((hL d _).trans ?_)
    exact congrArg (num _ _ _ _ _ _) (Nat.zero_add _)

/-- The numerator after diagonal piece 3. -/
theorem num_4 (d : Fin 128) (q : Fin 2048) :
    View.canon (kernelRun0_A.sl.HS0_4 (F := Ideal) c i arg2 harg2 arg3 harg3 arg4 harg4 arg5 harg5 arg6 harg6 arg7 harg7 Q K V) (ix2 d q)
      = num (i 1).val Q K V (4 * (i 1).val + (3 + 1)) d.val (0 + q.val) := by
  have hL := num_3 harg2 harg3 harg4 harg5 harg6 harg7 Q K V i c
  unfold kernelRun0_A.sl.HS0_4
  refine num_diag 3 (by norm_num) _ _ _ (hL) (fun d q => ?_) d q
  · refine (pay2_apply _ _ _ d q).trans (num_block _ _ _ _ _ (r3_apply harg2 harg3 Q K i) (diag_values harg4 V i 3 (k0_off6_inb i 3)) (fun d q => ?_) d q)
    unfold kernelRun0_A.sl.v143
    refine (read_cols 1536 (by norm_num) _ _ _ d q).trans ((hL d _).trans ?_)
    exact congrArg (num _ _ _ _ _ _) (Nat.zero_add _)

/-- The denominators after diagonal piece 0. -/
theorem den_1 (r : Fin 8) (q : Fin 2048) :
    View.canon (kernelRun0_A.sl.HS1_1_1 (F := Ideal) c i arg2 harg2 arg3 harg3 arg4 harg4 arg5 harg5 arg6 harg6 arg7 harg7 Q K V) (ix2 r q)
      = den (i 1).val Q K (4 * (i 1).val + (0 + 1)) r.val (0 + q.val) := by
  have hL := den_before harg2 harg3 harg4 harg5 harg6 harg7 Q K V i c
  unfold kernelRun0_A.sl.HS1_1_1
  refine den_diag 0 (by norm_num) _ _ _ (fun r q => ?_) (fun r q => ?_) r q
  · rw [rest_nil]
    exact hL r q
  · refine (pay37_apply _ _ r q).trans (den_block _ _ _ _ (r0_apply harg2 harg3 Q K i) (fun r q => ?_) r q)
    unfold kernelRun0_A.sl.v31
    rw [rest_nil]
    refine (read_cols 0 (by norm_num) _ _ _ r q).trans ((hL r _).trans ?_)
    simp

/-- The denominators after diagonal piece 1. -/
theorem den_2 (r : Fin 8) (q : Fin 2048) :
    View.canon (kernelRun0_A.sl.HS1_2 (F := Ideal) c i arg2 harg2 arg3 harg3 arg4 harg4 arg5 harg5 arg6 harg6 arg7 harg7 Q K V) (ix2 r q)
      = den (i 1).val Q K (4 * (i 1).val + (1 + 1)) r.val (0 + q.val) := by
  have hL := den_1 harg2 harg3 harg4 harg5 harg6 harg7 Q K V i c
  unfold kernelRun0_A.sl.HS1_2
  refine den_diag 1 (by norm_num) _ _ _ (hL) (fun r q => ?_) r q
  · refine (pay40_apply _ _ r q).trans (den_block _ _ _ _ (r1_apply harg2 harg3 Q K i) (fun r q => ?_) r q)
    unfold kernelRun0_A.sl.v66
    refine (read_cols 512 (by norm_num) _ _ _ r q).trans ((hL r _).trans ?_)
    exact congrArg (den _ _ _ _ _) (Nat.zero_add _)

/-- The denominators after diagonal piece 2. -/
theorem den_3 (r : Fin 8) (q : Fin 2048) :
    View.canon (kernelRun0_A.sl.HS1_3 (F := Ideal) c i arg2 harg2 arg3 harg3 arg4 harg4 arg5 harg5 arg6 harg6 arg7 harg7 Q K V) (ix2 r q)
      = den (i 1).val Q K (4 * (i 1).val + (2 + 1)) r.val (0 + q.val) := by
  have hL := den_2 harg2 harg3 harg4 harg5 harg6 harg7 Q K V i c
  unfold kernelRun0_A.sl.HS1_3
  refine den_diag 2 (by norm_num) _ _ _ (hL) (fun r q => ?_) r q
  · refine (pay43_apply _ _ r q).trans (den_block _ _ _ _ (r2_apply harg2 harg3 Q K i) (fun r q => ?_) r q)
    unfold kernelRun0_A.sl.v101
    refine (read_cols 1024 (by norm_num) _ _ _ r q).trans ((hL r _).trans ?_)
    exact congrArg (den _ _ _ _ _) (Nat.zero_add _)

/-- The denominators after diagonal piece 3. -/
theorem den_4 (r : Fin 8) (q : Fin 2048) :
    View.canon (kernelRun0_A.sl.HS1_4 (F := Ideal) c i arg2 harg2 arg3 harg3 arg4 harg4 arg5 harg5 arg6 harg6 arg7 harg7 Q K V) (ix2 r q)
      = den (i 1).val Q K (4 * (i 1).val + (3 + 1)) r.val (0 + q.val) := by
  have hL := den_3 harg2 harg3 harg4 harg5 harg6 harg7 Q K V i c
  unfold kernelRun0_A.sl.HS1_4
  refine den_diag 3 (by norm_num) _ _ _ (hL) (fun r q => ?_) r q
  · refine (pay1_apply _ _ r q).trans (den_block _ _ _ _ (r3_apply harg2 harg3 Q K i) (fun r q => ?_) r q)
    unfold kernelRun0_A.sl.v136
    refine (read_cols 1536 (by norm_num) _ _ _ r q).trans ((hL r _).trans ?_)
    exact congrArg (den _ _ _ _ _) (Nat.zero_add _)

end Pieces

/-- What the run at one grid point leaves in the tile's output: the numerator over the denominator, over the keys up to
    the tile's end. -/
theorem tile_out (m : (ℓ : Loc nD τ sig) → Buf (Elt Ideal) ℓ) (c : Dev nD) (t : Fin cfg0.N) (q : Fin 2048) (d : Fin 128) :
    outsAt0 m c t (ix2 q d)
      = Ideal.div (∑ κ ∈ Finset.range (512 * (4 * (grid0.coords t 1).val + 4)), val (iblk m c 2 t) d.val κ
            * wgt (grid0.coords t 1).val (iblk m c 0 t) (iblk m c 1 t) κ q.val)
          (∑ κ ∈ Finset.range (512 * (4 * (grid0.coords t 1).val + 4)),
            wgt (grid0.coords t 1).val (iblk m c 0 t) (iblk m c 1 t) κ q.val) := by
  unfold outsAt0 out0_A_3
  unfold kernelRun0_A
  dsimp only
  unfold kernelRun0_A.sl.v153 kernelRun0_A.sl.v154
  rw [View.read_writes_junk_apply_eq_canon, View.canon_cons_unit_lit _ _ _ (by decide)]
  refine (pay3_apply _ _ q d).trans ?_
  rw [← den_total]
  refine congrArg₂ Ideal.div ?_ (Finset.sum_congr rfl fun r _ => ?_)
  · refine (read_cols 0 (by norm_num) _ _ _ d q).trans ((num_4 _ _ _ _ _ _ _ _ _ _ c d _).trans ?_)
    show num _ _ _ _ _ _ (0 + (0 + q.val)) = _
    rw [Nat.zero_add, Nat.zero_add]
    rfl
  · refine (read_cols 0 (by norm_num) _ _ _ r q).trans ((den_4 _ _ _ _ _ _ _ _ _ _ c r _).trans ?_)
    show den _ _ _ _ _ (0 + (0 + q.val)) = _
    rw [Nat.zero_add, Nat.zero_add]

end Cert.KernelIdeal.Gen
-- ==== Proof.Spec.lean ====
/-
  Causal attention over whole arrays, as the tiles compute it: weights two to the score, one division at the end.
-/
module

public import proofs.«01_k».proof.Proof.Diag

@[expose] public section

set_option maxRecDepth 8192

noncomputable section

namespace Cert.Attn

open Idealize.ShloMosaic hiding ix1 ix2 ix3 ix4 addf_apply subf_apply mulf_apply divf_apply truncf_apply extf_apply constant_apply
open Idealize.ShloMosaic.ValueIdx Idealize.ShloMosaic.Pipeline
open scoped BigOperators
open Cert.KernelIdeal (S4x256x16384 S4x16384x256 S4x144x16384 S16384x512)

/-- The score of key `κ` against query `s` in head `h`. -/
def sc (qt : S4x256x16384.Idx → EReal) (k : S4x16384x256.Idx → EReal) (h : Fin 4) (κ s : Fin 16384) : EReal :=
  ∑ e : Fin 256, k (ix3 h κ e) * qt (ix3 h e s)

/-- The weight of key `κ` for query `s`. -/
def wt (qt : S4x256x16384.Idx → EReal) (k : S4x16384x256.Idx → EReal) (h : Fin 4) (κ s : Fin 16384) : EReal :=
  if κ.val ≤ s.val then Ideal.exp2 (sc qt k h κ s) else 0

/-- The attention of query `s` in head `h`, coordinate `d`. -/
def att (qt : S4x256x16384.Idx → EReal) (k : S4x16384x256.Idx → EReal) (vt : S4x144x16384.Idx → EReal)
    (h : Fin 4) (s : Fin 16384) (d : Fin 128) : EReal :=
  Ideal.div (∑ κ : Fin 16384, vt (ix3 h ⟨d.val, by omega⟩ κ) * wt qt k h κ s) (∑ κ : Fin 16384, wt qt k h κ s)

/-- The result array: the heads side by side. -/
def out (qt : S4x256x16384.Idx → EReal) (k : S4x16384x256.Idx → EReal) (vt : S4x144x16384.Idx → EReal) :
    S16384x512.Idx → EReal := fun x =>
  att qt k vt ⟨(x 1).val / 128, Nat.div_lt_of_lt_mul (x 1).isLt⟩ (x 0) ⟨(x 1).val % 128, Nat.mod_lt _ (by norm_num)⟩

/-- Terms that vanish beyond the first `B` may be left out. -/
theorem sum_range_eq {B : ℕ} (hB : B ≤ 16384) (f : ℕ → EReal) (g : Fin 16384 → EReal)
    (h1 : ∀ κ : Fin 16384, κ.val < B → f κ.val = g κ) (h2 : ∀ κ : Fin 16384, B ≤ κ.val → g κ = 0) :
    ∑ κ ∈ Finset.range B, f κ = ∑ κ : Fin 16384, g κ := by
  have hx : ∀ κ : Fin 16384, g κ = if κ.val < B then f κ.val else 0 := fun κ => by
    by_cases h : κ.val < B
    · rw [if_pos h, h1 κ h]
    · rw [if_neg h, h2 κ (by omega)]
  rw [Finset.sum_congr rfl fun κ _ => hx κ, Fin.sum_univ_eq_sum_range (n := 16384) (fun κ => if κ < B then f κ else 0),
    ← Finset.sum_filter]
  refine Finset.sum_congr (Finset.ext fun κ => ?_) fun _ _ => rfl
  simp only [Finset.mem_range, Finset.mem_filter]
  omega

end Cert.Attn

namespace Cert.KernelIdeal.Gen

open Idealize.ShloMosaic hiding ix1 ix2 ix3 ix4 addf_apply subf_apply mulf_apply divf_apply truncf_apply extf_apply constant_apply
open Idealize.ShloMosaic.ValueIdx Idealize.ShloMosaic.Pipeline Cert.Attn Idealize.ShloMosaic.TcCoe
open scoped BigOperators

/-- The blocks of a grid point: its head, its tile. -/
theorem index_eq : ∀ t : Fin grid0.N,
    win0_0.index t = ![(grid0.coords t 0).val, 0, (grid0.coords t 1).val] ∧ win0_1.index t = ![(grid0.coords t 0).val, 0, 0]
      ∧ win0_2.index t = ![(grid0.coords t 0).val, 0, 0] ∧ win0_3.index t = ![(grid0.coords t 1).val, (grid0.coords t 0).val] := by
  decide +kernel

variable (m : (ℓ : Loc nD τ sig) → Buf (Elt Ideal) ℓ) (c : Dev nD) (t : Fin cfg0.N)

theorem head_lt : (grid0.coords t 0).val < 4 := (grid0.coords t 0).isLt
theorem tile_lt : (grid0.coords t 1).val < 8 := (grid0.coords t 1).isLt

theorem qry_at (e : Fin 256) (q : Fin 2048) :
    iblk m c 0 t (ix3 0 e q) = m ((c : Thread nD τ).loc main_arg0) (ix3 ⟨(grid0.coords t 0).val, head_lt t⟩ e
      ⟨2048 * (grid0.coords t 1).val + q.val, by have := tile_lt t; omega⟩) := by
  have e0 := (index_eq t).1
  blk_simp [iblk]
  rw [V_main_arg0 m c]
  blk_ext [e0]
  show _ * 2048 + q.val = _
  omega

theorem key_at (κ : Fin 16384) (e : Fin 256) :
    iblk m c 1 t (ix3 0 κ e) = m ((c : Thread nD τ).loc main_arg1) (ix3 ⟨(grid0.coords t 0).val, head_lt t⟩ κ e) := by
  have e0 := (index_eq t).2.1
  blk_simp [iblk]
  rw [V_main_arg1 m c]
  blk_ext [e0]

theorem val_at (d : Fin 144) (κ : Fin 16384) :
    iblk m c 2 t (ix3 0 d κ) = m ((c : Thread nD τ).loc main_arg2) (ix3 ⟨(grid0.coords t 0).val, head_lt t⟩ d κ) := by
  have e0 := (index_eq t).2.2.1
  blk_simp [iblk]
  rw [V_main_arg2 m c]
  blk_ext [e0]

/-- The weights of a tile are the array's. -/
theorem wgt_at (κ : Fin 16384) (q : Fin 2048) :
    wgt (grid0.coords t 1).val (iblk m c 0 t) (iblk m c 1 t) κ.val q.val
      = wt (m ((c : Thread nD τ).loc main_arg0)) (m ((c : Thread nD τ).loc main_arg1)) ⟨(grid0.coords t 0).val, head_lt t⟩ κ
          ⟨2048 * (grid0.coords t 1).val + q.val, by have := tile_lt t; omega⟩ := by
  unfold wgt wt
  refine if_congr Iff.rfl ?_ rfl
  rw [score, dif_pos ⟨κ.isLt, q.isLt⟩, sc]
  refine congrArg Ideal.exp2 (Finset.sum_congr rfl fun e _ => ?_)
  rw [qry_at, key_at]

/-- A tile's output, from the arrays. -/
theorem tile_att (q : Fin 2048) (d : Fin 128) :
    outsAt0 m c t (ix2 q d)
      = att (m ((c : Thread nD τ).loc main_arg0)) (m ((c : Thread nD τ).loc main_arg1)) (m ((c : Thread nD τ).loc main_arg2))
          ⟨(grid0.coords t 0).val, head_lt t⟩ ⟨2048 * (grid0.coords t 1).val + q.val, by have := tile_lt t; omega⟩ d := by
  have ht := tile_lt t
  rw [tile_out]
  unfold att
  refine congrArg₂ Ideal.div (sum_range_eq (by omega) _ _ (fun κ _ => ?_) fun κ h => ?_)
    (sum_range_eq (by omega) _ _ (fun κ _ => wgt_at m c t κ q) fun κ h => ?_)
  · rw [wgt_at, val, dif_pos ⟨by omega, κ.isLt⟩, val_at]
  · rw [wt, if_neg (by show ¬ κ.val ≤ 2048 * (grid0.coords t 1).val + q.val; omega), mul_zero]
  · rw [wt, if_neg (by show ¬ κ.val ≤ 2048 * (grid0.coords t 1).val + q.val; omega)]

/-- The result array after the run. -/
theorem final : (dats m 0 c).arrAt 3 cfg0.N
    = out (m ((c : Thread nD τ).loc main_arg0)) (m ((c : Thread nD τ).loc main_arg1)) (m ((c : Thread nD τ).loc main_arg2)) := by
  refine (dats m 0 c).arrAt_eq_of_covers 3 _ (by decide +kernel) fun t hf y => ?_
  have e3 := (index_eq t).2.2.2
  have h0 : (((cfg0.win 3).blk t).view.emb y 0).val = 2048 * (grid0.coords t 1).val + (y 0).val := by
    blk_simp [e3]
    omega
  have h1 : (((cfg0.win 3).blk t).view.emb y 1).val = 128 * (grid0.coords t 0).val + (y 1).val := by
    blk_simp [e3]
    omega
  blk_simp
  rw [after0_3]
  have hy0 : (y 0).val < 2048 := (y 0).isLt
  have hy1 : (y 1).val < 128 := (y 1).isLt
  have hy : (y : S2048x128.Idx) = ix2 ⟨(y 0).val, hy0⟩ ⟨(y 1).val, hy1⟩ := by
    funext a
    match a with
    | ⟨0, _⟩ => rfl
    | ⟨1, _⟩ => rfl
  refine (congrArg (outsAt0 m c t) hy).trans ((tile_att m c t _ _).trans ?_)
  unfold out
  congr 1
  · refine Fin.ext ?_
    show _ = (((cfg0.win 3).blk t).view.emb y 1).val / 128
    rw [h1]
    show (grid0.coords t 0).val = _
    omega
  · exact Fin.ext h0.symm
  · refine Fin.ext ?_
    show _ = (((cfg0.win 3).blk t).view.emb y 1).val % 128
    rw [h1]
    show (y 1).val = _
    omega

end Cert.KernelIdeal.Gen
-- ==== Proof.Ref.lean ====
/-
  The reference read at an index: causal softmax attention, every step of it a whole array.
-/
module

public import proofs.«01_k».proof.Proof.Gen.ReferenceIdeal.Run
public import Idealize.ShloMosaic.Lib.IdealHost
public import Idealize.ShloMosaic.Lib.MatmulPlain
public import Idealize.ShloMosaic.Lib.ValueIdx
public import Idealize.ShloMosaic.Lib.Pipeline.Value

@[expose] public section

set_option maxRecDepth 8192

noncomputable section

namespace Cert.ReferenceIdeal.Read

open Idealize.ShloMosaic
open Idealize.ShloMosaic.ValueIdx Idealize.ShloMosaic.TcCoe
open Cert.ReferenceIdeal Cert.ReferenceIdeal.Gen
open scoped BigOperators

/-- The scores' product at an index. -/
theorem scores_apply (l r : FVec Ideal S4x16384x256 .f32) (h : Fin 4) (s κ : Fin 16384) :
    Host.dotGeneral dot_S4x16384x256_S4x16384x256_S4x16384x16384_2_2_1_1_0_0 none l r (ix3 h s κ)
      = ∑ e : Fin 256, l (ix3 h s e) * r (ix3 h κ e) := by
  show FloatOps.dotGeneral _ _ _ _ _ _ = _
  rw [Ideal.dotGeneral_apply, ← Equiv.sum_comp (contrEquiv1 _ 256 rfl rfl).symm]
  refine Finset.sum_congr rfl fun e _ => ?_
  have he := contrEquiv1_symm_val dot_S4x16384x256_S4x16384x256_S4x16384x16384_2_2_1_1_0_0 256 rfl rfl e
  refine congrArg₂ (· * ·) (congrArg l ?_) (congrArg r ?_)
  · funext a; apply Fin.ext
    match a with
    | ⟨0, _⟩ => rfl
    | ⟨1, _⟩ => rfl
    | ⟨2, _⟩ => exact he
  · funext a; apply Fin.ext
    match a with
    | ⟨0, _⟩ => rfl
    | ⟨1, _⟩ => rfl
    | ⟨2, _⟩ => exact he

/-- The values' product at an index. -/
theorem mixed_apply (l : FVec Ideal S4x16384x128 .f32) (r : FVec Ideal S4x16384x16384 .f32) (h : Fin 4) (d : Fin 128) (s : Fin 16384) :
    Host.dotGeneral dot_S4x16384x128_S4x16384x16384_S4x128x16384_1_2_2_1_0_0 none l r (ix3 h d s)
      = ∑ κ : Fin 16384, l (ix3 h κ d) * r (ix3 h s κ) := by
  show FloatOps.dotGeneral _ _ _ _ _ _ = _
  rw [Ideal.dotGeneral_apply, ← Equiv.sum_comp (contrEquiv1 _ 16384 rfl rfl).symm]
  refine Finset.sum_congr rfl fun e _ => ?_
  have he := contrEquiv1_symm_val dot_S4x16384x128_S4x16384x16384_S4x128x16384_1_2_2_1_0_0 16384 rfl rfl e
  refine congrArg₂ (· * ·) (congrArg l ?_) (congrArg r ?_)
  · funext a; apply Fin.ext
    match a with
    | ⟨0, _⟩ => rfl
    | ⟨1, _⟩ => exact he
    | ⟨2, _⟩ => rfl
  · funext a; apply Fin.ext
    match a with
    | ⟨0, _⟩ => rfl
    | ⟨1, _⟩ => rfl
    | ⟨2, _⟩ => exact he

/-- Key position at most query position, as the program's array of truth values. -/
def causal : IVec S4x16384x16384 1 :=
  broadcastInDim S4x16384x16384 ![0, 1, 2] bcast_S1x16384x16384_S4x16384x16384_0_1_2
    (broadcastInDim S1x16384x16384 ![1, 2] bcast_S16384x16384_S1x16384x16384_1_2
      (cmpi .sle (broadcastInDim S16384x16384 ![0, 1] bcast_S1x16384_S16384x16384_0_1
          (broadcastInDim S1x16384 ![1] bcast_S16384_S1x16384_1 (iotaInDim S16384 32 0)))
        (broadcastInDim S16384x16384 ![0, 1] bcast_S16384x1_S16384x16384_0_1
          (broadcastInDim S16384x1 ![0] bcast_S16384_S16384x1_0 (iotaInDim S16384 32 0)))))

theorem causal_apply (h : Fin 4) (s κ : Fin 16384) : causal (ix3 h s κ) = if κ.val ≤ s.val then 1#1 else 0#1 := by
  unfold causal
  rw [broadcastInDim_apply (k := ix3 0 s κ), broadcastInDim_apply (k := ix2 s κ)]
  · show IntOp.cmpi .sle _ _ = _
    rw [broadcastInDim_apply (k := ix2 0 κ), broadcastInDim_apply (k := ix1 κ), broadcastInDim_apply (k := ix2 s 0),
      broadcastInDim_apply (k := ix1 s), iotaInDim_apply, iotaInDim_apply]
    · have h1 : (BitVec.ofNat 32 κ.val).toInt = κ.val := by
        rw [BitVec.toInt_eq_toNat_cond, BitVec.toNat_ofNat]; omega
      have h2 : (BitVec.ofNat 32 s.val).toInt = s.val := by
        rw [BitVec.toInt_eq_toNat_cond, BitVec.toNat_ofNat]; omega
      show BitVec.ofBool (BitVec.sle (BitVec.ofNat 32 κ.val) (BitVec.ofNat 32 s.val)) = _
      rw [BitVec.sle, h1, h2]
      by_cases hh : κ.val ≤ s.val <;> simp [hh]
    all_goals (intro a; fin_cases a <;> rfl)
  all_goals (intro a; fin_cases a <;> rfl)

/-- The masked scores, in natural units. -/
def logits (qt : FVec Ideal S4x256x16384 .bf16) (k : FVec Ideal S4x16384x256 .bf16) : FVec Ideal S4x16384x16384 .f32 :=
  mulf (select causal (Host.dotGeneral dot_S4x16384x256_S4x16384x256_S4x16384x16384_2_2_1_1_0_0 none
      (transpose S4x16384x256 [0, 2, 1] (extf .f32 qt bitsLt_bf16_f32) transposes_S4x256x16384_S4x16384x256_0_2_1)
      (extf .f32 k bitsLt_bf16_f32)) (broadcastInDim S4x16384x16384 ![] bcast_S_S4x16384x16384 (id (constant S_ .f32 0xFF800000#32))))
    (broadcastInDim S4x16384x16384 ![] bcast_S_S4x16384x16384 (Host.log (constant S_ .f32 0x40000000#32)))

/-- The largest of a row's logits. -/
def rowMax (Z : FVec Ideal S4x16384x16384 .f32) (h : Fin 4) (s : Fin 16384) : EReal :=
  (Finset.univ : Finset (Fin 16384)).fold max ⊥ fun κ => Z (ix3 h s κ)

/-- A row's largest logit, along the row. -/
def maxima (Z : FVec Ideal S4x16384x16384 .f32) : FVec Ideal S4x16384x16384 .f32 :=
  broadcastInDim S4x16384x16384 ![0, 1, 2] bcast_S4x16384x1_S4x16384x16384_0_1_2
    (broadcastInDim S4x16384x1 ![0, 1] bcast_S4x16384_S4x16384x1_0_1
      (maximumf (broadcastInDim S4x16384 ![] bcast_S_S4x16384 (constant S_ .f32 0xFF800000#32))
        (Host.reduce FloatOps.maximumf Z (constant S_ .f32 0xFF800000#32) reducesTo_S4x16384x16384_S4x16384_d2 h_S_)))

/-- The exponentials, each row's largest taken off. -/
def expd (Z : FVec Ideal S4x16384x16384 .f32) : FVec Ideal S4x16384x16384 .f32 := Host.exp (subf Z (maxima Z))

/-- The softmax of every row. -/
def soft (Z : FVec Ideal S4x16384x16384 .f32) : FVec Ideal S4x16384x16384 .f32 :=
  Host.divf (expd Z) (broadcastInDim S4x16384x16384 ![0, 1, 2] bcast_S4x16384x1_S4x16384x16384_0_1_2
    (broadcastInDim S4x16384x1 ![0, 1] bcast_S4x16384_S4x16384x1_0_1
      (Host.reduceAdd (expd Z) (constant S_ .f32 0x00000000#32) reducesTo_S4x16384x16384_S4x16384_d2 h_S_)))

/-- The values, one row per key. -/
def values (vt : FVec Ideal S4x144x16384 .bf16) : FVec Ideal S4x16384x128 .f32 :=
  transpose S4x16384x128 [0, 2, 1] (extractStridedSlice S4x128x16384 ![0, 0, 0] (extf .f32 vt bitsLt_bf16_f32)
    slices_S4x144x16384_S4x128x16384_0_0_0) transposes_S4x128x16384_S4x16384x128_0_2_1

/-- The reference's result, from its arguments. -/
def answer (qt : FVec Ideal S4x256x16384 .bf16) (k : FVec Ideal S4x16384x256 .bf16) (vt : FVec Ideal S4x144x16384 .bf16) :
    FVec Ideal S16384x512 .bf16 :=
  truncf .bf16 (shapeCast S16384x512 (transpose S16384x4x128 [2, 0, 1]
    (Host.dotGeneral dot_S4x16384x128_S4x16384x16384_S4x128x16384_1_2_2_1_0_0 none (values vt) (soft (logits qt k)))
    transposes_S4x128x16384_S16384x4x128_2_0_1) shapeCasts_S16384x4x128_S16384x512) bitsLt_bf16_f32

theorem res_eq (m : (ℓ : Loc nD τ sig) → Buf (Elt Ideal) ℓ) (c : Dev nD) :
    Value.res_out0 (F := Ideal) m c = answer (m ((c.tc : Thread nD τ).loc main_arg0)) (m ((c.tc : Thread nD τ).loc main_arg1))
      (m ((c.tc : Thread nD τ).loc main_arg2)) := rfl

theorem neg_inf : Ideal.ofBits .f32 0xFF800000#32 = ⊥ := by simp [Ideal.ofBits, Ideal.ieee]

theorem two : Ideal.ofBits .f32 0x40000000#32 = ((2 : ℝ) : EReal) := by
  simp [Ideal.ofBits, Ideal.ieee]
  rw [← EReal.coe_mul]
  norm_num

theorem logits_apply (qt : FVec Ideal S4x256x16384 .bf16) (k : FVec Ideal S4x16384x256 .bf16) (h : Fin 4) (s κ : Fin 16384) :
    logits qt k (ix3 h s κ)
      = (if κ.val ≤ s.val then ∑ e : Fin 256, qt (ix3 h e s) * k (ix3 h κ e) else ⊥) * ((Real.log 2 : ℝ) : EReal) := by
  unfold logits
  rw [mulf_apply]
  refine congrArg₂ (· * ·) ?_ ?_
  · show Scalar.select (causal (ix3 h s κ)) _ _ = _
    rw [causal_apply, scores_apply, broadcastInDim_scalar_apply]
    by_cases hh : κ.val ≤ s.val
    · rw [if_pos hh, if_pos hh, select_one]
      refine Finset.sum_congr rfl fun e _ => congrArg₂ (· * ·) ?_ rfl
      exact transpose_apply (k := ix3 h e s) _ _ _ _ (by intro b; fin_cases b <;> rfl)
    · rw [if_neg hh, if_neg hh, select_zero]
      exact neg_inf
  · rw [broadcastInDim_scalar_apply]
    show Ideal.log (Ideal.ofBits .f32 0x40000000#32) = _
    rw [two, Ideal.log_coe, if_neg (by norm_num)]

/-- The largest along the last axis, whatever the extents. -/
theorem fold_last {A B N : ℕ} (Z : FVec Ideal ⟨3, ![A, B, N]⟩ .f32) (init : (⟨0, ![]⟩ : Shape).Idx → EReal)
    (h' : (⟨3, ![A, B, N]⟩ : Shape).ReducesTo [2] ⟨2, ![A, B]⟩) (hu : 0 < (⟨0, ![]⟩ : Shape).numel) (a : Fin A) (b : Fin B) :
    Host.reduce (α := Ideal .f32) FloatOps.maximumf Z init h' hu (ix2 a b)
      = (Finset.univ : Finset (Fin N)).fold max (init (Shape.Idx.first hu)) fun κ => Z (ix3 a b κ) := by
  have h : (⟨3, ![A, B, N]⟩ : Shape).Reduces [2] ⟨2, ![A, B]⟩ := ⟨h'.1, by show 0 < 2; decide, h'.2⟩
  rw [Host.reduce_eq_fold_single _ _ _ _ h]
  refine congrArg (fun f => Finset.fold max (init (Shape.Idx.first hu)) f (Finset.univ : Finset (Fin N))) (funext fun κ => congrArg Z ?_)
  funext d; apply Fin.ext
  match d with
  | ⟨0, _⟩ => rfl
  | ⟨1, _⟩ => rfl
  | ⟨2, _⟩ => rfl

/-- The sum along the last axis, whatever the extents. -/
theorem sum_last {A B N : ℕ} (Z : FVec Ideal ⟨3, ![A, B, N]⟩ .f32) (init : (⟨0, ![]⟩ : Shape).Idx → EReal)
    (h' : (⟨3, ![A, B, N]⟩ : Shape).ReducesTo [2] ⟨2, ![A, B]⟩) (hu : 0 < (⟨0, ![]⟩ : Shape).numel) (a : Fin A) (b : Fin B) :
    Host.reduceAdd (F := Ideal) (φ := .f32) Z init h' hu (ix2 a b) = init (Shape.Idx.first hu) + ∑ κ : Fin N, Z (ix3 a b κ) := by
  have h : (⟨3, ![A, B, N]⟩ : Shape).Reduces [2] ⟨2, ![A, B]⟩ := ⟨h'.1, by show 0 < 2; decide, h'.2⟩
  rw [hostReduceAdd_apply, Ideal.hostReduceAdd_single _ h]
  refine congrArg _ (Finset.sum_congr rfl fun κ _ => congrArg Z ?_)
  funext d; apply Fin.ext
  match d with
  | ⟨0, _⟩ => rfl
  | ⟨1, _⟩ => rfl
  | ⟨2, _⟩ => rfl

theorem maxima_apply (Z : FVec Ideal S4x16384x16384 .f32) (h : Fin 4) (s κ : Fin 16384) :
    maxima Z (ix3 h s κ) = rowMax Z h s := by
  unfold maxima
  rw [broadcastInDim_apply (k := ix3 h s 0), broadcastInDim_apply (k := ix2 h s)]
  · rw [maximumf_apply, broadcastInDim_scalar_apply, fold_last, constant_apply, neg_inf, max_eq_right bot_le]
    rfl
  all_goals (intro a; fin_cases a <;> rfl)

theorem expd_apply (Z : FVec Ideal S4x16384x16384 .f32) (h : Fin 4) (s κ : Fin 16384) :
    expd Z (ix3 h s κ) = Ideal.exp (Z (ix3 h s κ) - rowMax Z h s) := by
  rw [← maxima_apply Z h s κ]; rfl

theorem soft_apply (Z : FVec Ideal S4x16384x16384 .f32) (h : Fin 4) (s κ : Fin 16384) :
    soft Z (ix3 h s κ) = Ideal.div (expd Z (ix3 h s κ)) (∑ κ' : Fin 16384, expd Z (ix3 h s κ')) := by
  unfold soft
  rw [hostDivf_apply, broadcastInDim_apply (k := ix3 h s 0), broadcastInDim_apply (k := ix2 h s), sum_last,
    constant_apply, Ideal.ofBits_zero_f32, zero_add]
  all_goals (intro a; fin_cases a <;> rfl)

theorem values_apply (vt : FVec Ideal S4x144x16384 .bf16) (h : Fin 4) (κ : Fin 16384) (d : Fin 128) :
    values vt (ix3 h κ d) = vt (ix3 h ⟨d.val, by omega⟩ κ) := by
  unfold values
  rw [transpose_apply (k := ix3 h d κ), extractStridedSlice_apply (k := ix3 h ⟨d.val, by omega⟩ κ)]
  · rfl
  all_goals (intro a; fin_cases a <;> first | rfl | exact (Nat.zero_add _).symm)

/-- The reference's result at an index. -/
theorem answer_apply (qt : FVec Ideal S4x256x16384 .bf16) (k : FVec Ideal S4x16384x256 .bf16) (vt : FVec Ideal S4x144x16384 .bf16)
    (s : Fin 16384) (x : Fin 512) :
    answer qt k vt (ix2 s x)
      = ∑ κ : Fin 16384, vt (ix3 ⟨x.val / 128, by omega⟩ ⟨x.val % 128, by omega⟩ κ)
          * soft (logits qt k) (ix3 ⟨x.val / 128, by omega⟩ s κ) := by
  unfold answer
  rw [truncf_apply, shapeCast_apply (k := ix3 s ⟨x.val / 128, by omega⟩ ⟨x.val % 128, by omega⟩),
    transpose_apply (k := ix3 ⟨x.val / 128, by omega⟩ ⟨x.val % 128, by omega⟩ s), mixed_apply]
  · refine Finset.sum_congr rfl fun κ _ => congrArg₂ (· * ·) ?_ rfl
    rw [values_apply]
  · intro a; fin_cases a <;> rfl
  · rw [Shape.rowMajor_val_three, Shape.rowMajor_val_two]
    show (s.val * 4 + x.val / 128) * 128 + x.val % 128 = s.val * 512 + x.val
    omega

end Cert.ReferenceIdeal.Read
-- ==== Proof.Equation.lean ====
module

public import Idealize.ShloMosaic.PureOps.Ideal
public import Idealize.ShloMosaic.Lib.ValueIdx

/-!
# The softmax equation

One row of a causal softmax, over any finite index type. The kernel adds up `2 ^ score` without
looking for the row's maximum, and divides once at the end. The reference takes the base-`e` softmax
of `score * log 2`, with the maximum subtracted, and weights the values afterwards. For real scores,
at least one of them allowed, the two are the same extended real — whatever the values are.
-/

@[expose] public section

namespace Cert.Attn

open Idealize.ShloMosaic

variable {ι : Type} [Fintype ι]

/-- A finite sum of reals, seen as extended reals, is a real. -/
theorem coe_sum_real (S : Finset ι) (f : ι → ℝ) : ∑ i ∈ S, ((f i : ℝ) : EReal) = ((∑ i ∈ S, f i : ℝ) : EReal) := by
  classical
  induction S using Finset.induction_on with
  | empty => simp
  | insert a S ha ih => rw [Finset.sum_insert ha, Finset.sum_insert ha, ih, EReal.coe_add]

/-- A nonnegative real factor goes into a sum of extended reals. -/
theorem sum_mul_real (S : Finset ι) (f : ι → EReal) {r : ℝ} (hr : 0 ≤ r) :
    (∑ i ∈ S, f i) * (r : EReal) = ∑ i ∈ S, f i * (r : EReal) := by
  classical
  induction S using Finset.induction_on with
  | empty => simp
  | insert a S ha ih =>
    rw [Finset.sum_insert ha, Finset.sum_insert ha, ← ih]
    exact EReal.right_distrib_of_nonneg_of_ne_top (by exact_mod_cast hr) (EReal.coe_ne_top r) _ _

/-- The weight of one key: two to the score where the mask allows it, zero elsewhere. -/
noncomputable def weight (p : ι → Prop) [DecidablePred p] (s : ι → ℝ) (i : ι) : ℝ := if p i then Real.rpow 2 (s i) else 0

variable (p : ι → Prop) [DecidablePred p] (s : ι → ℝ)

theorem weight_nonneg (i : ι) : 0 ≤ weight p s i := by
  unfold weight
  split
  · exact Real.rpow_nonneg (by norm_num) _
  · exact le_refl _

theorem weight_sum_pos {i₀ : ι} (h : p i₀) : 0 < ∑ i, weight p s i := by
  refine Finset.sum_pos' (fun i _ => weight_nonneg p s i) ⟨i₀, Finset.mem_univ _, ?_⟩
  unfold weight
  rw [if_pos h]
  exact Real.rpow_pos_of_pos (by norm_num) _

/-- The reference's masked score: `-∞` where the mask forbids, times `log 2`. -/
noncomputable def masked (i : ι) : EReal := (if p i then ((s i : ℝ) : EReal) else ⊥) * ((Real.log 2 : ℝ) : EReal)

theorem masked_of_pos {i : ι} (h : p i) : masked p s i = ((s i * Real.log 2 : ℝ) : EReal) := by
  rw [masked, if_pos h, EReal.coe_mul]

theorem masked_of_neg {i : ι} (h : ¬ p i) : masked p s i = ⊥ := by
  rw [masked, if_neg h]
  exact EReal.bot_mul_coe_of_pos (Real.log_pos (by norm_num))

/-- The maximum of the row is a real number. -/
theorem exists_max {i₀ : ι} (h : p i₀) : ∃ μ : ℝ, Finset.univ.fold max ⊥ (masked p s) = (μ : EReal) := by
  have hlt : Finset.univ.fold max ⊥ (masked p s) < ⊤ := by
    rw [Finset.fold_max_lt]
    refine ⟨bot_lt_top, fun i _ => ?_⟩
    by_cases hi : p i
    · rw [masked_of_pos p s hi]; exact EReal.coe_lt_top _
    · rw [masked_of_neg p s hi]; exact bot_lt_top
  have hgt : ⊥ < Finset.univ.fold max ⊥ (masked p s) := by
    rw [Finset.lt_fold_max]
    refine Or.inr ⟨i₀, Finset.mem_univ _, ?_⟩
    rw [masked_of_pos p s h]; exact EReal.bot_lt_coe _
  exact ⟨_, (EReal.coe_toReal hlt.ne hgt.ne').symm⟩

/-- The exponential of a masked score less a real is the weight, scaled. -/
theorem exp_masked (μ : ℝ) (i : ι) :
    Ideal.exp (masked p s i - (μ : EReal)) = ((weight p s i * Real.exp (-μ) : ℝ) : EReal) := by
  by_cases hi : p i
  · rw [masked_of_pos p s hi, ← EReal.coe_sub, Ideal.exp_coe, weight, if_pos hi]
    congr 1
    show _ = (2 : ℝ) ^ (s i) * _
    rw [Real.rpow_def_of_pos (by norm_num), ← Real.exp_add]
    congr 1
    ring
  · rw [masked_of_neg p s hi, EReal.bot_sub, Ideal.exp_bot, weight, if_neg hi]
    simp

/-- The two ways of writing one entry of the attention agree. -/
theorem softmax_eq {i₀ : ι} (h : p i₀) (v : ι → EReal) (M : EReal) (hM : M = Finset.univ.fold max ⊥ (masked p s)) :
    ∑ i, v i * Ideal.div (Ideal.exp (masked p s i - M)) (∑ j, Ideal.exp (masked p s j - M)) =
      Ideal.div (∑ i, v i * ((weight p s i : ℝ) : EReal)) (∑ i, ((weight p s i : ℝ) : EReal)) := by
  obtain ⟨μ, hμ⟩ := exists_max p s h
  have hL := weight_sum_pos p s h
  have hE : 0 < Real.exp (-μ) := Real.exp_pos _
  rw [hM, hμ]
  simp only [exp_masked, coe_sum_real]
  rw [← Finset.sum_mul, Ideal.div_coe hL.ne', sum_mul_real _ _ (by positivity)]
  refine Finset.sum_congr rfl fun i _ => ?_
  rw [Ideal.div_coe (mul_pos hL hE).ne', mul_assoc, ← EReal.coe_mul, ← EReal.coe_mul]
  congr 2
  field_simp

end Cert.Attn
-- ==== Proof.Same.lean ====
/-
  The reference's array is the kernel's: entry by entry, the softmax equation.
-/
module

public import proofs.«01_k».proof.Proof.Spec
public import proofs.«01_k».proof.Proof.Ref
public import proofs.«01_k».proof.Proof.Equation

@[expose] public section

set_option maxRecDepth 8192

noncomputable section

namespace Cert.Attn

open Idealize.ShloMosaic hiding ix1 ix2 ix3 ix4 addf_apply subf_apply mulf_apply divf_apply truncf_apply extf_apply constant_apply
open Idealize.ShloMosaic.ValueIdx Idealize.ShloMosaic.Pipeline
open scoped BigOperators
open Cert.KernelIdeal (S4x256x16384 S4x16384x256 S4x144x16384 S16384x512)
open Cert.ReferenceIdeal.Read (answer answer_apply soft_apply expd_apply logits_apply logits rowMax soft expd)

/-- Arrays without an infinity have real scores. -/
theorem score_real (qt : S4x256x16384.Idx → EReal) (k : S4x16384x256.Idx → EReal)
    (hq : ∀ i, qt i ≠ ⊤ ∧ qt i ≠ ⊥) (hk : ∀ i, k i ≠ ⊤ ∧ k i ≠ ⊥) (h : Fin 4) (s : Fin 16384) :
    ∃ r : Fin 16384 → ℝ, ∀ κ, sc qt k h κ s = ((r κ : ℝ) : EReal) := by
  refine ⟨fun κ => ∑ e : Fin 256, (k (ix3 h κ e)).toReal * (qt (ix3 h e s)).toReal, fun κ => ?_⟩
  rw [sc, ← coe_sum_real]
  refine Finset.sum_congr rfl fun e _ => ?_
  rw [EReal.coe_mul, EReal.coe_toReal (hk _).1 (hk _).2, EReal.coe_toReal (hq _).1 (hq _).2]

/-- The score with the query's entry written first. -/
theorem sc_comm (qt : S4x256x16384.Idx → EReal) (k : S4x16384x256.Idx → EReal) (h : Fin 4) (κ s : Fin 16384) :
    ∑ e : Fin 256, qt (ix3 h e s) * k (ix3 h κ e) = sc qt k h κ s :=
  Finset.sum_congr rfl fun e _ => EReal.mul_comm (qt (ix3 h e s)) (k (ix3 h κ e))

/-- With finite queries and keys the two arrays agree at an entry. -/
theorem entry_eq (qt : FVec Ideal S4x256x16384 .bf16) (k : FVec Ideal S4x16384x256 .bf16) (vt : FVec Ideal S4x144x16384 .bf16)
    (hq : ∀ i, qt i ≠ ⊤ ∧ qt i ≠ ⊥) (hk : ∀ i, k i ≠ ⊤ ∧ k i ≠ ⊥) (s : Fin 16384) (x : Fin 512) :
    answer qt k vt (ix2 s x) = out qt k vt (ix2 s x) := by
  rw [answer_apply]
  set h : Fin 4 := ⟨x.val / 128, Nat.div_lt_of_lt_mul x.isLt⟩ with hh
  obtain ⟨r, hr⟩ := score_real qt k hq hk h s
  have hz : ∀ κ, logits qt k (ix3 h s κ) = masked (fun κ : Fin 16384 => κ.val ≤ s.val) r κ := fun κ => by
    rw [logits_apply, masked]
    refine congrArg (· * ((Real.log 2 : ℝ) : EReal)) ?_
    by_cases hc : κ.val ≤ s.val
    · rw [if_pos hc, if_pos hc]
      exact (sc_comm qt k h κ s).trans (hr κ)
    · rw [if_neg hc, if_neg hc]
  have hw : ∀ κ, wt qt k h κ s = ((weight (fun κ : Fin 16384 => κ.val ≤ s.val) r κ : ℝ) : EReal) := fun κ => by
    rw [wt, weight, hr κ]
    split
    · exact Ideal.exp2_coe _
    · exact EReal.coe_zero.symm
  have hM : rowMax (logits qt k) h s = Finset.univ.fold max ⊥ (masked (fun κ : Fin 16384 => κ.val ≤ s.val) r) := by
    rw [rowMax]
    exact congrArg (Finset.fold max ⊥ · Finset.univ) (funext hz)
  have key := softmax_eq (fun κ : Fin 16384 => κ.val ≤ s.val) r (i₀ := s) (le_refl _)
    (fun κ => vt (ix3 h ⟨x.val % 128, (Nat.mod_lt _ (by norm_num)).trans (by norm_num)⟩ κ)) _ hM
  show _ = att qt k vt h s ⟨x.val % 128, Nat.mod_lt _ (by norm_num)⟩
  rw [att]
  simp only [soft_apply, expd_apply, hz, hw]
  exact key

/-- With finite queries and keys the two arrays are one. -/
theorem answer_eq_out (qt : FVec Ideal S4x256x16384 .bf16) (k : FVec Ideal S4x16384x256 .bf16) (vt : FVec Ideal S4x144x16384 .bf16)
    (hq : ∀ i, qt i ≠ ⊤ ∧ qt i ≠ ⊥) (hk : ∀ i, k i ≠ ⊤ ∧ k i ≠ ⊥) : answer qt k vt = out qt k vt := by
  funext i
  have hi : i = ix2 (i 0) (i 1) := by
    funext a
    match a with
    | ⟨0, _⟩ => rfl
    | ⟨1, _⟩ => rfl
  exact (congrArg (answer qt k vt) hi).trans ((entry_eq qt k vt hq hk (i 0) (i 1)).trans (congrArg (out qt k vt) hi.symm))

end Cert.Attn
-- ==== Proof.Finite.lean ====
/-
  The precondition read: where it holds, no query and no key is an infinity.
-/
module

public import proofs.«01_k».proof.Pre_finite
public import Idealize.ShloMosaic.PureOps.Ideal
public import Idealize.ShloMosaic.PureOps.Ideal.Laws
public import Idealize.ShloMosaic.Lib.ReduceAll

@[expose] public section

set_option maxRecDepth 8192

namespace Cert.Attn

open Idealize.ShloMosaic

/-- The word of positive infinity is the top extended real. -/
theorem ofBits_inf : Ideal.ofBits .f32 0x7F800000#32 = (⊤ : EReal) := by
  simp [Ideal.ofBits, Ideal.ieee]

/-- A magnitude compared below infinity is that of a finite number. -/
theorem finite_of_cmp (x : EReal) (h : Ideal.cmp .olt (max x (-x)) (Ideal.ofBits .f32 0x7F800000#32) = 1#1) : x ≠ ⊤ ∧ x ≠ ⊥ := by
  rw [ofBits_inf] at h
  constructor
  · rintro rfl
    simp [Ideal.cmp] at h
  · rintro rfl
    simp [Ideal.cmp] at h

/-- The one index of a scalar. -/
instance scalar_subsingleton : Subsingleton Cert.Pre_finite.S_.Idx := ⟨fun a b => funext fun i => i.elim0⟩

/-- Where the precondition holds, every query and every key is finite. -/
theorem finite_of_pre [Cert.Pre_finite.Facts] (qt : FVec Ideal Cert.Pre_finite.S4x256x16384 .bf16)
    (k : FVec Ideal Cert.Pre_finite.S4x16384x256 .bf16) (vt : FVec Ideal Cert.Pre_finite.S4x144x16384 .bf16)
    (h : Cert.Pre_finite.fn qt k vt = fun _ => 1#1) : (∀ i, qt i ≠ ⊤ ∧ qt i ≠ ⊥) ∧ (∀ i, k i ≠ ⊤ ∧ k i ≠ ⊥) := by
  have h0 := congrFun h (fun i => i.elim0)
  obtain ⟨ha, hb⟩ := IntOp.andi_eq_one.1 h0
  exact ⟨fun i => finite_of_cmp _ (Host.reduce_andi_all _ _ _ _ _ ha i), fun i => finite_of_cmp _ (Host.reduce_andi_all _ _ _ _ _ hb i)⟩

end Cert.Attn
-- ==== Proof.Words.lean ====
/-
  The tables' words: the precondition and the mask read off them.
-/
module

public import proofs.«01_k».proof.Pre_tables
public import proofs.«01_k».proof.On_written
public import Idealize.ShloMosaic.PureOps.Ideal
public import Idealize.ShloMosaic.PureOps.Ideal.Laws
public import Idealize.ShloMosaic.Lib.ReduceAll
public import Idealize.ShloMosaic.Lib.WordCmp
public import Idealize.ShloMosaic.Lib.ValueIdx
public import Idealize.ShloMosaic.Lib.Pipeline.Value

@[expose] public section

set_option maxRecDepth 8192

namespace Cert.Moe

open Idealize.ShloMosaic
open Idealize.ShloMosaic.IntOp Idealize.ShloMosaic.WordCmp Idealize.ShloMosaic.ValueIdx

/-- A word that is at least one when read signed reads the same unsigned. -/
theorem pos_word (w : BitVec 32) (hw : 1 ≤ w.toInt) : w.toInt = w.toNat ∧ 1 ≤ w.toNat ∧ w.toNat < 2147483648 := by
  have := w.isLt
  rw [BitVec.toInt_eq_toNat_cond] at hw ⊢
  split at hw
  · rename_i h; rw [if_pos h]; omega
  · omega

/-- A small number as a word. -/
theorem small_word (a : Nat) (ha : a < 2147483648) : (BitVec.ofNat 32 a).toInt = a ∧ (BitVec.ofNat 32 a).toNat = a := by
  have h : (BitVec.ofNat 32 a).toNat = a := by rw [BitVec.toNat_ofNat]; omega
  exact ⟨by rw [BitVec.toInt_eq_toNat_cond, h, if_pos (by omega)], h⟩

/-- A tile number held below the count, as the index maps compute it. -/
theorem clamp (a : Nat) (ha : a < 72) (w : BitVec 32) (hw : 1 ≤ w.toInt) :
    (Scalar.minsi (BitVec.ofNat 32 a) (Scalar.subi w 1#32)).toNat = min a (w.toNat - 1) := by
  obtain ⟨hi, h1, h2⟩ := pos_word w hw
  obtain ⟨ai, an⟩ := small_word a (by omega)
  have hs : (w - 1#32).toNat = w.toNat - 1 := by
    have : (1#32 : BitVec 32).toNat = 1 := rfl
    rw [BitVec.toNat_sub, this]; omega
  have hsi : (w - 1#32).toInt = (w.toNat : Int) - 1 := by
    rw [BitVec.toInt_eq_toNat_cond, hs, if_pos (by omega)]; omega
  show (if BitVec.slt (BitVec.ofNat 32 a) (w - 1#32) = true then BitVec.ofNat 32 a else w - 1#32).toNat = _
  rw [BitVec.slt_eq_decide, ai, hsi]
  by_cases h : (a : Int) < w.toNat - 1
  · rw [if_pos (by simpa using h), an]; omega
  · rw [if_neg (by simpa using h), hs]; omega

/-- A tile number compared below the count. -/
theorem below_iff (a : Nat) (ha : a < 2147483648) (w : BitVec 32) :
    cmpi .slt (BitVec.ofNat 32 a) w = 1#1 ↔ (a : Int) < w.toInt := by
  rw [cmpi_slt_eq, ofBool_decide_eq_one_iff, (small_word a ha).1]

section
variable {F : FTy → Type} [FloatOps F]

instance tables_scalar : Subsingleton Cert.Pre_tables.S_.Idx := ⟨fun a b => funext fun i => i.elim0⟩

/-- Where the precondition holds, every word of the tile table is an expert's number, and the count is at least one. -/
theorem bounds_of_pre [Cert.Pre_tables.Facts] (te : IVec Cert.Pre_tables.S72 32) (nv : IVec Cert.Pre_tables.S1 32)
    (rows : IVec Cert.Pre_tables.S72 32) (xs : FVec F Cert.Pre_tables.S36864x1024 .bf16) (wgu : FVec F Cert.Pre_tables.S8x1024x7168 .bf16)
    (wd : FVec F Cert.Pre_tables.S8x3584x1024 .bf16) (h : Cert.Pre_tables.fn te nv rows xs wgu wd = fun _ => 1#1) :
    (∀ i, (te i).toNat < 8) ∧ ∀ i, 1 ≤ (nv i).toInt := by
  have h0 := congrFun h (fun i => i.elim0)
  obtain ⟨ha, hb⟩ := IntOp.andi_eq_one.1 h0
  refine ⟨fun i => ?_, fun i => ?_⟩
  · obtain ⟨h1, h2⟩ := IntOp.andi_eq_one.1 (Host.reduce_andi_all _ _ _ _ _ ha i)
    have h1 : cmpi .sge (te i) 0#32 = 1#1 := h1
    have h2 : cmpi .slt (te i) 8#32 = 1#1 := h2
    rw [cmpi_sge_eq, ofBool_decide_eq_one_iff] at h1
    rw [cmpi_slt_eq, ofBool_decide_eq_one_iff] at h2
    have e0 : (0#32 : BitVec 32).toInt = 0 := rfl
    have e8 : (8#32 : BitVec 32).toInt = 8 := rfl
    rw [e0] at h1
    rw [e8] at h2
    have := (te i).isLt
    rw [BitVec.toInt_eq_toNat_cond] at h1 h2
    split at h1 <;> omega
  · have h1 : cmpi .sge (nv i) 1#32 = 1#1 := Host.reduce_andi_all _ _ _ _ _ hb i
    rw [cmpi_sge_eq, ofBool_decide_eq_one_iff] at h1
    exact h1

/-- The tiles' rows, each at every place of its tile. -/
def spread [Cert.On_written.Facts] (rows : IVec Cert.On_written.S72 32) : IVec Cert.On_written.S72x512x1024 32 :=
  broadcastInDim Cert.On_written.S72x512x1024 ![0, 1, 2] Cert.On_written.Facts.bcast_S72x1x1_S72x512x1024_0_1_2
    (broadcastInDim Cert.On_written.S72x1x1 ![0] Cert.On_written.Facts.bcast_S72_S72x1x1_0 rows)

theorem spread_apply [Cert.On_written.Facts] (rows : IVec Cert.On_written.S72 32) (t : Fin 72) (r : Fin 512) (c : Fin 1024) :
    spread rows (ix3 t r c) = rows (ix1 t) := by
  unfold spread
  rw [broadcastInDim_apply _ _ _ (ix3 t r c) (ix3 t (0 : Fin 1) (0 : Fin 1)) (by intro a; match a with
    | ⟨0, _⟩ => rfl
    | ⟨1, _⟩ => rfl
    | ⟨2, _⟩ => rfl), broadcastInDim_apply _ _ _ (ix3 t (0 : Fin 1) (0 : Fin 1)) (ix1 t) (by intro a; match a with
    | ⟨0, _⟩ => rfl)]

/-- Where the mask is set, the row's tile is below the count, the row is below the tile's rows, and these are one of the four
    numbers a tile is run at. -/
theorem written_at [Cert.On_written.Facts] (te : IVec Cert.On_written.S72 32) (nv : IVec Cert.On_written.S1 32)
    (rows : IVec Cert.On_written.S72 32) (xs : FVec F Cert.On_written.S36864x1024 .bf16) (wgu : FVec F Cert.On_written.S8x1024x7168 .bf16)
    (wd : FVec F Cert.On_written.S8x3584x1024 .bf16) (t : Fin 72) (r : Fin 512) (c : Fin 1024)
    (h : Cert.On_written.fn te nv rows xs wgu wd (ix2 (⟨512 * t.val + r.val, by omega⟩ : Fin 36864) c) = 1#1) :
    (t.val : Int) < (nv (ix1 (0 : Fin 1))).toInt ∧ r.val < (rows (ix1 t)).toNat ∧
      (rows (ix1 t) = 128#32 ∨ rows (ix1 t) = 256#32 ∨ rows (ix1 t) = 384#32 ∨ rows (ix1 t) = 512#32) := by
  have hc := shapeCast_apply (s := Cert.On_written.S72x512x1024) (t := Cert.On_written.S36864x1024)
    (andi (andi (cmpi .slt (iotaInDim Cert.On_written.S72x512x1024 32 0) (broadcastInDim Cert.On_written.S72x512x1024 ![0, 1, 2]
        Cert.On_written.Facts.bcast_S1x1x1_S72x512x1024_0_1_2
        (broadcastInDim Cert.On_written.S1x1x1 ![0] Cert.On_written.Facts.bcast_S1_S1x1x1_0 nv)))
      (cmpi .slt (iotaInDim Cert.On_written.S72x512x1024 32 1) (spread rows)))
      (ori (ori (ori (cmpi .eq (spread rows) (fun _ => 128#32)) (cmpi .eq (spread rows) (fun _ => 256#32)))
        (cmpi .eq (spread rows) (fun _ => 384#32))) (cmpi .eq (spread rows) (fun _ => 512#32))))
    Cert.On_written.Facts.shapeCasts_S72x512x1024_S36864x1024 (ix2 (⟨512 * t.val + r.val, by omega⟩ : Fin 36864) c) (ix3 t r c) (by
      rw [Shape.rowMajor_val_three, Shape.rowMajor_val_two]
      show (t.val * 512 + r.val) * 1024 + c.val = (512 * t.val + r.val) * 1024 + c.val
      omega)
  have h := hc.symm.trans h
  obtain ⟨h1, h2⟩ := IntOp.andi_eq_one.1 h
  obtain ⟨h3, h4⟩ := IntOp.andi_eq_one.1 h1
  have h3 : IntOp.cmpi .slt (BitVec.ofNat 32 t.val) _ = 1#1 := h3
  have h4 : IntOp.cmpi .slt (BitVec.ofNat 32 r.val) (spread rows (ix3 t r c)) = 1#1 := h4
  rw [below_iff _ (by omega)] at h3 h4
  rw [spread_apply] at h4
  have h2 : IntOp.ori (IntOp.ori (IntOp.ori (IntOp.cmpi .eq (spread rows (ix3 t r c)) 128#32) (IntOp.cmpi .eq (spread rows (ix3 t r c)) 256#32))
    (IntOp.cmpi .eq (spread rows (ix3 t r c)) 384#32)) (IntOp.cmpi .eq (spread rows (ix3 t r c)) 512#32) = 1#1 := h2
  rw [spread_apply, cmpi_eq_eq, cmpi_eq_eq, cmpi_eq_eq, cmpi_eq_eq, ori_ofBool, ori_ofBool, ori_ofBool, ofBool_eq_one_iff] at h2
  simp only [Bool.or_eq_true, decide_eq_true_eq, or_assoc] at h2
  refine ⟨?_, ?_, h2⟩
  · rw [broadcastInDim_apply _ _ _ (ix3 t r c) (ix3 (0 : Fin 1) (0 : Fin 1) (0 : Fin 1)) (by intro a; match a with
      | ⟨0, _⟩ => rfl
      | ⟨1, _⟩ => rfl
      | ⟨2, _⟩ => rfl), broadcastInDim_apply _ _ _ (ix3 (0 : Fin 1) (0 : Fin 1) (0 : Fin 1)) (ix1 (0 : Fin 1)) (by intro a; match a with
      | ⟨0, _⟩ => rfl)] at h3
    exact h3
  · rcases h2 with e | e | e | e <;> rw [e] at h4 ⊢
    · have : (128#32 : BitVec 32).toInt = 128 := rfl
      have : (128#32 : BitVec 32).toNat = 128 := rfl
      omega
    · have : (256#32 : BitVec 32).toInt = 256 := rfl
      have : (256#32 : BitVec 32).toNat = 256 := rfl
      omega
    · have : (384#32 : BitVec 32).toInt = 384 := rfl
      have : (384#32 : BitVec 32).toNat = 384 := rfl
      omega
    · have : (512#32 : BitVec 32).toInt = 512 := rfl
      have : (512#32 : BitVec 32).toNat = 512 := rfl
      omega

end

end Cert.Moe
-- ==== Proof.TilesIdealRun.lean ====
module

public import proofs.«01_k».proof.Proof.Gen.ExpertsIdeal.Launch
public import proofs.«01_k».proof.Proof.Gen.ExpertsIdeal.Skeleton
public import Idealize.ShloMosaic.Lib.Pipeline.FrameBody
public import Idealize.ShloMosaic.Lib.Ring
public import Idealize.ShloMosaic.Lib.Tactic

@[expose] public section

set_option maxRecDepth 16384

noncomputable section

namespace Cert.ExpertsIdeal.Tiles

open Cert.ExpertsIdeal Cert.ExpertsIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (RDat Cfg Window cellOf)

variable {F : FTy → Type} [FloatOps F]

/-- What the assertions of this module speak about. -/
abbrev World (F : FTy → Type) [FloatOps F] : Type := MT nD τ sig Unit (Elt F) ℕ (UR sig nD τ) ℕ

/-! ## What one grid step does to the result's staging block -/

/-- A table as the body holds it: half a share, to read only. -/
abbrev readsTable (c : Dev nD) {S : Shape} {e : EltTy} (M : Memref sig .tc .smem S e)
    (f : Buf (Elt F) (M.view.loc (c : Thread nD τ))) : sProp (World F) :=
  M.view.loc (c : Thread nD τ) ↦{fullShare.right} f

/-- The number of tiles in use, as the body reads it. -/
def countWord (c : Dev nD) (xt : Buf (Elt F) ((Memref.whole main_arg1 : Memref sig .tc .smem S1 .i32).view.loc (c : Thread nD τ))) : BitVec 32 :=
  View.readAt (Elt F) (Memref.whole main_arg1 : Memref sig .tc .smem S1 .i32).view (Rect.unit (s := S1) ![0] S1.size inb_S1_S1_0).toLoadRect xt
    (Shape.Idx.first (show 0 < S1.numel by decide))

/-- The number of rows in use of the step's tile, as the body reads it. -/
def rowsWord (c : Dev nD) (i : grid0.Coords)
    (xt : Buf (Elt F) ((Memref.whole main_arg2 : Memref sig .tc .smem S72 .i32).view.loc (c : Thread nD τ))) : BitVec 32 :=
  View.readAt (Elt F) (Memref.whole main_arg2 : Memref sig .tc .smem S72 .i32).view
    (Rect.unit (s := S72) (k0_off2 i) S1.size (k0_off2_inb i)).toLoadRect xt (Shape.Idx.first (show 0 < S1.numel by decide))

/-- The first and the second half of the hidden columns of a gate or up block. -/
def colsA (x : Vec F S1x1024x3584 .bf16) : Vec F S1x1024x1792 .bf16 :=
  View.ld x (Rect.unit (s := S1x1024x3584) ![0, 0, 0] S1x1024x1792.size inb_S1x1024x3584_S1x1024x1792_0_0_0)
def colsB (x : Vec F S1x1024x3584 .bf16) : Vec F S1x1024x1792 .bf16 :=
  View.ld x (Rect.unit (s := S1x1024x3584) ![0, 0, 1792] S1x1024x1792.size inb_S1x1024x3584_S1x1024x1792_0_0_1792)

/-- The first and the second half of the hidden rows of a down block. -/
def rowsA (x : Vec F S1x3584x1024 .bf16) : Vec F S1x1792x1024 .bf16 :=
  View.ld x (Rect.unit (s := S1x3584x1024) ![0, 0, 0] S1x1792x1024.size inb_S1x3584x1024_S1x1792x1024_0_0_0)
def rowsB (x : Vec F S1x3584x1024 .bf16) : Vec F S1x1792x1024 .bf16 :=
  View.ld x (Rect.unit (s := S1x3584x1024) ![0, 1792, 0] S1x1792x1024.size inb_S1x3584x1024_S1x1792x1024_0_1792_0)

/-- The first 128, 256, 384 or 512 rows of a tile. -/
abbrev top1 : Rect S512x1024 := Rect.unit (s := S512x1024) ![0, 0] S128x1024.size inb_S512x1024_S128x1024_0_0
abbrev top2 : Rect S512x1024 := Rect.unit (s := S512x1024) ![0, 0] S256x1024.size inb_S512x1024_S256x1024_0_0
abbrev top3 : Rect S512x1024 := Rect.unit (s := S512x1024) ![0, 0] S384x1024.size inb_S512x1024_S384x1024_0_0
abbrev top4 : Rect S512x1024 := Rect.unit (s := S512x1024) ![0, 0] S512x1024.size inb_S512x1024_S512x1024_0_0

/-- What the body stores, for each number of rows. -/
def ffn1 (x : Vec F S512x1024 .bf16) (g u : Vec F S1x1024x3584 .bf16) (d : Vec F S1x3584x1024 .bf16) : FVec F S128x1024 .bf16 :=
  k0_pay1 (View.ld x top1) (colsA g) (colsA u) (rowsA d) (colsB g) (colsB u) (rowsB d)
def ffn2 (x : Vec F S512x1024 .bf16) (g u : Vec F S1x1024x3584 .bf16) (d : Vec F S1x3584x1024 .bf16) : FVec F S256x1024 .bf16 :=
  k0_pay2 (View.ld x top2) (colsA g) (colsA u) (rowsA d) (colsB g) (colsB u) (rowsB d)
def ffn3 (x : Vec F S512x1024 .bf16) (g u : Vec F S1x1024x3584 .bf16) (d : Vec F S1x3584x1024 .bf16) : FVec F S384x1024 .bf16 :=
  k0_pay3 (View.ld x top3) (colsA g) (colsA u) (rowsA d) (colsB g) (colsB u) (rowsB d)
def ffn4 (x : Vec F S512x1024 .bf16) (g u : Vec F S1x1024x3584 .bf16) (d : Vec F S1x3584x1024 .bf16) : FVec F S512x1024 .bf16 :=
  k0_pay4 (View.ld x top4) (colsA g) (colsA u) (rowsA d) (colsB g) (colsB u) (rowsB d)

/-- What a step at `i` may leave (`X`) in the result's block where it found `Y`, given the words it read and
    its four operand blocks. Past the tiles in use it leaves the block alone. In use, it leaves the
    experts' output in the tile's first rows. -/
structure Left (i : grid0.Coords) (n rows : BitVec 32) (x : Vec F S512x1024 .bf16) (g u : Vec F S1x1024x3584 .bf16)
    (d : Vec F S1x3584x1024 .bf16) (Y X : Vec F S512x1024 .bf16) : Prop where
  idle : k0_cond1 i n ≠ 1#1 → X = Y
  one : k0_cond1 i n = 1#1 → k0_cond2 rows = 1#1 → ∀ p : top1.shape.Idx, X (top1.emb p) = ffn1 x g u d p
  two : k0_cond1 i n = 1#1 → k0_cond3 rows = 1#1 → ∀ p : top2.shape.Idx, X (top2.emb p) = ffn2 x g u d p
  three : k0_cond1 i n = 1#1 → k0_cond4 rows = 1#1 → ∀ p : top3.shape.Idx, X (top3.emb p) = ffn3 x g u d p
  four : k0_cond1 i n = 1#1 → k0_cond5 rows = 1#1 → ∀ p : top4.shape.Idx, X (top4.emb p) = ffn4 x g u d p

/-- Each comparison of the row count, read as an equation. -/
theorem cond2_iff (w : BitVec 32) : k0_cond2 w = 1#1 ↔ w = 128#32 := by
  by_cases h : w = 128#32
  · subst h; decide
  · refine iff_of_false (fun hc => ?_) h
    have hb : (w == 128#32) = false := beq_eq_false_iff_ne.2 h
    simp [k0_cond2, Scalar.cmpi, Scalar.extui, IntOp.cmpi, hb] at hc
theorem cond3_iff (w : BitVec 32) : k0_cond3 w = 1#1 ↔ w = 256#32 := by
  by_cases h : w = 256#32
  · subst h; decide
  · refine iff_of_false (fun hc => ?_) h
    have hb : (w == 256#32) = false := beq_eq_false_iff_ne.2 h
    simp [k0_cond3, Scalar.cmpi, Scalar.extui, IntOp.cmpi, hb] at hc
theorem cond4_iff (w : BitVec 32) : k0_cond4 w = 1#1 ↔ w = 384#32 := by
  by_cases h : w = 384#32
  · subst h; decide
  · refine iff_of_false (fun hc => ?_) h
    have hb : (w == 384#32) = false := beq_eq_false_iff_ne.2 h
    simp [k0_cond4, Scalar.cmpi, Scalar.extui, IntOp.cmpi, hb] at hc
theorem cond5_iff (w : BitVec 32) : k0_cond5 w = 1#1 ↔ w = 512#32 := by
  by_cases h : w = 512#32
  · subst h; decide
  · refine iff_of_false (fun hc => ?_) h
    have hb : (w == 512#32) = false := beq_eq_false_iff_ne.2 h
    simp [k0_cond5, Scalar.cmpi, Scalar.extui, IntOp.cmpi, hb] at hc

/-- The four conditional stores, one after another, leave what `Left` says. -/
theorem left_of_stores (i : grid0.Coords) (n rows : BitVec 32) (x : Vec F S512x1024 .bf16) (g u : Vec F S1x1024x3584 .bf16)
    (d : Vec F S1x3584x1024 .bf16) (M : Memref sig .tc .vmem S512x1024 .bf16) (f : M.view.ty.Contents (Elt F))
    (f1 f2 f3 f4 : M.view.ty.Contents (Elt F))
    (h1 : f1 = if _hc : k0_cond2 rows = 1#1 then M.view.writes (Elt F) f [⟨top1, ffn1 x g u d⟩] else f)
    (h2 : f2 = if _hc : k0_cond3 rows = 1#1 then M.view.writes (Elt F) f1 [⟨top2, ffn2 x g u d⟩] else f1)
    (h3 : f3 = if _hc : k0_cond4 rows = 1#1 then M.view.writes (Elt F) f2 [⟨top3, ffn3 x g u d⟩] else f2)
    (h4 : f4 = if _hc : k0_cond5 rows = 1#1 then M.view.writes (Elt F) f3 [⟨top4, ffn4 x g u d⟩] else f3) :
    Left i n rows x g u d (M.view.read (Elt F) f) (M.view.read (Elt F) (if _hc : k0_cond1 i n = 1#1 then f4 else f)) := by
  constructor
  · intro h; rw [dif_neg h]
  · intro h hr p
    have hw := (cond2_iff rows).1 hr
    rw [dif_pos h, h4, dif_neg (by rw [cond5_iff, hw]; decide), h3, dif_neg (by rw [cond4_iff, hw]; decide),
      h2, dif_neg (by rw [cond3_iff, hw]; decide), h1, dif_pos hr]
    exact View.read_writes_cons_emb _ _ _ _ _ _
  · intro h hr p
    have hw := (cond3_iff rows).1 hr
    rw [dif_pos h, h4, dif_neg (by rw [cond5_iff, hw]; decide), h3, dif_neg (by rw [cond4_iff, hw]; decide),
      h2, dif_pos hr]
    exact View.read_writes_cons_emb _ _ _ _ _ _
  · intro h hr p
    have hw := (cond4_iff rows).1 hr
    rw [dif_pos h, h4, dif_neg (by rw [cond5_iff, hw]; decide), h3, dif_pos hr]
    exact View.read_writes_cons_emb _ _ _ _ _ _
  · intro h hr p
    rw [dif_pos h, h4, dif_pos hr]
    exact View.read_writes_cons_emb _ _ _ _ _ _

/-- The body at a grid step, on whole staging blocks: it gives back the tables and the operand blocks as they were and
    leaves the result's block as `Left` says. -/
theorem step_spec (c : Dev nD) (i : grid0.Coords)
    (arg4 : Memref sig .tc .vmem S512x1024 .bf16) (harg4 : arg4.IsWhole) (arg5 : Memref sig .tc .vmem S1x1024x3584 .bf16) (harg5 : arg5.IsWhole)
    (arg6 : Memref sig .tc .vmem S1x1024x3584 .bf16) (harg6 : arg6.IsWhole) (arg7 : Memref sig .tc .vmem S1x3584x1024 .bf16) (harg7 : arg7.IsWhole)
    (arg8 : Memref sig .tc .vmem S512x1024 .bf16) (harg8 : arg8.IsWhole)
    (x : Vec F S512x1024 .bf16) (g u : Vec F S1x1024x3584 .bf16) (d : Vec F S1x3584x1024 .bf16) (Y : Vec F S512x1024 .bf16)
    (xt0 : Buf (Elt F) ((Memref.whole main_arg0 : Memref sig .tc .smem S72 .i32).view.loc (c : Thread nD τ)))
    (xt1 : Buf (Elt F) ((Memref.whole main_arg1 : Memref sig .tc .smem S1 .i32).view.loc (c : Thread nD τ)))
    (xt2 : Buf (Elt F) ((Memref.whole main_arg2 : Memref sig .tc .smem S72 .i32).view.loc (c : Thread nD τ)))
    (E : Set ℕ) (K : PUnit → sProp (World F)) :
    iprop(owns (c : Thread nD τ) arg4 fullShare x ∗ owns (c : Thread nD τ) arg5 fullShare g ∗ owns (c : Thread nD τ) arg6 fullShare u
        ∗ owns (c : Thread nD τ) arg7 fullShare d ∗ owns (c : Thread nD τ) arg8 fullShare Y
        ∗ readsTable c (Memref.whole main_arg0) xt0 ∗ readsTable c (Memref.whole main_arg1) xt1 ∗ readsTable c (Memref.whole main_arg2) xt2
        ∗ (iprop(owns (c : Thread nD τ) arg4 fullShare x ∗ owns (c : Thread nD τ) arg5 fullShare g ∗ owns (c : Thread nD τ) arg6 fullShare u
            ∗ owns (c : Thread nD τ) arg7 fullShare d
            ∗ (∃ X, ⌜Left i (countWord c xt1) (rowsWord c i xt2) x g u d Y X⌝ ∗ owns (c : Thread nD τ) arg8 fullShare X)
            ∗ readsTable c (Memref.whole main_arg0) xt0 ∗ readsTable c (Memref.whole main_arg1) xt1
            ∗ readsTable c (Memref.whole main_arg2) xt2) -∗ K ⟨⟩))
      ⊢ wp frame (wpE (defs₀ (F := F)) Variants.none c none) E
          (cc0_moe_experts i (Memref.whole main_arg0) (Memref.isWhole_whole _) (Memref.whole main_arg1) (Memref.isWhole_whole _)
            (Memref.whole main_arg2) (Memref.isWhole_whole _) arg4 harg4 arg5 harg5 arg6 harg6 arg7 harg7 arg8 harg8) K := by
  simp only [cc0_moe_experts_eq_skeleton]; unfold cc0_moe_experts_skel
  unfold owns
  iintro ⟨⟨%fx, %hx, Hx⟩, ⟨%fg, %hg, Hg⟩, ⟨%fu, %hu, Hu⟩, ⟨%fd, %hd, Hd⟩, ⟨%fy, %hy, Hy⟩, HT0, HT1, HT2, Hk⟩
  obtain rfl := harg4.eq_unread hx; obtain rfl := harg5.eq_unread hg; obtain rfl := harg6.eq_unread hu; obtain rfl := harg7.eq_unread hd
  sl_exec
  sl_step
  iapply Hk
  isplitl [Hx]
  · iexists _; isplitr; · ipureintro; exact harg4.read_unread _
    iexact Hx
  isplitl [Hg]
  · iexists _; isplitr; · ipureintro; exact harg5.read_unread _
    iexact Hg
  isplitl [Hu]
  · iexists _; isplitr; · ipureintro; exact harg6.read_unread _
    iexact Hu
  isplitl [Hd]
  · iexists _; isplitr; · ipureintro; exact harg7.read_unread _
    iexact Hd
  isplitl [Hy]
  · iexists _; isplitr
    swap
    · iexists _
      isplitr
      swap
      · iexact Hy
      · ipureintro; rfl
    · ipureintro
      simp only [View.readAt_eq_ld, hx, hg, hu, hd]
      rw [← hy]
      exact left_of_stores i (countWord c xt1) (rowsWord c i xt2) x g u d arg8 fy _ _ _ _ rfl rfl rfl rfl
  isplitl [HT0]; · iexact HT0
  isplitl [HT1]; · iexact HT1
  iexact HT2

end Cert.ExpertsIdeal.Tiles

end
-- ==== Proof.TilesIdeal.lean ====
module

public import proofs.«01_k».proof.Proof.TilesIdealRun
public import Idealize.ShloMosaic.Lib.Pipeline.FrameBody
public import Idealize.ShloMosaic.Lib.Ring
public import Idealize.ShloMosaic.Lib.Tactic
public import Idealize.ShloMosaic.Lib.Claim

@[expose] public section

set_option maxRecDepth 16384

noncomputable section

namespace Cert.ExpertsIdeal.Tiles

open Cert.ExpertsIdeal Cert.ExpertsIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (RDat Cfg Window cellOf)

variable {F : FTy → Type} [FloatOps F]

variable (m : (ℓ : Loc nD τ sig) → Buf (Elt F) ℓ) (ρ : Dev nD → PrngReg)

/-! ## The tables, read off the memory at the start -/

/-- A core's buffers when the grid is entered: as given. -/
abbrev start (c : Dev nD) (b : Ref sig .tc) : Buf (Elt F) ((c : Thread nD τ).loc b) := m ((c : Thread nD τ).loc b)

/-- The tables' contents (there is one device). -/
def tables : pre0.Contents (Elt F) := fun j => start m (0 : Dev nD) (pre0.ref j)

/-- Every device holds those. -/
theorem start_tables (c : Dev nD) (j : Fin 3) : start m c (pre0.ref j) = tables m j := by
  obtain rfl : c = 0 := Subsingleton.elim _ _
  rfl

/-- Every block the tables name lies inside its array. -/
abbrev Fits : Prop := ok0 (F := F) (tables m)

variable (hO : Fits m)

/-- The tables as contents the grid may run at, and the grid there. -/
abbrev named : (pcfg0 (F := F)).Adm := ⟨tables m, hO⟩
abbrev grid : Cfg sig Λ₀ := cfg0 (named m hO)

/-- The program is the grid alone. -/
theorem main_is_grid : Pipeline.HMainP (Ix := Unit) (Name := ℕ) (U := UR sig nD τ) (Lvl := ℕ) pcfgs 0 defs₀ Variants.none m
    (main (F := F)) (start m) :=
  Pipeline.hmainP_region pcfgs 0 defs₀ Variants.none m main fun c => (main_chain c).trans rfl

/-- The three tables, one by one. -/
theorem tables_held (c : Dev nD) : (Pipeline.ΦT pre0 (tables m) c : sProp (World F)) =
    iprop(readsTable c (Memref.whole main_arg0) (tables m 0) ∗ readsTable c (Memref.whole main_arg1) (tables m 1)
      ∗ readsTable c (Memref.whole main_arg2) (tables m 2)) := by
  unfold Pipeline.ΦT Pipeline.prefHeld
  rw [show (Finset.univ : Finset (Fin 3)) = insert (0 : Fin 3) (insert (1 : Fin 3) {(2 : Fin 3)}) from by decide,
    bigSep_insert (by decide), bigSep_insert (by decide), bigSep_singleton]
  rfl

/-! ## The grid's proof data -/

/-- An operand's block at a grid step. -/
def block (c : Dev nD) (w : Fin (grid m hO).W) (t : Fin (grid m hO).N) :
    (((grid m hO).win w).xblock ((grid m hO).grid.coords t)).Idx → Elt F ((grid m hO).win w).elt :=
  (((grid m hO).win w).blk t).view.read (Elt F) (start m c (Pipeline.arrRef spec0 w))

/-- What a step may leave in the result's block, given what it found there. -/
def LeftAt (c : Dev nD) (t : Fin (grid m hO).N) (Y X : Vec F S512x1024 .bf16) : Prop :=
  Left (grid0.coords t) (countWord c (tables m 1)) (rowsWord c (grid0.coords t) (tables m 2))
    (block m hO c 0 t) (block m hO c 1 t) (block m hO c 2 t) (block m hO c 3 t) Y X

/-- The data: an operand's block is left as found, the result's as `LeftAt` says. -/
def data (c : Dev nD) : RDat τ (Elt F) Unit ℕ (UR sig nD τ) ℕ (grid m hO) c where
  A w := start m c (Pipeline.arrRef spec0 w)
  after w t Y X := match w with
    | ⟨0, _⟩ => X = Y
    | ⟨1, _⟩ => X = Y
    | ⟨2, _⟩ => X = Y
    | ⟨3, _⟩ => X = Y
    | ⟨4, _⟩ => LeftAt m hO c t Y X
  Φ _ := iprop(Pipeline.ΦA spec0 c ∗ Pipeline.ΦT pre0 (tables m) c)
  q w := Pipeline.shareOf spec0 w
  owed _ := 0

/-- An operand's staging block holds its block of the array. -/
theorem found0 (c : Dev nD) (t : Fin (grid m hO).N) (Y) (h : (data m hO c).Finds 0 t Y) : Y = block m hO c 0 t := by
  obtain ⟨d, hd⟩ := (data m hO c).finds_in_eq_fetched 0 rfl (fun _ _ _ => rfl) (fun _ _ _ h => h) t Y h
  exact hd
theorem found1 (c : Dev nD) (t : Fin (grid m hO).N) (Y) (h : (data m hO c).Finds 1 t Y) : Y = block m hO c 1 t := by
  obtain ⟨d, hd⟩ := (data m hO c).finds_in_eq_fetched 1 rfl (fun _ _ _ => rfl) (fun _ _ _ h => h) t Y h
  exact hd
theorem found2 (c : Dev nD) (t : Fin (grid m hO).N) (Y) (h : (data m hO c).Finds 2 t Y) : Y = block m hO c 2 t := by
  obtain ⟨d, hd⟩ := (data m hO c).finds_in_eq_fetched 2 rfl (fun _ _ _ => rfl) (fun _ _ _ h => h) t Y h
  exact hd
theorem found3 (c : Dev nD) (t : Fin (grid m hO).N) (Y) (h : (data m hO c).Finds 3 t Y) : Y = block m hO c 3 t := by
  obtain ⟨d, hd⟩ := (data m hO c).finds_in_eq_fetched 3 rfl (fun _ _ _ => rfl) (fun _ _ _ h => h) t Y h
  exact hd

/-- The body as the grid calls it at a step. -/
theorem body_row (t : Fin (grid m hO).N) :
    defs₀ (F := F) .tc (grid m hO).body ((grid m hO).bodyArgs t ((grid m hO).slots t)) =
      cc0_moe_experts (grid0.coords t) (Memref.whole main_arg0) (Memref.isWhole_whole _) (Memref.whole main_arg1) (Memref.isWhole_whole _)
        (Memref.whole main_arg2) (Memref.isWhole_whole _)
        (spec0_0.stage ((grid m hO).slots t 0)) (hstage0_0 (((grid m hO).slots t 0).cast nbuf0_0))
        (spec0_1.stage ((grid m hO).slots t 1)) (hstage0_1 (((grid m hO).slots t 1).cast nbuf0_1))
        (spec0_2.stage ((grid m hO).slots t 2)) (hstage0_2 (((grid m hO).slots t 2).cast nbuf0_2))
        (spec0_3.stage ((grid m hO).slots t 3)) (hstage0_3 (((grid m hO).slots t 3).cast nbuf0_3))
        (spec0_4.stage ((grid m hO).slots t 4)) (hstage0_4 (((grid m hO).slots t 4).cast nbuf0_4)) := by
  unfold defs₀; rw [Defs.onTc_tc]

/-- A step, from what it may find to what it may leave. -/
theorem step_at (c : Dev nD) (t : Fin (grid m hO).N) (y0 y4 : Vec F S512x1024 .bf16) (y1 y2 : Vec F S1x1024x3584 .bf16)
    (y3 : Vec F S1x3584x1024 .bf16) (h0 : y0 = block m hO c 0 t) (h1 : y1 = block m hO c 1 t) (h2 : y2 = block m hO c 2 t)
    (h3 : y3 = block m hO c 3 t) :
    iprop((data m hO c).Φ t.castSucc ∗ (data m hO c).owesAt () t.castSucc
      ∗ owns (c : Thread nD τ) (spec0_0.stage ((grid m hO).slots t 0)) fullShare y0
      ∗ owns (c : Thread nD τ) (spec0_1.stage ((grid m hO).slots t 1)) fullShare y1
      ∗ owns (c : Thread nD τ) (spec0_2.stage ((grid m hO).slots t 2)) fullShare y2
      ∗ owns (c : Thread nD τ) (spec0_3.stage ((grid m hO).slots t 3)) fullShare y3
      ∗ owns (c : Thread nD τ) (spec0_4.stage ((grid m hO).slots t 4)) fullShare y4)
    ⊢ wp frame (wpE (defs₀ (F := F)) Variants.none c none) Set.univ
      (cc0_moe_experts (grid0.coords t) (Memref.whole main_arg0) (Memref.isWhole_whole _) (Memref.whole main_arg1) (Memref.isWhole_whole _)
        (Memref.whole main_arg2) (Memref.isWhole_whole _)
        (spec0_0.stage ((grid m hO).slots t 0)) (hstage0_0 (((grid m hO).slots t 0).cast nbuf0_0))
        (spec0_1.stage ((grid m hO).slots t 1)) (hstage0_1 (((grid m hO).slots t 1).cast nbuf0_1))
        (spec0_2.stage ((grid m hO).slots t 2)) (hstage0_2 (((grid m hO).slots t 2).cast nbuf0_2))
        (spec0_3.stage ((grid m hO).slots t 3)) (hstage0_3 (((grid m hO).slots t 3).cast nbuf0_3))
        (spec0_4.stage ((grid m hO).slots t 4)) (hstage0_4 (((grid m hO).slots t 4).cast nbuf0_4))) fun _ =>
      iprop((data m hO c).Φ t.succ ∗ (data m hO c).owesAt () t.succ
      ∗ (∃ X, ⌜X = y0⌝ ∗ owns (c : Thread nD τ) (spec0_0.stage ((grid m hO).slots t 0)) fullShare X)
      ∗ (∃ X, ⌜X = y1⌝ ∗ owns (c : Thread nD τ) (spec0_1.stage ((grid m hO).slots t 1)) fullShare X)
      ∗ (∃ X, ⌜X = y2⌝ ∗ owns (c : Thread nD τ) (spec0_2.stage ((grid m hO).slots t 2)) fullShare X)
      ∗ (∃ X, ⌜X = y3⌝ ∗ owns (c : Thread nD τ) (spec0_3.stage ((grid m hO).slots t 3)) fullShare X)
      ∗ (∃ X, ⌜LeftAt m hO c t y4 X⌝ ∗ owns (c : Thread nD τ) (spec0_4.stage ((grid m hO).slots t 4)) fullShare X)) := by
  rw [show (data m hO c).Φ t.succ = (data m hO c).Φ t.castSucc from rfl,
    show (data m hO c).owesAt () t.succ = (data m hO c).owesAt () t.castSucc from rfl,
    show (data m hO c).Φ t.castSucc = iprop(Pipeline.ΦA spec0 c ∗ Pipeline.ΦT pre0 (tables m) c) from rfl, tables_held]
  subst h0 h1 h2 h3
  iintro ⟨⟨HΦ, ⟨HT0, HT1, HT2⟩⟩, Ho, H0, H1, H2, H3, H4⟩
  iapply (step_spec c (grid0.coords t) _ _ _ _ _ _ _ _ _ _ (block m hO c 0 t) (block m hO c 1 t) (block m hO c 2 t) (block m hO c 3 t) y4
    (tables m 0) (tables m 1) (tables m 2) Set.univ _)
  isplitl [H0]; · iexact H0
  isplitl [H1]; · iexact H1
  isplitl [H2]; · iexact H2
  isplitl [H3]; · iexact H3
  isplitl [H4]; · iexact H4
  isplitl [HT0]; · iexact HT0
  isplitl [HT1]; · iexact HT1
  isplitl [HT2]; · iexact HT2
  iintro ⟨H0, H1, H2, H3, H4, HT0, HT1, HT2⟩
  isplitl [HΦ HT0 HT1 HT2]
  · isplitl [HΦ]
    · iexact HΦ
    isplitl [HT0]; · iexact HT0
    isplitl [HT1]; · iexact HT1
    iexact HT2
  isplitl [Ho]; · iexact Ho
  isplitl [H0]
  · iexists _; isplitr; · ipureintro; rfl
    iexact H0
  isplitl [H1]
  · iexists _; isplitr; · ipureintro; rfl
    iexact H1
  isplitl [H2]
  · iexists _; isplitr; · ipureintro; rfl
    iexact H2
  isplitl [H3]
  · iexists _; isplitr; · ipureintro; rfl
    iexact H3
  iexact H4

/-- Every step keeps the data. -/
theorem steps (c : Dev nD) : (data m hO c).BodyObligation (defs₀ (F := F)) Variants.none () Set.univ := fun t Y hY => by
  rw [bigSep_W0, bigSep_W0, body_row m hO]
  exact triple_restated (step_at m hO c t (Y 0) (Y 4) (Y 1) (Y 2) (Y 3) (found0 m hO c t _ (hY 0)) (found1 m hO c t _ (hY 1))
    (found2 m hO c t _ (hY 2)) (found3 m hO c t _ (hY 3))) rfl .rfl fun _ => .rfl

/-! ## The run -/

set_option backward.isDefEq.respectTransparency.types false in
/-- The program runs, leaves the arrays as the data say, and every counter at zero. -/
theorem runs : θ_run defs (onTc (τ := τ) (main (F := F))) (s₀ m ρ)
    (fun r => RDat.FramePost (grid m hO) (data m hO) (start m) r ∧ r.2.sem = fun _ => 0) :=
  Pipeline.RDat.θ_run_frameP_track_shared (Q' := _) pcfgs (fun _ => named m hO) (0 : Fin 1) launch₀0 defs₀ Variants.none (data m hO) m ρ main
    (hbody := steps m hO) (hq := fun _ _ _ => rfl) (howed := fun _ _ => rfl) (V := start m) (hmain := main_is_grid m)
    (hA := fun _ _ => rfl) (hpf := start_tables m) (hin := fun _ => .rfl)
    (hout := fun c => by
      show iprop(Pipeline.ΦA spec0 c ∗ Pipeline.ΦT pre0 (tables m) c) ⊢ Pipeline.ΦA spec0 c
      iintro ⟨H, -⟩
      iexact H)

include hO in
/-- The arguments end as they were, and every counter at zero. -/
theorem keeps : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun r h => ⟨fun c =>
    ⟨(h.1 c).2 main_arg0 (by decide : main_arg0 ∈ Pipeline.restRefs sig spec0),
     (h.1 c).2 main_arg1 (by decide : main_arg1 ∈ Pipeline.restRefs sig spec0),
     (h.1 c).2 main_arg2 (by decide : main_arg2 ∈ Pipeline.restRefs sig spec0),
     h.1.arr_in c 0 rfl, h.1.arr_in c 2 rfl, h.1.arr_in c 3 rfl⟩, h.2⟩) (runs m ρ hO)

end Cert.ExpertsIdeal.Tiles

end
-- ==== Proof.TilesIdealOk.lean ====
/-
  The grid fits: where the tables hold expert numbers and count at least one tile, every block an index map names lies in its array.
-/
module

public import proofs.«01_k».proof.Proof.TilesIdeal
public import proofs.«01_k».proof.Proof.Words
public import Idealize.ShloMosaic.Lib.Affine

@[expose] public section

set_option maxRecDepth 8192

noncomputable section

namespace Cert.ExpertsIdeal.Tiles

open Cert.ExpertsIdeal Cert.ExpertsIdeal.Gen Cert.Moe
open Idealize.ShloMosaic
open Idealize.ShloMosaic.ValueIdx

variable {F : FTy → Type} [FloatOps F]

/-- The word of the tile table at a tile. -/
def expertOf (pf : pre0.Contents (Elt F)) (j : Fin 72) : BitVec 32 := pf 0 (ix1 j)

/-- The count of used tiles, as a word. -/
def countOf (pf : pre0.Contents (Elt F)) : BitVec 32 := pf 1 (ix1 (0 : Fin 1))

/-- A tile's rows, as a word. -/
def rowsOf (pf : pre0.Contents (Elt F)) (j : Fin 72) : BitVec 32 := pf 2 (ix1 j)

/-- The tables hold expert numbers, and at least one tile is used. -/
structure Bounded (pf : pre0.Contents (Elt F)) : Prop where
  expert : ∀ j, (expertOf pf j).toNat < 8
  count : 1 ≤ (countOf pf).toInt

variable (pf : pre0.Contents (Elt F))

/-- A step's number. -/
abbrev stepOf (i : grid0.Coords) : Fin 72 := i 0

theorem read_count : (pf.at 1 (Rect.unit (s := S1) ![0] S1.size inb_S1_S1_0) numel1_S1 : BitVec 32) = countOf pf := by
  refine congrArg (pf 1) (funext fun a => ?_)
  match a with
  | ⟨0, _⟩ => exact Fin.ext rfl

theorem read_expert (i : grid0.Coords) :
    (pf.at 0 (Rect.unit (s := S72) ![(Scalar.indexCast (BitVec.ofNat 32 (i 0).val)).toNat] S1.size (k0_off1_inb i)) numel1_S1 : BitVec 32) =
      expertOf pf (stepOf i) := by
  refine congrArg (pf 0) (funext fun a => ?_)
  match a with
  | ⟨0, _⟩ =>
    refine Fin.ext ?_
    have h := congrFun (k0_off1_eq i) 0
    show k0_off1 i 0 + 1 * 0 = (i 0).val
    rw [h]
    rfl

theorem at0 (hb : Bounded pf) (i : grid0.Coords) :
    cc0_transform_0 inb_S1_S1_0 numel1_S1 pf i = ![min (i 0).val ((countOf pf).toNat - 1), 0] := by
  unfold cc0_transform_0
  dsimp only
  rw [read_count, clamp _ (i 0).isLt _ hb.count]
  rfl
theorem at1 (i : grid0.Coords) : cc0_transform_1 k0_off1_inb numel1_S1 pf i = ![(expertOf pf (stepOf i)).toNat, 0, 0] := by
  unfold cc0_transform_1
  dsimp only
  rw [read_expert]
  rfl
theorem at2 (i : grid0.Coords) : cc0_transform_2 k0_off1_inb numel1_S1 pf i = ![(expertOf pf (stepOf i)).toNat, 0, 1] := by
  unfold cc0_transform_2
  dsimp only
  rw [read_expert]
  rfl
theorem at3 (i : grid0.Coords) : cc0_transform_3 k0_off1_inb numel1_S1 pf i = ![(expertOf pf (stepOf i)).toNat, 0, 0] := by
  unfold cc0_transform_3
  dsimp only
  rw [read_expert]
  rfl
theorem at4 (hb : Bounded pf) (i : grid0.Coords) :
    cc0_transform_4 inb_S1_S1_0 numel1_S1 pf i = ![min (i 0).val ((countOf pf).toNat - 1), 0] := by
  unfold cc0_transform_4
  dsimp only
  rw [read_count, clamp _ (i 0).isLt _ hb.count]
  rfl

theorem ok_of_bounded (hb : Bounded pf) : ok0 pf := by
  unfold ok0
  refine ⟨fun i => ⟨?_, .inr (Affine.block_words_dvd (of_decide_eq_true rfl) (by decide))⟩, fun i => ⟨?_, .inr (Affine.block_words_dvd (of_decide_eq_true rfl) (by decide))⟩,
    fun i => ⟨?_, .inr (Affine.block_words_dvd (of_decide_eq_true rfl) (by decide))⟩, fun i => ⟨?_, .inr (Affine.block_words_dvd (of_decide_eq_true rfl) (by decide))⟩,
    fun i => ⟨?_, .inr (Affine.block_words_dvd (of_decide_eq_true rfl) (by decide))⟩⟩
  · rw [at0 pf hb]
    have : (i 0).val < 72 := (i 0).isLt
    intro a
    match a with
    | ⟨0, _⟩ => show (min (i 0).val ((countOf pf).toNat - 1) + 1) * 512 ≤ 36864; omega
    | ⟨1, _⟩ => show (0 + 1) * 1024 ≤ 1024; omega
  · rw [at1 pf]
    have := hb.expert (stepOf i)
    intro a
    match a with
    | ⟨0, _⟩ => show ((expertOf pf (stepOf i)).toNat + 1) * 1 ≤ 8; omega
    | ⟨1, _⟩ => show (0 + 1) * 1024 ≤ 1024; omega
    | ⟨2, _⟩ => show (0 + 1) * 3584 ≤ 7168; omega
  · rw [at2 pf]
    have := hb.expert (stepOf i)
    intro a
    match a with
    | ⟨0, _⟩ => show ((expertOf pf (stepOf i)).toNat + 1) * 1 ≤ 8; omega
    | ⟨1, _⟩ => show (0 + 1) * 1024 ≤ 1024; omega
    | ⟨2, _⟩ => show (1 + 1) * 3584 ≤ 7168; omega
  · rw [at3 pf]
    have := hb.expert (stepOf i)
    intro a
    match a with
    | ⟨0, _⟩ => show ((expertOf pf (stepOf i)).toNat + 1) * 1 ≤ 8; omega
    | ⟨1, _⟩ => show (0 + 1) * 3584 ≤ 3584; omega
    | ⟨2, _⟩ => show (0 + 1) * 1024 ≤ 1024; omega
  · rw [at4 pf hb]
    have : (i 0).val < 72 := (i 0).isLt
    intro a
    match a with
    | ⟨0, _⟩ => show (min (i 0).val ((countOf pf).toNat - 1) + 1) * 512 ≤ 36864; omega
    | ⟨1, _⟩ => show (0 + 1) * 1024 ≤ 1024; omega

/-- Where the precondition holds of the arguments, the tables are so bounded. -/
theorem bounded_of_pre [Cert.Pre_tables.Facts] (m : (ℓ : Loc nD τ sig) → Buf (Elt F) ℓ) (c : Dev nD)
    (h : Cert.Pre_tables.fn (F := F) (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))
      (m ((c.tc : Thread nD τ).loc main_arg5)) = fun _ => 1#1) : Bounded (tables m) := by
  obtain rfl : c = 0 := Subsingleton.elim _ _
  have hb := bounds_of_pre _ _ _ _ _ _ h
  exact ⟨fun j => hb.1 (ix1 j), hb.2 (ix1 (0 : Fin 1))⟩

end Cert.ExpertsIdeal.Tiles

end
-- ==== Proof.Glu.lean ====
module

public import Idealize.ShloMosaic.PureOps.Ideal
public import Idealize.ShloMosaic.Lib.Pipeline.ValueKit
public import Idealize.ShloMosaic.Lib.MatmulPlain

/-!
# One entry of a gated feed-forward network

The number both programs compute at a row and an output column, and the same number added up in two halves of the hidden
units, as the kernel does it.
-/

@[expose] public section

noncomputable section

namespace Cert.Moe

open Idealize.ShloMosaic hiding ix1 ix2 ix3 ix4 addf_apply subf_apply mulf_apply divf_apply truncf_apply extf_apply constant_apply
open Idealize.ShloMosaic.ValueIdx Idealize.ShloMosaic.Pipeline
open scoped BigOperators

/-- A hidden unit: the gate, times its logistic, times the other projection. -/
def unit (x g u : Fin 1024 → EReal) : EReal :=
  (∑ k, x k * g k) * Ideal.logistic (∑ k, x k * g k) * (∑ k, x k * u k)

/-- One entry of the output: a row `x`, gate and up matrices, a column `d` of the down matrix. -/
def glu (x : Fin 1024 → EReal) (g u : Fin 1024 → Fin 3584 → EReal) (d : Fin 3584 → EReal) : EReal :=
  ∑ f, unit x (fun k => g k f) (fun k => u k f) * d f

/-- The sum over the hidden units in two halves. -/
theorem sum_halves (f : Fin 3584 → EReal) :
    ∑ i, f i = ∑ i : Fin 1792, f ⟨i.val, by omega⟩ + ∑ i : Fin 1792, f ⟨1792 + i.val, by omega⟩ :=
  Fin.sum_univ_add (a := 1792) (b := 1792) f

/-- A block with a leading unit axis, viewed as a matrix, reads (0, r, c) at (r, c). -/
theorem plane_apply {M N : ℕ} {α : Type} (v : (⟨3, ![1, M, N]⟩ : Shape).Idx → α)
    (h : (⟨3, ![1, M, N]⟩ : Shape).ShapeCasts ⟨2, ![M, N]⟩) (r : Fin M) (c : Fin N) :
    shapeCast ⟨2, ![M, N]⟩ v h (ix2 r c) = v (ix3 0 r c) := by
  refine shapeCast_apply v h _ _ ?_
  rw [Shape.rowMajor_val_three, Shape.rowMajor_val_two]
  show ((0 : Fin 1).val * M + r.val) * N + c.val = r.val * N + c.val
  simp

/-- A projection of `N` rows: the kernel's product with a block of a weight. -/
theorem project_apply {N K C : ℕ} (x : FVec Ideal ⟨2, ![N, K]⟩ .bf16) (w : FVec Ideal ⟨3, ![1, K, C]⟩ .bf16)
    (hw : (⟨3, ![1, K, C]⟩ : Shape).ShapeCasts ⟨2, ![K, C]⟩) (r : Fin N) (c : Fin C) :
    matmul (DotDims.plain N K C) none x (shapeCast ⟨2, ![K, C]⟩ w hw) (constant ⟨2, ![N, C]⟩ .f32 0x00000000#32) (ix2 r c)
      = ∑ k : Fin K, x (ix2 r k) * w (ix3 0 k c) := by
  show FloatOps.matmul _ _ _ _ _ _ = _
  rw [Ideal.matmul_plain_apply, constant_apply, Ideal.ofBits_zero_f32, zero_add]
  exact Finset.sum_congr rfl fun k _ => by rw [plane_apply]

/-- What the kernel adds up for one half of the hidden units. -/
theorem half_apply {N : ℕ} (x : FVec Ideal ⟨2, ![N, 1024]⟩ .bf16) (g u : FVec Ideal ⟨3, ![1, 1024, 1792]⟩ .bf16)
    (d : FVec Ideal ⟨3, ![1, 1792, 1024]⟩ .bf16) (hg : (⟨3, ![1, 1024, 1792]⟩ : Shape).ShapeCasts ⟨2, ![1024, 1792]⟩)
    (hd : (⟨3, ![1, 1792, 1024]⟩ : Shape).ShapeCasts ⟨2, ![1792, 1024]⟩) (hb : FTy.bf16.bits < FTy.f32.bits) (r : Fin N) (c : Fin 1024) :
    matmul (DotDims.plain N 1792 1024) none
        (truncf .bf16 (mulf (mulf (matmul (DotDims.plain N 1024 1792) none x (shapeCast ⟨2, ![1024, 1792]⟩ g hg)
              (constant ⟨2, ![N, 1792]⟩ .f32 0x00000000#32))
            (logistic (matmul (DotDims.plain N 1024 1792) none x (shapeCast ⟨2, ![1024, 1792]⟩ g hg)
              (constant ⟨2, ![N, 1792]⟩ .f32 0x00000000#32))))
          (matmul (DotDims.plain N 1024 1792) none x (shapeCast ⟨2, ![1024, 1792]⟩ u hg)
            (constant ⟨2, ![N, 1792]⟩ .f32 0x00000000#32))) hb)
        (shapeCast ⟨2, ![1792, 1024]⟩ d hd) (constant ⟨2, ![N, 1024]⟩ .f32 0x00000000#32) (ix2 r c)
      = ∑ f : Fin 1792, unit (fun k => x (ix2 r k)) (fun k => g (ix3 0 k f)) (fun k => u (ix3 0 k f)) * d (ix3 0 f c) := by
  rw [project_apply]
  refine Finset.sum_congr rfl fun f _ => congrArg (· * d (ix3 0 f c)) ?_
  unfold unit
  rw [← project_apply x g hg r f, ← project_apply x u hg r f]
  rfl

end Cert.Moe

end
-- ==== Proof.TilesEntry.lean ====
/-
  What a grid step of the experts leaves, read at an entry: for each number of rows, the gated feed-forward network of the
  tile's rows with the step's blocks of the weights.
-/
module

public import proofs.«01_k».proof.Proof.Glu
public import proofs.«01_k».proof.Proof.TilesIdealRun

@[expose] public section

set_option maxRecDepth 8192

noncomputable section

namespace Cert.ExpertsIdeal.Tiles

open Cert.ExpertsIdeal Cert.ExpertsIdeal.Gen Cert.Moe
open Idealize.ShloMosaic hiding ix1 ix2 ix3 ix4 addf_apply subf_apply mulf_apply divf_apply truncf_apply extf_apply constant_apply
open Idealize.ShloMosaic.ValueIdx Idealize.ShloMosaic.Pipeline
open scoped BigOperators

variable (x : Vec Ideal S512x1024 .bf16) (g u : Vec Ideal S1x1024x3584 .bf16) (d : Vec Ideal S1x3584x1024 .bf16)

/-- The entry of the output at row `r` of the tile and column `c`. -/
def entry (r : Fin 512) (c : Fin 1024) : EReal :=
  glu (fun k => x (ix2 r k)) (fun k f => g (ix3 0 k f)) (fun k f => u (ix3 0 k f)) (fun f => d (ix3 0 f c))

/-- The halves of the blocks, read at an index. -/
theorem colsA_apply (k : Fin 1024) (f : Fin 1792) : colsA g (ix3 0 k f) = g (ix3 0 k ⟨f.val, by omega⟩) := by
  refine congrArg g (funext fun a => Fin.ext ?_)
  match a with
  | ⟨0, _⟩ => rfl
  | ⟨1, _⟩ => exact (Nat.zero_add _).trans (Nat.one_mul _)
  | ⟨2, _⟩ => exact (Nat.zero_add _).trans (Nat.one_mul _)
theorem colsB_apply (k : Fin 1024) (f : Fin 1792) : colsB g (ix3 0 k f) = g (ix3 0 k ⟨1792 + f.val, by omega⟩) := by
  refine congrArg g (funext fun a => Fin.ext ?_)
  match a with
  | ⟨0, _⟩ => rfl
  | ⟨1, _⟩ => exact (Nat.zero_add _).trans (Nat.one_mul _)
  | ⟨2, _⟩ => exact congrArg (1792 + ·) (Nat.one_mul _)
theorem rowsA_apply (f : Fin 1792) (c : Fin 1024) : rowsA d (ix3 0 f c) = d (ix3 0 ⟨f.val, by omega⟩ c) := by
  refine congrArg d (funext fun a => Fin.ext ?_)
  match a with
  | ⟨0, _⟩ => rfl
  | ⟨1, _⟩ => exact (Nat.zero_add _).trans (Nat.one_mul _)
  | ⟨2, _⟩ => exact (Nat.zero_add _).trans (Nat.one_mul _)
theorem rowsB_apply (f : Fin 1792) (c : Fin 1024) : rowsB d (ix3 0 f c) = d (ix3 0 ⟨1792 + f.val, by omega⟩ c) := by
  refine congrArg d (funext fun a => Fin.ext ?_)
  match a with
  | ⟨0, _⟩ => rfl
  | ⟨1, _⟩ => exact congrArg (1792 + ·) (Nat.one_mul _)
  | ⟨2, _⟩ => exact (Nat.zero_add _).trans (Nat.one_mul _)

/-- The two halves together are the entry. -/
theorem halves_eq (r : Fin 512) (c : Fin 1024) (y : Fin 1024 → EReal) (hy : ∀ k, y k = x (ix2 r k)) :
    ∑ f : Fin 1792, unit y (fun k => colsA g (ix3 0 k f)) (fun k => colsA u (ix3 0 k f)) * rowsA d (ix3 0 f c)
      + ∑ f : Fin 1792, unit y (fun k => colsB g (ix3 0 k f)) (fun k => colsB u (ix3 0 k f)) * rowsB d (ix3 0 f c)
      = entry x g u d r c := by
  obtain rfl : y = fun k => x (ix2 r k) := funext hy
  rw [entry, glu, sum_halves]
  simp only [colsA_apply, colsB_apply, rowsA_apply, rowsB_apply]

/-- The first rows of a tile, read at an index. -/
theorem top1_emb (r : Fin 128) (c : Fin 1024) : top1.emb (ix2 r c) = ix2 ⟨r.val, by omega⟩ c := by
  refine funext fun a => Fin.ext ?_
  match a with
  | ⟨0, _⟩ => exact (Nat.zero_add _).trans (Nat.one_mul _)
  | ⟨1, _⟩ => exact (Nat.zero_add _).trans (Nat.one_mul _)
theorem top2_emb (r : Fin 256) (c : Fin 1024) : top2.emb (ix2 r c) = ix2 ⟨r.val, by omega⟩ c := by
  refine funext fun a => Fin.ext ?_
  match a with
  | ⟨0, _⟩ => exact (Nat.zero_add _).trans (Nat.one_mul _)
  | ⟨1, _⟩ => exact (Nat.zero_add _).trans (Nat.one_mul _)
theorem top3_emb (r : Fin 384) (c : Fin 1024) : top3.emb (ix2 r c) = ix2 ⟨r.val, by omega⟩ c := by
  refine funext fun a => Fin.ext ?_
  match a with
  | ⟨0, _⟩ => exact (Nat.zero_add _).trans (Nat.one_mul _)
  | ⟨1, _⟩ => exact (Nat.zero_add _).trans (Nat.one_mul _)
theorem top4_emb (r : Fin 512) (c : Fin 1024) : top4.emb (ix2 r c) = ix2 ⟨r.val, by omega⟩ c := by
  refine funext fun a => Fin.ext ?_
  match a with
  | ⟨0, _⟩ => exact (Nat.zero_add _).trans (Nat.one_mul _)
  | ⟨1, _⟩ => exact (Nat.zero_add _).trans (Nat.one_mul _)

/-- What the body stores is the entry, for each number of rows. -/
theorem ffn1_apply (r : Fin 128) (c : Fin 1024) : ffn1 x g u d (ix2 r c) = entry x g u d ⟨r.val, by omega⟩ c :=
  (congrArg₂ (· + ·) (half_apply (View.ld x top1) (colsA g) (colsA u) (rowsA d) _ _ _ r c)
    (half_apply (View.ld x top1) (colsB g) (colsB u) (rowsB d) _ _ _ r c)).trans
    (halves_eq x g u d ⟨r.val, by omega⟩ c _ fun k => congrArg x (top1_emb r k))
theorem ffn2_apply (r : Fin 256) (c : Fin 1024) : ffn2 x g u d (ix2 r c) = entry x g u d ⟨r.val, by omega⟩ c :=
  (congrArg₂ (· + ·) (half_apply (View.ld x top2) (colsA g) (colsA u) (rowsA d) _ _ _ r c)
    (half_apply (View.ld x top2) (colsB g) (colsB u) (rowsB d) _ _ _ r c)).trans
    (halves_eq x g u d ⟨r.val, by omega⟩ c _ fun k => congrArg x (top2_emb r k))
theorem ffn3_apply (r : Fin 384) (c : Fin 1024) : ffn3 x g u d (ix2 r c) = entry x g u d ⟨r.val, by omega⟩ c :=
  (congrArg₂ (· + ·) (half_apply (View.ld x top3) (colsA g) (colsA u) (rowsA d) _ _ _ r c)
    (half_apply (View.ld x top3) (colsB g) (colsB u) (rowsB d) _ _ _ r c)).trans
    (halves_eq x g u d ⟨r.val, by omega⟩ c _ fun k => congrArg x (top3_emb r k))
theorem ffn4_apply (r : Fin 512) (c : Fin 1024) : ffn4 x g u d (ix2 r c) = entry x g u d r c :=
  (congrArg₂ (· + ·) (half_apply (View.ld x top4) (colsA g) (colsA u) (rowsA d) _ _ _ r c)
    (half_apply (View.ld x top4) (colsB g) (colsB u) (rowsB d) _ _ _ r c)).trans
    (halves_eq x g u d r c _ fun k => congrArg x (top4_emb r k))

/-- The row counts a tile may have. -/
def Known (w : BitVec 32) : Prop := w = 128#32 ∨ w = 256#32 ∨ w = 384#32 ∨ w = 512#32

variable {x g u d}

/-- In use, a step leaves the entries in the tile's rows. -/
theorem Left.entry {i : grid0.Coords} {n rows : BitVec 32} {Y X : Vec Ideal S512x1024 .bf16} (h : Left i n rows x g u d Y X)
    (hn : k0_cond1 i n = 1#1) (hk : Known rows) (r : Fin 512) (hr : r.val < rows.toNat) (c : Fin 1024) :
    X (ix2 r c) = Tiles.entry x g u d r c := by
  rcases hk with hk | hk | hk | hk
  · have hr' : r.val < 128 := by rw [hk] at hr; exact hr
    exact (congrArg X (top1_emb ⟨r.val, hr'⟩ c)).symm.trans ((h.one hn ((cond2_iff _).2 hk) _).trans (ffn1_apply x g u d ⟨r.val, hr'⟩ c))
  · have hr' : r.val < 256 := by rw [hk] at hr; exact hr
    exact (congrArg X (top2_emb ⟨r.val, hr'⟩ c)).symm.trans ((h.two hn ((cond3_iff _).2 hk) _).trans (ffn2_apply x g u d ⟨r.val, hr'⟩ c))
  · have hr' : r.val < 384 := by rw [hk] at hr; exact hr
    exact (congrArg X (top3_emb ⟨r.val, hr'⟩ c)).symm.trans ((h.three hn ((cond4_iff _).2 hk) _).trans (ffn3_apply x g u d ⟨r.val, hr'⟩ c))
  · exact (congrArg X (top4_emb r c)).symm.trans ((h.four hn ((cond5_iff _).2 hk) _).trans (ffn4_apply x g u d r c))

end Cert.ExpertsIdeal.Tiles

end
-- ==== Proof.TilesFinal.lean ====
/-
  The experts' result array after the run, at the rows in use.
-/
module

public import proofs.«01_k».proof.Proof.TilesIdealOk
public import proofs.«01_k».proof.Proof.TilesEntry
public import Idealize.ShloMosaic.Lib.Pipeline.ArrRel
public import Idealize.ShloMosaic.Lib.Pipeline.Value

@[expose] public section

set_option maxRecDepth 8192

noncomputable section

namespace Cert.ExpertsIdeal.Tiles

open Cert.ExpertsIdeal Cert.ExpertsIdeal.Gen Cert.Moe
open Idealize.ShloMosaic hiding ix1 ix2 ix3 ix4 addf_apply subf_apply mulf_apply divf_apply truncf_apply extf_apply constant_apply
open Idealize.ShloMosaic.ValueIdx Idealize.ShloMosaic.Pipeline Idealize.ShloMosaic.TcCoe

/-- The coordinate of a step is its number. -/
theorem coords_val : ∀ t : Fin grid0.N, (grid0.coords t 0).val = t.val := by decide +kernel

variable (m : (ℓ : Loc nD τ sig) → Buf (Elt Ideal) ℓ) (hO : Fits m) (hb : Bounded (tables m)) (c : Dev nD)

/-- The step of a tile. -/
def stepAt (T : Fin 72) : Fin (grid m hO).N := ⟨T.val, by rw [show (grid m hO).N = 72 from N_0]; exact T.isLt⟩

theorem step_lt (t : Fin (grid m hO).N) : t.val < 72 := lt_of_lt_of_eq t.isLt N_0

/-- The tile that a step names: its own, or the last in use. -/
def tileOf (t : ℕ) : ℕ := min t ((countOf (tables m)).toNat - 1)

include hb in
theorem index0 (t : Fin (grid m hO).N) : ((grid m hO).win 0).index t = ![tileOf m t.val, 0] := by
  have h := at0 (tables m) hb (grid0.coords t)
  rw [coords_val] at h
  exact h
theorem index1 (t : Fin (grid m hO).N) :
    ((grid m hO).win 1).index t = ![(expertOf (tables m) ⟨t.val, step_lt m hO t⟩).toNat, 0, 0] := by
  have h := at1 (tables m) (grid0.coords t)
  rw [show stepOf (grid0.coords t) = ⟨t.val, step_lt m hO t⟩ from Fin.ext (coords_val t)] at h
  exact h
theorem index2 (t : Fin (grid m hO).N) :
    ((grid m hO).win 2).index t = ![(expertOf (tables m) ⟨t.val, step_lt m hO t⟩).toNat, 0, 1] := by
  have h := at2 (tables m) (grid0.coords t)
  rw [show stepOf (grid0.coords t) = ⟨t.val, step_lt m hO t⟩ from Fin.ext (coords_val t)] at h
  exact h
theorem index3 (t : Fin (grid m hO).N) :
    ((grid m hO).win 3).index t = ![(expertOf (tables m) ⟨t.val, step_lt m hO t⟩).toNat, 0, 0] := by
  have h := at3 (tables m) (grid0.coords t)
  rw [show stepOf (grid0.coords t) = ⟨t.val, step_lt m hO t⟩ from Fin.ext (coords_val t)] at h
  exact h
include hb in
theorem index4 (t : Fin (grid m hO).N) : ((grid m hO).win 4).index t = ![tileOf m t.val, 0] := by
  have h := at4 (tables m) hb (grid0.coords t)
  rw [coords_val] at h
  exact h

/-! ## The operands' blocks -/

include hb in
theorem block0_at (t : Fin (grid m hO).N) (r : Fin 512) (k : Fin 1024) (ht : 512 * tileOf m t.val + r.val < 36864) :
    block m hO c 0 t (ix2 r k) = m ((c : Thread nD τ).loc main_arg3) (ix2 ⟨512 * tileOf m t.val + r.val, ht⟩ k) := by
  have e := index0 m hO hb t
  refine congrArg (m ((c : Thread nD τ).loc main_arg3)) (funext fun a => Fin.ext ?_)
  refine (((grid m hO).win 0).rect_emb_val t (ix2 r k) a).trans ?_
  rw [e]
  match a with
  | ⟨0, _⟩ => show tileOf m t.val * 512 + r.val = 512 * tileOf m t.val + r.val; omega
  | ⟨1, _⟩ => show 0 * 1024 + k.val = k.val; omega

theorem block1_at (t : Fin (grid m hO).N) (k : Fin 1024) (f : Fin 3584) (he : (expertOf (tables m) ⟨t.val, step_lt m hO t⟩).toNat < 8) :
    block m hO c 1 t (ix3 0 k f) = m ((c : Thread nD τ).loc main_arg4)
      (ix3 ⟨(expertOf (tables m) ⟨t.val, step_lt m hO t⟩).toNat, he⟩ k ⟨f.val, by omega⟩) := by
  have e := index1 m hO t
  refine congrArg (m ((c : Thread nD τ).loc main_arg4)) (funext fun a => Fin.ext ?_)
  refine (((grid m hO).win 1).rect_emb_val t (ix3 0 k f) a).trans ?_
  rw [e]
  match a with
  | ⟨0, _⟩ => show (expertOf (tables m) ⟨t.val, step_lt m hO t⟩).toNat * 1 + 0 = _; exact Nat.mul_one _
  | ⟨1, _⟩ => show 0 * 1024 + k.val = k.val; omega
  | ⟨2, _⟩ => show 0 * 3584 + f.val = f.val; omega

theorem block2_at (t : Fin (grid m hO).N) (k : Fin 1024) (f : Fin 3584) (he : (expertOf (tables m) ⟨t.val, step_lt m hO t⟩).toNat < 8) :
    block m hO c 2 t (ix3 0 k f) = m ((c : Thread nD τ).loc main_arg4)
      (ix3 ⟨(expertOf (tables m) ⟨t.val, step_lt m hO t⟩).toNat, he⟩ k ⟨3584 + f.val, by omega⟩) := by
  have e := index2 m hO t
  refine congrArg (m ((c : Thread nD τ).loc main_arg4)) (funext fun a => Fin.ext ?_)
  refine (((grid m hO).win 2).rect_emb_val t (ix3 0 k f) a).trans ?_
  rw [e]
  match a with
  | ⟨0, _⟩ => show (expertOf (tables m) ⟨t.val, step_lt m hO t⟩).toNat * 1 + 0 = _; exact Nat.mul_one _
  | ⟨1, _⟩ => show 0 * 1024 + k.val = k.val; omega
  | ⟨2, _⟩ => show 1 * 3584 + f.val = 3584 + f.val; omega

theorem block3_at (t : Fin (grid m hO).N) (f : Fin 3584) (k : Fin 1024) (he : (expertOf (tables m) ⟨t.val, step_lt m hO t⟩).toNat < 8) :
    block m hO c 3 t (ix3 0 f k) = m ((c : Thread nD τ).loc main_arg5)
      (ix3 ⟨(expertOf (tables m) ⟨t.val, step_lt m hO t⟩).toNat, he⟩ f k) := by
  have e := index3 m hO t
  refine congrArg (m ((c : Thread nD τ).loc main_arg5)) (funext fun a => Fin.ext ?_)
  refine (((grid m hO).win 3).rect_emb_val t (ix3 0 f k) a).trans ?_
  rw [e]
  match a with
  | ⟨0, _⟩ => show (expertOf (tables m) ⟨t.val, step_lt m hO t⟩).toNat * 1 + 0 = _; exact Nat.mul_one _
  | ⟨1, _⟩ => show 0 * 3584 + f.val = f.val; omega
  | ⟨2, _⟩ => show 0 * 1024 + k.val = k.val; omega

/-! ## When the result is written back -/

theorem pair_ne {a b : ℕ} : (![a, 0] : Fin 2 → ℕ) ≠ ![b, 0] ↔ a ≠ b :=
  not_congr ⟨fun h => congrFun h 0, fun h => h ▸ rfl⟩

include hb in
/-- The result's block is written back at the last step, and wherever the next step names another tile. -/
theorem flush_iff (t : Fin (grid m hO).N) : ((grid m hO).win 4).flush t = true ↔ t.val = 71 ∨ tileOf m (t.val + 1) ≠ tileOf m t.val := by
  have hN : grid0.N = 72 := N_0
  have ht := step_lt m hO t
  rw [Window.flush_out _ rfl]
  constructor
  · rintro (h | ⟨h, hne⟩)
    · exact .inl (Nat.succ.inj (h.trans hN))
    · refine .inr (pair_ne.1 ?_)
      rw [index4 m hO hb t, index4 m hO hb ⟨t.val + 1, h⟩] at hne
      exact hne
  · rintro (h | h)
    · exact .inl ((congrArg (· + 1) h).trans hN.symm)
    · by_cases hl : t.val + 1 = 72
      · exact .inl (hl.trans hN.symm)
      · refine .inr ⟨lt_of_lt_of_eq (by omega) hN.symm, ?_⟩
        rw [index4 m hO hb t, index4 m hO hb ⟨t.val + 1, _⟩]
        exact pair_ne.2 h

/-! ## What the body reads off the tables -/

theorem count_eq : countWord c (tables m 1) = countOf (tables m) := by
  refine congrArg (tables m 1) (funext fun a => ?_)
  match a with
  | ⟨0, _⟩ => exact Fin.ext rfl

theorem rows_eq (t : Fin (grid m hO).N) : rowsWord c (grid0.coords t) (tables m 2) = rowsOf (tables m) ⟨t.val, step_lt m hO t⟩ := by
  refine congrArg (tables m 2) (funext fun a => ?_)
  match a with
  | ⟨0, _⟩ =>
    refine Fin.ext ?_
    have h := congrFun (k0_off2_eq (grid0.coords t)) 0
    show k0_off2 (grid0.coords t) 0 + 1 * 0 = t.val
    rw [h]
    exact coords_val t

/-- The body works where the step is below the count. -/
theorem works_iff (i : grid0.Coords) (n : BitVec 32) : k0_cond1 i n = 1#1 ↔ ((i 0).val : Int) < n.toInt := by
  have hi : (i 0).val < 72 := (i 0).isLt
  rw [← below_iff _ (by omega : (i 0).val < 2147483648)]
  show Scalar.cmpi .ne (Scalar.extui (Scalar.cmpi .slt (BitVec.ofNat 32 (i 0).val) n)) 0#32 = 1#1 ↔
    Scalar.cmpi .slt (BitVec.ofNat 32 (i 0).val) n = 1#1
  generalize Scalar.cmpi .slt (BitVec.ofNat 32 (i 0).val) n = b
  revert b
  decide

/-! ## What the result's block holds -/

/-- The entry of a tile's row: its expert applied to the row. -/
def result (T : Fin 72) (he : (expertOf (tables m) T).toNat < 8) (r : Fin 512) (k : Fin 1024) : EReal :=
  glu (fun j => m ((c : Thread nD τ).loc main_arg3) (ix2 (⟨512 * T.val + r.val, by omega⟩ : Fin 36864) j))
    (fun j f => m ((c : Thread nD τ).loc main_arg4) (ix3 (⟨(expertOf (tables m) T).toNat, he⟩ : Fin 8) j (⟨f.val, by omega⟩ : Fin 7168)))
    (fun j f => m ((c : Thread nD τ).loc main_arg4) (ix3 (⟨(expertOf (tables m) T).toNat, he⟩ : Fin 8) j (⟨3584 + f.val, by omega⟩ : Fin 7168)))
    (fun f => m ((c : Thread nD τ).loc main_arg5) (ix3 (⟨(expertOf (tables m) T).toNat, he⟩ : Fin 8) f k))

/-- A block holds the entries of a tile in the rows in use. -/
def Holds (T : ℕ) (X : Vec Ideal S512x1024 .bf16) : Prop :=
  ∀ (hT : T < 72), Known (rowsOf (tables m) ⟨T, hT⟩) → ∀ (r : Fin 512) (k : Fin 1024), r.val < (rowsOf (tables m) ⟨T, hT⟩).toNat →
    X (ix2 r k) = result m c ⟨T, hT⟩ (hb.expert _) r k

/-- A step below the count leaves its tile's entries. -/
theorem holds_of_works (t : Fin (grid m hO).N) (Y X : Vec Ideal S512x1024 .bf16) (h : LeftAt m hO c t Y X)
    (ht : t.val < (countOf (tables m)).toNat) : Holds m hb c t.val X := by
  intro hT hk r k hr
  obtain ⟨e, h1, -⟩ := pos_word _ hb.count
  have hw : k0_cond1 (grid0.coords t) (countWord c (tables m 1)) = 1#1 := by
    rw [works_iff, count_eq, coords_val, e]
    exact Int.ofNat_lt.2 ht
  have hrow := rows_eq m hO c t
  have hx := Left.entry h hw (by rw [hrow]; exact hk) r (by rw [hrow]; exact hr) k
  have htile : tileOf m t.val = t.val := by unfold tileOf; omega
  have hlt : 512 * tileOf m t.val + r.val < 36864 := by rw [htile]; omega
  have h512 : (⟨512 * tileOf m t.val + r.val, hlt⟩ : Fin 36864) = ⟨512 * t.val + r.val, by omega⟩ := Fin.ext (congrArg (512 * · + r.val) htile)
  refine hx.trans ?_
  unfold Tiles.entry result
  simp only [block0_at m hO hb c t r _ hlt, block1_at m hO c t _ _ (hb.expert _), block2_at m hO c t _ _ (hb.expert _),
    block3_at m hO c t _ _ (hb.expert _), h512]

/-- Every step leaves, in the result's block, the entries of the tile it names. -/
theorem leaves_holds (n : ℕ) : ∀ (t : Fin (grid m hO).N), t.val = n → ∀ X, (data m hO c).Leaves 4 t X → Holds m hb c (tileOf m n) X := by
  have hcount := pos_word _ hb.count
  induction n with
  | zero =>
    rintro t ht X ⟨Y, -, h⟩
    have := holds_of_works m hO hb c t Y X h (by omega)
    rw [ht] at this
    have e : tileOf m 0 = 0 := Nat.zero_min _
    rw [e]
    exact this
  | succ n ih =>
    rintro t ht X ⟨Y, hY, h⟩
    by_cases hlt : t.val < (countOf (tables m)).toNat
    · have := holds_of_works m hO hb c t Y X h hlt
      have e : tileOf m (n + 1) = t.val := by unfold tileOf; omega
      rw [e]
      exact this
    · have hw : k0_cond1 (grid0.coords t) (countWord c (tables m 1)) ≠ 1#1 := by
        rw [Ne, works_iff, count_eq, coords_val, hcount.1]
        exact fun hc => hlt (Int.ofNat_lt.1 hc)
      obtain rfl : X = Y := Left.idle h hw
      have hsame : tileOf m (n + 1) = tileOf m n := by unfold tileOf; omega
      rw [hsame]
      have hf : ((grid m hO).win 4).fetch t = false := rfl
      rw [(data m hO c).finds_of_pos hf (by omega)] at hY
      rcases hY with hY | hY
      · rw [flush_iff m hO hb] at hY
        have ht' := step_lt m hO t
        rcases hY with hY | hY
        · change t.val - 1 = 71 at hY
          omega
        · refine absurd ?_ hY
          show tileOf m (t.val - 1 + 1) = tileOf m (t.val - 1)
          rw [ht]
          exact hsame
      · exact ih _ (by show t.val - 1 = n; omega) X hY

/-! ## The array -/

include hb in
/-- A tile below the count is written back at some step. -/
theorem covered (T : Fin 72) (hT : T.val < (countOf (tables m)).toNat) :
    ∃ t : Fin (grid m hO).N, ((grid m hO).win 4).flush t = true ∧ tileOf m t.val = T.val := by
  by_cases h : T.val + 1 = (countOf (tables m)).toNat
  · refine ⟨stepAt m hO ⟨71, by omega⟩, (flush_iff m hO hb _).2 (.inl rfl), ?_⟩
    show min 71 _ = _
    omega
  · by_cases h71 : T.val = 71
    · exact ⟨stepAt m hO T, (flush_iff m hO hb _).2 (.inl h71), by show min T.val _ = _; omega⟩
    · refine ⟨stepAt m hO T, (flush_iff m hO hb _).2 (.inr ?_), by show min T.val _ = _; omega⟩
      show min (T.val + 1) _ ≠ min T.val _
      omega

/-- Where an element of the result's block lies in the array, at a step. -/
def place (u : Fin (grid m hO).N) (y : S512x1024.Idx) : S36864x1024.Idx := (((grid m hO).win 4).blk u).view.emb y

include hb in
theorem place_row (u : Fin (grid m hO).N) (y : S512x1024.Idx) : (place m hO u y 0).val = 512 * tileOf m u.val + (y 0).val := by
  refine (((grid m hO).win 4).rect_emb_val u y (0 : Fin 2)).trans ?_
  rw [index4 m hO hb u]
  show tileOf m u.val * 512 + (y 0).val = _
  omega
include hb in
theorem place_col (u : Fin (grid m hO).N) (y : S512x1024.Idx) : (place m hO u y 1).val = (y 1).val := by
  refine (((grid m hO).win 4).rect_emb_val u y (1 : Fin 2)).trans ?_
  rw [index4 m hO hb u]
  show 0 * 1024 + (y 1).val = _
  omega

/-- Every row in use of the final array holds its entry. -/
theorem final (after : (w : Fin (grid m hO).W) → Fin (grid m hO).N → ((grid m hO).win w).block.Idx → Elt Ideal ((grid m hO).win w).elt)
    (hA : ∀ w u, ((grid m hO).win w).flush u = true → (data m hO c).Leaves w u (after w u)) (T : Fin 72)
    (hT : T.val < (countOf (tables m)).toNat) (hk : Known (rowsOf (tables m) T)) (r : Fin 512) (k : Fin 1024)
    (hr : r.val < (rowsOf (tables m) T).toNat) :
    ((data m hO c).withAfter after).arrAt 4 (grid m hO).N (ix2 (⟨512 * T.val + r.val, by omega⟩ : Fin 36864) k) =
      result m c T (hb.expert _) r k := by
  obtain ⟨t, hf, ht⟩ := covered m hO hb T hT
  have key : ∀ (u : Fin (grid m hO).N), ((grid m hO).win 4).flush u = true → ∀ y : S512x1024.Idx,
      place m hO u y = ix2 (⟨512 * T.val + r.val, by omega⟩ : Fin 36864) k → after 4 u y = result m c T (hb.expert _) r k := by
    intro u hu y hy
    have y0 : (y 0).val < 512 := (y 0).isLt
    have h0 := place_row m hO hb u y
    have h1 := place_col m hO hb u y
    rw [hy] at h0 h1
    change 512 * T.val + r.val = 512 * tileOf m u.val + (y 0).val at h0
    change k.val = (y 1).val at h1
    have hT' : tileOf m u.val = T.val := by omega
    have hold := leaves_holds m hO hb c u.val u rfl _ (hA 4 u hu)
    rw [hT'] at hold
    refine Eq.trans ?_ (hold T.isLt hk r k hr)
    refine congrArg (after 4 u) (funext fun a => Fin.ext ?_)
    match a with
    | ⟨0, _⟩ => show (y 0).val = r.val; omega
    | ⟨1, _⟩ => show (y 1).val = k.val; omega
  have hmem : place m hO t (ix2 r k) = ix2 (⟨512 * T.val + r.val, by omega⟩ : Fin 36864) k := by
    have h0 := place_row m hO hb t (ix2 r k)
    have h1 := place_col m hO hb t (ix2 r k)
    refine funext fun a => Fin.ext ?_
    match a with
    | ⟨0, _⟩ => exact h0.trans (congrArg (512 * · + r.val) ht)
    | ⟨1, _⟩ => exact h1
  exact ((data m hO c).withAfter after).arrAt_forall_of_flushed 4
    (fun i v => i = (ix2 (⟨512 * T.val + r.val, by omega⟩ : Fin 36864) k : S36864x1024.Idx) → v = result m c T (hb.expert _) r k)
    (fun u hu y hy => key u hu y hy) (grid m hO).N t _ t.isLt hf
    (hmem ▸ (((grid m hO).win 4).blk t).view.emb_mem_set (ix2 r k)) rfl

end Cert.ExpertsIdeal.Tiles

end
-- ==== Proof.ExpertsRef.lean ====
/-
  The reference of the experts read at an index: every expert's feed-forward network of every row, weighted by one where the
  row's tile names the expert and by zero elsewhere.
-/
module

public import proofs.«01_k».proof.Proof.Gen.AllExpertsIdeal.Run
public import proofs.«01_k».proof.Proof.Glu
public import Idealize.ShloMosaic.Lib.IdealHost

@[expose] public section

set_option maxRecDepth 8192

noncomputable section

namespace Cert.AllExpertsIdeal.Read

open Idealize.ShloMosaic hiding ix1 ix2 ix3 ix4 addf_apply subf_apply mulf_apply divf_apply truncf_apply extf_apply constant_apply
open Idealize.ShloMosaic.ValueIdx Idealize.ShloMosaic.Pipeline Idealize.ShloMosaic.TcCoe Idealize.SL.Sem
open Cert.AllExpertsIdeal Cert.AllExpertsIdeal.Gen Cert.Moe
open scoped BigOperators

/-- A host product of two matrices at an index, whatever the extents. -/
theorem dot_apply {A K B : ℕ} (D : DotDims ⟨2, ![A, K]⟩ ⟨2, ![K, B]⟩ ⟨2, ![A, B]⟩) (hD : D = DotDims.plain A K B)
    (l : FVec Ideal ⟨2, ![A, K]⟩ .f32) (r : FVec Ideal ⟨2, ![K, B]⟩ .f32) (a : Fin A) (b : Fin B) :
    Host.dotGeneral D none l r (ix2 a b) = ∑ k : Fin K, l (ix2 a k) * r (ix2 k b) := by
  subst hD
  show FloatOps.dotGeneral _ _ _ _ _ _ = _
  rw [Ideal.dotGeneral_apply, ← Equiv.sum_comp (contrEquiv1 _ K rfl rfl).symm]
  refine Finset.sum_congr rfl fun e _ => ?_
  have he := contrEquiv1_symm_val (DotDims.plain A K B) K rfl rfl e
  refine congrArg₂ (· * ·) (congrArg l ?_) (congrArg r ?_)
  · funext a; apply Fin.ext
    match a with
    | ⟨0, _⟩ => rfl
    | ⟨1, _⟩ => exact he
  · funext a; apply Fin.ext
    match a with
    | ⟨0, _⟩ => exact he
    | ⟨1, _⟩ => rfl

/-- The hidden units of every row, from the gate and the other projection. -/
def hidden (P : FVec Ideal S36864x7168 .f32) : FVec Ideal S36864x3584 .f32 :=
  mulf (mulf (extractStridedSlice S36864x3584 ![0, 0] P slices_S36864x7168_S36864x3584_0_0)
      (Host.divf (broadcastInDim S36864x3584 ![] bcast_S_S36864x3584 (constant S_ .f32 0x3F800000#32))
        (addf (broadcastInDim S36864x3584 ![] bcast_S_S36864x3584 (constant S_ .f32 0x3F800000#32))
          (Host.exp (Host.negf (extractStridedSlice S36864x3584 ![0, 0] P slices_S36864x7168_S36864x3584_0_0))))))
    (extractStridedSlice S36864x3584 ![0, 3584] P slices_S36864x7168_S36864x3584_0_3584)

/-- One expert's network of every row. -/
def network (X : FVec Ideal S36864x1024 .f32) (W : FVec Ideal S1x1024x7168 .f32) (D : FVec Ideal S1x3584x1024 .f32) :
    FVec Ideal S36864x1024 .f32 :=
  Host.dotGeneral dot_S36864x3584_S3584x1024_S36864x1024_1_0_0_1_n_n none
    (hidden (Host.dotGeneral dot_S36864x1024_S1024x7168_S36864x7168_1_0_0_1_n_n none X
      (shapeCast S1024x7168 W shapeCasts_S1x1024x7168_S1024x7168)))
    (shapeCast S3584x1024 D shapeCasts_S1x3584x1024_S3584x1024)

/-- Which expert each row's tile names, as zeros and ones. -/
def gates (te : IVec S72 32) : FVec Ideal S36864x8 .f32 :=
  uitofp .f32 (cmpi .eq (broadcastInDim S36864x8 ![0, 1] bcast_S36864x1_S36864x8_0_1
      (broadcastInDim S36864x1 ![0] bcast_S36864_S36864x1_0
        (shapeCast S36864 (broadcastInDim S72x512 ![0] bcast_S72_S72x512_0 te) shapeCasts_S72x512_S36864)))
    (broadcastInDim S36864x8 ![0, 1] bcast_S1x8_S36864x8_0_1 (iotaInDim S1x8 32 1)))

/-- One expert's part of the result. -/
def part (G : FVec Ideal S36864x1 .f32) (N : FVec Ideal S36864x1024 .f32) : FVec Ideal S36864x1024 .f32 :=
  mulf (broadcastInDim S36864x1024 ![0, 1] bcast_S36864x1_S36864x1024_0_1 G) N

/-- The reference's result, from its arguments. -/
def answer (te : IVec S72 32) (xs : FVec Ideal S36864x1024 .bf16) (wgu : FVec Ideal S8x1024x7168 .bf16)
    (wd : FVec Ideal S8x3584x1024 .bf16) : FVec Ideal S36864x1024 .bf16 :=
  let X := extf .f32 xs bitsLt_bf16_f32
  let W := extf .f32 wgu bitsLt_bf16_f32
  let D := extf .f32 wd bitsLt_bf16_f32
  let G := gates te
  truncf .bf16 (addf (addf (addf (addf (addf (addf (addf (addf (broadcastInDim S36864x1024 ![] bcast_S_S36864x1024 (constant S_ .f32 0x00000000#32))
    (part (extractStridedSlice S36864x1 ![0, 0] G slices_S36864x8_S36864x1_0_0)
      (network X (extractStridedSlice S1x1024x7168 ![0, 0, 0] W slices_S8x1024x7168_S1x1024x7168_0_0_0)
        (extractStridedSlice S1x3584x1024 ![0, 0, 0] D slices_S8x3584x1024_S1x3584x1024_0_0_0))))
    (part (extractStridedSlice S36864x1 ![0, 1] G slices_S36864x8_S36864x1_0_1)
      (network X (extractStridedSlice S1x1024x7168 ![1, 0, 0] W slices_S8x1024x7168_S1x1024x7168_1_0_0)
        (extractStridedSlice S1x3584x1024 ![1, 0, 0] D slices_S8x3584x1024_S1x3584x1024_1_0_0))))
    (part (extractStridedSlice S36864x1 ![0, 2] G slices_S36864x8_S36864x1_0_2)
      (network X (extractStridedSlice S1x1024x7168 ![2, 0, 0] W slices_S8x1024x7168_S1x1024x7168_2_0_0)
        (extractStridedSlice S1x3584x1024 ![2, 0, 0] D slices_S8x3584x1024_S1x3584x1024_2_0_0))))
    (part (extractStridedSlice S36864x1 ![0, 3] G slices_S36864x8_S36864x1_0_3)
      (network X (extractStridedSlice S1x1024x7168 ![3, 0, 0] W slices_S8x1024x7168_S1x1024x7168_3_0_0)
        (extractStridedSlice S1x3584x1024 ![3, 0, 0] D slices_S8x3584x1024_S1x3584x1024_3_0_0))))
    (part (extractStridedSlice S36864x1 ![0, 4] G slices_S36864x8_S36864x1_0_4)
      (network X (extractStridedSlice S1x1024x7168 ![4, 0, 0] W slices_S8x1024x7168_S1x1024x7168_4_0_0)
        (extractStridedSlice S1x3584x1024 ![4, 0, 0] D slices_S8x3584x1024_S1x3584x1024_4_0_0))))
    (part (extractStridedSlice S36864x1 ![0, 5] G slices_S36864x8_S36864x1_0_5)
      (network X (extractStridedSlice S1x1024x7168 ![5, 0, 0] W slices_S8x1024x7168_S1x1024x7168_5_0_0)
        (extractStridedSlice S1x3584x1024 ![5, 0, 0] D slices_S8x3584x1024_S1x3584x1024_5_0_0))))
    (part (extractStridedSlice S36864x1 ![0, 6] G slices_S36864x8_S36864x1_0_6)
      (network X (extractStridedSlice S1x1024x7168 ![6, 0, 0] W slices_S8x1024x7168_S1x1024x7168_6_0_0)
        (extractStridedSlice S1x3584x1024 ![6, 0, 0] D slices_S8x3584x1024_S1x3584x1024_6_0_0))))
    (part (extractStridedSlice S36864x1 ![0, 7] G slices_S36864x8_S36864x1_0_7)
      (network X (extractStridedSlice S1x1024x7168 ![7, 0, 0] W slices_S8x1024x7168_S1x1024x7168_7_0_0)
        (extractStridedSlice S1x3584x1024 ![7, 0, 0] D slices_S8x3584x1024_S1x3584x1024_7_0_0)))) bitsLt_bf16_f32

/-- The run ends with that array as its result, and the arguments unchanged. -/
theorem run_answer (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v119) = answer (m ((c.tc : Thread nD τ).loc main_arg0)) (m ((c.tc : Thread nD τ).loc main_arg3))
        (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  Value.run m ρ

theorem one_f32 : Ideal.ofBits .f32 0x3F800000#32 = 1 := by
  simp [Ideal.ofBits, Ideal.ieee]
  rw [← EReal.coe_mul]
  norm_num

/-- A hidden unit, read at a row. -/
theorem hidden_apply (X : FVec Ideal S36864x1024 .f32) (W : FVec Ideal S1x1024x7168 .f32) (r : Fin 36864) (f : Fin 3584) :
    hidden (Host.dotGeneral dot_S36864x1024_S1024x7168_S36864x7168_1_0_0_1_n_n none X
        (shapeCast S1024x7168 W shapeCasts_S1x1024x7168_S1024x7168)) (ix2 r f)
      = unit (fun k => X (ix2 r k)) (fun k => W (ix3 0 k ⟨f.val, by omega⟩)) (fun k => W (ix3 0 k ⟨3584 + f.val, by omega⟩)) := by
  set P := Host.dotGeneral dot_S36864x1024_S1024x7168_S36864x7168_1_0_0_1_n_n none X
        (shapeCast S1024x7168 W shapeCasts_S1x1024x7168_S1024x7168) with hP
  have hp : ∀ q : Fin 7168, P (ix2 r q) = ∑ k : Fin 1024, X (ix2 r k) * W (ix3 0 k q) := fun q => by
    rw [hP]
    refine (dot_apply _ rfl _ _ r q).trans (Finset.sum_congr rfl fun k _ => ?_)
    rw [plane_apply]
  have h0 : extractStridedSlice S36864x3584 ![0, 0] P slices_S36864x7168_S36864x3584_0_0 (ix2 r f) = P (ix2 r ⟨f.val, by omega⟩) := by
    refine congrArg P (funext fun a => Fin.ext ?_)
    match a with
    | ⟨0, _⟩ => exact Nat.zero_add _
    | ⟨1, _⟩ => exact Nat.zero_add _
  have h1 : extractStridedSlice S36864x3584 ![0, 3584] P slices_S36864x7168_S36864x3584_0_3584 (ix2 r f)
      = P (ix2 r ⟨3584 + f.val, by omega⟩) := by
    refine congrArg P (funext fun a => Fin.ext ?_)
    match a with
    | ⟨0, _⟩ => exact Nat.zero_add _
    | ⟨1, _⟩ => rfl
  have hc : broadcastInDim S36864x3584 ![] bcast_S_S36864x3584 (constant (F := Ideal) S_ .f32 0x3F800000#32) (ix2 r f) = 1 := by
    rw [broadcastInDim_scalar_apply]; exact one_f32
  unfold hidden unit
  rw [← hp, ← hp, ← h0, ← h1, Ideal.logistic]
  show _ * Ideal.div (broadcastInDim S36864x3584 ![] bcast_S_S36864x3584 (constant (F := Ideal) S_ .f32 0x3F800000#32) (ix2 r f))
      (broadcastInDim S36864x3584 ![] bcast_S_S36864x3584 (constant (F := Ideal) S_ .f32 0x3F800000#32) (ix2 r f) + _) * _ = _
  rw [hc]
  rfl

/-- One expert's network, read at an entry. -/
theorem network_apply (X : FVec Ideal S36864x1024 .f32) (W : FVec Ideal S1x1024x7168 .f32) (D : FVec Ideal S1x3584x1024 .f32)
    (r : Fin 36864) (c : Fin 1024) :
    network X W D (ix2 r c) = glu (fun k => X (ix2 r k)) (fun k f => W (ix3 0 k ⟨f.val, by omega⟩))
      (fun k f => W (ix3 0 k ⟨3584 + f.val, by omega⟩)) (fun f => D (ix3 0 f c)) := by
  unfold network
  refine (dot_apply _ rfl _ _ r c).trans (Finset.sum_congr rfl fun f _ => ?_)
  rw [hidden_apply, plane_apply]

/-- A gate is one where the row's tile names the expert and zero elsewhere. -/
theorem gates_apply (te : IVec S72 32) (r : Fin 36864) (e : Fin 8) :
    gates te (ix2 r e) = if te (ix1 ⟨r.val / 512, by omega⟩) = BitVec.ofNat 32 e.val then 1 else 0 := by
  have hcast : ∀ v : IVec S72x512 32, shapeCast S36864 v shapeCasts_S72x512_S36864 (ix1 r)
      = v (ix2 ⟨r.val / 512, by omega⟩ ⟨r.val % 512, Nat.mod_lt _ (by norm_num)⟩) := fun v => by
    refine shapeCast_apply v _ _ _ ?_
    rw [Shape.rowMajor_val_two, Shape.rowMajor_val_one]
    show r.val / 512 * 512 + r.val % 512 = r.val
    omega
  unfold gates
  show (((IntOp.cmpi .eq _ _).toNat : ℝ) : EReal) = _
  rw [broadcastInDim_apply (k := ix2 r 0), broadcastInDim_apply (k := ix1 r), hcast,
    broadcastInDim_apply (k := ix1 ⟨r.val / 512, by omega⟩), broadcastInDim_apply (k := ix2 0 e), iotaInDim_apply]
  · show (((BitVec.ofBool (te (ix1 ⟨r.val / 512, by omega⟩) == BitVec.ofNat 32 e.val)).toNat : ℝ) : EReal) = _
    by_cases h : te (ix1 ⟨r.val / 512, by omega⟩) = BitVec.ofNat 32 e.val
    · rw [if_pos h, beq_iff_eq.2 h]; simp
    · rw [if_neg h, beq_eq_false_iff_ne.2 h]; simp
  all_goals (intro a; fin_cases a <;> rfl)

variable (te : IVec S72 32) (xs : FVec Ideal S36864x1024 .bf16) (wgu : FVec Ideal S8x1024x7168 .bf16) (wd : FVec Ideal S8x3584x1024 .bf16)

/-- One expert's network of one row, at one column. -/
def value (e : Fin 8) (r : Fin 36864) (c : Fin 1024) : EReal :=
  glu (fun k => xs (ix2 r k)) (fun k f => wgu (ix3 e k ⟨f.val, by omega⟩)) (fun k f => wgu (ix3 e k ⟨3584 + f.val, by omega⟩))
    (fun f => wd (ix3 e f c))

/-- One expert's part, read at an entry. -/
theorem part_apply (e : Fin 8) (hg : S36864x8.Slices ![0, e.val] S36864x1) (hw : S8x1024x7168.Slices ![e.val, 0, 0] S1x1024x7168)
    (hd : S8x3584x1024.Slices ![e.val, 0, 0] S1x3584x1024) (r : Fin 36864) (c : Fin 1024) :
    part (extractStridedSlice S36864x1 ![0, e.val] (gates te) hg)
      (network (extf .f32 xs bitsLt_bf16_f32) (extractStridedSlice S1x1024x7168 ![e.val, 0, 0] (extf .f32 wgu bitsLt_bf16_f32) hw)
        (extractStridedSlice S1x3584x1024 ![e.val, 0, 0] (extf .f32 wd bitsLt_bf16_f32) hd)) (ix2 r c)
      = (if te (ix1 ⟨r.val / 512, by omega⟩) = BitVec.ofNat 32 e.val then 1 else 0) * value xs wgu wd e r c := by
  unfold part
  rw [mulf_apply, network_apply, broadcastInDim_apply (k := ix2 r 0)]
  · refine congrArg₂ (· * ·) ?_ ?_
    · rw [← gates_apply]
      refine congrArg (gates te) (funext fun a => Fin.ext ?_)
      match a with
      | ⟨0, _⟩ => exact Nat.zero_add _
      | ⟨1, _⟩ => rfl
    · have hW : ∀ (k : Fin 1024) (q : Fin 7168), extractStridedSlice S1x1024x7168 ![e.val, 0, 0] (extf .f32 wgu bitsLt_bf16_f32) hw (ix3 0 k q)
          = wgu (ix3 e k q) := fun k q => by
        refine congrArg wgu (funext fun a => Fin.ext ?_)
        match a with
        | ⟨0, _⟩ => rfl
        | ⟨1, _⟩ => exact Nat.zero_add _
        | ⟨2, _⟩ => exact Nat.zero_add _
      have hD : ∀ (k : Fin 3584) (q : Fin 1024), extractStridedSlice S1x3584x1024 ![e.val, 0, 0] (extf .f32 wd bitsLt_bf16_f32) hd (ix3 0 k q)
          = wd (ix3 e k q) := fun k q => by
        refine congrArg wd (funext fun a => Fin.ext ?_)
        match a with
        | ⟨0, _⟩ => rfl
        | ⟨1, _⟩ => exact Nat.zero_add _
        | ⟨2, _⟩ => exact Nat.zero_add _
      unfold value
      simp only [hW, hD]
      rfl
  all_goals (intro a; fin_cases a <;> rfl)

/-- The reference's entry, where the row's tile names expert `e`: that expert's network of the row. -/
theorem answer_apply (e : Fin 8) (r : Fin 36864) (c : Fin 1024) (he : te (ix1 ⟨r.val / 512, by omega⟩) = BitVec.ofNat 32 e.val) :
    answer te xs wgu wd (ix2 r c) = value xs wgu wd e r c := by
  have h0 : broadcastInDim S36864x1024 ![] bcast_S_S36864x1024 (constant (F := Ideal) S_ .f32 0x00000000#32) (ix2 r c) = 0 := by
    rw [broadcastInDim_scalar_apply]; exact Ideal.ofBits_zero_f32
  have key : answer te xs wgu wd (ix2 r c)
      = ((((((((0 + _) + _) + _) + _) + _) + _) + _) + _ : EReal) :=
    congrArg₂ (· + ·) (congrArg₂ (· + ·) (congrArg₂ (· + ·) (congrArg₂ (· + ·) (congrArg₂ (· + ·) (congrArg₂ (· + ·)
      (congrArg₂ (· + ·) (congrArg₂ (· + ·) h0
        (part_apply te xs wgu wd 0 _ _ _ r c)) (part_apply te xs wgu wd 1 _ _ _ r c)) (part_apply te xs wgu wd 2 _ _ _ r c))
        (part_apply te xs wgu wd 3 _ _ _ r c)) (part_apply te xs wgu wd 4 _ _ _ r c)) (part_apply te xs wgu wd 5 _ _ _ r c))
        (part_apply te xs wgu wd 6 _ _ _ r c)) (part_apply te xs wgu wd 7 _ _ _ r c)
  rw [key, he]
  fin_cases e <;> simp

end Cert.AllExpertsIdeal.Read

end
-- ==== Proof.ExpertsSame.lean ====
/-
  The experts' kernel and the reference hold one array at the rows in use.
-/
module

public import proofs.«01_k».proof.Proof.TilesFinal
public import proofs.«01_k».proof.Proof.ExpertsRef

@[expose] public section

set_option maxRecDepth 8192

noncomputable section

namespace Cert.ExpertsIdeal.Tiles

open Cert.ExpertsIdeal Cert.ExpertsIdeal.Gen Cert.Moe
open Idealize.ShloMosaic hiding ix1 ix2 ix3 ix4 addf_apply subf_apply mulf_apply divf_apply truncf_apply extf_apply constant_apply
open Idealize.ShloMosaic.ValueIdx Idealize.ShloMosaic.Pipeline Idealize.ShloMosaic.TcCoe Idealize.SL.Sem

variable (m : (ℓ : Loc nD τ sig) → Buf (Elt Ideal) ℓ) (ρ : Dev nD → PrngReg)

/-- The reference's array from the kernel's arguments. -/
def target (c : Dev nD) : S36864x1024.Idx → EReal :=
  Cert.AllExpertsIdeal.Read.answer (m ((c.tc : Thread nD τ).loc main_arg0)) (m ((c.tc : Thread nD τ).loc main_arg3))
    (m ((c.tc : Thread nD τ).loc main_arg4)) (m ((c.tc : Thread nD τ).loc main_arg5))

/-- An entry of a tile's row is the reference's. -/
theorem result_eq (hb : Bounded (tables m)) (c : Dev nD) (T : Fin 72) (r : Fin 512) (k : Fin 1024) :
    result m c T (hb.expert _) r k = target m c (ix2 (⟨512 * T.val + r.val, by omega⟩ : Fin 36864) k) := by
  obtain rfl : c = 0 := Subsingleton.elim _ _
  have he := hb.expert T
  refine (Cert.AllExpertsIdeal.Read.answer_apply _ _ _ _ (⟨(expertOf (tables m) T).toNat, he⟩ : Fin 8)
    (⟨512 * T.val + r.val, by omega⟩ : Fin 36864) k ?_).symm
  have hT : (⟨(512 * T.val + r.val) / 512, by omega⟩ : Fin 72) = T := Fin.ext (by show (512 * T.val + r.val) / 512 = T.val; omega)
  refine Eq.trans (b := expertOf (tables m) T) (congrArg (expertOf (tables m)) hT) ?_
  exact (by simp : expertOf (tables m) T = BitVec.ofNat 32 (expertOf (tables m) T).toNat)

variable [Cert.Pre_tables.Facts] [Cert.On_written.Facts]

/-- After a run, the rows in use hold the reference's entries, and the arguments are as they were. -/
theorem run_rows (hp : ∀ c : Dev nD, Cert.Pre_tables.fn (F := Ideal) (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))
      (m ((c.tc : Thread nD τ).loc main_arg5)) = fun _ => 1#1) :
    θ_run defs (onTc (τ := τ) (main (F := Ideal))) ⟨m, fun _ => 0, ρ⟩ fun r => ∀ c : Dev nD,
      (∀ i : S36864x1024.Idx, Cert.On_written.fn (F := Ideal) (m ((c.tc : Thread nD τ).loc main_arg0)) (m ((c.tc : Thread nD τ).loc main_arg1))
        (m ((c.tc : Thread nD τ).loc main_arg2)) (m ((c.tc : Thread nD τ).loc main_arg3)) (m ((c.tc : Thread nD τ).loc main_arg4))
        (m ((c.tc : Thread nD τ).loc main_arg5)) i = 1#1 → r.2.mem ((c.tc : Thread nD τ).loc main_v0) i = target m c i)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) := by
  have hb : Bounded (tables m) := bounded_of_pre m 0 (hp 0)
  have hO : Fits m := ok_of_bounded (tables m) hb
  refine (θ_run defs _ _).mono (fun r h c => ⟨fun i hi => ?_,
     (h.1 c).2 main_arg0 (by decide : main_arg0 ∈ Pipeline.restRefs sig spec0),
     (h.1 c).2 main_arg1 (by decide : main_arg1 ∈ Pipeline.restRefs sig spec0),
     (h.1 c).2 main_arg2 (by decide : main_arg2 ∈ Pipeline.restRefs sig spec0),
     h.1.arr_in c 0 rfl, h.1.arr_in c 2 rfl, h.1.arr_in c 3 rfl⟩) (runs m ρ hO)
  obtain ⟨after, hL, hA⟩ := h.1.exists_exact c
  have h0 : (i 0).val < 36864 := (i 0).isLt
  obtain ⟨T, hT⟩ : ∃ T : Fin 72, T.val = (i 0).val / 512 := ⟨⟨(i 0).val / 512, by omega⟩, rfl⟩
  obtain ⟨q, hq⟩ : ∃ q : Fin 512, q.val = (i 0).val % 512 := ⟨⟨(i 0).val % 512, by omega⟩, rfl⟩
  obtain ⟨k, hk⟩ : ∃ k : Fin 1024, k = i 1 := ⟨i 1, rfl⟩
  have hi2 : i = ix2 (⟨512 * T.val + q.val, by omega⟩ : Fin 36864) k := by
    refine funext fun a => ?_
    match a with
    | ⟨0, _⟩ => exact Fin.ext (by show (i 0).val = 512 * T.val + q.val; omega)
    | ⟨1, _⟩ => exact hk.symm
  rw [hi2] at hi ⊢
  obtain ⟨h1, h2, h3⟩ := written_at _ _ _ _ _ _ T q k hi
  obtain rfl : c = 0 := Subsingleton.elim _ _
  obtain ⟨e, -, -⟩ := pos_word _ hb.count
  have hcount : T.val < (countOf (tables m)).toNat := Int.ofNat_lt.1 (e ▸ h1)
  refine Eq.trans ?_ (result_eq m hb 0 T q k)
  exact (congrFun (hA 4) _).trans (final m hO hb 0 after hL T hcount h3 q k h2)

end Cert.ExpertsIdeal.Tiles

end
-- ==== Proof.DenseUnits.lean ====
/-
  One entry of the dense feed-forward part of a layer: the root-mean-square normalization of a row, its modulation, the
  2816 hidden units, their projection, the gate and the residual. And the same sum over the hidden units taken in eleven
  groups of 256, as the kernel takes it.
-/
module

public import proofs.«01_k».proof.Proof.Glu

@[expose] public section

set_option maxRecDepth 8192

noncomputable section

namespace Cert.Ffn

open Idealize.ShloMosaic hiding ix1 ix2 ix3 ix4 addf_apply subf_apply mulf_apply divf_apply truncf_apply extf_apply constant_apply
open Idealize.ShloMosaic.ValueIdx Idealize.ShloMosaic.Pipeline Cert.Moe
open scoped BigOperators

/-- A row, normalized by the root of its mean square, weighted, scaled and shifted, at column `k`. The two constants are
    1024 and the small number under the root. -/
def normed (x nw sc sh : Fin 1024 → EReal) (k : Fin 1024) : EReal :=
  x k * Ideal.rsqrt (Ideal.div (∑ j, x j * x j) (Ideal.ofBits .f32 0x44800000#32) + Ideal.ofBits .f32 0x358637BD#32)
    * (nw k * (Ideal.ofBits .f32 0x3F800000#32 + sc k)) + sh k

/-- A hidden unit's part of the projection, by the unit's number. -/
def term (h : Fin 1024 → EReal) (w : Fin 1024 → Fin 5632 → EReal) (d : Fin 2816 → EReal) (i : ℕ) : EReal :=
  if hi : i < 2816 then unit h (fun k => w k ⟨i, by omega⟩) (fun k => w k ⟨2816 + i, by omega⟩) * d ⟨i, hi⟩ else 0

/-- The projection of the hidden units of a row to one column. -/
def net (h : Fin 1024 → EReal) (w : Fin 1024 → Fin 5632 → EReal) (d : Fin 2816 → EReal) : EReal :=
  ∑ f : Fin 2816, unit h (fun k => w k ⟨f.val, by omega⟩) (fun k => w k ⟨2816 + f.val, by omega⟩) * d f

/-- The whole part of the layer: from the rows, the modulation, the norm's weights and the two weight matrices. -/
def layer (x : (⟨2, ![16384, 1024]⟩ : Shape).Idx → EReal) (md : (⟨2, ![1, 6144]⟩ : Shape).Idx → EReal)
    (nw : (⟨2, ![1, 1024]⟩ : Shape).Idx → EReal) (w : (⟨2, ![1024, 5632]⟩ : Shape).Idx → EReal)
    (d : (⟨2, ![2816, 1024]⟩ : Shape).Idx → EReal) (r : Fin 16384) (c : Fin 1024) : EReal :=
  x (ix2 r c) + md (ix2 0 ⟨5120 + c.val, by omega⟩)
    * net (normed (fun j => x (ix2 r j)) (fun j => nw (ix2 0 j)) (fun j => md (ix2 0 ⟨4096 + j.val, by omega⟩))
        (fun j => md (ix2 0 ⟨3072 + j.val, by omega⟩))) (fun k f => w (ix2 k f)) (fun f => d (ix2 f c))

/-- The 256 hidden units from number `n` on. -/
def part (h : Fin 1024 → EReal) (w : Fin 1024 → Fin 5632 → EReal) (d : Fin 2816 → EReal) (n : ℕ) : EReal :=
  ∑ i : Fin 256, term h w d (n + i.val)

theorem range_step (F : ℕ → EReal) (n : ℕ) :
    ∑ i ∈ Finset.range (n + 256), F i = ∑ i ∈ Finset.range n, F i + ∑ i : Fin 256, F (n + i.val) := by
  rw [Finset.sum_range_add, Fin.sum_univ_eq_sum_range (n := 256) (fun i => F (n + i))]

/-- The eleven groups add up to all the hidden units. -/
theorem parts_eq (h : Fin 1024 → EReal) (w : Fin 1024 → Fin 5632 → EReal) (d : Fin 2816 → EReal) :
    0 + part h w d 0 + part h w d 256 + part h w d 512 + part h w d 768 + part h w d 1024 + part h w d 1280
      + part h w d 1536 + part h w d 1792 + part h w d 2048 + part h w d 2304 + part h w d 2560 = net h w d := by
  have hs : ∑ i ∈ Finset.range 2816, term h w d i = net h w d := by
    rw [← Fin.sum_univ_eq_sum_range (n := 2816) (term h w d)]
    refine Finset.sum_congr rfl fun f _ => ?_
    rw [term, dif_pos f.isLt]
  have s0 := range_step (term h w d) 0
  rw [Finset.sum_range_zero] at s0
  have s1 := range_step (term h w d) 256
  have s2 := range_step (term h w d) 512
  have s3 := range_step (term h w d) 768
  have s4 := range_step (term h w d) 1024
  have s5 := range_step (term h w d) 1280
  have s6 := range_step (term h w d) 1536
  have s7 := range_step (term h w d) 1792
  have s8 := range_step (term h w d) 2048
  have s9 := range_step (term h w d) 2304
  have s10 := range_step (term h w d) 2560
  simp only [Nat.zero_add, Nat.reduceAdd] at s0 s1 s2 s3 s4 s5 s6 s7 s8 s9 s10
  rw [← hs, s10, s9, s8, s7, s6, s5, s4, s3, s2, s1, s0]
  simp only [part, Nat.zero_add]

/-- A product of two matrices onto a zero block. -/
theorem prod_apply {A K B : ℕ} (x : FVec Ideal ⟨2, ![A, K]⟩ .bf16) (w : FVec Ideal ⟨2, ![K, B]⟩ .bf16) (r : Fin A) (c : Fin B) :
    matmul (DotDims.plain A K B) none x w (constant ⟨2, ![A, B]⟩ .f32 0x00000000#32) (ix2 r c)
      = ∑ k : Fin K, x (ix2 r k) * w (ix2 k c) := by
  show FloatOps.matmul _ _ _ _ _ _ = _
  rw [Ideal.matmul_plain_apply, constant_apply, Ideal.ofBits_zero_f32, zero_add]

/-- What the kernel adds for 256 hidden units. -/
theorem group_apply {N : ℕ} (x : FVec Ideal ⟨2, ![N, 1024]⟩ .bf16) (g u : FVec Ideal ⟨2, ![1024, 256]⟩ .bf16)
    (d : FVec Ideal ⟨2, ![256, 1024]⟩ .bf16) (hb : FTy.bf16.bits < FTy.f32.bits) (r : Fin N) (c : Fin 1024) :
    matmul (DotDims.plain N 256 1024) none
        (truncf .bf16 (mulf (mulf (matmul (DotDims.plain N 1024 256) none x g (constant ⟨2, ![N, 256]⟩ .f32 0x00000000#32))
            (logistic (matmul (DotDims.plain N 1024 256) none x g (constant ⟨2, ![N, 256]⟩ .f32 0x00000000#32))))
          (matmul (DotDims.plain N 1024 256) none x u (constant ⟨2, ![N, 256]⟩ .f32 0x00000000#32))) hb)
        d (constant ⟨2, ![N, 1024]⟩ .f32 0x00000000#32) (ix2 r c)
      = ∑ f : Fin 256, unit (fun k => x (ix2 r k)) (fun k => g (ix2 k f)) (fun k => u (ix2 k f)) * d (ix2 f c) := by
  rw [prod_apply]
  refine Finset.sum_congr rfl fun f _ => congrArg (· * d (ix2 f c)) ?_
  unfold unit
  rw [← prod_apply x g r f, ← prod_apply x u r f]
  rfl

/-- The sum of a row, kept as one column and spread over the row again. -/
theorem row_sum_apply {N : ℕ} (P : FVec Ideal ⟨2, ![N, 1024]⟩ .f32)
    (hr : (⟨2, ![N, 1024]⟩ : Shape).Reduces [1] ⟨1, ![N]⟩) (hφ : FKind.Formats .f32)
    (hacc : (0x00000000#32) = FKind.add.neutral .f32 hφ) (r : Fin N) :
    multiReduction .add [1] ⟨1, ![N]⟩ P 0x00000000#32 hr hφ hacc (ix1 r) = ∑ k : Fin 1024, P (ix2 r k) := by
  rw [Ideal.multiReduction_add_single]
  refine Finset.sum_congr rfl fun a _ => congrArg _ (funext fun d => Fin.ext ?_)
  match d with
  | ⟨0, _⟩ => rfl
  | ⟨1, _⟩ => rfl

/-- A vector as one column. -/
theorem column_apply {N : ℕ} {α : Type} (v : (⟨1, ![N]⟩ : Shape).Idx → α)
    (h : (⟨1, ![N]⟩ : Shape).ShapeCasts ⟨2, ![N, 1]⟩) (r : Fin N) :
    shapeCast ⟨2, ![N, 1]⟩ v h (ix2 r 0) = v (ix1 r) := by
  refine shapeCast_apply v h _ _ ?_
  rw [Shape.rowMajor_val_one, Shape.rowMajor_val_two]
  show r.val = r.val * 1 + (0 : Fin 1).val
  simp

/-- One column spread over many. -/
theorem spread_apply {N B : ℕ} {α : Type} (v : (⟨2, ![N, 1]⟩ : Shape).Idx → α)
    (h : (⟨2, ![N, 1]⟩ : Shape).Broadcasts ⟨2, ![N, B]⟩) (r : Fin N) (c : Fin B) :
    broadcastTo ⟨2, ![N, B]⟩ v h (ix2 r c) = v (ix2 r 0) := by
  refine broadcastTo_apply v h (ix2 r c) (ix2 r 0) fun ax => ?_
  match ax with
  | ⟨0, _⟩ =>
    show r.val = if N = 1 then 0 else r.val
    split
    · have := r.isLt; omega
    · rfl
  | ⟨1, _⟩ => rfl

end Cert.Ffn

end
-- ==== Proof.DenseBlock.lean ====
/-
  What one grid step of the dense feed-forward kernel leaves in its output block, read at an index: 512 rows, each
  normalized and modulated, through eleven groups of 256 hidden units, gated and added to the row.
-/
module

public import proofs.«01_k».proof.Proof.DenseUnits
public import proofs.«01_k».proof.Proof.Gen.DenseIdeal.Value
public import proofs.«01_k».proof.Proof.Gen.DenseIdeal.Skeleton
public import Idealize.ShloMosaic.Lib.ValueLayout

@[expose] public section

set_option maxRecDepth 8192

noncomputable section

namespace Cert.DenseIdeal.Gen

open Idealize.ShloMosaic hiding ix1 ix2 ix3 ix4 addf_apply subf_apply mulf_apply divf_apply truncf_apply extf_apply constant_apply
open Idealize.ShloMosaic.ValueIdx Idealize.ShloMosaic.Pipeline Cert.Ffn Cert.Moe Idealize.ShloMosaic.TcCoe
open scoped BigOperators

/-- A row of the modulation array's block, by the column it starts at. -/
theorem mod_at (x1 : Vec Ideal S1x6144 .f32) (o : ℕ) (ho : o + 1024 ≤ 6144)
    (h : ∀ a, (![0, o] : Fin 2 → ℕ) a + S1x1024.size a ≤ S1x6144.size a) (k : Fin 1024) :
    View.ld x1 (Rect.unit (s := S1x6144) ![0, o] S1x1024.size h) (ix2 0 k) = x1 (ix2 0 ⟨o + k.val, by omega⟩) :=
  congrArg x1 (funext fun a => Fin.ext (match a with
    | ⟨0, _⟩ => rfl
    | ⟨1, _⟩ => congrArg (o + ·) (Nat.one_mul _)))

/-- The gate and the other columns of a group. -/
theorem cols_at (x3 : Vec Ideal S1024x5632 .bf16) (o : ℕ) (ho : o + 256 ≤ 5632)
    (h : ∀ a, (![0, o] : Fin 2 → ℕ) a + S1024x256.size a ≤ S1024x5632.size a) (k : Fin 1024) (f : Fin 256) :
    View.ld x3 (Rect.unit (s := S1024x5632) ![0, o] S1024x256.size h) (ix2 k f) = x3 (ix2 k ⟨o + f.val, by omega⟩) :=
  congrArg x3 (funext fun a => Fin.ext (match a with
    | ⟨0, _⟩ => (Nat.zero_add _).trans (Nat.one_mul _)
    | ⟨1, _⟩ => congrArg (o + ·) (Nat.one_mul _)))

/-- The down rows of a group. -/
theorem rows_at (x4 : Vec Ideal S2816x1024 .bf16) (o : ℕ) (ho : o + 256 ≤ 2816)
    (h : ∀ a, (![o, 0] : Fin 2 → ℕ) a + S256x1024.size a ≤ S2816x1024.size a) (f : Fin 256) (c : Fin 1024) :
    View.ld x4 (Rect.unit (s := S2816x1024) ![o, 0] S256x1024.size h) (ix2 f c) = x4 (ix2 ⟨o + f.val, by omega⟩ c) :=
  congrArg x4 (funext fun a => Fin.ext (match a with
    | ⟨0, _⟩ => congrArg (o + ·) (Nat.one_mul _)
    | ⟨1, _⟩ => (Nat.zero_add _).trans (Nat.one_mul _)))

/-- What one group of 256 hidden units adds, as the kernel computes it. -/
def group (H : FVec Ideal S512x1024 .bf16) (g u : FVec Ideal S1024x256 .bf16) (d : FVec Ideal S256x1024 .bf16) :
    FVec Ideal S512x1024 .f32 :=
  matmul dot_S512x256_S256x1024_S512x1024_1_0_0_1_n_n none
    (truncf .bf16 (mulf (mulf (matmul dot_S512x1024_S1024x256_S512x256_1_0_0_1_n_n none H g (constant S512x256 .f32 0x00000000#32))
        (logistic (matmul dot_S512x1024_S1024x256_S512x256_1_0_0_1_n_n none H g (constant S512x256 .f32 0x00000000#32))))
      (matmul dot_S512x1024_S1024x256_S512x256_1_0_0_1_n_n none H u (constant S512x256 .f32 0x00000000#32))) bitsLt_bf16_f32)
    d (constant S512x1024 .f32 0x00000000#32)

theorem group_at (H : FVec Ideal S512x1024 .bf16) (x3 : Vec Ideal S1024x5632 .bf16) (x4 : Vec Ideal S2816x1024 .bf16)
    (n p : ℕ) (hn : n + 256 ≤ 2816) (hp : p = 2816 + n)
    (hg : ∀ a, (![0, n] : Fin 2 → ℕ) a + S1024x256.size a ≤ S1024x5632.size a)
    (hu : ∀ a, (![0, p] : Fin 2 → ℕ) a + S1024x256.size a ≤ S1024x5632.size a)
    (hd : ∀ a, (![n, 0] : Fin 2 → ℕ) a + S256x1024.size a ≤ S2816x1024.size a) (r : Fin 512) (c : Fin 1024) :
    group H (View.ld x3 (Rect.unit (s := S1024x5632) ![0, n] S1024x256.size hg))
        (View.ld x3 (Rect.unit (s := S1024x5632) ![0, p] S1024x256.size hu))
        (View.ld x4 (Rect.unit (s := S2816x1024) ![n, 0] S256x1024.size hd)) (ix2 r c)
      = part (fun k => H (ix2 r k)) (fun k f => x3 (ix2 k f)) (fun f => x4 (ix2 f c)) n := by
  subst hp
  refine (group_apply H _ _ _ bitsLt_bf16_f32 r c).trans (Finset.sum_congr rfl fun f _ => ?_)
  rw [term, dif_pos (show n + f.val < 2816 by omega), rows_at x4 n hn hd f c]
  refine congrArg (· * _) (congrArg₂ (unit _) (funext fun k => ?_) (funext fun k => ?_))
  · exact cols_at x3 n (by omega) hg k f
  · rw [cols_at x3 (2816 + n) (by omega) hu k f]
    exact congrArg x3 (congrArg (ix2 k) (Fin.ext (by show 2816 + n + f.val = 2816 + (n + f.val); omega)))

/-- The rows of a block, normalized and modulated. -/
theorem normed_at (v3 : FVec Ideal S512x1024 .f32) (v4 v5 v7 : FVec Ideal S1x1024 .f32) (r : Fin 512) (k : Fin 1024) :
    k0_pay3 (F := Ideal) v3 v4 v5 v7 (ix2 r k)
      = normed (fun j => v3 (ix2 r j)) (fun j => v7 (ix2 0 j)) (fun j => v5 (ix2 0 j)) (fun j => v4 (ix2 0 j)) k := by
  have e1 := broadcastTo_1b_ab_apply v4 broadcasts_S1x1024_S512x1024 r k
  have e2 := broadcastTo_1b_ab_apply (mulf v7 (addf (broadcast S1x1024 (Scalar.ofBits (F := Ideal) .f32 0x3F800000#32)) v5))
    broadcasts_S1x1024_S512x1024 r k
  have e3 := row_sum_apply (N := 512) (mulf v3 v3) reduces_S512x1024_S512 (.inl rfl) rfl r
  have e4 := column_apply (N := 512) (multiReduction .add [1] S512 (mulf v3 v3) 0x00000000#32 reduces_S512x1024_S512 (.inl rfl) rfl)
    shapeCasts_S512_S512x1 r
  have e5 := spread_apply (N := 512) (B := 1024) (rsqrt (addf (divf (shapeCast S512x1 (multiReduction .add [1] S512 (mulf v3 v3)
      0x00000000#32 reduces_S512x1024_S512 (.inl rfl) rfl) shapeCasts_S512_S512x1)
      (broadcast S512x1 (Scalar.ofBits (F := Ideal) .f32 0x44800000#32))) (broadcast S512x1 (Scalar.ofBits (F := Ideal) .f32 0x358637BD#32))))
    broadcasts_S512x1_S512x1024 r k
  have e6 : rsqrt (addf (divf (shapeCast S512x1 (multiReduction .add [1] S512 (mulf v3 v3)
      0x00000000#32 reduces_S512x1024_S512 (.inl rfl) rfl) shapeCasts_S512_S512x1)
      (broadcast S512x1 (Scalar.ofBits (F := Ideal) .f32 0x44800000#32))) (broadcast S512x1 (Scalar.ofBits (F := Ideal) .f32 0x358637BD#32)))
        (ix2 r 0) = Ideal.rsqrt (Ideal.div (∑ j : Fin 1024, v3 (ix2 r j) * v3 (ix2 r j)) (Ideal.ofBits .f32 0x44800000#32)
          + Ideal.ofBits .f32 0x358637BD#32) :=
    congrArg (fun z => Ideal.rsqrt (Ideal.div z (Ideal.ofBits .f32 0x44800000#32) + Ideal.ofBits .f32 0x358637BD#32)) (e4.trans e3)
  exact congrArg₂ (· + ·) (congrArg₂ (· * ·) (congrArg (v3 (ix2 r k) * ·) (e5.trans e6)) e2) e1

/-- The output block of a grid step. -/
theorem out6_at (x0 : Vec Ideal S512x1024 .f32) (x1 : Vec Ideal S1x6144 .f32) (x2 : Vec Ideal S1x1024 .f32)
    (x3 : Vec Ideal S1024x5632 .bf16) (x4 : Vec Ideal S2816x1024 .bf16) (x5 : Vec Ideal S1x1024x1792 .f32) (r : Fin 512) (c : Fin 1024) :
    out0_6 x0 x1 x2 x3 x4 x5 (ix2 r c)
      = x0 (ix2 r c) + x1 (ix2 0 ⟨5120 + c.val, by omega⟩)
        * net (normed (fun j => x0 (ix2 r j)) (fun j => x2 (ix2 0 j)) (fun j => x1 (ix2 0 ⟨4096 + j.val, by omega⟩))
            (fun j => x1 (ix2 0 ⟨3072 + j.val, by omega⟩))) (fun k f => x3 (ix2 k f)) (fun f => x4 (ix2 f c)) := by
  have hH : (fun k => k0_pay16 x0 x1 x2 x3 x4 x5 (ix2 r k))
      = normed (fun j => x0 (ix2 r j)) (fun j => x2 (ix2 0 j)) (fun j => x1 (ix2 0 ⟨4096 + j.val, by omega⟩))
            (fun j => x1 (ix2 0 ⟨3072 + j.val, by omega⟩)) := funext fun k => by
    rw [k0_pay16, normed_at]
    have a0 : (fun j => View.ld x0 r0_1 (ix2 r j)) = fun j => x0 (ix2 r j) := funext fun j =>
      congrArg x0 (funext fun a => Fin.ext (match a with
        | ⟨0, _⟩ => (Nat.zero_add _).trans (Nat.one_mul _)
        | ⟨1, _⟩ => (Nat.zero_add _).trans (Nat.one_mul _)))
    have a2 : (fun j => View.ld x2 r0_5 (ix2 0 j)) = fun j => x2 (ix2 0 j) := funext fun j =>
      congrArg x2 (funext fun a => Fin.ext (match a with
        | ⟨0, _⟩ => rfl
        | ⟨1, _⟩ => (Nat.zero_add _).trans (Nat.one_mul _)))
    rw [a0, a2, funext fun j => mod_at x1 4096 (by omega) inb_S1x6144_S1x1024_0_4096 j,
      funext fun j => mod_at x1 3072 (by omega) inb_S1x6144_S1x1024_0_3072 j]
  set H := k0_pay16 x0 x1 x2 x3 x4 x5 with hHd
  have hc : out0_6 x0 x1 x2 x3 x4 x5
      = addf (View.ld x0 r0_1) (mulf (broadcastTo S512x1024 (View.ld x1 r0_4) broadcasts_S1x1024_S512x1024)
        (addf (addf (addf (addf (addf (addf (addf (addf (addf (addf (addf (broadcast S512x1024 (Scalar.ofBits (F := Ideal) .f32 0x00000000#32))
          (group H (View.ld x3 r0_6) (View.ld x3 r0_7) (View.ld x4 r0_8)))
          (group H (View.ld x3 r0_9) (View.ld x3 r0_10) (View.ld x4 r0_11)))
          (group H (View.ld x3 r0_12) (View.ld x3 r0_13) (View.ld x4 r0_14)))
          (group H (View.ld x3 r0_15) (View.ld x3 r0_16) (View.ld x4 r0_17)))
          (group H (View.ld x3 r0_18) (View.ld x3 r0_19) (View.ld x4 r0_20)))
          (group H (View.ld x3 r0_21) (View.ld x3 r0_22) (View.ld x4 r0_23)))
          (group H (View.ld x3 r0_24) (View.ld x3 r0_25) (View.ld x4 r0_26)))
          (group H (View.ld x3 r0_27) (View.ld x3 r0_28) (View.ld x4 r0_29)))
          (group H (View.ld x3 r0_30) (View.ld x3 r0_31) (View.ld x4 r0_32)))
          (group H (View.ld x3 r0_33) (View.ld x3 r0_34) (View.ld x4 r0_35)))
          (group H (View.ld x3 r0_36) (View.ld x3 r0_37) (View.ld x4 r0_38)))) := by
    unfold out0_6
    rw [View.canon_cons_unit_lit _ _ _ (by decide)]
    rfl
  rw [hc, ← hH]
  have b0 : View.ld x0 r0_1 (ix2 r c) = x0 (ix2 r c) :=
    congrArg x0 (funext fun a => Fin.ext (match a with
      | ⟨0, _⟩ => (Nat.zero_add _).trans (Nat.one_mul _)
      | ⟨1, _⟩ => (Nat.zero_add _).trans (Nat.one_mul _)))
  have b1 := (broadcastTo_1b_ab_apply (View.ld x1 r0_4) broadcasts_S1x1024_S512x1024 r c).trans
    (mod_at x1 5120 (by omega) inb_S1x6144_S1x1024_0_5120 c)
  rw [← parts_eq]
  simp only [← Ideal.ofBits_zero_f32]
  refine congrArg₂ (· + ·) b0 (congrArg₂ (· * ·) b1 ?_)
  refine congrArg₂ (· + ·) ?_ (group_at H x3 x4 2560 5376 (by omega) rfl _ _ _ r c)
  refine congrArg₂ (· + ·) ?_ (group_at H x3 x4 2304 5120 (by omega) rfl _ _ _ r c)
  refine congrArg₂ (· + ·) ?_ (group_at H x3 x4 2048 4864 (by omega) rfl _ _ _ r c)
  refine congrArg₂ (· + ·) ?_ (group_at H x3 x4 1792 4608 (by omega) rfl _ _ _ r c)
  refine congrArg₂ (· + ·) ?_ (group_at H x3 x4 1536 4352 (by omega) rfl _ _ _ r c)
  refine congrArg₂ (· + ·) ?_ (group_at H x3 x4 1280 4096 (by omega) rfl _ _ _ r c)
  refine congrArg₂ (· + ·) ?_ (group_at H x3 x4 1024 3840 (by omega) rfl _ _ _ r c)
  refine congrArg₂ (· + ·) ?_ (group_at H x3 x4 768 3584 (by omega) rfl _ _ _ r c)
  refine congrArg₂ (· + ·) ?_ (group_at H x3 x4 512 3328 (by omega) rfl _ _ _ r c)
  refine congrArg₂ (· + ·) ?_ (group_at H x3 x4 256 3072 (by omega) rfl _ _ _ r c)
  exact congrArg₂ (· + ·) rfl (group_at H x3 x4 0 2816 (by omega) rfl _ _ _ r c)

/-- The other output block: the side array's block, cast. -/
theorem out7_at (x0 : Vec Ideal S512x1024 .f32) (x1 : Vec Ideal S1x6144 .f32) (x2 : Vec Ideal S1x1024 .f32)
    (x3 : Vec Ideal S1024x5632 .bf16) (x4 : Vec Ideal S2816x1024 .bf16) (x5 : Vec Ideal S1x1024x1792 .f32) (a : Fin 1024) (b : Fin 1792) :
    out0_7 x0 x1 x2 x3 x4 x5 (ix3 0 a b) = x5 (ix3 0 a b) := by
  have hc : out0_7 x0 x1 x2 x3 x4 x5 = k0_pay2 (View.ld x5 r0_0) := by
    unfold out0_7
    rw [View.canon_cons_unit_lit _ _ _ (by decide)]
  rw [hc]
  exact congrArg x5 (funext fun d => Fin.ext (match d with
    | ⟨0, _⟩ => rfl
    | ⟨1, _⟩ => (Nat.zero_add _).trans (Nat.one_mul _)
    | ⟨2, _⟩ => (Nat.zero_add _).trans (Nat.one_mul _)))

end Cert.DenseIdeal.Gen

end
-- ==== Proof.DenseFinal.lean ====
/-
  The two result arrays of the dense feed-forward kernel after its 32 grid steps.
-/
module

public import proofs.«01_k».proof.Proof.DenseBlock

@[expose] public section

set_option maxRecDepth 8192

noncomputable section

namespace Cert.DenseIdeal.Gen

open Idealize.ShloMosaic hiding ix1 ix2 ix3 ix4 addf_apply subf_apply mulf_apply divf_apply truncf_apply extf_apply constant_apply
open Idealize.ShloMosaic.ValueIdx Idealize.ShloMosaic.Pipeline Cert.Ffn Cert.Moe Idealize.ShloMosaic.TcCoe
open scoped BigOperators

/-- The blocks of a grid step: 512 rows, everything of the weights, and a quarter of one plane of the side array. -/
theorem index_eq : ∀ t : Fin grid0.N,
    win0_0.index t = ![t.val, 0] ∧ win0_1.index t = ![0, 0] ∧ win0_2.index t = ![0, 0] ∧ win0_3.index t = ![0, 0]
      ∧ win0_4.index t = ![0, 0] ∧ win0_5.index t = ![t.val / 4, 0, t.val % 4] ∧ win0_6.index t = ![t.val, 0]
      ∧ win0_7.index t = ![t.val / 4, 0, t.val % 4] := by
  decide +kernel

variable (m : (ℓ : Loc nD τ sig) → Buf (Elt Ideal) ℓ) (c : Dev nD) (t : Fin cfg0.N)

theorem step_lt : t.val < 32 := t.isLt

theorem rows_in (r : Fin 512) (k : Fin 1024) :
    iblk m c 0 t (ix2 r k) = m ((c : Thread nD τ).loc main_arg0) (ix2 ⟨512 * t.val + r.val, by have := step_lt t; omega⟩ k) := by
  have e0 := (index_eq t).1
  blk_simp [iblk]
  rw [V_main_arg0 m c]
  blk_ext [e0]
  show t.val * 512 + r.val = _
  omega

theorem mod_in (k : Fin 6144) : iblk m c 1 t (ix2 0 k) = m ((c : Thread nD τ).loc main_arg1) (ix2 0 k) := by
  have e0 := (index_eq t).2.1
  blk_simp [iblk]
  rw [V_main_arg1 m c]
  blk_ext [e0]

theorem weight_in (k : Fin 1024) : iblk m c 2 t (ix2 0 k) = m ((c : Thread nD τ).loc main_arg2) (ix2 0 k) := by
  have e0 := (index_eq t).2.2.1
  blk_simp [iblk]
  rw [V_main_arg2 m c]
  blk_ext [e0]

theorem up_in (k : Fin 1024) (f : Fin 5632) : iblk m c 3 t (ix2 k f) = m ((c : Thread nD τ).loc main_arg3) (ix2 k f) := by
  have e0 := (index_eq t).2.2.2.1
  blk_simp [iblk]
  rw [V_main_arg3 m c]
  blk_ext [e0]

theorem down_in (f : Fin 2816) (k : Fin 1024) : iblk m c 4 t (ix2 f k) = m ((c : Thread nD τ).loc main_arg4) (ix2 f k) := by
  have e0 := (index_eq t).2.2.2.2.1
  blk_simp [iblk]
  rw [V_main_arg4 m c]
  blk_ext [e0]

theorem side_in (a : Fin 1024) (b : Fin 1792) :
    iblk m c 5 t (ix3 0 a b) = m ((c : Thread nD τ).loc main_arg5)
      (ix3 ⟨t.val / 4, by have := step_lt t; omega⟩ a ⟨1792 * (t.val % 4) + b.val, by omega⟩) := by
  have e0 := (index_eq t).2.2.2.2.2.1
  blk_simp [iblk]
  rw [V_main_arg5 m c]
  blk_ext [e0]
  show t.val % 4 * 1792 + b.val = _
  omega

/-- The first result array after the run. -/
theorem final6 : (dats m 0 c).arrAt 6 cfg0.N
    = fun x : S16384x1024.Idx => layer (m ((c : Thread nD τ).loc main_arg0)) (m ((c : Thread nD τ).loc main_arg1))
        (m ((c : Thread nD τ).loc main_arg2)) (m ((c : Thread nD τ).loc main_arg3)) (m ((c : Thread nD τ).loc main_arg4)) (x 0) (x 1) := by
  refine (dats m 0 c).arrAt_eq_of_covers 6 _ (by decide +kernel) fun t hf y => ?_
  have e3 := (index_eq t).2.2.2.2.2.2.1
  have h0 : (((cfg0.win 6).blk t).view.emb y 0).val = 512 * t.val + (y 0).val := by
    blk_simp [e3]
    omega
  have h1 : (((cfg0.win 6).blk t).view.emb y 1).val = (y 1).val := by
    blk_simp [e3]
  blk_simp
  rw [after0_6]
  have hy0 : (y 0).val < 512 := (y 0).isLt
  have hy1 : (y 1).val < 1024 := (y 1).isLt
  have hy : (y : S512x1024.Idx) = ix2 ⟨(y 0).val, hy0⟩ ⟨(y 1).val, hy1⟩ := by
    funext a
    match a with
    | ⟨0, _⟩ => rfl
    | ⟨1, _⟩ => rfl
  refine (congrArg (out0_6 (iblk m c 0 t) (iblk m c 1 t) (iblk m c 2 t) (iblk m c 3 t) (iblk m c 4 t) (iblk m c 5 t)) hy).trans
    ((out6_at _ _ _ _ _ _ _ _).trans ?_)
  have a0 : (((cfg0.win 6).blk t).view.emb y 0 : Fin 16384) = ⟨512 * t.val + (y 0).val, by have := step_lt t; omega⟩ := Fin.ext h0
  have a1 : (((cfg0.win 6).blk t).view.emb y 1 : Fin 1024) = ⟨(y 1).val, hy1⟩ := Fin.ext h1
  simp only [rows_in, mod_in, weight_in, up_in, down_in]
  refine Eq.symm ((congrArg₂ (layer (m ((c : Thread nD τ).loc main_arg0)) (m ((c : Thread nD τ).loc main_arg1))
        (m ((c : Thread nD τ).loc main_arg2)) (m ((c : Thread nD τ).loc main_arg3)) (m ((c : Thread nD τ).loc main_arg4))) a0 a1).trans rfl)

/-- The second result array after the run: the side array, cast. -/
theorem final7 : (dats m 0 c).arrAt 7 cfg0.N = (m ((c : Thread nD τ).loc main_arg5) : S8x1024x7168.Idx → EReal) := by
  refine (dats m 0 c).arrAt_eq_of_covers 7 _ (by decide +kernel) fun t hf y => ?_
  have e3 := (index_eq t).2.2.2.2.2.2.2
  have hy0 : (y 0).val < 1 := (y 0).isLt
  have hy1 : (y 1).val < 1024 := (y 1).isLt
  have hy2 : (y 2).val < 1792 := (y 2).isLt
  have h0 : (((cfg0.win 7).blk t).view.emb y 0).val = t.val / 4 := by
    blk_simp [e3]
  have h1 : (((cfg0.win 7).blk t).view.emb y 1).val = (y 1).val := by
    blk_simp [e3]
  have h2 : (((cfg0.win 7).blk t).view.emb y 2).val = 1792 * (t.val % 4) + (y 2).val := by
    blk_simp [e3]
    omega
  blk_simp
  rw [after0_7]
  have hy : (y : S1x1024x1792.Idx) = ix3 0 ⟨(y 1).val, hy1⟩ ⟨(y 2).val, hy2⟩ := by
    funext a
    match a with
    | ⟨0, _⟩ => exact Fin.ext (by show (y 0).val = 0; omega)
    | ⟨1, _⟩ => rfl
    | ⟨2, _⟩ => rfl
  refine (congrArg (out0_7 (iblk m c 0 t) (iblk m c 1 t) (iblk m c 2 t) (iblk m c 3 t) (iblk m c 4 t) (iblk m c 5 t)) hy).trans
    ((out7_at _ _ _ _ _ _ _ _).trans ((side_in m c t _ _).trans ?_))
  refine congrArg (m ((c : Thread nD τ).loc main_arg5)) (funext fun a => Fin.ext ?_)
  match a with
  | ⟨0, _⟩ => exact h0.symm
  | ⟨1, _⟩ => exact h1.symm
  | ⟨2, _⟩ => exact h2.symm

end Cert.DenseIdeal.Gen

end
-- ==== Proof.DenseRef.lean ====
/-
  The reference of the dense feed-forward part, read at an index.
-/
module

public import proofs.«01_k».proof.Proof.Gen.PlainDenseIdeal.Run
public import proofs.«01_k».proof.Proof.DenseUnits
public import proofs.«01_k».proof.Proof.ExpertsRef
public import Idealize.ShloMosaic.Lib.IdealHost

@[expose] public section

set_option maxRecDepth 8192

noncomputable section

namespace Cert.PlainDenseIdeal.Read

open Idealize.ShloMosaic hiding ix1 ix2 ix3 ix4 addf_apply subf_apply mulf_apply divf_apply truncf_apply extf_apply constant_apply
open Idealize.ShloMosaic.ValueIdx Idealize.ShloMosaic.Pipeline Idealize.ShloMosaic.TcCoe Idealize.SL.Sem
open Cert.PlainDenseIdeal Cert.PlainDenseIdeal.Gen Cert.Moe Cert.Ffn
open Cert.AllExpertsIdeal.Read (dot_apply one_f32)
open scoped BigOperators

/-- One over the root of each row's mean square, the small number added. -/
def root (X : FVec Ideal S16384x1024 .f32) : FVec Ideal S16384x1 .f32 :=
  Host.rsqrt (addf (Host.divf (broadcastInDim S16384x1 ![0] bcast_S16384_S16384x1_0
      (Host.reduceAdd (mulf X X) (constant S_ .f32 0x00000000#32) reducesTo_S16384x1024_S16384_d1 h_S_))
      (broadcastInDim S16384x1 ![] bcast_S_S16384x1 (constant S_ .f32 0x44800000#32)))
    (broadcastInDim S16384x1 ![] bcast_S_S16384x1 (constant S_ .f32 0x358637BD#32)))

/-- The rows, normalized and modulated. -/
def modulated (X : FVec Ideal S16384x1024 .f32) (M : FVec Ideal S1x6144 .f32) (W : FVec Ideal S1x1024 .f32) : FVec Ideal S16384x1024 .f32 :=
  addf (mulf (mulf (mulf X (broadcastInDim S16384x1024 ![0, 1] bcast_S16384x1_S16384x1024_0_1
      (root X)))
      (broadcastInDim S16384x1024 ![0, 1] bcast_S1x1024_S16384x1024_0_1 W))
      (broadcastInDim S16384x1024 ![0, 1] bcast_S1x1024_S16384x1024_0_1
        (addf (broadcastInDim S1x1024 ![] bcast_S_S1x1024 (constant S_ .f32 0x3F800000#32))
          (extractStridedSlice S1x1024 ![0, 4096] M slices_S1x6144_S1x1024_0_4096))))
    (broadcastInDim S16384x1024 ![0, 1] bcast_S1x1024_S16384x1024_0_1
      (extractStridedSlice S1x1024 ![0, 3072] M slices_S1x6144_S1x1024_0_3072))

/-- The hidden units, from the gate and the other projection. -/
def hidden (P : FVec Ideal S16384x5632 .f32) : FVec Ideal S16384x2816 .f32 :=
  mulf (mulf (extractStridedSlice S16384x2816 ![0, 0] P slices_S16384x5632_S16384x2816_0_0)
      (Host.divf (broadcastInDim S16384x2816 ![] bcast_S_S16384x2816 (constant S_ .f32 0x3F800000#32))
        (addf (broadcastInDim S16384x2816 ![] bcast_S_S16384x2816 (constant S_ .f32 0x3F800000#32))
          (Host.exp (Host.negf (extractStridedSlice S16384x2816 ![0, 0] P slices_S16384x5632_S16384x2816_0_0))))))
    (extractStridedSlice S16384x2816 ![0, 2816] P slices_S16384x5632_S16384x2816_0_2816)

/-- The reference's first result, from its arguments. -/
def answer (X : FVec Ideal S16384x1024 .f32) (M : FVec Ideal S1x6144 .f32) (W : FVec Ideal S1x1024 .f32)
    (U : FVec Ideal S1024x5632 .bf16) (D : FVec Ideal S2816x1024 .bf16) : FVec Ideal S16384x1024 .f32 :=
  addf X (mulf (broadcastInDim S16384x1024 ![0, 1] bcast_S1x1024_S16384x1024_0_1
      (extractStridedSlice S1x1024 ![0, 5120] M slices_S1x6144_S1x1024_0_5120))
    (Host.dotGeneral dot_S16384x2816_S2816x1024_S16384x1024_1_0_0_1_n_n none
      (hidden (Host.dotGeneral dot_S16384x1024_S1024x5632_S16384x5632_1_0_0_1_n_n none (modulated X M W) (extf .f32 U bitsLt_bf16_f32)))
      (extf .f32 D bitsLt_bf16_f32)))

/-- The run ends with that array and the cast side array as its results, and the arguments unchanged. -/
theorem run_answer (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v34) = answer (m ((c.tc : Thread nD τ).loc main_arg0)) (m ((c.tc : Thread nD τ).loc main_arg1))
        (m ((c.tc : Thread nD τ).loc main_arg2)) (m ((c.tc : Thread nD τ).loc main_arg3)) (m ((c.tc : Thread nD τ).loc main_arg4))
      ∧ r.2.mem ((c.tc : Thread nD τ).loc main_v35) = (m ((c.tc : Thread nD τ).loc main_arg5) : S8x1024x7168.Idx → EReal)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  Value.run m ρ

/-- A sum along the rows of a matrix. -/
theorem sum_row {A N : ℕ} (Z : FVec Ideal ⟨2, ![A, N]⟩ .f32) (init : (⟨0, ![]⟩ : Shape).Idx → EReal)
    (h' : (⟨2, ![A, N]⟩ : Shape).ReducesTo [1] ⟨1, ![A]⟩) (hu : 0 < (⟨0, ![]⟩ : Shape).numel) (a : Fin A) :
    Host.reduceAdd (F := Ideal) (φ := .f32) Z init h' hu (ix1 a) = init (Shape.Idx.first hu) + ∑ κ : Fin N, Z (ix2 a κ) := by
  have h : (⟨2, ![A, N]⟩ : Shape).Reduces [1] ⟨1, ![A]⟩ := ⟨h'.1, by show 0 < 1; decide, h'.2⟩
  rw [hostReduceAdd_apply, Ideal.hostReduceAdd_single _ h]
  refine congrArg _ (Finset.sum_congr rfl fun κ _ => congrArg Z ?_)
  funext d; apply Fin.ext
  match d with
  | ⟨0, _⟩ => rfl
  | ⟨1, _⟩ => rfl

/-- One row spread over all rows. -/
theorem spread_row (v : FVec Ideal S1x1024 .f32) (r : Fin 16384) (k : Fin 1024) :
    broadcastInDim S16384x1024 ![0, 1] bcast_S1x1024_S16384x1024_0_1 v (ix2 r k) = v (ix2 0 k) := by
  refine broadcastInDim_apply (k := ix2 0 k) _ _ _ _ fun a => ?_
  match a with
  | ⟨0, _⟩ => rfl
  | ⟨1, _⟩ => rfl

/-- One column spread over all columns. -/
theorem spread_col (v : FVec Ideal S16384x1 .f32) (r : Fin 16384) (k : Fin 1024) :
    broadcastInDim S16384x1024 ![0, 1] bcast_S16384x1_S16384x1024_0_1 v (ix2 r k) = v (ix2 r 0) := by
  refine broadcastInDim_apply (k := ix2 r 0) _ _ _ _ fun a => ?_
  match a with
  | ⟨0, _⟩ => rfl
  | ⟨1, _⟩ => rfl

/-- A vector as one column. -/
theorem as_col (v : FVec Ideal S16384 .f32) (r : Fin 16384) :
    broadcastInDim S16384x1 ![0] bcast_S16384_S16384x1_0 v (ix2 r 0) = v (ix1 r) := by
  refine broadcastInDim_apply (k := ix1 r) _ _ _ _ fun a => ?_
  match a with
  | ⟨0, _⟩ => rfl

/-- A sixth of the modulation. -/
theorem sixth (M : FVec Ideal S1x6144 .f32) (o : ℕ) (ho : o + 1024 ≤ 6144) (h : S1x6144.Slices ![0, o] S1x1024) (k : Fin 1024) :
    extractStridedSlice S1x1024 ![0, o] M h (ix2 0 k) = M (ix2 0 ⟨o + k.val, by omega⟩) := by
  refine congrArg M (funext fun a => Fin.ext ?_)
  match a with
  | ⟨0, _⟩ => rfl
  | ⟨1, _⟩ => rfl

theorem root_apply (X : FVec Ideal S16384x1024 .f32) (r : Fin 16384) :
    root X (ix2 r 0) = Ideal.rsqrt (Ideal.div (∑ j : Fin 1024, X (ix2 r j) * X (ix2 r j)) (Ideal.ofBits .f32 0x44800000#32)
      + Ideal.ofBits .f32 0x358637BD#32) := by
  have e1 : broadcastInDim S16384x1 ![] bcast_S_S16384x1 (constant (F := Ideal) S_ .f32 0x44800000#32) (ix2 r 0)
      = Ideal.ofBits .f32 0x44800000#32 := by rw [broadcastInDim_scalar_apply]; rfl
  have e2 : broadcastInDim S16384x1 ![] bcast_S_S16384x1 (constant (F := Ideal) S_ .f32 0x358637BD#32) (ix2 r 0)
      = Ideal.ofBits .f32 0x358637BD#32 := by rw [broadcastInDim_scalar_apply]; rfl
  have e3 : Host.reduceAdd (F := Ideal) (mulf X X) (constant S_ .f32 0x00000000#32) reducesTo_S16384x1024_S16384_d1 h_S_ (ix1 r)
      = ∑ j : Fin 1024, X (ix2 r j) * X (ix2 r j) := by
    refine (sum_row (A := 16384) (N := 1024) (mulf X X) _ _ _ r).trans ?_
    rw [constant_apply, Ideal.ofBits_zero_f32, zero_add]
    rfl
  have e4 := (as_col (Host.reduceAdd (F := Ideal) (mulf X X) (constant S_ .f32 0x00000000#32) reducesTo_S16384x1024_S16384_d1 h_S_) r).trans e3
  exact congrArg Ideal.rsqrt (congrArg₂ (· + ·) (congrArg₂ Ideal.div e4 e1) e2)

theorem modulated_apply (X : FVec Ideal S16384x1024 .f32) (M : FVec Ideal S1x6144 .f32) (W : FVec Ideal S1x1024 .f32)
    (r : Fin 16384) (k : Fin 1024) :
    modulated X M W (ix2 r k) = normed (fun j => X (ix2 r j)) (fun j => W (ix2 0 j)) (fun j => M (ix2 0 ⟨4096 + j.val, by omega⟩))
        (fun j => M (ix2 0 ⟨3072 + j.val, by omega⟩)) k := by
  unfold normed
  rw [← mul_assoc]
  refine congrArg₂ (· + ·) (congrArg₂ (· * ·) (congrArg₂ (· * ·) (congrArg (X (ix2 r k) * ·) ?_) (spread_row W r k)) ?_) ?_
  · exact (spread_col (root X) r k).trans (root_apply X r)
  · refine (spread_row _ r k).trans (congrArg₂ (· + ·) ?_ (sixth M 4096 (by omega) _ k))
    rw [broadcastInDim_scalar_apply]
    rfl
  · exact (spread_row _ r k).trans (sixth M 3072 (by omega) _ k)

/-- A hidden unit, read at a row. -/
theorem hidden_apply (X : FVec Ideal S16384x1024 .f32) (U : FVec Ideal S1024x5632 .f32) (r : Fin 16384) (f : Fin 2816) :
    hidden (Host.dotGeneral dot_S16384x1024_S1024x5632_S16384x5632_1_0_0_1_n_n none X U) (ix2 r f)
      = unit (fun k => X (ix2 r k)) (fun k => U (ix2 k ⟨f.val, by omega⟩)) (fun k => U (ix2 k ⟨2816 + f.val, by omega⟩)) := by
  set P := Host.dotGeneral dot_S16384x1024_S1024x5632_S16384x5632_1_0_0_1_n_n none X U with hP
  have hp : ∀ q : Fin 5632, P (ix2 r q) = ∑ k : Fin 1024, X (ix2 r k) * U (ix2 k q) := fun q => dot_apply _ rfl _ _ r q
  have h0 : extractStridedSlice S16384x2816 ![0, 0] P slices_S16384x5632_S16384x2816_0_0 (ix2 r f) = P (ix2 r ⟨f.val, by omega⟩) := by
    refine congrArg P (funext fun a => Fin.ext ?_)
    match a with
    | ⟨0, _⟩ => exact Nat.zero_add _
    | ⟨1, _⟩ => exact Nat.zero_add _
  have h1 : extractStridedSlice S16384x2816 ![0, 2816] P slices_S16384x5632_S16384x2816_0_2816 (ix2 r f)
      = P (ix2 r ⟨2816 + f.val, by omega⟩) := by
    refine congrArg P (funext fun a => Fin.ext ?_)
    match a with
    | ⟨0, _⟩ => exact Nat.zero_add _
    | ⟨1, _⟩ => rfl
  have hc : broadcastInDim S16384x2816 ![] bcast_S_S16384x2816 (constant (F := Ideal) S_ .f32 0x3F800000#32) (ix2 r f) = 1 := by
    rw [broadcastInDim_scalar_apply]; exact one_f32
  unfold hidden unit
  rw [← hp, ← hp, ← h0, ← h1, Ideal.logistic]
  show _ * Ideal.div (broadcastInDim S16384x2816 ![] bcast_S_S16384x2816 (constant (F := Ideal) S_ .f32 0x3F800000#32) (ix2 r f))
      (broadcastInDim S16384x2816 ![] bcast_S_S16384x2816 (constant (F := Ideal) S_ .f32 0x3F800000#32) (ix2 r f) + _) * _ = _
  rw [hc]
  rfl

/-- The reference's first result, read at an entry. -/
theorem answer_apply (X : FVec Ideal S16384x1024 .f32) (M : FVec Ideal S1x6144 .f32) (W : FVec Ideal S1x1024 .f32)
    (U : FVec Ideal S1024x5632 .bf16) (D : FVec Ideal S2816x1024 .bf16) (r : Fin 16384) (c : Fin 1024) :
    answer X M W U D (ix2 r c) = layer X M W U D r c := by
  unfold layer
  refine congrArg (X (ix2 r c) + ·) (congrArg₂ (· * ·) ((spread_row _ r c).trans (sixth M 5120 (by omega) _ c)) ?_)
  refine (dot_apply _ rfl _ _ r c).trans (Finset.sum_congr rfl fun f _ => ?_)
  rw [hidden_apply, funext fun k => modulated_apply X M W r k]
  rfl

end Cert.PlainDenseIdeal.Read

end
-- ==== Proof.MixedUnits.lean ====
/-
  One entry of the residual after a layer's output projection: the row, plus the gated projection of the two halves that
  the mixer left. The rows that follow are normalized and modulated as before the feed-forward part.
-/
module

public import proofs.«01_k».proof.Proof.DenseUnits

@[expose] public section

set_option maxRecDepth 8192

noncomputable section

namespace Cert.Mix

open Idealize.ShloMosaic hiding ix1 ix2 ix3 ix4
open Idealize.ShloMosaic.ValueIdx Cert.Ffn
open scoped BigOperators

/-- The projection of a row's two halves, 512 long each, to one column. -/
def project (a b : Fin 512 → EReal) (w : Fin 1024 → EReal) : EReal :=
  ∑ k : Fin 512, a k * w ⟨k.val, by omega⟩ + ∑ k : Fin 512, b k * w ⟨512 + k.val, by omega⟩

/-- The residual after the projection: from the rows, the two halves, the modulation and the weights. -/
def joined (x : (⟨2, ![16384, 1024]⟩ : Shape).Idx → EReal) (a b : (⟨2, ![16384, 512]⟩ : Shape).Idx → EReal)
    (md : (⟨2, ![1, 6144]⟩ : Shape).Idx → EReal) (w : (⟨2, ![1024, 1024]⟩ : Shape).Idx → EReal) (r : Fin 16384) (c : Fin 1024) : EReal :=
  x (ix2 r c) + md (ix2 0 ⟨2048 + c.val, by omega⟩)
    * project (fun k => a (ix2 r k)) (fun k => b (ix2 r k)) (fun k => w (ix2 k c))

/-- The rows for the feed-forward part: the residual's, normalized and modulated. -/
def ready (x : (⟨2, ![16384, 1024]⟩ : Shape).Idx → EReal) (a b : (⟨2, ![16384, 512]⟩ : Shape).Idx → EReal)
    (md : (⟨2, ![1, 6144]⟩ : Shape).Idx → EReal) (nw : (⟨2, ![1, 1024]⟩ : Shape).Idx → EReal)
    (w : (⟨2, ![1024, 1024]⟩ : Shape).Idx → EReal) (r : Fin 16384) (c : Fin 1024) : EReal :=
  normed (joined x a b md w r) (fun j => nw (ix2 0 j)) (fun j => md (ix2 0 ⟨4096 + j.val, by omega⟩))
    (fun j => md (ix2 0 ⟨3072 + j.val, by omega⟩)) c

/-- One sum over the two halves, one after the other. -/
theorem project_eq (y w : Fin 1024 → EReal) :
    ∑ k, y k * w k = project (fun k => y ⟨k.val, by omega⟩) (fun k => y ⟨512 + k.val, by omega⟩) w :=
  Fin.sum_univ_add (a := 512) (b := 512) fun k : Fin (512 + 512) => y k * w k

end Cert.Mix

end
-- ==== Proof.MixedBlock.lean ====
/-
  What one grid step of the kernel after the mixer leaves in its first two output blocks, read at an index: 1024 rows of
  the residual, and the same rows normalized and modulated. The steps differ only in what they leave of the routing.
-/
module

public import proofs.«01_k».proof.Proof.MixedUnits
public import proofs.«01_k».proof.Proof.Gen.MixedIdeal.Value
public import proofs.«01_k».proof.Proof.Gen.MixedIdeal.Skeleton
public import Idealize.ShloMosaic.Lib.ValueLayout
public import Idealize.ShloMosaic.Lib.WholeRead

@[expose] public section

set_option maxRecDepth 8192

noncomputable section

namespace Cert.MixedIdeal.Gen

open Idealize.ShloMosaic hiding ix1 ix2 ix3 ix4 addf_apply subf_apply mulf_apply divf_apply truncf_apply extf_apply constant_apply
open Idealize.ShloMosaic.ValueIdx Idealize.ShloMosaic.Pipeline Cert.Ffn Cert.Mix Idealize.ShloMosaic.TcCoe
open scoped BigOperators

/-- A load of a rectangle of 32-bit floats from a buffer whose contents are known. -/
theorem load_f32 {A B C D : ℕ} {mr : Memref sig .tc .vmem ⟨2, ![A, B]⟩ .f32} (hm : mr.IsWhole) (X : (⟨2, ![A, B]⟩ : Shape).Idx → EReal)
    (o p : ℕ) (inb : ∀ a, (![o, p] : Fin 2 → ℕ) a + (![C, D] : Fin 2 → ℕ) a ≤ (⟨2, ![A, B]⟩ : Shape).size a) (r : Fin C) (k : Fin D)
    (ho : o + r.val < A) (hp : p + k.val < B) :
    View.readAt (Elt Ideal) mr.view (Rect.unit (s := ⟨2, ![A, B]⟩) ![o, p] ![C, D] inb).toLoadRect (hm.unread (Val := Elt Ideal) X) (ix2 r k)
      = X (ix2 ⟨o + r.val, ho⟩ ⟨p + k.val, hp⟩) := by
  refine (Memref.IsWhole.readAt_unread (Val := Elt Ideal) hm X _ _).trans (congrArg (β := EReal) X (funext fun a => Fin.ext ?_))
  match a with
  | ⟨0, _⟩ => show o + 1 * r.val = o + r.val; omega
  | ⟨1, _⟩ => show p + 1 * k.val = p + k.val; omega

/-- The same of 16-bit floats. -/
theorem load_bf16 {A B C D : ℕ} {mr : Memref sig .tc .vmem ⟨2, ![A, B]⟩ .bf16} (hm : mr.IsWhole) (X : (⟨2, ![A, B]⟩ : Shape).Idx → EReal)
    (o p : ℕ) (inb : ∀ a, (![o, p] : Fin 2 → ℕ) a + (![C, D] : Fin 2 → ℕ) a ≤ (⟨2, ![A, B]⟩ : Shape).size a) (r : Fin C) (k : Fin D)
    (ho : o + r.val < A) (hp : p + k.val < B) :
    View.readAt (Elt Ideal) mr.view (Rect.unit (s := ⟨2, ![A, B]⟩) ![o, p] ![C, D] inb).toLoadRect (hm.unread (Val := Elt Ideal) X) (ix2 r k)
      = X (ix2 ⟨o + r.val, ho⟩ ⟨p + k.val, hp⟩) := by
  refine (Memref.IsWhole.readAt_unread (Val := Elt Ideal) hm X _ _).trans (congrArg (β := EReal) X (funext fun a => Fin.ext ?_))
  match a with
  | ⟨0, _⟩ => show o + 1 * r.val = o + r.val; omega
  | ⟨1, _⟩ => show p + 1 * k.val = p + k.val; omega

/-- The residual, as the step computes it from what it has loaded. -/
theorem residual_at (v0 : FVec Ideal S1024x1024 .f32) (v1 : FVec Ideal S1x1024 .f32) (v4 v7 : FVec Ideal S1024x512 .bf16)
    (v5 v8 : FVec Ideal S512x1024 .bf16) (r k : Fin 1024) :
    k0_pay3 (F := Ideal) v0 v1 v4 v5 v7 v8 (ix2 r k)
      = v0 (ix2 r k) + v1 (ix2 0 k) * (∑ f : Fin 512, v4 (ix2 r f) * v5 (ix2 f k) + ∑ f : Fin 512, v7 (ix2 r f) * v8 (ix2 f k)) := by
  have e1 := broadcastTo_1b_ab_apply v1 broadcasts_S1x1024_S1024x1024 r k
  have e2 := prod_apply (A := 1024) (K := 512) (B := 1024) v4 v5 r k
  have e3 := prod_apply (A := 1024) (K := 512) (B := 1024) v7 v8 r k
  exact congrArg (v0 (ix2 r k) + ·) (congrArg₂ (· * ·) e1 (congrArg₂ (· + ·) e2 e3))

/-- The rows, normalized and modulated, as the step computes them. -/
theorem ready_at (v0 : FVec Ideal S1024x1024 .f32) (v1 v2 v3 v15 : FVec Ideal S1x1024 .f32) (v4 v7 : FVec Ideal S1024x512 .bf16)
    (v5 v8 : FVec Ideal S512x1024 .bf16) (r k : Fin 1024) :
    k0_pay7 (F := Ideal) (k0_pay4 v0 v1 v3 v4 v5 v7 v8 v15) (k0_pay5 v2) (ix2 r k)
      = normed (fun j => k0_pay3 (F := Ideal) v0 v1 v4 v5 v7 v8 (ix2 r j)) (fun j => v15 (ix2 0 j)) (fun j => v3 (ix2 0 j))
          (fun j => v2 (ix2 0 j)) k := by
  have hc : k0_pay7 (F := Ideal) (k0_pay4 v0 v1 v3 v4 v5 v7 v8 v15) (k0_pay5 v2) (ix2 r k)
      = k0_pay4 (F := Ideal) v0 v1 v3 v4 v5 v7 v8 v15 (ix2 r k) + k0_pay5 (F := Ideal) v2 (ix2 r k) := rfl
  rw [hc]
  unfold k0_pay4 k0_pay5
  generalize k0_pay3 (F := Ideal) v0 v1 v4 v5 v7 v8 = X
  have e1 := broadcastTo_1b_ab_apply v2 broadcasts_S1x1024_S1024x1024 r k
  have e2 := broadcastTo_1b_ab_apply (mulf v15 (addf (broadcast S1x1024 (Scalar.ofBits (F := Ideal) .f32 0x3F800000#32)) v3))
    broadcasts_S1x1024_S1024x1024 r k
  have e3 := row_sum_apply (N := 1024) (mulf X X) reduces_S1024x1024_S1024 (.inl rfl) rfl r
  have e4 := column_apply (N := 1024) (multiReduction .add [1] S1024 (mulf X X) 0x00000000#32 reduces_S1024x1024_S1024 (.inl rfl) rfl)
    shapeCasts_S1024_S1024x1 r
  have e5 := spread_apply (N := 1024) (B := 1024) (rsqrt (addf (divf (shapeCast S1024x1 (multiReduction .add [1] S1024 (mulf X X)
      0x00000000#32 reduces_S1024x1024_S1024 (.inl rfl) rfl) shapeCasts_S1024_S1024x1)
      (broadcast S1024x1 (Scalar.ofBits (F := Ideal) .f32 0x44800000#32))) (broadcast S1024x1 (Scalar.ofBits (F := Ideal) .f32 0x358637BD#32))))
    broadcasts_S1024x1_S1024x1024 r k
  have e6 : rsqrt (addf (divf (shapeCast S1024x1 (multiReduction .add [1] S1024 (mulf X X)
      0x00000000#32 reduces_S1024x1024_S1024 (.inl rfl) rfl) shapeCasts_S1024_S1024x1)
      (broadcast S1024x1 (Scalar.ofBits (F := Ideal) .f32 0x44800000#32))) (broadcast S1024x1 (Scalar.ofBits (F := Ideal) .f32 0x358637BD#32)))
        (ix2 r 0) = Ideal.rsqrt (Ideal.div (∑ j : Fin 1024, X (ix2 r j) * X (ix2 r j)) (Ideal.ofBits .f32 0x44800000#32)
          + Ideal.ofBits .f32 0x358637BD#32) :=
    congrArg (fun z => Ideal.rsqrt (Ideal.div z (Ideal.ofBits .f32 0x44800000#32) + Ideal.ofBits .f32 0x358637BD#32)) (e4.trans e3)
  exact congrArg₂ (· + ·) (congrArg₂ (· * ·) (congrArg (X (ix2 r k) * ·) (e5.trans e6)) e2) e1

section Step

variable {arg1 : Memref sig .tc .vmem S1024x1024 .f32} (harg1 : arg1.IsWhole)
  {arg2 : Memref sig .tc .vmem S1024x512 .bf16} (harg2 : arg2.IsWhole)
  {arg3 : Memref sig .tc .vmem S1024x512 .bf16} (harg3 : arg3.IsWhole)
  {arg4 : Memref sig .tc .vmem S1x6144 .f32} (harg4 : arg4.IsWhole)
  {arg5 : Memref sig .tc .vmem S1x1024 .f32} (harg5 : arg5.IsWhole)
  {arg6 : Memref sig .tc .vmem S1024x1024 .bf16} (harg6 : arg6.IsWhole)
  (x0 : S1024x1024.Idx → EReal) (x1 x2 : S1024x512.Idx → EReal) (x3 : S1x6144.Idx → EReal) (x4 : S1x1024.Idx → EReal)
  (x5 : S1024x1024.Idx → EReal)

/-- A row of the residual, from the blocks. -/
def rowOf (r k : Fin 1024) : EReal :=
  x0 (ix2 r k) + x3 (ix2 0 ⟨2048 + k.val, by omega⟩)
    * project (fun f => x1 (ix2 r f)) (fun f => x2 (ix2 r f)) (fun f => x5 (ix2 f k))

/-- The residual, as the step stores it. -/
theorem residual_step (r k : Fin 1024) :
    k0_pay3 (F := Ideal)
      (View.readAt (Elt Ideal) arg1.view (Rect.unit (s := S1024x1024) ![0, 0] ![1024, 1024] inb_S1024x1024_S1024x1024_0_0).toLoadRect (harg1.unread (Val := Elt Ideal) x0))
      (View.readAt (Elt Ideal) arg4.view (Rect.unit (s := S1x6144) ![0, 2048] ![1, 1024] inb_S1x6144_S1x1024_0_2048).toLoadRect (harg4.unread (Val := Elt Ideal) x3))
      (View.readAt (Elt Ideal) arg2.view (Rect.unit (s := S1024x512) ![0, 0] ![1024, 512] inb_S1024x512_S1024x512_0_0).toLoadRect (harg2.unread (Val := Elt Ideal) x1))
      (View.readAt (Elt Ideal) arg6.view (Rect.unit (s := S1024x1024) ![0, 0] ![512, 1024] inb_S1024x1024_S512x1024_0_0).toLoadRect (harg6.unread (Val := Elt Ideal) x5))
      (View.readAt (Elt Ideal) arg3.view (Rect.unit (s := S1024x512) ![0, 0] ![1024, 512] inb_S1024x512_S1024x512_0_0).toLoadRect (harg3.unread (Val := Elt Ideal) x2))
      (View.readAt (Elt Ideal) arg6.view (Rect.unit (s := S1024x1024) ![512, 0] ![512, 1024] inb_S1024x1024_S512x1024_512_0).toLoadRect (harg6.unread (Val := Elt Ideal) x5))
      (ix2 r k) = rowOf x0 x1 x2 x3 x5 r k := by
  refine (residual_at _ _ _ _ _ _ r k).trans ?_
  unfold rowOf project
  refine congrArg₂ (· + ·) ((load_f32 harg1 x0 0 0 _ r k (by omega) (by omega)).trans ?_)
    (congrArg₂ (· * ·) ((load_f32 harg4 x3 0 2048 _ 0 k (by decide) (by omega)).trans rfl)
      (congrArg₂ (· + ·) (Finset.sum_congr rfl fun f _ => congrArg₂ (· * ·) ?_ ?_) (Finset.sum_congr rfl fun f _ => congrArg₂ (· * ·) ?_ ?_)))
  · simp only [Nat.zero_add]
  · exact (load_bf16 harg2 x1 0 0 _ r f (by omega) (by omega)).trans (by simp only [Nat.zero_add])
  · exact (load_bf16 harg6 x5 0 0 _ f k (by omega) (by omega)).trans (by simp only [Nat.zero_add])
  · exact (load_bf16 harg3 x2 0 0 _ r f (by omega) (by omega)).trans (by simp only [Nat.zero_add])
  · exact (load_bf16 harg6 x5 512 0 _ f k (by omega) (by omega)).trans (by simp only [Nat.zero_add])

/-- The normalized and modulated rows, as the step stores them. -/
theorem ready_step (r k : Fin 1024) :
    k0_pay7 (F := Ideal) (k0_pay4
      (View.readAt (Elt Ideal) arg1.view (Rect.unit (s := S1024x1024) ![0, 0] ![1024, 1024] inb_S1024x1024_S1024x1024_0_0).toLoadRect (harg1.unread (Val := Elt Ideal) x0))
      (View.readAt (Elt Ideal) arg4.view (Rect.unit (s := S1x6144) ![0, 2048] ![1, 1024] inb_S1x6144_S1x1024_0_2048).toLoadRect (harg4.unread (Val := Elt Ideal) x3))
      (View.readAt (Elt Ideal) arg4.view (Rect.unit (s := S1x6144) ![0, 4096] ![1, 1024] inb_S1x6144_S1x1024_0_4096).toLoadRect (harg4.unread (Val := Elt Ideal) x3))
      (View.readAt (Elt Ideal) arg2.view (Rect.unit (s := S1024x512) ![0, 0] ![1024, 512] inb_S1024x512_S1024x512_0_0).toLoadRect (harg2.unread (Val := Elt Ideal) x1))
      (View.readAt (Elt Ideal) arg6.view (Rect.unit (s := S1024x1024) ![0, 0] ![512, 1024] inb_S1024x1024_S512x1024_0_0).toLoadRect (harg6.unread (Val := Elt Ideal) x5))
      (View.readAt (Elt Ideal) arg3.view (Rect.unit (s := S1024x512) ![0, 0] ![1024, 512] inb_S1024x512_S1024x512_0_0).toLoadRect (harg3.unread (Val := Elt Ideal) x2))
      (View.readAt (Elt Ideal) arg6.view (Rect.unit (s := S1024x1024) ![512, 0] ![512, 1024] inb_S1024x1024_S512x1024_512_0).toLoadRect (harg6.unread (Val := Elt Ideal) x5))
      (View.readAt (Elt Ideal) arg5.view (Rect.unit (s := S1x1024) ![0, 0] ![1, 1024] inb_S1x1024_S1x1024_0_0).toLoadRect (harg5.unread (Val := Elt Ideal) x4)))
      (k0_pay5
      (View.readAt (Elt Ideal) arg4.view (Rect.unit (s := S1x6144) ![0, 3072] ![1, 1024] inb_S1x6144_S1x1024_0_3072).toLoadRect (harg4.unread (Val := Elt Ideal) x3)))
      (ix2 r k) = normed (rowOf x0 x1 x2 x3 x5 r) (fun j => x4 (ix2 0 j)) (fun j => x3 (ix2 0 ⟨4096 + j.val, by omega⟩))
        (fun j => x3 (ix2 0 ⟨3072 + j.val, by omega⟩)) k := by
  refine (ready_at _ _ _ _ _ _ _ _ _ r k).trans ?_
  have a0 := funext fun j => residual_step harg1 harg2 harg3 harg4 harg6 x0 x1 x2 x3 x5 r j
  have a1 : (fun j : Fin 1024 => View.readAt (Elt Ideal) arg5.view (Rect.unit (s := S1x1024) ![0, 0] ![1, 1024] inb_S1x1024_S1x1024_0_0).toLoadRect
      (harg5.unread (Val := Elt Ideal) x4) (ix2 (0 : Fin 1) j)) = fun j => x4 (ix2 0 j) := funext fun j =>
    (load_f32 harg5 x4 0 0 _ 0 j (by decide) (by omega)).trans (by simp only [Nat.zero_add])
  have a2 : (fun j : Fin 1024 => View.readAt (Elt Ideal) arg4.view (Rect.unit (s := S1x6144) ![0, 4096] ![1, 1024] inb_S1x6144_S1x1024_0_4096).toLoadRect
      (harg4.unread (Val := Elt Ideal) x3) (ix2 (0 : Fin 1) j)) = fun j => x3 (ix2 0 ⟨4096 + j.val, by omega⟩) := funext fun j =>
    (load_f32 harg4 x3 0 4096 _ 0 j (by decide) (by omega)).trans rfl
  have a3 : (fun j : Fin 1024 => View.readAt (Elt Ideal) arg4.view (Rect.unit (s := S1x6144) ![0, 3072] ![1, 1024] inb_S1x6144_S1x1024_0_3072).toLoadRect
      (harg4.unread (Val := Elt Ideal) x3) (ix2 (0 : Fin 1) j)) = fun j => x3 (ix2 0 ⟨3072 + j.val, by omega⟩) := funext fun j =>
    (load_f32 harg4 x3 0 3072 _ 0 j (by decide) (by omega)).trans rfl
  exact congrFun (congr (congr (congr (congrArg normed a0) a1) a2) a3) k

end Step

variable (m : (ℓ : Loc nD τ sig) → Buf (Elt Ideal) ℓ) (c : Dev nD) (t : Fin cfg0.N)

/-- The residual's block after a grid step. -/
theorem out8_at (r k : Fin 1024) :
    (outsAt0 m c t.val t.isLt).1 (ix2 r k)
      = rowOf (iblk m c 0 t) (iblk m c 1 t) (iblk m c 2 t) (iblk m c 3 t) (iblk m c 5 t) r k := by
  by_cases h0 : t.val % 16 = 0
  · rw [outsAt0_A m c t h0]
    unfold out0_A_8
    unfold kernelRun0_A
    dsimp only
    rw [View.read_writes_junk_apply_eq_canon, View.canon_cons_unit_lit _ _ _ (by decide)]
    exact residual_step _ _ _ _ _ _ _ _ _ _ r k
  · rw [outsAt0_B m c t h0]
    unfold out0_B_8
    unfold kernelRun0_B
    dsimp only
    rw [View.read_writes_junk_apply_eq_canon, View.canon_cons_unit_lit _ _ _ (by decide)]
    exact residual_step _ _ _ _ _ _ _ _ _ _ r k

/-- The other block: the rows normalized and modulated. -/
theorem out9_at (r k : Fin 1024) :
    (outsAt0 m c t.val t.isLt).2.1 (ix2 r k)
      = normed (rowOf (iblk m c 0 t) (iblk m c 1 t) (iblk m c 2 t) (iblk m c 3 t) (iblk m c 5 t) r) (fun j => iblk m c 4 t (ix2 0 j))
          (fun j => iblk m c 3 t (ix2 0 ⟨4096 + j.val, by omega⟩)) (fun j => iblk m c 3 t (ix2 0 ⟨3072 + j.val, by omega⟩)) k := by
  by_cases h0 : t.val % 16 = 0
  · rw [outsAt0_A m c t h0]
    dsimp only
    unfold out0_A_9
    unfold kernelRun0_A
    dsimp only
    rw [View.read_writes_junk_apply_eq_canon, View.canon_cons_unit_lit _ _ _ (by decide)]
    unfold kernelRun0_A.sl.r kernelRun0_A.sl.r_1
    exact ready_step _ _ _ _ _ _ _ _ _ _ _ _ r k
  · rw [outsAt0_B m c t h0]
    dsimp only
    unfold out0_B_9
    unfold kernelRun0_B
    dsimp only
    rw [View.read_writes_junk_apply_eq_canon, View.canon_cons_unit_lit _ _ _ (by decide)]
    unfold kernelRun0_B.sl.r kernelRun0_B.sl.r_1
    exact ready_step _ _ _ _ _ _ _ _ _ _ _ _ r k

end Cert.MixedIdeal.Gen

end
-- ==== Proof.MixedFinal.lean ====
/-
  The first two result arrays of the kernel after the mixer, after its 16 grid steps.
-/
module

public import proofs.«01_k».proof.Proof.MixedBlock

@[expose] public section

set_option maxRecDepth 8192

noncomputable section

namespace Cert.MixedIdeal.Gen

open Idealize.ShloMosaic hiding ix1 ix2 ix3 ix4 addf_apply subf_apply mulf_apply divf_apply truncf_apply extf_apply constant_apply
open Idealize.ShloMosaic.ValueIdx Idealize.ShloMosaic.Pipeline Cert.Ffn Cert.Mix Idealize.ShloMosaic.TcCoe
open scoped BigOperators

/-- The blocks of a grid step: 1024 rows, and everything of the modulation and the weights. -/
theorem index_eq : ∀ t : Fin grid0.N,
    win0_0.index t = ![t.val, 0] ∧ win0_1.index t = ![t.val, 0] ∧ win0_2.index t = ![t.val, 0] ∧ win0_3.index t = ![0, 0]
      ∧ win0_4.index t = ![0, 0] ∧ win0_5.index t = ![0, 0] ∧ win0_8.index t = ![t.val, 0] ∧ win0_9.index t = ![t.val, 0] := by
  decide +kernel

variable (m : (ℓ : Loc nD τ sig) → Buf (Elt Ideal) ℓ) (c : Dev nD) (t : Fin cfg0.N)

theorem step_lt : t.val < 16 := t.isLt

theorem rows_in (r k : Fin 1024) :
    iblk m c 0 t (ix2 r k) = m ((c : Thread nD τ).loc main_arg0) (ix2 ⟨1024 * t.val + r.val, by have := step_lt t; omega⟩ k) := by
  have e0 := (index_eq t).1
  blk_simp [iblk]
  rw [V_main_arg0 m c]
  blk_ext [e0]
  show t.val * 1024 + r.val = _
  omega

theorem first_in (r : Fin 1024) (k : Fin 512) :
    iblk m c 1 t (ix2 r k) = m ((c : Thread nD τ).loc main_arg1) (ix2 ⟨1024 * t.val + r.val, by have := step_lt t; omega⟩ k) := by
  have e0 := (index_eq t).2.1
  blk_simp [iblk]
  rw [V_main_arg1 m c]
  blk_ext [e0]
  show t.val * 1024 + r.val = _
  omega

theorem second_in (r : Fin 1024) (k : Fin 512) :
    iblk m c 2 t (ix2 r k) = m ((c : Thread nD τ).loc main_arg2) (ix2 ⟨1024 * t.val + r.val, by have := step_lt t; omega⟩ k) := by
  have e0 := (index_eq t).2.2.1
  blk_simp [iblk]
  rw [V_main_arg2 m c]
  blk_ext [e0]
  show t.val * 1024 + r.val = _
  omega

theorem mod_in (k : Fin 6144) : iblk m c 3 t (ix2 0 k) = m ((c : Thread nD τ).loc main_arg3) (ix2 0 k) := by
  have e0 := (index_eq t).2.2.2.1
  blk_simp [iblk]
  rw [V_main_arg3 m c]
  blk_ext [e0]

theorem weight_in (k : Fin 1024) : iblk m c 4 t (ix2 0 k) = m ((c : Thread nD τ).loc main_arg4) (ix2 0 k) := by
  have e0 := (index_eq t).2.2.2.2.1
  blk_simp [iblk]
  rw [V_main_arg4 m c]
  blk_ext [e0]

theorem out_in (f k : Fin 1024) : iblk m c 5 t (ix2 f k) = m ((c : Thread nD τ).loc main_arg5) (ix2 f k) := by
  have e0 := (index_eq t).2.2.2.2.2.1
  blk_simp [iblk]
  rw [V_main_arg5 m c]
  blk_ext [e0]

/-- A step's row of the residual is a row of the whole. -/
theorem rowOf_eq (r k : Fin 1024) :
    rowOf (iblk m c 0 t) (iblk m c 1 t) (iblk m c 2 t) (iblk m c 3 t) (iblk m c 5 t) r k
      = joined (m ((c : Thread nD τ).loc main_arg0)) (m ((c : Thread nD τ).loc main_arg1)) (m ((c : Thread nD τ).loc main_arg2))
          (m ((c : Thread nD τ).loc main_arg3)) (m ((c : Thread nD τ).loc main_arg5))
          ⟨1024 * t.val + r.val, by have := step_lt t; omega⟩ k := by
  unfold rowOf joined
  simp only [rows_in, first_in, second_in, mod_in, out_in]

/-- The first result array after the run. -/
theorem final8 : (dats m 0 c).arrAt 8 cfg0.N
    = fun x : S16384x1024.Idx => joined (m ((c : Thread nD τ).loc main_arg0)) (m ((c : Thread nD τ).loc main_arg1))
        (m ((c : Thread nD τ).loc main_arg2)) (m ((c : Thread nD τ).loc main_arg3)) (m ((c : Thread nD τ).loc main_arg5)) (x 0) (x 1) := by
  refine (dats m 0 c).arrAt_eq_of_covers 8 _ (by decide +kernel) fun t hf y => ?_
  have e3 := (index_eq t).2.2.2.2.2.2.1
  have h0 : (((cfg0.win 8).blk t).view.emb y 0).val = 1024 * t.val + (y 0).val := by
    blk_simp [e3]
    omega
  have h1 : (((cfg0.win 8).blk t).view.emb y 1).val = (y 1).val := by
    blk_simp [e3]
  blk_simp
  rw [after0_8]
  have hy0 : (y 0).val < 1024 := (y 0).isLt
  have hy1 : (y 1).val < 1024 := (y 1).isLt
  have hy : (y : S1024x1024.Idx) = ix2 ⟨(y 0).val, hy0⟩ ⟨(y 1).val, hy1⟩ := by
    funext a
    match a with
    | ⟨0, _⟩ => rfl
    | ⟨1, _⟩ => rfl
  refine (congrArg (outsAt0 m c t.val t.isLt).1 hy).trans ((out8_at m c t _ _).trans ((rowOf_eq m c t _ _).trans ?_))
  have a0 : (((cfg0.win 8).blk t).view.emb y 0 : Fin 16384) = ⟨1024 * t.val + (y 0).val, by have := step_lt t; omega⟩ := Fin.ext h0
  have a1 : (((cfg0.win 8).blk t).view.emb y 1 : Fin 1024) = ⟨(y 1).val, hy1⟩ := Fin.ext h1
  exact (congrArg₂ (joined (m ((c : Thread nD τ).loc main_arg0)) (m ((c : Thread nD τ).loc main_arg1))
    (m ((c : Thread nD τ).loc main_arg2)) (m ((c : Thread nD τ).loc main_arg3)) (m ((c : Thread nD τ).loc main_arg5))) a0 a1).symm

/-- The second result array after the run. -/
theorem final9 : (dats m 0 c).arrAt 9 cfg0.N
    = fun x : S16384x1024.Idx => ready (m ((c : Thread nD τ).loc main_arg0)) (m ((c : Thread nD τ).loc main_arg1))
        (m ((c : Thread nD τ).loc main_arg2)) (m ((c : Thread nD τ).loc main_arg3)) (m ((c : Thread nD τ).loc main_arg4))
        (m ((c : Thread nD τ).loc main_arg5)) (x 0) (x 1) := by
  refine (dats m 0 c).arrAt_eq_of_covers 9 _ (by decide +kernel) fun t hf y => ?_
  have e3 := (index_eq t).2.2.2.2.2.2.2
  have h0 : (((cfg0.win 9).blk t).view.emb y 0).val = 1024 * t.val + (y 0).val := by
    blk_simp [e3]
    omega
  have h1 : (((cfg0.win 9).blk t).view.emb y 1).val = (y 1).val := by
    blk_simp [e3]
  blk_simp
  rw [after0_9]
  have hy0 : (y 0).val < 1024 := (y 0).isLt
  have hy1 : (y 1).val < 1024 := (y 1).isLt
  have hy : (y : S1024x1024.Idx) = ix2 ⟨(y 0).val, hy0⟩ ⟨(y 1).val, hy1⟩ := by
    funext a
    match a with
    | ⟨0, _⟩ => rfl
    | ⟨1, _⟩ => rfl
  have a0 : (((cfg0.win 9).blk t).view.emb y 0 : Fin 16384) = ⟨1024 * t.val + (y 0).val, by have := step_lt t; omega⟩ := Fin.ext h0
  have a1 : (((cfg0.win 9).blk t).view.emb y 1 : Fin 1024) = ⟨(y 1).val, hy1⟩ := Fin.ext h1
  refine (congrArg (outsAt0 m c t.val t.isLt).2.1 hy).trans ((out9_at m c t _ _).trans ?_)
  rw [funext fun k => rowOf_eq m c t ⟨(y 0).val, hy0⟩ k]
  simp only [mod_in, weight_in]
  exact (congrArg₂ (ready (m ((c : Thread nD τ).loc main_arg0)) (m ((c : Thread nD τ).loc main_arg1))
    (m ((c : Thread nD τ).loc main_arg2)) (m ((c : Thread nD τ).loc main_arg3)) (m ((c : Thread nD τ).loc main_arg4))
    (m ((c : Thread nD τ).loc main_arg5))) a0 a1).symm

end Cert.MixedIdeal.Gen

end
-- ==== Proof.MixedRef.lean ====
/-
  The reference of the output projection and the rows for the feed-forward part, read at an index.
-/
module

public import proofs.«01_k».proof.Proof.Gen.PlainMixedIdeal.Run
public import proofs.«01_k».proof.Proof.MixedUnits
public import proofs.«01_k».proof.Proof.DenseRef
public import Idealize.ShloMosaic.Lib.IdealHost
public import Idealize.ShloMosaic.Lib.Pipeline.Value

@[expose] public section

set_option maxRecDepth 8192

noncomputable section

namespace Cert.PlainMixedIdeal.Read

open Idealize.ShloMosaic hiding ix1 ix2 ix3 ix4 addf_apply subf_apply mulf_apply divf_apply truncf_apply extf_apply constant_apply
open Idealize.ShloMosaic.ValueIdx Idealize.ShloMosaic.Pipeline Idealize.ShloMosaic.TcCoe Idealize.SL.Sem
open Cert.PlainMixedIdeal Cert.PlainMixedIdeal.Gen Cert.Mix Cert.Ffn
open Cert.AllExpertsIdeal.Read (dot_apply)
open Cert.PlainDenseIdeal.Read (modulated modulated_apply spread_row sixth)
open scoped BigOperators

/-- The two halves side by side. -/
def sides (A B : FVec Ideal S16384x512 .bf16) : FVec Ideal S16384x1024 .bf16 :=
  concatenate S16384x1024 1 [⟨S16384x512, A⟩, ⟨S16384x512, B⟩] concatenates_S16384x512_S16384x512_S16384x1024_d1

/-- The reference's first result, from its arguments. -/
def answer (X : FVec Ideal S16384x1024 .f32) (A B : FVec Ideal S16384x512 .bf16) (M : FVec Ideal S1x6144 .f32)
    (W : FVec Ideal S1024x1024 .bf16) : FVec Ideal S16384x1024 .f32 :=
  addf X (mulf (broadcastInDim S16384x1024 ![0, 1] bcast_S1x1024_S16384x1024_0_1
      (extractStridedSlice S1x1024 ![0, 2048] M slices_S1x6144_S1x1024_0_2048))
    (Host.dotGeneral dot_S16384x1024_S1024x1024_S16384x1024_1_0_0_1_n_n none (extf .f32 (sides A B) bitsLt_bf16_f32)
      (extf .f32 W bitsLt_bf16_f32)))

/-- The run ends with that array, and with its rows normalized and modulated, as the results, and the arguments unchanged. -/
theorem run_answer (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v12) = answer (m ((c.tc : Thread nD τ).loc main_arg0)) (m ((c.tc : Thread nD τ).loc main_arg1))
        (m ((c.tc : Thread nD τ).loc main_arg2)) (m ((c.tc : Thread nD τ).loc main_arg3)) (m ((c.tc : Thread nD τ).loc main_arg5))
      ∧ r.2.mem ((c.tc : Thread nD τ).loc main_v31) = (modulated (answer (m ((c.tc : Thread nD τ).loc main_arg0)) (m ((c.tc : Thread nD τ).loc main_arg1))
        (m ((c.tc : Thread nD τ).loc main_arg2)) (m ((c.tc : Thread nD τ).loc main_arg3)) (m ((c.tc : Thread nD τ).loc main_arg5)))
        (m ((c.tc : Thread nD τ).loc main_arg3)) (m ((c.tc : Thread nD τ).loc main_arg4)) : S16384x1024.Idx → EReal)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  Value.run m ρ

/-- The first 512 columns are the first half's. -/
theorem sides_left (A B : FVec Ideal S16384x512 .bf16) (r : Fin 16384) (k : Fin 512) :
    sides A B (ix2 r ⟨k.val, by omega⟩) = A (ix2 r k) := by
  refine concatenate_pair_apply_left (t := S16384x1024) 1 A B concatenates_S16384x512_S16384x512_S16384x1024_d1 _ rfl (ix2 r k) fun b => ?_
  match b with
  | ⟨0, _⟩ => rfl
  | ⟨1, _⟩ => rfl

/-- The others are the second half's. -/
theorem sides_right (A B : FVec Ideal S16384x512 .bf16) (r : Fin 16384) (k : Fin 512) :
    sides A B (ix2 r ⟨512 + k.val, by omega⟩) = B (ix2 r k) := by
  refine concatenate_pair_apply_right (t := S16384x1024) 1 A B concatenates_S16384x512_S16384x512_S16384x1024_d1 _ rfl rfl (ix2 r k)
    (fun b hb => ?_) (Nat.add_comm _ _)
  match b, hb with
  | ⟨0, _⟩, _ => rfl
  | ⟨1, _⟩, hb => exact absurd rfl hb

/-- The reference's first result, read at an entry. -/
theorem answer_apply (X : FVec Ideal S16384x1024 .f32) (A B : FVec Ideal S16384x512 .bf16) (M : FVec Ideal S1x6144 .f32)
    (W : FVec Ideal S1024x1024 .bf16) (r : Fin 16384) (c : Fin 1024) :
    answer X A B M W (ix2 r c) = joined X A B M W r c := by
  unfold joined
  refine congrArg (X (ix2 r c) + ·) (congrArg₂ (· * ·) ((spread_row _ r c).trans (sixth M 2048 (by omega) _ c)) ?_)
  refine (dot_apply _ rfl _ _ r c).trans ((project_eq (fun k => sides A B (ix2 r k)) fun k => W (ix2 k c)).trans ?_)
  exact congrArg₂ (fun a b => project a b fun k => W (ix2 k c)) (funext fun k => sides_left A B r k) (funext fun k => sides_right A B r k)

/-- The second result, read at an entry. -/
theorem ready_apply (X : FVec Ideal S16384x1024 .f32) (A B : FVec Ideal S16384x512 .bf16) (M : FVec Ideal S1x6144 .f32)
    (N : FVec Ideal S1x1024 .f32) (W : FVec Ideal S1024x1024 .bf16) (r : Fin 16384) (c : Fin 1024) :
    modulated (answer X A B M W) M N (ix2 r c) = ready X A B M N W r c := by
  rw [modulated_apply, funext fun j => answer_apply X A B M W r j]
  rfl

end Cert.PlainMixedIdeal.Read

end
-- ==== Proof.PrepUnits.lean ====
/-
  What a latent-attention layer's preparation leaves at one entry: the short causal convolution with its gate, and the
  values with their row of ones.
-/
module

public import proofs.«01_k».proof.Proof.DenseUnits

@[expose] public section

set_option maxRecDepth 8192

noncomputable section

namespace Cert.Pre

open Idealize.ShloMosaic hiding ix1 ix2 ix3 ix4
open Idealize.ShloMosaic.ValueIdx Cert.Ffn
open scoped BigOperators

/-- The projection of a row to one column. -/
def project (h : Fin 1024 → EReal) (w : Fin 1024 → Fin 2048 → EReal) (n : Fin 2048) : EReal := ∑ k, h k * w k n

/-- What the convolution reads of a row: the product of two of its projections. -/
def mixed (h : Fin 1024 → EReal) (w : Fin 1024 → Fin 2048 → EReal) (c : Fin 512) : EReal :=
  project h w ⟨512 + c.val, by omega⟩ * project h w ⟨1024 + c.val, by omega⟩

/-- The gate times the three taps, from what lies two rows back, one row back, and at the row. -/
def tap (g : EReal) (cw : Fin 3 → EReal) (z2 z1 z0 : EReal) : EReal := g * (cw 0 * z2 + cw 1 * z1 + cw 2 * z0)

/-- A row's latent, normalized and weighted. -/
def latent (h : Fin 1024 → EReal) (w : Fin 1024 → Fin 2048 → EReal) (nv : Fin 256 → EReal) (j : Fin 256) : EReal :=
  project h w ⟨1792 + j.val, by omega⟩
    * Ideal.rsqrt (Ideal.div (∑ i : Fin 256, project h w ⟨1792 + i.val, by omega⟩ * project h w ⟨1792 + i.val, by omega⟩)
        (Ideal.ofBits .f32 0x43800000#32) + Ideal.ofBits .f32 0x358637BD#32) * nv j

/-- A row's values of one head: 128 of them, then a one, then zeros. -/
def value (h : Fin 1024 → EReal) (w : Fin 1024 → Fin 2048 → EReal) (nv : Fin 256 → EReal) (wv : Fin 512 → Fin 256 → EReal)
    (e : Fin 4) (d : Fin 144) : EReal :=
  if hd : d.val < 128 then ∑ j, latent h w nv j * wv ⟨128 * e.val + d.val, by omega⟩ j else if d.val = 128 then 1 else 0

/-- A row, normalized and modulated. -/
def row (x : (⟨2, ![16384, 1024]⟩ : Shape).Idx → EReal) (md : (⟨2, ![1, 6144]⟩ : Shape).Idx → EReal)
    (nw : (⟨2, ![1, 1024]⟩ : Shape).Idx → EReal) (r : Fin 16384) : Fin 1024 → EReal :=
  normed (fun j => x (ix2 r j)) (fun j => nw (ix2 0 j)) (fun j => md (ix2 0 ⟨1024 + j.val, by omega⟩))
    (fun j => md (ix2 0 ⟨j.val, by omega⟩))

/-- What the convolution reads some rows back; nothing lies before the first row. -/
def back (h : Fin 16384 → Fin 1024 → EReal) (w : Fin 1024 → Fin 2048 → EReal) (r : Fin 16384) (n : ℕ) (c : Fin 512) : EReal :=
  if n ≤ r.val then mixed (h ⟨r.val - n, by omega⟩) w c else 0

/-- The convolution's result at an entry. -/
def conv (h : Fin 16384 → Fin 1024 → EReal) (w : Fin 1024 → Fin 2048 → EReal) (cw : Fin 3 → Fin 512 → EReal) (r : Fin 16384)
    (c : Fin 512) : EReal :=
  tap (project (h r) w ⟨c.val, by omega⟩) (fun k => cw k c) (back h w r 2 c) (back h w r 1 c) (mixed (h r) w c)

end Cert.Pre

end
-- ==== Proof.PrepPay.lean ====
/-
  What the preparation's kernel computes in one step, read at an index: the rows it normalizes and modulates, the products
  the convolution reads, and the convolution itself, whose first rows read the eight rows kept from the step before.
-/
module

public import proofs.«01_k».proof.Proof.PrepUnits
public import proofs.«01_k».proof.Proof.Gen.PrepIdeal.Value
public import proofs.«01_k».proof.Proof.Gen.PrepIdeal.Skeleton
public import Idealize.ShloMosaic.Lib.ValueLayout
public import Idealize.ShloMosaic.Lib.WholeRead
public import Idealize.ShloMosaic.Lib.KernelVsHost

@[expose] public section

set_option maxRecDepth 8192

noncomputable section

namespace Cert.PrepIdeal.Gen

open Idealize.ShloMosaic hiding ix1 ix2 ix3 ix4 addf_apply subf_apply mulf_apply divf_apply truncf_apply extf_apply constant_apply
open Idealize.ShloMosaic.ValueIdx Idealize.ShloMosaic.Pipeline Cert.Ffn Cert.Pre Idealize.ShloMosaic.TcCoe
open scoped BigOperators

/-- The rows, normalized and modulated. -/
theorem ready_at (X : FVec Ideal S1024x1024 .f32) (v7 v8 v9 : FVec Ideal S1x1024 .f32) (r k : Fin 1024) :
    k0_pay7 (F := Ideal) X v7 v8 v9 (ix2 r k)
      = normed (fun j => X (ix2 r j)) (fun j => v9 (ix2 0 j)) (fun j => v8 (ix2 0 j)) (fun j => v7 (ix2 0 j)) k := by
  have e1 := broadcastTo_1b_ab_apply v7 broadcasts_S1x1024_S1024x1024 r k
  have e2 := broadcastTo_1b_ab_apply (mulf v9 (addf (broadcast S1x1024 (Scalar.ofBits (F := Ideal) .f32 0x3F800000#32)) v8))
    broadcasts_S1x1024_S1024x1024 r k
  have e3 := row_sum_apply (N := 1024) (mulf X X) reduces_S1024x1024_S1024 (.inl rfl) rfl r
  have e4 := column_apply (N := 1024) (multiReduction .add [1] S1024 (mulf X X) 0x00000000#32 reduces_S1024x1024_S1024 (.inl rfl) rfl)
    shapeCasts_S1024_S1024x1 r
  have e5 := spread_apply (N := 1024) (B := 1024) (rsqrt (addf (divf (shapeCast S1024x1 (multiReduction .add [1] S1024 (mulf X X)
      0x00000000#32 reduces_S1024x1024_S1024 (.inl rfl) rfl) shapeCasts_S1024_S1024x1)
      (broadcast S1024x1 (Scalar.ofBits (F := Ideal) .f32 0x44800000#32))) (broadcast S1024x1 (Scalar.ofBits (F := Ideal) .f32 0x358637BD#32))))
    broadcasts_S1024x1_S1024x1024 r k
  have e6 : rsqrt (addf (divf (shapeCast S1024x1 (multiReduction .add [1] S1024 (mulf X X)
      0x00000000#32 reduces_S1024x1024_S1024 (.inl rfl) rfl) shapeCasts_S1024_S1024x1)
      (broadcast S1024x1 (Scalar.ofBits (F := Ideal) .f32 0x44800000#32))) (broadcast S1024x1 (Scalar.ofBits (F := Ideal) .f32 0x358637BD#32)))
        (ix2 r 0) = Ideal.rsqrt (Ideal.div (∑ j : Fin 1024, X (ix2 r j) * X (ix2 r j)) (Ideal.ofBits .f32 0x44800000#32)
          + Ideal.ofBits .f32 0x358637BD#32) :=
    congrArg (fun z => Ideal.rsqrt (Ideal.div z (Ideal.ofBits .f32 0x44800000#32) + Ideal.ofBits .f32 0x358637BD#32)) (e4.trans e3)
  exact congrArg₂ (· + ·) (congrArg₂ (· * ·) (congrArg (X (ix2 r k) * ·) (e5.trans e6)) e2) e1

/-- The product of two projections, for the first 256 columns. -/
theorem mixed_first (h : FVec Ideal S1024x1024 .bf16) (a b : FVec Ideal S1024x256 .bf16) (r : Fin 1024) (q : Fin 256) :
    k0_pay10 (F := Ideal) h a b (ix2 r q) = (∑ k : Fin 1024, h (ix2 r k) * a (ix2 k q)) * ∑ k : Fin 1024, h (ix2 r k) * b (ix2 k q) :=
  congrArg₂ (· * ·) (prod_apply (A := 1024) (K := 1024) (B := 256) h a r q) (prod_apply (A := 1024) (K := 1024) (B := 256) h b r q)

/-- The same for the other 256 columns. -/
theorem mixed_second (h : FVec Ideal S1024x1024 .bf16) (a b : FVec Ideal S1024x256 .bf16) (r : Fin 1024) (q : Fin 256) :
    k0_pay14 (F := Ideal) h (k0_pay13 h a) b (ix2 r q)
      = (∑ k : Fin 1024, h (ix2 r k) * a (ix2 k q)) * ∑ k : Fin 1024, h (ix2 r k) * b (ix2 k q) :=
  congrArg₂ (· * ·) (prod_apply (A := 1024) (K := 1024) (B := 256) h a r q) (prod_apply (A := 1024) (K := 1024) (B := 256) h b r q)

/-- The last eight rows of a block. -/
theorem last_rows (Z : FVec Ideal S1024x256 .f32) (q : Fin 8) (k : Fin 256) :
    shapeCast S8x256 (extractStridedSlice S8x256 ![1016, 0] Z slices_S1024x256_o1016_0_S8x256) shapeCasts_S8x256_S8x256 (ix2 q k)
      = Z (ix2 ⟨1016 + q.val, by omega⟩ k) := by
  refine (shapeCast_apply _ _ (ix2 q k) (ix2 q k) rfl).trans (congrArg Z (funext fun a => Fin.ext ?_))
  match a with
  | ⟨0, _⟩ => rfl
  | ⟨1, _⟩ => exact Nat.zero_add _

/-- The rows of a block moved down, the rows kept from before coming in at the top. -/
theorem moved (H : FVec Ideal S8x256 .f32) (Z : FVec Ideal S1024x256 .f32) (s : BitVec 32) (n : ℕ) (hs : s.toNat = n) (hn : n ≤ 8)
    (r : Fin 1024) (k : Fin 256) :
    extractStridedSlice S1024x256 ![8, 0] (dynamicRotate 0 s none (concatenate S1032x256 0 [⟨S8x256, H⟩, ⟨S1024x256, Z⟩]
        concatenates_S8x256_S1024x256_S1032x256_d0) rotates_S1032x256_d0) slices_S1032x256_o8_0_S1024x256 (ix2 r k)
      = if h : n ≤ r.val then Z (ix2 ⟨r.val - n, by omega⟩ k) else H (ix2 ⟨8 + r.val - n, by omega⟩ k) := by
  have hr := r.isLt
  refine (extractStridedSlice_apply _ _ _ (ix2 r k) (ix2 ⟨8 + r.val, by omega⟩ k) fun a => ?_).trans
    ((dynamicRotate_apply 0 s _ _ (ix2 ⟨8 + r.val, by omega⟩ k) (ix2 ⟨8 + r.val - n, by omega⟩ k) fun b => ?_).trans ?_)
  · match a with
    | ⟨0, _⟩ => rfl
    | ⟨1, _⟩ => exact (Nat.zero_add _).symm
  · match b with
    | ⟨0, _⟩ =>
      show 8 + r.val - n = (8 + r.val + 1032 - s.toNat % 1032) % 1032
      rw [hs, Nat.mod_eq_of_lt (by omega : n < 1032)]
      omega
    | ⟨1, _⟩ => rfl
  · by_cases h : n ≤ r.val
    · rw [dif_pos h]
      refine concatenate_pair_apply_right (t := S1032x256) 0 H Z _ _ rfl rfl (ix2 ⟨r.val - n, by omega⟩ k) (fun b hb => ?_) ?_
      · match b with
        | ⟨0, _⟩ => exact absurd rfl hb
        | ⟨1, _⟩ => rfl
      · show r.val - n + 8 = 8 + r.val - n
        omega
    · rw [dif_neg h]
      refine concatenate_pair_apply_left (t := S1032x256) 0 H Z _ _ rfl (ix2 ⟨8 + r.val - n, by omega⟩ k) fun b => ?_
      match b with
      | ⟨0, _⟩ => rfl
      | ⟨1, _⟩ => rfl

/-- The gated convolution of a block. -/
def taken (h : FVec Ideal S1024x1024 .bf16) (Z : FVec Ideal S1024x256 .f32) (H : FVec Ideal S8x256 .f32)
    (c0 c1 c2 : FVec Ideal S1x256 .f32) (g : FVec Ideal S1024x256 .bf16) : FVec Ideal S1024x256 .f32 :=
  mulf (matmul (DotDims.plain 1024 1024 256) none h g (constant S1024x256 .f32 0x00000000#32))
    (addf (addf
      (mulf (broadcastTo S1024x256 c0 broadcasts_S1x256_S1024x256) (extractStridedSlice S1024x256 ![8, 0] (dynamicRotate 0 2#32 none
        (concatenate S1032x256 0 [⟨S8x256, H⟩, ⟨S1024x256, Z⟩] concatenates_S8x256_S1024x256_S1032x256_d0) rotates_S1032x256_d0)
          slices_S1032x256_o8_0_S1024x256))
      (mulf (broadcastTo S1024x256 c1 broadcasts_S1x256_S1024x256) (extractStridedSlice S1024x256 ![8, 0] (dynamicRotate 0 1#32 none
        (concatenate S1032x256 0 [⟨S8x256, H⟩, ⟨S1024x256, Z⟩] concatenates_S8x256_S1024x256_S1032x256_d0) rotates_S1032x256_d0)
          slices_S1032x256_o8_0_S1024x256)))
      (mulf (broadcastTo S1024x256 c2 broadcasts_S1x256_S1024x256) Z))

theorem taken_apply (h : FVec Ideal S1024x1024 .bf16) (Z : FVec Ideal S1024x256 .f32) (H : FVec Ideal S8x256 .f32)
    (c0 c1 c2 : FVec Ideal S1x256 .f32) (g : FVec Ideal S1024x256 .bf16) (r : Fin 1024) (k : Fin 256) :
    taken h Z H c0 c1 c2 g (ix2 r k)
      = tap (∑ j : Fin 1024, h (ix2 r j) * g (ix2 j k)) ![c0 (ix2 0 k), c1 (ix2 0 k), c2 (ix2 0 k)]
          (if hr : 2 ≤ r.val then Z (ix2 ⟨r.val - 2, by omega⟩ k) else H (ix2 ⟨8 + r.val - 2, by omega⟩ k))
          (if hr : 1 ≤ r.val then Z (ix2 ⟨r.val - 1, by omega⟩ k) else H (ix2 ⟨8 + r.val - 1, by omega⟩ k))
          (Z (ix2 r k)) :=
  congrArg₂ (· * ·) (prod_apply (A := 1024) (K := 1024) (B := 256) h g r k)
    (congrArg₂ (· + ·) (congrArg₂ (· + ·)
      (congrArg₂ (· * ·) (broadcastTo_1b_ab_apply c0 broadcasts_S1x256_S1024x256 r k) (moved H Z 2#32 2 rfl (by omega) r k))
      (congrArg₂ (· * ·) (broadcastTo_1b_ab_apply c1 broadcasts_S1x256_S1024x256 r k) (moved H Z 1#32 1 rfl (by omega) r k)))
      (congrArg (· * Z (ix2 r k)) (broadcastTo_1b_ab_apply c2 broadcasts_S1x256_S1024x256 r k)))

/-- The step's convolution, for the first 256 columns. -/
theorem taken_first (h : FVec Ideal S1024x1024 .bf16) (a b : FVec Ideal S1024x256 .bf16) (H : FVec Ideal S8x256 .f32)
    (c0 c1 c2 : FVec Ideal S1x256 .f32) (g : FVec Ideal S1024x256 .bf16) :
    (k0_pay12 (F := Ideal) h a b H c0 c1 c2 g : S1024x256.Idx → EReal) = taken h (k0_pay10 (F := Ideal) h a b) H c0 c1 c2 g := rfl

/-- The same for the other 256 columns. -/
theorem taken_second (h : FVec Ideal S1024x1024 .bf16) (u : FVec Ideal S1024x256 .f32) (b : FVec Ideal S1024x256 .bf16) (H : FVec Ideal S8x256 .f32)
    (c0 c1 c2 : FVec Ideal S1x256 .f32) (g : FVec Ideal S1024x256 .bf16) :
    (k0_pay16 (F := Ideal) h u b H c0 c1 c2 g : S1024x256.Idx → EReal) = taken h (k0_pay14 (F := Ideal) h u b) H c0 c1 c2 g := rfl

end Cert.PrepIdeal.Gen

end
-- ==== Proof.PrepBlock.lean ====
/-
  What one grid step of the preparation's kernel leaves of the convolution: 1024 rows of the result, and the last eight
  rows of what the convolution reads, kept for the next step.
-/
module

public import proofs.«01_k».proof.Proof.PrepPay

@[expose] public section

set_option maxRecDepth 8192

noncomputable section

namespace Cert.PrepIdeal.Gen

open Idealize.ShloMosaic hiding ix1 ix2 ix3 ix4 addf_apply subf_apply mulf_apply divf_apply truncf_apply extf_apply constant_apply
open Idealize.ShloMosaic.ValueIdx Idealize.ShloMosaic.Pipeline Cert.Ffn Cert.Pre Idealize.ShloMosaic.TcCoe
open scoped BigOperators

/-- A load of a rectangle of 32-bit floats from a buffer whose contents are known. -/
theorem load_f32 {A B C D : ℕ} {mr : Memref sig .tc .vmem ⟨2, ![A, B]⟩ .f32} (hm : mr.IsWhole) (X : (⟨2, ![A, B]⟩ : Shape).Idx → EReal)
    (o p : ℕ) (inb : ∀ a, (![o, p] : Fin 2 → ℕ) a + (![C, D] : Fin 2 → ℕ) a ≤ (⟨2, ![A, B]⟩ : Shape).size a) (r : Fin C) (k : Fin D)
    (ho : o + r.val < A) (hp : p + k.val < B) :
    View.readAt (Elt Ideal) mr.view (Rect.unit (s := ⟨2, ![A, B]⟩) ![o, p] ![C, D] inb).toLoadRect (hm.unread (Val := Elt Ideal) X) (ix2 r k)
      = X (ix2 ⟨o + r.val, ho⟩ ⟨p + k.val, hp⟩) := by
  refine (Memref.IsWhole.readAt_unread (Val := Elt Ideal) hm X _ _).trans (congrArg (β := EReal) X (funext fun a => Fin.ext ?_))
  match a with
  | ⟨0, _⟩ => show o + 1 * r.val = o + r.val; omega
  | ⟨1, _⟩ => show p + 1 * k.val = p + k.val; omega

/-- The same of 16-bit floats. -/
theorem load_bf16 {A B C D : ℕ} {mr : Memref sig .tc .vmem ⟨2, ![A, B]⟩ .bf16} (hm : mr.IsWhole) (X : (⟨2, ![A, B]⟩ : Shape).Idx → EReal)
    (o p : ℕ) (inb : ∀ a, (![o, p] : Fin 2 → ℕ) a + (![C, D] : Fin 2 → ℕ) a ≤ (⟨2, ![A, B]⟩ : Shape).size a) (r : Fin C) (k : Fin D)
    (ho : o + r.val < A) (hp : p + k.val < B) :
    View.readAt (Elt Ideal) mr.view (Rect.unit (s := ⟨2, ![A, B]⟩) ![o, p] ![C, D] inb).toLoadRect (hm.unread (Val := Elt Ideal) X) (ix2 r k)
      = X (ix2 ⟨o + r.val, ho⟩ ⟨p + k.val, hp⟩) := by
  refine (Memref.IsWhole.readAt_unread (Val := Elt Ideal) hm X _ _).trans (congrArg (β := EReal) X (funext fun a => Fin.ext ?_))
  match a with
  | ⟨0, _⟩ => show o + 1 * r.val = o + r.val; omega
  | ⟨1, _⟩ => show p + 1 * k.val = p + k.val; omega

/-- Two stores of 256 columns each, side by side. -/
theorem canon_halves {M : ℕ} {e : EltTy}
    (i1 : ∀ a, (![0, 256] : Fin 2 → ℕ) a + (![M, 256] : Fin 2 → ℕ) a ≤ (⟨2, ![M, 512]⟩ : Shape).size a)
    (i0 : ∀ a, (![0, 0] : Fin 2 → ℕ) a + (![M, 256] : Fin 2 → ℕ) a ≤ (⟨2, ![M, 512]⟩ : Shape).size a)
    (w1 w0 : (⟨2, ![M, 256]⟩ : Shape).Idx → Elt Ideal e) (L : List (View.Piece (Elt Ideal) ⟨2, ![M, 512]⟩ e)) (d : Fin M) (q : Fin 512) :
    View.canon ((⟨Rect.unit (s := ⟨2, ![M, 512]⟩) ![0, 256] ![M, 256] i1, w1⟩ : View.Piece (Elt Ideal) ⟨2, ![M, 512]⟩ e)
        :: (⟨Rect.unit (s := ⟨2, ![M, 512]⟩) ![0, 0] ![M, 256] i0, w0⟩ : View.Piece (Elt Ideal) ⟨2, ![M, 512]⟩ e) :: L) (ix2 d q)
      = if h : 256 ≤ q.val then w1 (ix2 d ⟨q.val - 256, by omega⟩) else w0 (ix2 d ⟨q.val, by omega⟩) := by
  by_cases h : 256 ≤ q.val
  · rw [dif_pos h]
    have e1 : (ix2 d q : (⟨2, ![M, 512]⟩ : Shape).Idx)
        = (Rect.unit (s := ⟨2, ![M, 512]⟩) ![0, 256] ![M, 256] i1).emb (ix2 d ⟨q.val - 256, by omega⟩) := by
      funext a
      refine Fin.ext ?_
      match a with
      | ⟨0, _⟩ => show d.val = 0 + 1 * d.val; omega
      | ⟨1, _⟩ => show q.val = 256 + 1 * (q.val - 256); omega
    rw [e1]
    exact View.canon_cons_emb (Val := Elt Ideal) (Rect.unit (s := ⟨2, ![M, 512]⟩) ![0, 256] ![M, 256] i1) w1 _ _
  · rw [dif_neg h]
    refine (View.canon_cons_of_not_mem (Val := Elt Ideal) _ _ fun hm => ?_).trans ?_
    · exact h ((Rect.mem_set_unit (s := ⟨2, ![M, 512]⟩) (inb := i1)).mp hm 1).1
    · have e1 : (ix2 d q : (⟨2, ![M, 512]⟩ : Shape).Idx)
          = (Rect.unit (s := ⟨2, ![M, 512]⟩) ![0, 0] ![M, 256] i0).emb (ix2 d ⟨q.val, by omega⟩) := by
        funext a
        refine Fin.ext ?_
        match a with
        | ⟨0, _⟩ => show d.val = 0 + 1 * d.val; omega
        | ⟨1, _⟩ => show q.val = 0 + 1 * q.val; omega
      rw [e1]
      exact View.canon_cons_emb (Val := Elt Ideal) (Rect.unit (s := ⟨2, ![M, 512]⟩) ![0, 0] ![M, 256] i0) w0 _ _

/-- A row of the block, normalized and modulated. -/
def rowIn (x0 : S1024x1024.Idx → EReal) (x1 : S1x6144.Idx → EReal) (x2 : S1x1024.Idx → EReal) (r : Fin 1024) : Fin 1024 → EReal :=
  normed (fun j => x0 (ix2 r j)) (fun j => x2 (ix2 0 j)) (fun j => x1 (ix2 0 ⟨1024 + j.val, by omega⟩))
    (fun j => x1 (ix2 0 ⟨j.val, by omega⟩))

/-- The convolution over a block, the rows before it being given. -/
def convIn (h : Fin 1024 → Fin 1024 → EReal) (w : Fin 1024 → Fin 2048 → EReal) (cw : Fin 3 → Fin 512 → EReal)
    (halo : Fin 8 → Fin 512 → EReal) (r : Fin 1024) (c : Fin 512) : EReal :=
  tap (project (h r) w ⟨c.val, by omega⟩) (fun k => cw k c)
    (if hr : 2 ≤ r.val then mixed (h ⟨r.val - 2, by omega⟩) w c else halo ⟨8 + r.val - 2, by omega⟩ c)
    (if hr : 1 ≤ r.val then mixed (h ⟨r.val - 1, by omega⟩) w c else halo ⟨8 + r.val - 1, by omega⟩ c)
    (mixed (h r) w c)

theorem tap_congr {g g' z2 z2' z1 z1' z0 z0' a0 a1 a2 : EReal} {cw : Fin 3 → EReal} (hg : g = g') (h0 : a0 = cw 0) (h1 : a1 = cw 1)
    (h2 : a2 = cw 2) (e2 : z2 = z2') (e1 : z1 = z1') (e0 : z0 = z0') : tap g ![a0, a1, a2] z2 z1 z0 = tap g' cw z2' z1' z0' := by
  subst hg h0 h1 h2 e2 e1 e0
  rfl

section Generic

variable {h : FVec Ideal S1024x1024 .bf16} {a b g : FVec Ideal S1024x256 .bf16} {H : FVec Ideal S8x256 .f32}
  {c0 c1 c2 : FVec Ideal S1x256 .f32} {R : Fin 1024 → Fin 1024 → EReal} {w : Fin 1024 → Fin 2048 → EReal}
  {cw : Fin 3 → Fin 512 → EReal} {halo : Fin 8 → Fin 512 → EReal}

theorem mixed_first_eq (hh : ∀ r k, h (ix2 r k) = R r k) (ha : ∀ k (q : Fin 256), a (ix2 k q) = w k ⟨512 + q.val, by omega⟩)
    (hb : ∀ k (q : Fin 256), b (ix2 k q) = w k ⟨1024 + q.val, by omega⟩) (r : Fin 1024) (q : Fin 256) :
    k0_pay10 (F := Ideal) h a b (ix2 r q) = mixed (R r) w ⟨q.val, by omega⟩ := by
  refine (mixed_first h a b r q).trans ?_
  simp only [hh, ha, hb]
  rfl

theorem mixed_second_eq (hh : ∀ r k, h (ix2 r k) = R r k) (ha : ∀ k (q : Fin 256), a (ix2 k q) = w k ⟨768 + q.val, by omega⟩)
    (hb : ∀ k (q : Fin 256), b (ix2 k q) = w k ⟨1280 + q.val, by omega⟩) (r : Fin 1024) (q : Fin 256) :
    k0_pay14 (F := Ideal) h (k0_pay13 h a) b (ix2 r q) = mixed (R r) w ⟨256 + q.val, by omega⟩ := by
  refine (mixed_second h a b r q).trans ?_
  simp only [hh, ha, hb]
  unfold mixed project
  have e1 : (⟨768 + q.val, by omega⟩ : Fin 2048) = ⟨512 + (256 + q.val), by omega⟩ := Fin.ext (by show 768 + q.val = 512 + (256 + q.val); omega)
  have e2 : (⟨1280 + q.val, by omega⟩ : Fin 2048) = ⟨1024 + (256 + q.val), by omega⟩ := Fin.ext (by show 1280 + q.val = 1024 + (256 + q.val); omega)
  rw [e1, e2]

theorem conv_first_eq (hh : ∀ r k, h (ix2 r k) = R r k) (ha : ∀ k (q : Fin 256), a (ix2 k q) = w k ⟨512 + q.val, by omega⟩)
    (hb : ∀ k (q : Fin 256), b (ix2 k q) = w k ⟨1024 + q.val, by omega⟩) (hH : ∀ e (q : Fin 256), H (ix2 e q) = halo e ⟨q.val, by omega⟩)
    (h0 : ∀ q : Fin 256, c0 (ix2 0 q) = cw 0 ⟨q.val, by omega⟩) (h1 : ∀ q : Fin 256, c1 (ix2 0 q) = cw 1 ⟨q.val, by omega⟩)
    (h2 : ∀ q : Fin 256, c2 (ix2 0 q) = cw 2 ⟨q.val, by omega⟩) (hg : ∀ k (q : Fin 256), g (ix2 k q) = w k ⟨q.val, by omega⟩)
    (r : Fin 1024) (q : Fin 256) :
    (k0_pay12 (F := Ideal) h a b H c0 c1 c2 g (ix2 r q) : EReal) = convIn R w cw halo r ⟨q.val, by omega⟩ := by
  refine (congrFun (taken_first h a b H c0 c1 c2 g) _).trans ((taken_apply _ _ _ _ _ _ _ r q).trans ?_)
  unfold convIn
  refine tap_congr ?_ (h0 q) (h1 q) (h2 q) ?_ ?_ (mixed_first_eq hh ha hb r q)
  · simp only [hh, hg]
    rfl
  · simp only [mixed_first_eq hh ha hb, hH]
  · simp only [mixed_first_eq hh ha hb, hH]

theorem conv_second_eq (hh : ∀ r k, h (ix2 r k) = R r k) (ha : ∀ k (q : Fin 256), a (ix2 k q) = w k ⟨768 + q.val, by omega⟩)
    (hb : ∀ k (q : Fin 256), b (ix2 k q) = w k ⟨1280 + q.val, by omega⟩) (hH : ∀ e (q : Fin 256), H (ix2 e q) = halo e ⟨256 + q.val, by omega⟩)
    (h0 : ∀ q : Fin 256, c0 (ix2 0 q) = cw 0 ⟨256 + q.val, by omega⟩) (h1 : ∀ q : Fin 256, c1 (ix2 0 q) = cw 1 ⟨256 + q.val, by omega⟩)
    (h2 : ∀ q : Fin 256, c2 (ix2 0 q) = cw 2 ⟨256 + q.val, by omega⟩) (hg : ∀ k (q : Fin 256), g (ix2 k q) = w k ⟨256 + q.val, by omega⟩)
    (r : Fin 1024) (q : Fin 256) :
    (k0_pay16 (F := Ideal) h (k0_pay13 h a) b H c0 c1 c2 g (ix2 r q) : EReal) = convIn R w cw halo r ⟨256 + q.val, by omega⟩ := by
  refine (congrFun (taken_second h _ b H c0 c1 c2 g) _).trans ((taken_apply _ _ _ _ _ _ _ r q).trans ?_)
  unfold convIn
  refine tap_congr ?_ (h0 q) (h1 q) (h2 q) ?_ ?_ (mixed_second_eq hh ha hb r q)
  · simp only [hh, hg]
    rfl
  · simp only [mixed_second_eq hh ha hb, hH]
  · simp only [mixed_second_eq hh ha hb, hH]

end Generic

section Step

variable {arg1 : Memref sig .tc .vmem S1024x1024 .f32} (harg1 : arg1.IsWhole)
  {arg2 : Memref sig .tc .vmem S1x6144 .f32} (harg2 : arg2.IsWhole)
  {arg3 : Memref sig .tc .vmem S1x1024 .f32} (harg3 : arg3.IsWhole)
  {arg4 : Memref sig .tc .vmem S1024x2048 .bf16} (harg4 : arg4.IsWhole)
  {arg6 : Memref sig .tc .vmem S3x512 .f32} (harg6 : arg6.IsWhole)
  (x0 : S1024x1024.Idx → EReal) (x1 : S1x6144.Idx → EReal) (x2 : S1x1024.Idx → EReal) (x3 : S1024x2048.Idx → EReal)
  (x5 : S3x512.Idx → EReal)

/-- The step's normalized and modulated rows, from the blocks. -/
theorem ready_step (r k : Fin 1024) :
    k0_pay7 (F := Ideal)
      (View.readAt (Elt Ideal) arg1.view (Rect.unit (s := S1024x1024) ![0, 0] ![1024, 1024] inb_S1024x1024_S1024x1024_0_0).toLoadRect (harg1.unread (Val := Elt Ideal) x0))
      (View.readAt (Elt Ideal) arg2.view (Rect.unit (s := S1x6144) ![0, 0] ![1, 1024] inb_S1x6144_S1x1024_0_0).toLoadRect (harg2.unread (Val := Elt Ideal) x1))
      (View.readAt (Elt Ideal) arg2.view (Rect.unit (s := S1x6144) ![0, 1024] ![1, 1024] inb_S1x6144_S1x1024_0_1024).toLoadRect (harg2.unread (Val := Elt Ideal) x1))
      (View.readAt (Elt Ideal) arg3.view (Rect.unit (s := S1x1024) ![0, 0] ![1, 1024] inb_S1x1024_S1x1024_0_0).toLoadRect (harg3.unread (Val := Elt Ideal) x2))
      (ix2 r k) = rowIn x0 x1 x2 r k := by
  refine (ready_at _ _ _ _ r k).trans ?_
  unfold rowIn
  have a0 : (fun j : Fin 1024 => View.readAt (Elt Ideal) arg1.view (Rect.unit (s := S1024x1024) ![0, 0] ![1024, 1024] inb_S1024x1024_S1024x1024_0_0).toLoadRect
      (harg1.unread (Val := Elt Ideal) x0) (ix2 r j)) = fun j => x0 (ix2 r j) := funext fun j =>
    (load_f32 harg1 x0 0 0 _ r j (by omega) (by omega)).trans (by simp only [Nat.zero_add])
  have a1 : (fun j : Fin 1024 => View.readAt (Elt Ideal) arg3.view (Rect.unit (s := S1x1024) ![0, 0] ![1, 1024] inb_S1x1024_S1x1024_0_0).toLoadRect
      (harg3.unread (Val := Elt Ideal) x2) (ix2 (0 : Fin 1) j)) = fun j => x2 (ix2 0 j) := funext fun j =>
    (load_f32 harg3 x2 0 0 _ 0 j (by decide) (by omega)).trans (by simp only [Nat.zero_add])
  have a2 : (fun j : Fin 1024 => View.readAt (Elt Ideal) arg2.view (Rect.unit (s := S1x6144) ![0, 1024] ![1, 1024] inb_S1x6144_S1x1024_0_1024).toLoadRect
      (harg2.unread (Val := Elt Ideal) x1) (ix2 (0 : Fin 1) j)) = fun j => x1 (ix2 0 ⟨1024 + j.val, by omega⟩) := funext fun j =>
    (load_f32 harg2 x1 0 1024 _ 0 j (by decide) (by omega)).trans rfl
  have a3 : (fun j : Fin 1024 => View.readAt (Elt Ideal) arg2.view (Rect.unit (s := S1x6144) ![0, 0] ![1, 1024] inb_S1x6144_S1x1024_0_0).toLoadRect
      (harg2.unread (Val := Elt Ideal) x1) (ix2 (0 : Fin 1) j)) = fun j => x1 (ix2 0 ⟨j.val, by omega⟩) := funext fun j =>
    (load_f32 harg2 x1 0 0 _ 0 j (by decide) (by omega)).trans (by simp only [Nat.zero_add])
  exact congrFun (congr (congr (congr (congrArg normed a0) a1) a2) a3) k

/-- A load of 256 columns of the projections' weights. -/
theorem weights_load (p : ℕ) (inb : ∀ a, (![0, p] : Fin 2 → ℕ) a + (![1024, 256] : Fin 2 → ℕ) a ≤ S1024x2048.size a) (hp : p + 256 ≤ 2048)
    (k : Fin 1024) (q : Fin 256) :
    View.readAt (Elt Ideal) arg4.view (Rect.unit (s := S1024x2048) ![0, p] ![1024, 256] inb).toLoadRect (harg4.unread (Val := Elt Ideal) x3) (ix2 k q)
      = x3 (ix2 k ⟨p + q.val, by omega⟩) :=
  (load_bf16 harg4 x3 0 p inb k q (by omega) (by omega)).trans (by simp only [Nat.zero_add])

/-- A load of 256 columns of a tap. -/
theorem taps_load (o : Fin 3) (p : ℕ) (inb : ∀ a, (![o.val, p] : Fin 2 → ℕ) a + (![1, 256] : Fin 2 → ℕ) a ≤ S3x512.size a) (hp : p + 256 ≤ 512)
    (q : Fin 256) :
    View.readAt (Elt Ideal) arg6.view (Rect.unit (s := S3x512) ![o.val, p] ![1, 256] inb).toLoadRect (harg6.unread (Val := Elt Ideal) x5) (ix2 (0 : Fin 1) q)
      = x5 (ix2 o ⟨p + q.val, by omega⟩) :=
  (load_f32 harg6 x5 o.val p inb 0 q (by show o.val + 0 < 3; omega) (by omega)).trans rfl

end Step

end Cert.PrepIdeal.Gen

end
-- ==== Proof.PrepOut.lean ====
/-
  The convolution's block after a grid step of the preparation's kernel. What the step keeps for the next one are the last
  eight rows of what its own convolution reads, so the block depends on its own rows and on those of the step before.
-/
module

public import proofs.«01_k».proof.Proof.PrepBlock

@[expose] public section

set_option maxRecDepth 8192

noncomputable section

namespace Cert.PrepIdeal.Gen

open Idealize.ShloMosaic hiding ix1 ix2 ix3 ix4 addf_apply subf_apply mulf_apply divf_apply truncf_apply extf_apply constant_apply
open Idealize.ShloMosaic.ValueIdx Idealize.ShloMosaic.Pipeline Cert.Ffn Cert.Pre Idealize.ShloMosaic.TcCoe
open scoped BigOperators

variable (m : (ℓ : Loc nD τ sig) → Buf (Elt Ideal) ℓ) (c : Dev nD)

/-- A row of a step's block, normalized and modulated. -/
def rowAt (t : Fin cfg0.N) (r : Fin 1024) : Fin 1024 → EReal := rowIn (iblk m c 0 t) (iblk m c 1 t) (iblk m c 2 t) r

/-- Each step has the whole of the weights. -/
def weightsAt (t : Fin cfg0.N) (k : Fin 1024) (n : Fin 2048) : EReal := iblk m c 3 t (ix2 k n)

/-- … and of the taps. -/
def tapsAt (t : Fin cfg0.N) (k : Fin 3) (q : Fin 512) : EReal := iblk m c 5 t (ix2 k q)

/-- Two stores of 256 columns each hold what each of them holds. -/
theorem join {M : ℕ} {e : EltTy}
    {i1 : ∀ a, (![0, 256] : Fin 2 → ℕ) a + (![M, 256] : Fin 2 → ℕ) a ≤ (⟨2, ![M, 512]⟩ : Shape).size a}
    {i0 : ∀ a, (![0, 0] : Fin 2 → ℕ) a + (![M, 256] : Fin 2 → ℕ) a ≤ (⟨2, ![M, 512]⟩ : Shape).size a}
    {w1 w0 : (⟨2, ![M, 256]⟩ : Shape).Idx → Elt Ideal e} {L : List (View.Piece (Elt Ideal) ⟨2, ![M, 512]⟩ e)} {d : Fin M}
    (Q : Fin 512 → Elt Ideal e) (h1 : ∀ q : Fin 256, w1 (ix2 d q) = Q ⟨256 + q.val, by omega⟩)
    (h0 : ∀ q : Fin 256, w0 (ix2 d q) = Q ⟨q.val, by omega⟩) (q : Fin 512) :
    View.canon ((⟨Rect.unit (s := ⟨2, ![M, 512]⟩) ![0, 256] ![M, 256] i1, w1⟩ : View.Piece (Elt Ideal) ⟨2, ![M, 512]⟩ e)
        :: (⟨Rect.unit (s := ⟨2, ![M, 512]⟩) ![0, 0] ![M, 256] i0, w0⟩ : View.Piece (Elt Ideal) ⟨2, ![M, 512]⟩ e) :: L) (ix2 d q)
      = Q q := by
  rw [canon_halves]
  by_cases h : 256 ≤ q.val
  · rw [dif_pos h, h1]
    exact congrArg Q (Fin.ext (by show 256 + (q.val - 256) = q.val; omega))
  · rw [dif_neg h, h0]

/-- Before the first step nothing is kept: the columns read as zero … -/
theorem zeros_first (inb : ∀ a, (![0, 0] : Fin 2 → ℕ) a + (![8, 256] : Fin 2 → ℕ) a ≤ S8x512.size a) (e : Fin 8) (q : Fin 256) :
    scM0_0.view.readCov (kernelRun0_A.sl.HS0_1 (F := Ideal)) (Rect.unit (s := S8x512) ![0, 0] ![8, 256] inb).toLoadRect (ix2 e q) = (0 : EReal) := by
  rw [View.readCov_eq_canon']
  unfold kernelRun0_A.sl.HS0_1
  rw [View.canon_cons_unit_lit _ _ _ (by decide)]
  exact Ideal.ofBits_zero_f32

/-- … and still do after the first half of them is replaced. -/
theorem zeros_second (inb : ∀ a, (![0, 256] : Fin 2 → ℕ) a + (![8, 256] : Fin 2 → ℕ) a ≤ S8x512.size a)
    (i0 : ∀ a, (![0, 0] : Fin 2 → ℕ) a + (![8, 256] : Fin 2 → ℕ) a ≤ S8x512.size a) (w : S8x256.Idx → Elt Ideal .f32) (e : Fin 8) (q : Fin 256) :
    scM0_0.view.readCov ((⟨Rect.unit (s := S8x512) ![0, 0] ![8, 256] i0, w⟩ : View.Piece (Elt Ideal) S8x512 .f32) :: kernelRun0_A.sl.HS0_1 (F := Ideal))
      (Rect.unit (s := S8x512) ![0, 256] ![8, 256] inb).toLoadRect (ix2 e q) = (0 : EReal) := by
  rw [View.readCov_eq_canon']
  refine (View.canon_cons_of_not_mem (Val := Elt Ideal) _ _ fun hm => ?_).trans ?_
  · have h := ((Rect.mem_set_unit (s := S8x512) (inb := i0)).mp hm 1).2
    have h' : 256 + 1 * q.val < 0 + 256 := h
    omega
  · unfold kernelRun0_A.sl.HS0_1
    rw [View.canon_cons_unit_lit _ _ _ (by decide)]
    exact Ideal.ofBits_zero_f32

/-- What a step keeps. -/
theorem kept (t : Fin cfg0.N) (e : Fin 8) (q : Fin 512) :
    (outsAt0 m c t.val t.isLt).2.2.2.2.2 (ix2 e q)
      = mixed (rowAt m c t ⟨1016 + e.val, by omega⟩) (weightsAt m c t) q := by
  by_cases h0 : t.val % 16 = 0
  · rw [outsAt0_A m c t h0]
    dsimp only
    unfold sout0_A_0
    unfold kernelRun0_A
    dsimp only
    unfold kernelRun0_A.sl.HS0_2 kernelRun0_A.sl.r_4 kernelRun0_A.sl.r_3 kernelRun0_A.sl.r
    rw [View.read_writes_junk_apply_eq_canon]
    refine join (e := .f32) (mixed (rowAt m c t ⟨1016 + e.val, by omega⟩) (weightsAt m c t)) (fun q => ?_) (fun q => ?_) q
    · exact (last_rows _ e q).trans (mixed_second_eq (R := rowAt m c t) (w := weightsAt m c t) (ready_step _ _ _ _ _ _)
        (weights_load _ _ 768 _ (by omega)) (weights_load _ _ 1280 _ (by omega)) _ q)
    · exact (last_rows _ e q).trans (mixed_first_eq (R := rowAt m c t) (w := weightsAt m c t) (ready_step _ _ _ _ _ _)
        (weights_load _ _ 512 _ (by omega)) (weights_load _ _ 1024 _ (by omega)) _ q)
  · rw [outsAt0_B m c t h0]
    dsimp only
    unfold sout0_B_0
    unfold kernelRun0_B
    dsimp only
    unfold kernelRun0_B.sl.r_4 kernelRun0_B.sl.r_3 kernelRun0_B.sl.r
    rw [View.read_writes_junk_apply_eq_canon]
    refine join (e := .f32) (mixed (rowAt m c t ⟨1016 + e.val, by omega⟩) (weightsAt m c t)) (fun q => ?_) (fun q => ?_) q
    · exact (last_rows _ e q).trans (mixed_second_eq (R := rowAt m c t) (w := weightsAt m c t) (ready_step _ _ _ _ _ _)
        (weights_load _ _ 768 _ (by omega)) (weights_load _ _ 1280 _ (by omega)) _ q)
    · exact (last_rows _ e q).trans (mixed_first_eq (R := rowAt m c t) (w := weightsAt m c t) (ready_step _ _ _ _ _ _)
        (weights_load _ _ 512 _ (by omega)) (weights_load _ _ 1024 _ (by omega)) _ q)

/-- The convolution's block after the first step: nothing lies before it. -/
theorem conv_at_first (t : Fin cfg0.N) (h0 : t.val % 16 = 0) (r : Fin 1024) (q : Fin 512) :
    (outsAt0 m c t.val t.isLt).1 (ix2 r q) = convIn (rowAt m c t) (weightsAt m c t) (tapsAt m c t) (fun _ _ => 0) r q := by
  rw [outsAt0_A m c t h0]
  unfold out0_A_18
  unfold kernelRun0_A
  dsimp only
  unfold kernelRun0_A.sl.v36 kernelRun0_A.sl.v67
  unfold kernelRun0_A.sl.HS0_2
  unfold kernelRun0_A.sl.r_4 kernelRun0_A.sl.r_3 kernelRun0_A.sl.r
  rw [View.read_writes_junk_apply_eq_canon]
  refine join (e := .bf16) (convIn (rowAt m c t) (weightsAt m c t) (tapsAt m c t) (fun _ _ => 0) r) (fun q => ?_) (fun q => ?_) q
  · refine conv_second_eq (R := rowAt m c t) (w := weightsAt m c t) (cw := tapsAt m c t) (halo := fun _ _ => 0) (ready_step _ _ _ _ _ _)
        (weights_load _ _ 768 _ (by omega)) (weights_load _ _ 1280 _ (by omega)) (fun e q => ?_) (taps_load _ _ 0 256 _ (by omega))
        (taps_load _ _ 1 256 _ (by omega)) (taps_load _ _ 2 256 _ (by omega)) (weights_load _ _ 256 _ (by omega)) r q
    exact zeros_second _ _ _ e q
  · refine conv_first_eq (R := rowAt m c t) (w := weightsAt m c t) (cw := tapsAt m c t) (halo := fun _ _ => 0) (ready_step _ _ _ _ _ _)
        (weights_load _ _ 512 _ (by omega)) (weights_load _ _ 1024 _ (by omega)) (fun e q => ?_) (fun q => (taps_load _ _ 0 0 _ (by omega) q).trans (by simp only [Nat.zero_add]; rfl))
        (fun q => (taps_load _ _ 1 0 _ (by omega) q).trans (by simp only [Nat.zero_add]; rfl)) (fun q => (taps_load _ _ 2 0 _ (by omega) q).trans (by simp only [Nat.zero_add]; rfl))
        (fun k q => (weights_load _ _ 0 _ (by omega) k q).trans (by simp only [Nat.zero_add]; rfl)) r q
    exact zeros_first _ e q

/-- The convolution's block after a later step: the rows kept from the step before lie before it. -/
theorem conv_at_later (t : Fin cfg0.N) (h0 : ¬ t.val % 16 = 0) (r : Fin 1024) (q : Fin 512) :
    (outsAt0 m c t.val t.isLt).1 (ix2 r q) = convIn (rowAt m c t) (weightsAt m c t) (tapsAt m c t)
      (fun e q => mixed (rowAt m c ⟨t.val - 1, by omega⟩ ⟨1016 + e.val, by omega⟩) (weightsAt m c ⟨t.val - 1, by omega⟩) q) r q := by
  rw [outsAt0_B m c t h0]
  unfold out0_B_18
  unfold kernelRun0_B
  dsimp only
  unfold kernelRun0_B.sl.v67
  unfold kernelRun0_B.sl.r_4 kernelRun0_B.sl.r_3 kernelRun0_B.sl.r
  rw [View.read_writes_junk_apply_eq_canon]
  have hk := kept m c ⟨t.val - 1, by omega⟩
  refine join (e := .bf16) (convIn (rowAt m c t) (weightsAt m c t) (tapsAt m c t)
    (fun e q => mixed (rowAt m c ⟨t.val - 1, by omega⟩ ⟨1016 + e.val, by omega⟩) (weightsAt m c ⟨t.val - 1, by omega⟩) q) r) (fun q => ?_) (fun q => ?_) q
  · refine conv_second_eq (R := rowAt m c t) (w := weightsAt m c t) (cw := tapsAt m c t)
        (halo := fun e q => mixed (rowAt m c ⟨t.val - 1, by omega⟩ ⟨1016 + e.val, by omega⟩) (weightsAt m c ⟨t.val - 1, by omega⟩) q) (ready_step _ _ _ _ _ _)
        (weights_load _ _ 768 _ (by omega)) (weights_load _ _ 1280 _ (by omega)) (fun e q => ?_) (taps_load _ _ 0 256 _ (by omega))
        (taps_load _ _ 1 256 _ (by omega)) (taps_load _ _ 2 256 _ (by omega)) (weights_load _ _ 256 _ (by omega)) r q
    exact (load_f32 (mr := scM0_0) _ _ 0 256 _ e q (by omega) (by omega)).trans (by simp only [Nat.zero_add]; exact hk e _)
  · refine conv_first_eq (R := rowAt m c t) (w := weightsAt m c t) (cw := tapsAt m c t)
        (halo := fun e q => mixed (rowAt m c ⟨t.val - 1, by omega⟩ ⟨1016 + e.val, by omega⟩) (weightsAt m c ⟨t.val - 1, by omega⟩) q) (ready_step _ _ _ _ _ _)
        (weights_load _ _ 512 _ (by omega)) (weights_load _ _ 1024 _ (by omega)) (fun e q => ?_) (fun q => (taps_load _ _ 0 0 _ (by omega) q).trans (by simp only [Nat.zero_add]; rfl))
        (fun q => (taps_load _ _ 1 0 _ (by omega) q).trans (by simp only [Nat.zero_add]; rfl)) (fun q => (taps_load _ _ 2 0 _ (by omega) q).trans (by simp only [Nat.zero_add]; rfl))
        (fun k q => (weights_load _ _ 0 _ (by omega) k q).trans (by simp only [Nat.zero_add]; rfl)) r q
    exact (load_f32 (mr := scM0_0) _ _ 0 0 _ e q (by omega) (by omega)).trans (by simp only [Nat.zero_add]; exact hk e _)

end Cert.PrepIdeal.Gen

end
-- ==== Proof.PrepVal.lean ====
/-
  The values' block and the side array's after a grid step of the preparation's kernel: for each of the four heads 128 rows
  of values, a row of ones and 15 rows of zeros.
-/
module

public import proofs.«01_k».proof.Proof.PrepOut

@[expose] public section

set_option maxRecDepth 8192

noncomputable section

namespace Cert.PrepIdeal.Gen

open Idealize.ShloMosaic hiding ix1 ix2 ix3 ix4 addf_apply subf_apply mulf_apply divf_apply truncf_apply extf_apply constant_apply
open Idealize.ShloMosaic.ValueIdx Idealize.ShloMosaic.Pipeline Cert.Ffn Cert.Pre Idealize.ShloMosaic.TcCoe
open scoped BigOperators

/-- The sum of a row of 256. -/
theorem row_sum_256 {N : ℕ} (P : FVec Ideal ⟨2, ![N, 256]⟩ .f32)
    (hr : (⟨2, ![N, 256]⟩ : Shape).Reduces [1] ⟨1, ![N]⟩) (hφ : FKind.Formats .f32)
    (hacc : (0x00000000#32) = FKind.add.neutral .f32 hφ) (r : Fin N) :
    multiReduction .add [1] ⟨1, ![N]⟩ P 0x00000000#32 hr hφ hacc (ix1 r) = ∑ k : Fin 256, P (ix2 r k) := by
  rw [Ideal.multiReduction_add_single]
  refine Finset.sum_congr rfl fun a _ => congrArg _ (funext fun d => Fin.ext ?_)
  match d with
  | ⟨0, _⟩ => rfl
  | ⟨1, _⟩ => rfl

/-- The latents, normalized and weighted. -/
theorem latent_at (X : FVec Ideal S1024x256 .f32) (v : FVec Ideal S1x256 .f32) (r : Fin 1024) (k : Fin 256) :
    k0_pay20 (F := Ideal) X v (ix2 r k)
      = X (ix2 r k) * Ideal.rsqrt (Ideal.div (∑ j : Fin 256, X (ix2 r j) * X (ix2 r j)) (Ideal.ofBits .f32 0x43800000#32)
          + Ideal.ofBits .f32 0x358637BD#32) * v (ix2 0 k) := by
  have e2 := broadcastTo_1b_ab_apply v broadcasts_S1x256_S1024x256 r k
  have e3 := row_sum_256 (N := 1024) (mulf X X) reduces_S1024x256_S1024 (.inl rfl) rfl r
  have e4 := column_apply (N := 1024) (multiReduction .add [1] S1024 (mulf X X) 0x00000000#32 reduces_S1024x256_S1024 (.inl rfl) rfl)
    shapeCasts_S1024_S1024x1 r
  have e5 := spread_apply (N := 1024) (B := 256) (rsqrt (addf (divf (shapeCast S1024x1 (multiReduction .add [1] S1024 (mulf X X)
      0x00000000#32 reduces_S1024x256_S1024 (.inl rfl) rfl) shapeCasts_S1024_S1024x1)
      (broadcast S1024x1 (Scalar.ofBits (F := Ideal) .f32 0x43800000#32))) (broadcast S1024x1 (Scalar.ofBits (F := Ideal) .f32 0x358637BD#32))))
    broadcasts_S1024x1_S1024x256 r k
  have e6 : rsqrt (addf (divf (shapeCast S1024x1 (multiReduction .add [1] S1024 (mulf X X)
      0x00000000#32 reduces_S1024x256_S1024 (.inl rfl) rfl) shapeCasts_S1024_S1024x1)
      (broadcast S1024x1 (Scalar.ofBits (F := Ideal) .f32 0x43800000#32))) (broadcast S1024x1 (Scalar.ofBits (F := Ideal) .f32 0x358637BD#32)))
        (ix2 r 0) = Ideal.rsqrt (Ideal.div (∑ j : Fin 256, X (ix2 r j) * X (ix2 r j)) (Ideal.ofBits .f32 0x43800000#32)
          + Ideal.ofBits .f32 0x358637BD#32) :=
    congrArg (fun z => Ideal.rsqrt (Ideal.div z (Ideal.ofBits .f32 0x43800000#32) + Ideal.ofBits .f32 0x358637BD#32)) (e4.trans e3)
  exact congrArg₂ (· * ·) (congrArg (X (ix2 r k) * ·) (e5.trans e6)) e2

/-- The values of all the heads, one below the other. -/
theorem heads_at (X : FVec Ideal S1024x256 .f32) (v : FVec Ideal S1x256 .f32) (w : FVec Ideal S512x256 .bf16) (n : Fin 512) (r : Fin 1024) :
    k0_pay22 (F := Ideal) X v w (ix2 n r) = ∑ j : Fin 256, k0_pay20 (F := Ideal) X v (ix2 r j) * w (ix2 n j) := by
  refine (prod_apply (A := 512) (K := 256) (B := 1024) w _ n r).trans (Finset.sum_congr rfl fun j _ => ?_)
  rw [mul_comm]
  refine congrArg (· * w (ix2 n j)) ?_
  refine congrArg (k0_pay20 (F := Ideal) X v) (funext fun a => Fin.ext ?_)
  match a with
  | ⟨0, _⟩ => rfl
  | ⟨1, _⟩ => rfl

/-- One head's values, taken out of them. -/
theorem head_at (Y : FVec Ideal S512x1024 .f32) (o : ℕ) (ho : o + 128 ≤ 512) (h : S512x1024.Slices ![o, 0] S128x1024) (d : Fin 128) (r : Fin 1024) :
    shapeCast S1x128x1024 (extractStridedSlice S128x1024 ![o, 0] Y h) shapeCasts_S128x1024_S1x128x1024 (ix3 0 d r)
      = Y (ix2 ⟨o + d.val, by omega⟩ r) := by
  refine (shapeCast_apply _ _ (ix3 (0 : Fin 1) d r) (ix2 d r) ?_).trans (congrArg Y (funext fun a => Fin.ext ?_))
  · rw [Shape.rowMajor_val_two, Shape.rowMajor_val_three]
    show d.val * 1024 + r.val = (0 * 128 + d.val) * 1024 + r.val
    omega
  · match a with
    | ⟨0, _⟩ => rfl
    | ⟨1, _⟩ => exact Nat.zero_add _

theorem first_bit : ∀ d : Fin 16, ((IntOp.cmpi .eq (BitVec.ofNat 32 d.val) 0#32).setWidth 32).toInt = if d.val = 0 then 1 else 0 := by
  decide

/-- A row of ones and 15 of zeros. -/
theorem ones_at (d : Fin 16) (r : Fin 1024) :
    shapeCast S1x16x1024 (k0_pay28 (F := Ideal)) shapeCasts_S16x1024_S1x16x1024 (ix3 0 d r) = (if d.val = 0 then 1 else 0 : EReal) := by
  refine (shapeCast_apply _ _ (ix3 (0 : Fin 1) d r) (ix2 d r) ?_).trans ?_
  · rw [Shape.rowMajor_val_two, Shape.rowMajor_val_three]
    show d.val * 1024 + r.val = (0 * 16 + d.val) * 1024 + r.val
    omega
  · have e : (k0_pay28 (F := Ideal) (ix2 d r) : EReal)
        = ((((((IntOp.cmpi .eq (iota .tc S16x1024 32 [0] iota_S16x1024_d0_w32 (ix2 d r)) 0#32).setWidth 32).toInt : ℤ) : ℝ)) : EReal) := rfl
    have e' : iota .tc S16x1024 32 [0] iota_S16x1024_d0_w32 (ix2 d r) = BitVec.ofNat 32 d.val := by
      simp [iota]
    rw [e, e', first_bit]
    by_cases h : d.val = 0
    · simp [h]
    · simp [h]

/-- Two stores that make one head's block. -/
theorem head_pair {Q : Fin 4 → Fin 144 → Fin 1024 → EReal} (o : Fin 4)
    {i1 : ∀ a, (![o.val, 128, 0] : Fin 3 → ℕ) a + (![1, 16, 1024] : Fin 3 → ℕ) a ≤ S4x144x1024.size a}
    {i0 : ∀ a, (![o.val, 0, 0] : Fin 3 → ℕ) a + (![1, 128, 1024] : Fin 3 → ℕ) a ≤ S4x144x1024.size a}
    {u : S1x16x1024.Idx → Elt Ideal .bf16} {w : S1x128x1024.Idx → Elt Ideal .bf16} {L : List (View.Piece (Elt Ideal) S4x144x1024 .bf16)}
    {e : Fin 4} {d : Fin 144} {r : Fin 1024}
    (hu : ∀ d : Fin 16, u (ix3 0 d r) = Q o ⟨128 + d.val, by omega⟩ r) (hw : ∀ d : Fin 128, w (ix3 0 d r) = Q o ⟨d.val, by omega⟩ r)
    (hL : e ≠ o → View.canon L (ix3 e d r) = Q e d r) :
    View.canon ((⟨Rect.unit (s := S4x144x1024) ![o.val, 128, 0] ![1, 16, 1024] i1, u⟩ : View.Piece (Elt Ideal) S4x144x1024 .bf16)
        :: (⟨Rect.unit (s := S4x144x1024) ![o.val, 0, 0] ![1, 128, 1024] i0, w⟩ : View.Piece (Elt Ideal) S4x144x1024 .bf16) :: L) (ix3 e d r)
      = Q e d r := by
  by_cases he : e = o
  · subst he
    by_cases h : 128 ≤ d.val
    · have e1 : (ix3 e d r : S4x144x1024.Idx)
          = (Rect.unit (s := S4x144x1024) ![e.val, 128, 0] ![1, 16, 1024] i1).emb (ix3 (0 : Fin 1) (⟨d.val - 128, by omega⟩ : Fin 16) r) := by
        funext a
        refine Fin.ext ?_
        match a with
        | ⟨0, _⟩ => show e.val = e.val + 1 * 0; omega
        | ⟨1, _⟩ => show d.val = 128 + 1 * (d.val - 128); omega
        | ⟨2, _⟩ => show r.val = 0 + 1 * r.val; omega
      rw [e1]
      refine (View.canon_cons_emb (Val := Elt Ideal) (Rect.unit (s := S4x144x1024) ![e.val, 128, 0] ![1, 16, 1024] i1) u _ _).trans
        ((hu _).trans ?_)
      exact congrArg (Q e · r) (Fin.ext (by show 128 + (d.val - 128) = d.val; omega))
    · refine (View.canon_cons_of_not_mem (Val := Elt Ideal) _ _ fun hm => ?_).trans ?_
      · exact h ((Rect.mem_set_unit (s := S4x144x1024) (inb := i1)).mp hm 1).1
      · have e1 : (ix3 e d r : S4x144x1024.Idx)
            = (Rect.unit (s := S4x144x1024) ![e.val, 0, 0] ![1, 128, 1024] i0).emb (ix3 (0 : Fin 1) (⟨d.val, by omega⟩ : Fin 128) r) := by
          funext a
          refine Fin.ext ?_
          match a with
          | ⟨0, _⟩ => show e.val = e.val + 1 * 0; omega
          | ⟨1, _⟩ => show d.val = 0 + 1 * d.val; omega
          | ⟨2, _⟩ => show r.val = 0 + 1 * r.val; omega
        rw [e1]
        exact (View.canon_cons_emb (Val := Elt Ideal) (Rect.unit (s := S4x144x1024) ![e.val, 0, 0] ![1, 128, 1024] i0) w _ _).trans (hw _)
  · have hne : e.val ≠ o.val := fun h => he (Fin.ext h)
    refine (View.canon_cons_of_not_mem (Val := Elt Ideal) _ _ fun hm => ?_).trans
      ((View.canon_cons_of_not_mem (Val := Elt Ideal) _ _ fun hm => ?_).trans (hL he))
    · have h := (Rect.mem_set_unit (s := S4x144x1024) (inb := i1)).mp hm 0
      have h1 : o.val ≤ e.val := h.1
      have h2 : e.val < o.val + 1 := h.2
      omega
    · have h := (Rect.mem_set_unit (s := S4x144x1024) (inb := i0)).mp hm 0
      have h1 : o.val ≤ e.val := h.1
      have h2 : e.val < o.val + 1 := h.2
      omega

section Values

variable {h : FVec Ideal S1024x1024 .bf16} {a : FVec Ideal S1024x256 .bf16} {n : FVec Ideal S1x256 .f32} {v : FVec Ideal S512x256 .bf16}
  {R : Fin 1024 → Fin 1024 → EReal} {w : Fin 1024 → Fin 2048 → EReal} {nv : Fin 256 → EReal} {wv : Fin 512 → Fin 256 → EReal}

/-- One head's values in terms of the rows. -/
theorem values_eq (hh : ∀ r k, h (ix2 r k) = R r k) (ha : ∀ k (q : Fin 256), a (ix2 k q) = w k ⟨1792 + q.val, by omega⟩)
    (hn : ∀ j : Fin 256, n (ix2 0 j) = nv j) (hv : ∀ k j, v (ix2 k j) = wv k j) (o : Fin 4) (p : ℕ) (hp : p = 128 * o.val)
    (hs : S512x1024.Slices ![p, 0] S128x1024) (r : Fin 1024) (d : Fin 128) :
    (shapeCast S1x128x1024 (extractStridedSlice S128x1024 ![p, 0] (k0_pay22 (F := Ideal) (k0_pay18 h a) n v) hs) shapeCasts_S128x1024_S1x128x1024 (ix3 0 d r) : EReal)
      = value (R r) w nv wv o ⟨d.val, by omega⟩ := by
  subst hp
  have hX : ∀ (r : Fin 1024) (j : Fin 256), k0_pay18 (F := Ideal) h a (ix2 r j) = project (R r) w ⟨1792 + j.val, by omega⟩ := fun r j => by
    refine (prod_apply (A := 1024) (K := 1024) (B := 256) h a r j).trans ?_
    simp only [hh, ha]
    rfl
  refine (head_at _ (128 * o.val) (by omega) hs d r).trans ((heads_at _ _ _ _ r).trans ?_)
  unfold value
  rw [dif_pos d.isLt]
  refine Finset.sum_congr rfl fun j _ => congrArg₂ (· * ·) ((latent_at _ _ r j).trans ?_) (hv _ _)
  simp only [hX, hn]
  rfl

end Values

variable (m : (ℓ : Loc nD τ sig) → Buf (Elt Ideal) ℓ) (c : Dev nD)

/-- The values' block, as a step leaves it. -/
def valueAt (t : Fin cfg0.N) (e : Fin 4) (d : Fin 144) (r : Fin 1024) : EReal :=
  value (rowAt m c t r) (weightsAt m c t) (fun j => iblk m c 8 t (ix2 0 j)) (fun k j => iblk m c 10 t (ix2 k j)) e d

theorem ones_eq (t : Fin cfg0.N) (e : Fin 4) (r : Fin 1024) (d : Fin 16) :
    shapeCast S1x16x1024 (k0_pay28 (F := Ideal)) shapeCasts_S16x1024_S1x16x1024 (ix3 0 d r) = valueAt m c t e ⟨128 + d.val, by omega⟩ r := by
  refine (ones_at d r).trans ?_
  unfold valueAt value
  rw [dif_neg (by show ¬ 128 + d.val < 128; omega)]
  by_cases h : d.val = 0
  · rw [if_pos h, if_pos (by show 128 + d.val = 128; omega)]
  · rw [if_neg h, if_neg (by show ¬ 128 + d.val = 128; omega)]

section Loads

variable {arg9 : Memref sig .tc .vmem S1x256 .f32} (harg9 : arg9.IsWhole) {arg11 : Memref sig .tc .vmem S512x256 .bf16} (harg11 : arg11.IsWhole)
  {arg18 : Memref sig .tc .vmem S1x1792x1024 .f32} (harg18 : arg18.IsWhole)
  (x8 : S1x256.Idx → EReal) (x10 : S512x256.Idx → EReal) (x17 : S1x1792x1024.Idx → EReal)

theorem norm_load (j : Fin 256) :
    View.readAt (Elt Ideal) arg9.view (Rect.unit (s := S1x256) ![0, 0] ![1, 256] inb_S1x256_S1x256_0_0).toLoadRect (harg9.unread (Val := Elt Ideal) x8) (ix2 (0 : Fin 1) j)
      = x8 (ix2 0 j) :=
  (load_f32 harg9 x8 0 0 _ 0 j (by decide) (by omega)).trans (by simp only [Nat.zero_add])

theorem values_load (k : Fin 512) (j : Fin 256) :
    View.readAt (Elt Ideal) arg11.view (Rect.unit (s := S512x256) ![0, 0] ![512, 256] inb_S512x256_S512x256_0_0).toLoadRect (harg11.unread (Val := Elt Ideal) x10) (ix2 k j)
      = x10 (ix2 k j) :=
  (load_bf16 harg11 x10 0 0 _ k j (by omega) (by omega)).trans (by simp only [Nat.zero_add])

theorem side_load (a : Fin 1792) (b : Fin 1024) :
    View.readAt (Elt Ideal) arg18.view (Rect.unit (s := S1x1792x1024) ![0, 0, 0] ![1, 1792, 1024] inb_S1x1792x1024_S1x1792x1024_0_0_0).toLoadRect
      (harg18.unread (Val := Elt Ideal) x17) (ix3 (0 : Fin 1) a b) = x17 (ix3 0 a b) := by
  refine (Memref.IsWhole.readAt_unread (Val := Elt Ideal) harg18 x17 _ _).trans (congrArg (β := EReal) x17 (funext fun d => Fin.ext ?_))
  match d with
  | ⟨0, _⟩ => rfl
  | ⟨1, _⟩ => show 0 + 1 * a.val = a.val; omega
  | ⟨2, _⟩ => show 0 + 1 * b.val = b.val; omega

end Loads

/-- The values' block after a grid step. -/
theorem values_at (t : Fin cfg0.N) (e : Fin 4) (d : Fin 144) (r : Fin 1024) :
    (outsAt0 m c t.val t.isLt).2.2.2.1 (ix3 e d r) = valueAt m c t e d r := by
  by_cases h0 : t.val % 16 = 0
  · rw [outsAt0_A m c t h0]
    dsimp only
    unfold out0_A_21
    unfold kernelRun0_A
    dsimp only
    unfold kernelRun0_A.sl.r_9
    unfold kernelRun0_A.sl.r_6
    unfold kernelRun0_A.sl.r
    rw [View.read_writes_junk_apply_eq_canon]
    refine head_pair (Q := valueAt m c t) 3 (ones_eq m c t 3 r) (values_eq (R := rowAt m c t) (w := weightsAt m c t) (ready_step _ _ _ _ _ _)
      (weights_load _ _ 1792 _ (by omega)) (norm_load _ _) (values_load _ _) 3 384 rfl slices_S512x1024_o384_0_S128x1024 r) fun h3 => ?_
    refine head_pair (Q := valueAt m c t) 2 (ones_eq m c t 2 r) (values_eq (R := rowAt m c t) (w := weightsAt m c t) (ready_step _ _ _ _ _ _)
      (weights_load _ _ 1792 _ (by omega)) (norm_load _ _) (values_load _ _) 2 256 rfl slices_S512x1024_o256_0_S128x1024 r) fun h2 => ?_
    refine head_pair (Q := valueAt m c t) 1 (ones_eq m c t 1 r) (values_eq (R := rowAt m c t) (w := weightsAt m c t) (ready_step _ _ _ _ _ _)
      (weights_load _ _ 1792 _ (by omega)) (norm_load _ _) (values_load _ _) 1 128 rfl slices_S512x1024_o128_0_S128x1024 r) fun h1 => ?_
    refine head_pair (Q := valueAt m c t) 0 (ones_eq m c t 0 r) (values_eq (R := rowAt m c t) (w := weightsAt m c t) (ready_step _ _ _ _ _ _)
      (weights_load _ _ 1792 _ (by omega)) (norm_load _ _) (values_load _ _) 0 0 rfl slices_S512x1024_o0_0_S128x1024 r) fun h0 => ?_
    exact absurd e.isLt (by
      have a3 : e.val ≠ 3 := fun h => h3 (Fin.ext h)
      have a2 : e.val ≠ 2 := fun h => h2 (Fin.ext h)
      have a1 : e.val ≠ 1 := fun h => h1 (Fin.ext h)
      have a0 : e.val ≠ 0 := fun h => h0 (Fin.ext h)
      omega)
  · rw [outsAt0_B m c t h0]
    dsimp only
    unfold out0_B_21
    unfold kernelRun0_B
    dsimp only
    unfold kernelRun0_B.sl.r_9
    unfold kernelRun0_B.sl.r_6
    unfold kernelRun0_B.sl.r
    rw [View.read_writes_junk_apply_eq_canon]
    refine head_pair (Q := valueAt m c t) 3 (ones_eq m c t 3 r) (values_eq (R := rowAt m c t) (w := weightsAt m c t) (ready_step _ _ _ _ _ _)
      (weights_load _ _ 1792 _ (by omega)) (norm_load _ _) (values_load _ _) 3 384 rfl slices_S512x1024_o384_0_S128x1024 r) fun h3 => ?_
    refine head_pair (Q := valueAt m c t) 2 (ones_eq m c t 2 r) (values_eq (R := rowAt m c t) (w := weightsAt m c t) (ready_step _ _ _ _ _ _)
      (weights_load _ _ 1792 _ (by omega)) (norm_load _ _) (values_load _ _) 2 256 rfl slices_S512x1024_o256_0_S128x1024 r) fun h2 => ?_
    refine head_pair (Q := valueAt m c t) 1 (ones_eq m c t 1 r) (values_eq (R := rowAt m c t) (w := weightsAt m c t) (ready_step _ _ _ _ _ _)
      (weights_load _ _ 1792 _ (by omega)) (norm_load _ _) (values_load _ _) 1 128 rfl slices_S512x1024_o128_0_S128x1024 r) fun h1 => ?_
    refine head_pair (Q := valueAt m c t) 0 (ones_eq m c t 0 r) (values_eq (R := rowAt m c t) (w := weightsAt m c t) (ready_step _ _ _ _ _ _)
      (weights_load _ _ 1792 _ (by omega)) (norm_load _ _) (values_load _ _) 0 0 rfl slices_S512x1024_o0_0_S128x1024 r) fun h0 => ?_
    exact absurd e.isLt (by
      have a3 : e.val ≠ 3 := fun h => h3 (Fin.ext h)
      have a2 : e.val ≠ 2 := fun h => h2 (Fin.ext h)
      have a1 : e.val ≠ 1 := fun h => h1 (Fin.ext h)
      have a0 : e.val ≠ 0 := fun h => h0 (Fin.ext h)
      omega)

/-- The side array's block after a grid step: the block itself, cast. -/
theorem side_at (t : Fin cfg0.N) (a : Fin 1792) (b : Fin 1024) :
    (outsAt0 m c t.val t.isLt).2.2.2.2.1 (ix3 0 a b) = iblk m c 17 t (ix3 0 a b) := by
  by_cases h0 : t.val % 16 = 0
  · rw [outsAt0_A m c t h0]
    dsimp only
    unfold out0_A_22
    unfold kernelRun0_A
    dsimp only
    rw [View.read_writes_junk_apply_eq_canon, View.canon_cons_unit_lit _ _ _ (by decide)]
    exact side_load _ _ a b
  · rw [outsAt0_B m c t h0]
    dsimp only
    unfold out0_B_22
    unfold kernelRun0_B
    dsimp only
    rw [View.read_writes_junk_apply_eq_canon, View.canon_cons_unit_lit _ _ _ (by decide)]
    exact side_load _ _ a b

end Cert.PrepIdeal.Gen

end
-- ==== Proof.PrepFinal.lean ====
/-
  The three result arrays of the preparation's kernel, after its 16 grid steps.
-/
module

public import proofs.«01_k».proof.Proof.PrepVal

@[expose] public section

set_option maxRecDepth 8192

noncomputable section

namespace Cert.PrepIdeal.Gen

open Idealize.ShloMosaic hiding ix1 ix2 ix3 ix4 addf_apply subf_apply mulf_apply divf_apply truncf_apply extf_apply constant_apply
open Idealize.ShloMosaic.ValueIdx Idealize.ShloMosaic.Pipeline Cert.Ffn Cert.Pre Idealize.ShloMosaic.TcCoe
open scoped BigOperators

/-- The blocks of a grid step: 1024 rows, everything of the modulation and the weights, and half of one plane of the side array. -/
theorem index_eq : ∀ t : Fin grid0.N,
    win0_0.index t = ![t.val, 0] ∧ win0_1.index t = ![0, 0] ∧ win0_2.index t = ![0, 0] ∧ win0_3.index t = ![0, 0]
      ∧ win0_5.index t = ![0, 0] ∧ win0_8.index t = ![0, 0] ∧ win0_10.index t = ![0, 0]
      ∧ win0_17.index t = ![t.val / 2, t.val % 2, 0] ∧ win0_18.index t = ![t.val, 0] ∧ win0_21.index t = ![0, 0, t.val]
      ∧ win0_22.index t = ![t.val / 2, t.val % 2, 0] := by
  decide +kernel

variable (m : (ℓ : Loc nD τ sig) → Buf (Elt Ideal) ℓ) (c : Dev nD) (t : Fin cfg0.N)

theorem step_lt : t.val < 16 := t.isLt

theorem rows_in (r k : Fin 1024) :
    iblk m c 0 t (ix2 r k) = m ((c : Thread nD τ).loc main_arg0) (ix2 ⟨1024 * t.val + r.val, by have := step_lt t; omega⟩ k) := by
  have e0 := (index_eq t).1
  blk_simp [iblk]
  rw [V_main_arg0 m c]
  blk_ext [e0]
  show t.val * 1024 + r.val = _
  omega

theorem mod_in (k : Fin 6144) : iblk m c 1 t (ix2 0 k) = m ((c : Thread nD τ).loc main_arg1) (ix2 0 k) := by
  have e0 := (index_eq t).2.1
  blk_simp [iblk]
  rw [V_main_arg1 m c]
  blk_ext [e0]

theorem weight_in (k : Fin 1024) : iblk m c 2 t (ix2 0 k) = m ((c : Thread nD τ).loc main_arg2) (ix2 0 k) := by
  have e0 := (index_eq t).2.2.1
  blk_simp [iblk]
  rw [V_main_arg2 m c]
  blk_ext [e0]

theorem project_in (k : Fin 1024) (n : Fin 2048) : iblk m c 3 t (ix2 k n) = m ((c : Thread nD τ).loc main_arg3) (ix2 k n) := by
  have e0 := (index_eq t).2.2.2.1
  blk_simp [iblk]
  rw [V_main_arg3 m c]
  blk_ext [e0]

theorem taps_in (k : Fin 3) (q : Fin 512) : iblk m c 5 t (ix2 k q) = m ((c : Thread nD τ).loc main_arg5) (ix2 k q) := by
  have e0 := (index_eq t).2.2.2.2.1
  blk_simp [iblk]
  rw [V_main_arg5 m c]
  blk_ext [e0]

theorem latent_in (k : Fin 256) : iblk m c 8 t (ix2 0 k) = m ((c : Thread nD τ).loc main_arg8) (ix2 0 k) := by
  have e0 := (index_eq t).2.2.2.2.2.1
  blk_simp [iblk]
  rw [V_main_arg8 m c]
  blk_ext [e0]

theorem values_in (k : Fin 512) (j : Fin 256) : iblk m c 10 t (ix2 k j) = m ((c : Thread nD τ).loc main_arg10) (ix2 k j) := by
  have e0 := (index_eq t).2.2.2.2.2.2.1
  blk_simp [iblk]
  rw [V_main_arg10 m c]
  blk_ext [e0]

theorem side_in (a : Fin 1792) (b : Fin 1024) :
    iblk m c 17 t (ix3 0 a b) = m ((c : Thread nD τ).loc main_arg17)
      (ix3 ⟨t.val / 2, by have := step_lt t; omega⟩ ⟨1792 * (t.val % 2) + a.val, by omega⟩ b) := by
  have e0 := (index_eq t).2.2.2.2.2.2.2.1
  blk_simp [iblk]
  rw [V_main_arg17 m c]
  blk_ext [e0]
  show t.val % 2 * 1792 + a.val = _
  omega

/-- A row of the whole, normalized and modulated. -/
abbrev rowOf (r : Fin 16384) : Fin 1024 → EReal :=
  row (m ((c : Thread nD τ).loc main_arg0)) (m ((c : Thread nD τ).loc main_arg1)) (m ((c : Thread nD τ).loc main_arg2)) r

abbrev weightsOf (k : Fin 1024) (n : Fin 2048) : EReal := m ((c : Thread nD τ).loc main_arg3) (ix2 k n)

abbrev tapsOf (k : Fin 3) (q : Fin 512) : EReal := m ((c : Thread nD τ).loc main_arg5) (ix2 k q)

theorem rowAt_eq (r : Fin 1024) : rowAt m c t r = rowOf m c ⟨1024 * t.val + r.val, by have := step_lt t; omega⟩ := by
  unfold rowAt rowIn rowOf row
  simp only [rows_in, mod_in, weight_in]

theorem weightsAt_eq : weightsAt m c t = weightsOf m c := by
  funext k n
  exact project_in m c t k n

theorem tapsAt_eq : tapsAt m c t = tapsOf m c := by
  funext k q
  exact taps_in m c t k q

/-- The convolution at an entry of a step's block is the convolution of the whole there. -/
theorem conv_at (r : Fin 1024) (q : Fin 512) :
    (outsAt0 m c t.val t.isLt).1 (ix2 r q)
      = conv (rowOf m c) (weightsOf m c) (tapsOf m c) ⟨1024 * t.val + r.val, by have := step_lt t; omega⟩ q := by
  have ht := step_lt t
  have hb : ∀ n : ℕ, n ≤ 8 → ∀ (hn : n ≤ r.val), mixed (rowAt m c t ⟨r.val - n, by omega⟩) (weightsOf m c) q
      = back (rowOf m c) (weightsOf m c) ⟨1024 * t.val + r.val, by omega⟩ n q := fun n _ hn => by
    unfold back
    rw [if_pos (by show n ≤ 1024 * t.val + r.val; omega), rowAt_eq]
    refine congrArg (fun i => mixed (rowOf m c i) (weightsOf m c) q) (Fin.ext ?_)
    show 1024 * t.val + (r.val - n) = 1024 * t.val + r.val - n
    omega
  by_cases h0 : t.val % 16 = 0
  · refine (conv_at_first m c t h0 r q).trans ?_
    unfold convIn conv
    rw [weightsAt_eq, tapsAt_eq, rowAt_eq m c t r]
    have hz : ∀ n : ℕ, ¬ n ≤ r.val → (0 : EReal) = back (rowOf m c) (weightsOf m c) ⟨1024 * t.val + r.val, by omega⟩ n q := fun n hn => by
      unfold back
      rw [if_neg (by show ¬ n ≤ 1024 * t.val + r.val; omega)]
    refine congrArg₂ (fun a b => tap _ _ a b _) ?_ ?_
    · split
      · next h => exact hb 2 (by omega) h
      · next h => exact hz 2 h
    · split
      · next h => exact hb 1 (by omega) h
      · next h => exact hz 1 h
  · refine (conv_at_later m c t h0 r q).trans ?_
    unfold convIn conv
    rw [weightsAt_eq, tapsAt_eq, rowAt_eq m c t r, weightsAt_eq]
    have hz : ∀ n : ℕ, n ≤ 8 → ∀ hn : ¬ n ≤ r.val, mixed (rowAt m c ⟨t.val - 1, by omega⟩ ⟨1016 + (8 + r.val - n), by omega⟩) (weightsOf m c) q
        = back (rowOf m c) (weightsOf m c) ⟨1024 * t.val + r.val, by omega⟩ n q := fun n h8 hn => by
      unfold back
      rw [if_pos (by show n ≤ 1024 * t.val + r.val; omega), rowAt_eq]
      refine congrArg (fun i => mixed (rowOf m c i) (weightsOf m c) q) (Fin.ext ?_)
      show 1024 * (t.val - 1) + (1016 + (8 + r.val - n)) = 1024 * t.val + r.val - n
      omega
    refine congrArg₂ (fun a b => tap _ _ a b _) ?_ ?_
    · split
      · next h => exact hb 2 (by omega) h
      · next h => exact hz 2 (by omega) h
    · split
      · next h => exact hb 1 (by omega) h
      · next h => exact hz 1 (by omega) h

/-- The convolution's array after the run. -/
theorem final18 : (dats m 0 c).arrAt 18 cfg0.N
    = fun x : S16384x512.Idx => conv (rowOf m c) (weightsOf m c) (tapsOf m c) (x 0) (x 1) := by
  refine (dats m 0 c).arrAt_eq_of_covers 18 _ (by decide +kernel) fun t hf y => ?_
  have e3 := (index_eq t).2.2.2.2.2.2.2.2.1
  have h0 : (((cfg0.win 18).blk t).view.emb y 0).val = 1024 * t.val + (y 0).val := by
    blk_simp [e3]
    omega
  have h1 : (((cfg0.win 18).blk t).view.emb y 1).val = (y 1).val := by
    blk_simp [e3]
  blk_simp
  rw [after0_18]
  have hy0 : (y 0).val < 1024 := (y 0).isLt
  have hy1 : (y 1).val < 512 := (y 1).isLt
  have hy : (y : S1024x512.Idx) = ix2 ⟨(y 0).val, hy0⟩ ⟨(y 1).val, hy1⟩ := by
    funext a
    match a with
    | ⟨0, _⟩ => rfl
    | ⟨1, _⟩ => rfl
  refine (congrArg (outsAt0 m c t.val t.isLt).1 hy).trans ((conv_at m c t _ _).trans ?_)
  have a0 : (((cfg0.win 18).blk t).view.emb y 0 : Fin 16384) = ⟨1024 * t.val + (y 0).val, by have := step_lt t; omega⟩ := Fin.ext h0
  have a1 : (((cfg0.win 18).blk t).view.emb y 1 : Fin 512) = ⟨(y 1).val, hy1⟩ := Fin.ext h1
  exact (congrArg₂ (conv (rowOf m c) (weightsOf m c) (tapsOf m c)) a0 a1).symm

/-- The values' array after the run. -/
theorem final21 : (dats m 0 c).arrAt 21 cfg0.N
    = fun x : S4x144x16384.Idx => value (rowOf m c (x 2)) (weightsOf m c) (fun j => m ((c : Thread nD τ).loc main_arg8) (ix2 0 j))
        (fun k j => m ((c : Thread nD τ).loc main_arg10) (ix2 k j)) (x 0) (x 1) := by
  refine (dats m 0 c).arrAt_eq_of_covers 21 _ (by decide +kernel) fun t hf y => ?_
  have e3 := (index_eq t).2.2.2.2.2.2.2.2.2.1
  have hy0 : (y 0).val < 4 := (y 0).isLt
  have hy1 : (y 1).val < 144 := (y 1).isLt
  have hy2 : (y 2).val < 1024 := (y 2).isLt
  have h0 : (((cfg0.win 21).blk t).view.emb y 0).val = (y 0).val := by
    blk_simp [e3]
  have h1 : (((cfg0.win 21).blk t).view.emb y 1).val = (y 1).val := by
    blk_simp [e3]
  have h2 : (((cfg0.win 21).blk t).view.emb y 2).val = 1024 * t.val + (y 2).val := by
    blk_simp [e3]
    omega
  blk_simp
  rw [after0_21]
  have hy : (y : S4x144x1024.Idx) = ix3 ⟨(y 0).val, hy0⟩ ⟨(y 1).val, hy1⟩ ⟨(y 2).val, hy2⟩ := by
    funext a
    match a with
    | ⟨0, _⟩ => rfl
    | ⟨1, _⟩ => rfl
    | ⟨2, _⟩ => rfl
  refine (congrArg (outsAt0 m c t.val t.isLt).2.2.2.1 hy).trans ((values_at m c t _ _ _).trans ?_)
  have a0 : (((cfg0.win 21).blk t).view.emb y 0 : Fin 4) = ⟨(y 0).val, hy0⟩ := Fin.ext h0
  have a1 : (((cfg0.win 21).blk t).view.emb y 1 : Fin 144) = ⟨(y 1).val, hy1⟩ := Fin.ext h1
  have a2 : (((cfg0.win 21).blk t).view.emb y 2 : Fin 16384) = ⟨1024 * t.val + (y 2).val, by have := step_lt t; omega⟩ := Fin.ext h2
  unfold valueAt
  rw [weightsAt_eq, rowAt_eq, funext fun j => latent_in m c t j, funext fun k => funext fun j => values_in m c t k j]
  exact (congr (congrArg₂ (fun r e d => value (rowOf m c r) (weightsOf m c) (fun j => m ((c : Thread nD τ).loc main_arg8) (ix2 0 j))
        (fun k j => m ((c : Thread nD τ).loc main_arg10) (ix2 k j)) e d) a2 a0) a1).symm

/-- The side array after the run, cast. -/
theorem final22 : (dats m 0 c).arrAt 22 cfg0.N = (m ((c : Thread nD τ).loc main_arg17) : S8x3584x1024.Idx → EReal) := by
  refine (dats m 0 c).arrAt_eq_of_covers 22 _ (by decide +kernel) fun t hf y => ?_
  have e3 := (index_eq t).2.2.2.2.2.2.2.2.2.2
  have hy0 : (y 0).val < 1 := (y 0).isLt
  have hy1 : (y 1).val < 1792 := (y 1).isLt
  have hy2 : (y 2).val < 1024 := (y 2).isLt
  have h0 : (((cfg0.win 22).blk t).view.emb y 0).val = t.val / 2 := by
    blk_simp [e3]
  have h1 : (((cfg0.win 22).blk t).view.emb y 1).val = 1792 * (t.val % 2) + (y 1).val := by
    blk_simp [e3]
    omega
  have h2 : (((cfg0.win 22).blk t).view.emb y 2).val = (y 2).val := by
    blk_simp [e3]
  blk_simp
  rw [after0_22]
  have hy : (y : S1x1792x1024.Idx) = ix3 0 ⟨(y 1).val, hy1⟩ ⟨(y 2).val, hy2⟩ := by
    funext a
    match a with
    | ⟨0, _⟩ => exact Fin.ext (by show (y 0).val = 0; omega)
    | ⟨1, _⟩ => rfl
    | ⟨2, _⟩ => rfl
  refine (congrArg (outsAt0 m c t.val t.isLt).2.2.2.2.1 hy).trans ((side_at m c t _ _).trans ((side_in m c t _ _).trans ?_))
  refine congrArg (m ((c : Thread nD τ).loc main_arg17)) (funext fun a => Fin.ext ?_)
  match a with
  | ⟨0, _⟩ => exact h0.symm
  | ⟨1, _⟩ => exact h1.symm
  | ⟨2, _⟩ => exact h2.symm

end Cert.PrepIdeal.Gen

end
-- ==== Proof.PrepRef.lean ====
/-
  The reference of the latent-attention layer's preparation, read at an index.
-/
module

public import proofs.«01_k».proof.Proof.Gen.PlainPrepIdeal.Run
public import proofs.«01_k».proof.Proof.PrepUnits
public import proofs.«01_k».proof.Proof.DenseRef
public import Idealize.ShloMosaic.Lib.IdealHost
public import Idealize.ShloMosaic.Lib.KernelVsHost
public import Idealize.ShloMosaic.Lib.Pipeline.Value

@[expose] public section

set_option maxRecDepth 8192

noncomputable section

namespace Cert.PlainPrepIdeal.Read

open Idealize.ShloMosaic hiding ix1 ix2 ix3 ix4 addf_apply subf_apply mulf_apply divf_apply truncf_apply extf_apply constant_apply
open Idealize.ShloMosaic.ValueIdx Idealize.ShloMosaic.Pipeline Idealize.ShloMosaic.TcCoe Idealize.SL.Sem
open Cert.PlainPrepIdeal Cert.PlainPrepIdeal.Gen Cert.Pre Cert.Ffn
open Cert.AllExpertsIdeal.Read (dot_apply one_f32)
open Cert.PlainDenseIdeal.Read (root root_apply spread_row spread_col sixth as_col sum_row)
open scoped BigOperators

/-- The rows, normalized and modulated, projected. -/
def projected (X : FVec Ideal S16384x1024 .f32) (M : FVec Ideal S1x6144 .f32) (N : FVec Ideal S1x1024 .f32)
    (W : FVec Ideal S1024x2048 .bf16) : FVec Ideal S16384x2048 .f32 :=
  Host.dotGeneral dot_S16384x1024_S1024x2048_S16384x2048_1_0_0_1_n_n none
    (addf (mulf (mulf (mulf X (broadcastInDim S16384x1024 ![0, 1] bcast_S16384x1_S16384x1024_0_1 (root X)))
      (broadcastInDim S16384x1024 ![0, 1] bcast_S1x1024_S16384x1024_0_1 N))
      (broadcastInDim S16384x1024 ![0, 1] bcast_S1x1024_S16384x1024_0_1
        (addf (broadcastInDim S1x1024 ![] bcast_S_S1x1024 (constant S_ .f32 0x3F800000#32))
          (extractStridedSlice S1x1024 ![0, 1024] M slices_S1x6144_S1x1024_0_1024))))
      (broadcastInDim S16384x1024 ![0, 1] bcast_S1x1024_S16384x1024_0_1 (extractStridedSlice S1x1024 ![0, 0] M slices_S1x6144_S1x1024_0_0)))
    (extf .f32 W bitsLt_bf16_f32)

/-- One row of the taps, over all rows. -/
def taps (C : FVec Ideal S3x512 .f32) (o : ℕ) (h : S3x512.Slices ![o, 0] S1x512) : FVec Ideal S16384x512 .f32 :=
  broadcastInDim S16384x512 ![0, 1] bcast_S1x512_S16384x512_0_1 (broadcastInDim S1x512 ![1] bcast_S512_S1x512_1
    (shapeCast _ (extractStridedSlice S1x512 ![o, 0] C h) shapeCasts_S1x512_S512))

/-- The product of two projections, two rows of zeros before it. -/
def padded (P : FVec Ideal S16384x2048 .f32) : FVec Ideal S16386x512 .f32 :=
  pad S16386x512 ![2, 0] ![0, 0] ![0, 0] (mulf (extractStridedSlice S16384x512 ![0, 512] P slices_S16384x2048_S16384x512_0_512)
    (extractStridedSlice S16384x512 ![0, 1024] P slices_S16384x2048_S16384x512_0_1024)) (sitofp .f32 (constantI S_ 32 0#32))
    pads_S16384x512_S16386x512_200_000 h_S_

/-- The convolution, from the projections. -/
def convolved (P : FVec Ideal S16384x2048 .f32) (C : FVec Ideal S3x512 .f32) : FVec Ideal S16384x512 .f32 :=
  mulf (extractStridedSlice S16384x512 ![0, 0] P slices_S16384x2048_S16384x512_0_0)
    (addf (addf (addf (broadcastInDim S16384x512 ![] bcast_S_S16384x512 (constant S_ .f32 0x00000000#32))
      (mulf (taps C 0 slices_S3x512_S1x512_0_0) (extractStridedSlice S16384x512 ![0, 0] (padded P) slices_S16386x512_S16384x512_0_0)))
      (mulf (taps C 1 slices_S3x512_S1x512_1_0) (extractStridedSlice S16384x512 ![1, 0] (padded P) slices_S16386x512_S16384x512_1_0)))
      (mulf (taps C 2 slices_S3x512_S1x512_2_0) (extractStridedSlice S16384x512 ![2, 0] (padded P) slices_S16386x512_S16384x512_2_0)))

/-- The latent part of the projections. -/
def latents (P : FVec Ideal S16384x2048 .f32) : FVec Ideal S16384x256 .f32 :=
  extractStridedSlice S16384x256 ![0, 1792] P slices_S16384x2048_S16384x256_0_1792

/-- One over the root of each latent's mean square, the small number added. -/
def lroot (L : FVec Ideal S16384x256 .f32) : FVec Ideal S16384x1 .f32 :=
  Host.rsqrt (addf (Host.divf (broadcastInDim S16384x1 ![0] bcast_S16384_S16384x1_0
      (Host.reduceAdd (mulf L L) (constant S_ .f32 0x00000000#32) reducesTo_S16384x256_S16384_d1 h_S_))
      (broadcastInDim S16384x1 ![] bcast_S_S16384x1 (constant S_ .f32 0x43800000#32)))
    (broadcastInDim S16384x1 ![] bcast_S_S16384x1 (constant S_ .f32 0x358637BD#32)))

/-- The values of the four heads side by side, from the latents. -/
def heads (L : FVec Ideal S16384x256 .f32) (N : FVec Ideal S1x256 .f32) (V : FVec Ideal S512x256 .bf16) : FVec Ideal S16384x512 .f32 :=
  Host.dotGeneral dot_S16384x256_S256x512_S16384x512_1_0_0_1_n_n none
    (mulf (mulf L (broadcastInDim S16384x256 ![0, 1] bcast_S16384x1_S16384x256_0_1 (lroot L)))
      (broadcastInDim S16384x256 ![0, 1] bcast_S1x256_S16384x256_0_1 N))
    (transpose S256x512 [1, 0] (extf .f32 V bitsLt_bf16_f32) transposes_S512x256_S256x512_1_0)

/-- A head's values with a one and zeros after them. -/
def extended (H : FVec Ideal S16384x512 .f32) : FVec Ideal S16384x4x144 .f32 :=
  concatenate S16384x4x144 2 [⟨S16384x4x128, shapeCast _ H shapeCasts_S16384x512_S16384x4x128⟩,
    ⟨S16384x4x1, broadcastInDim S16384x4x1 ![] bcast_S_S16384x4x1 (constant S_ .f32 0x3F800000#32)⟩,
    ⟨S16384x4x15, broadcastInDim S16384x4x15 ![] bcast_S_S16384x4x15 (constant S_ .f32 0x00000000#32)⟩]
    concatenates_S16384x4x128_S16384x4x1_S16384x4x15_S16384x4x144_d2

/-- The values, transposed. -/
def values (H : FVec Ideal S16384x512 .f32) : FVec Ideal S4x144x16384 .f32 :=
  transpose S4x144x16384 [1, 2, 0] (extended H) transposes_S16384x4x144_S4x144x16384_1_2_0

/-- The run ends with those arrays and the cast side array as its results, and the arguments unchanged. -/
theorem run_answer (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v75) = (convolved (projected (m ((c.tc : Thread nD τ).loc main_arg0)) (m ((c.tc : Thread nD τ).loc main_arg1))
        (m ((c.tc : Thread nD τ).loc main_arg2)) (m ((c.tc : Thread nD τ).loc main_arg3))) (m ((c.tc : Thread nD τ).loc main_arg5)) : S16384x512.Idx → EReal)
      ∧ r.2.mem ((c.tc : Thread nD τ).loc main_v77) = (values (heads (latents (projected (m ((c.tc : Thread nD τ).loc main_arg0)) (m ((c.tc : Thread nD τ).loc main_arg1))
        (m ((c.tc : Thread nD τ).loc main_arg2)) (m ((c.tc : Thread nD τ).loc main_arg3)))) (m ((c.tc : Thread nD τ).loc main_arg8))
          (m ((c.tc : Thread nD τ).loc main_arg10))) : S4x144x16384.Idx → EReal)
      ∧ r.2.mem ((c.tc : Thread nD τ).loc main_v78) = (m ((c.tc : Thread nD τ).loc main_arg17) : S8x3584x1024.Idx → EReal)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17) :=
  Value.run m ρ

/-- The projections, read at an entry. -/
theorem projected_apply (X : FVec Ideal S16384x1024 .f32) (M : FVec Ideal S1x6144 .f32) (N : FVec Ideal S1x1024 .f32)
    (W : FVec Ideal S1024x2048 .bf16) (r : Fin 16384) (n : Fin 2048) :
    projected X M N W (ix2 r n) = project (row X M N r) (fun k n => W (ix2 k n)) n := by
  refine (dot_apply _ rfl _ _ r n).trans (Finset.sum_congr rfl fun k _ => congrArg (· * W (ix2 k n)) ?_)
  unfold row normed
  rw [← mul_assoc]
  refine congrArg₂ (· + ·) (congrArg₂ (· * ·) (congrArg₂ (· * ·) (congrArg (X (ix2 r k) * ·) ?_) (spread_row N r k)) ?_) ?_
  · exact (spread_col (root X) r k).trans (root_apply X r)
  · refine (spread_row _ r k).trans (congrArg₂ (· + ·) ?_ (sixth M 1024 (by omega) _ k))
    rw [broadcastInDim_scalar_apply]
    rfl
  · exact (spread_row _ r k).trans ((sixth M 0 (by omega) _ k).trans (by simp only [Nat.zero_add]))

/-- A group of columns of the projections. -/
theorem columns {D : ℕ} (P : FVec Ideal S16384x2048 .f32) (o : ℕ) (ho : o + D ≤ 2048) (h : S16384x2048.Slices ![0, o] ⟨2, ![16384, D]⟩)
    (r : Fin 16384) (k : Fin D) :
    extractStridedSlice ⟨2, ![16384, D]⟩ ![0, o] P h (ix2 r k) = P (ix2 r ⟨o + k.val, by omega⟩) := by
  refine congrArg P (funext fun a => Fin.ext ?_)
  match a with
  | ⟨0, _⟩ => exact Nat.zero_add _
  | ⟨1, _⟩ => rfl

/-- A tap, read at an entry. -/
theorem taps_apply (C : FVec Ideal S3x512 .f32) (o : Fin 3) (h : S3x512.Slices ![o.val, 0] S1x512) (r : Fin 16384) (c : Fin 512) :
    taps C o.val h (ix2 r c) = C (ix2 o c) := by
  unfold taps
  refine (broadcastInDim_apply (k := ix2 0 c) _ _ _ _ fun a => ?_).trans ((broadcastInDim_apply (k := ix1 c) _ _ _ _ fun a => ?_).trans
    ((shapeCast_apply _ _ (ix1 c) (ix2 (0 : Fin 1) c) ?_).trans (congrArg C (funext fun a => Fin.ext ?_))))
  · match a with
    | ⟨0, _⟩ => rfl
    | ⟨1, _⟩ => rfl
  · match a with
    | ⟨0, _⟩ => rfl
  · rw [Shape.rowMajor_val_two, Shape.rowMajor_val_one]
    show 0 * 512 + c.val = c.val
    omega
  · match a with
    | ⟨0, _⟩ => rfl
    | ⟨1, _⟩ => exact Nat.zero_add _

/-- A row of the padded product: the product's row so many back, or zero. -/
theorem padded_apply (P : FVec Ideal S16384x2048 .f32) (n : ℕ) (hn : n ≤ 2) (h : S16386x512.Slices ![2 - n, 0] S16384x512)
    (r : Fin 16384) (c : Fin 512) :
    extractStridedSlice S16384x512 ![2 - n, 0] (padded P) h (ix2 r c)
      = if n ≤ r.val then P (ix2 ⟨r.val - n, by omega⟩ ⟨512 + c.val, by omega⟩) * P (ix2 ⟨r.val - n, by omega⟩ ⟨1024 + c.val, by omega⟩)
        else 0 := by
  have e : extractStridedSlice S16384x512 ![2 - n, 0] (padded P) h (ix2 r c) = padded P (ix2 ⟨2 - n + r.val, by omega⟩ c) := by
    refine congrArg (padded P) (funext fun a => Fin.ext ?_)
    match a with
    | ⟨0, _⟩ => rfl
    | ⟨1, _⟩ => exact Nat.zero_add _
  rw [e]
  split
  · refine (pad_apply_of_inside _ _ _ _ _ _ _ _ (ix2 ⟨r.val - n, by omega⟩ c) fun a => ?_).trans
      (congrArg₂ (· * ·) (columns P 512 (by omega) _ _ c) (columns P 1024 (by omega) _ _ c))
    match a with
    | ⟨0, _⟩ => show 2 - n + r.val = 2 + (r.val - n) * (0 + 1); omega
    | ⟨1, _⟩ => show c.val = 0 + c.val * (0 + 1); omega
  · refine (pad_apply_of_not_inside _ _ _ _ _ _ _ _ 0 fun hi => ?_).trans ?_
    · have : 2 ≤ 2 - n + r.val := hi.1
      omega
    · show ((((0#32 : BitVec 32).toInt : ℝ)) : EReal) = 0
      simp

/-- The reference's first result, read at an entry. -/
theorem convolved_apply (X : FVec Ideal S16384x1024 .f32) (M : FVec Ideal S1x6144 .f32) (N : FVec Ideal S1x1024 .f32)
    (W : FVec Ideal S1024x2048 .bf16) (C : FVec Ideal S3x512 .f32) (r : Fin 16384) (c : Fin 512) :
    convolved (projected X M N W) C (ix2 r c)
      = conv (row X M N) (fun k n => W (ix2 k n)) (fun k c => C (ix2 k c)) r c := by
  have z : broadcastInDim S16384x512 ![] bcast_S_S16384x512 (constant (F := Ideal) S_ .f32 0x00000000#32) (ix2 r c) = 0 := by
    rw [broadcastInDim_scalar_apply]; exact Ideal.ofBits_zero_f32
  have b : ∀ n (hn : n ≤ 2) (h : S16386x512.Slices ![2 - n, 0] S16384x512),
      extractStridedSlice S16384x512 ![2 - n, 0] (padded (projected X M N W)) h (ix2 r c)
        = back (row X M N) (fun k n => W (ix2 k n)) r n c := fun n hn h => by
    rw [padded_apply _ n hn, projected_apply, projected_apply]
    rfl
  unfold conv tap
  refine congrArg₂ (· * ·) ((columns _ 0 (by omega) _ r c).trans ((congrArg _ (congrArg (ix2 r) (Fin.ext (Nat.zero_add _)))).trans
    (projected_apply X M N W r _))) (congrArg₂ (· + ·) (congrArg₂ (· + ·) ?_ ?_) ?_)
  · exact (congrArg₂ (· + ·) z (congrArg₂ (· * ·) (taps_apply C 0 _ r c) (b 2 (by omega) _))).trans (zero_add _)
  · exact congrArg₂ (· * ·) (taps_apply C 1 _ r c) (b 1 (by omega) _)
  · exact congrArg₂ (· * ·) (taps_apply C 2 _ r c) ((b 0 (by omega) _).trans (if_pos (Nat.zero_le _)))

/-- One row of 256 spread over all rows. -/
theorem spread_row_256 (v : FVec Ideal S1x256 .f32) (r : Fin 16384) (k : Fin 256) :
    broadcastInDim S16384x256 ![0, 1] bcast_S1x256_S16384x256_0_1 v (ix2 r k) = v (ix2 0 k) := by
  refine broadcastInDim_apply (k := ix2 0 k) _ _ _ _ fun a => ?_
  match a with
  | ⟨0, _⟩ => rfl
  | ⟨1, _⟩ => rfl

/-- One column spread over 256 columns. -/
theorem spread_col_256 (v : FVec Ideal S16384x1 .f32) (r : Fin 16384) (k : Fin 256) :
    broadcastInDim S16384x256 ![0, 1] bcast_S16384x1_S16384x256_0_1 v (ix2 r k) = v (ix2 r 0) := by
  refine broadcastInDim_apply (k := ix2 r 0) _ _ _ _ fun a => ?_
  match a with
  | ⟨0, _⟩ => rfl
  | ⟨1, _⟩ => rfl

theorem lroot_apply (L : FVec Ideal S16384x256 .f32) (r : Fin 16384) :
    lroot L (ix2 r 0) = Ideal.rsqrt (Ideal.div (∑ j : Fin 256, L (ix2 r j) * L (ix2 r j)) (Ideal.ofBits .f32 0x43800000#32)
      + Ideal.ofBits .f32 0x358637BD#32) := by
  have e1 : broadcastInDim S16384x1 ![] bcast_S_S16384x1 (constant (F := Ideal) S_ .f32 0x43800000#32) (ix2 r 0)
      = Ideal.ofBits .f32 0x43800000#32 := by rw [broadcastInDim_scalar_apply]; rfl
  have e2 : broadcastInDim S16384x1 ![] bcast_S_S16384x1 (constant (F := Ideal) S_ .f32 0x358637BD#32) (ix2 r 0)
      = Ideal.ofBits .f32 0x358637BD#32 := by rw [broadcastInDim_scalar_apply]; rfl
  have e3 : Host.reduceAdd (F := Ideal) (mulf L L) (constant S_ .f32 0x00000000#32) reducesTo_S16384x256_S16384_d1 h_S_ (ix1 r)
      = ∑ j : Fin 256, L (ix2 r j) * L (ix2 r j) := by
    refine (sum_row (A := 16384) (N := 256) (mulf L L) _ _ _ r).trans ?_
    rw [constant_apply, Ideal.ofBits_zero_f32, zero_add]
    rfl
  have e4 := (as_col (Host.reduceAdd (F := Ideal) (mulf L L) (constant S_ .f32 0x00000000#32) reducesTo_S16384x256_S16384_d1 h_S_) r).trans e3
  exact congrArg Ideal.rsqrt (congrArg₂ (· + ·) (congrArg₂ Ideal.div e4 e1) e2)

/-- The four heads' values, read at an entry. -/
theorem heads_apply (X : FVec Ideal S16384x1024 .f32) (M : FVec Ideal S1x6144 .f32) (N : FVec Ideal S1x1024 .f32)
    (W : FVec Ideal S1024x2048 .bf16) (K : FVec Ideal S1x256 .f32) (V : FVec Ideal S512x256 .bf16) (r : Fin 16384) (n : Fin 512) :
    heads (latents (projected X M N W)) K V (ix2 r n)
      = ∑ j, latent (row X M N r) (fun k n => W (ix2 k n)) (fun j => K (ix2 0 j)) j * V (ix2 n j) := by
  have hL : ∀ j : Fin 256, latents (projected X M N W) (ix2 r j) = project (row X M N r) (fun k n => W (ix2 k n)) ⟨1792 + j.val, by omega⟩ :=
    fun j => (columns _ 1792 (by omega) _ r j).trans (projected_apply X M N W r _)
  refine (dot_apply _ rfl _ _ r n).trans (Finset.sum_congr rfl fun j _ => congrArg₂ (· * ·) ?_ ?_)
  · unfold latent
    simp only [← hL]
    exact congrArg₂ (· * ·) (congrArg (latents (projected X M N W) (ix2 r j) * ·) ((spread_col_256 _ r j).trans (lroot_apply _ r)))
      (spread_row_256 K r j)
  · refine congrArg V (funext fun a => Fin.ext ?_)
    match a with
    | ⟨0, _⟩ => rfl
    | ⟨1, _⟩ => rfl

/-- A head's values with the one and the zeros, read at an entry. -/
theorem extended_apply (H : FVec Ideal S16384x512 .f32) (r : Fin 16384) (e : Fin 4) (d : Fin 144) :
    extended H (ix3 r e d) = if h : d.val < 128 then H (ix2 r ⟨128 * e.val + d.val, by omega⟩) else if d.val = 128 then 1 else 0 := by
  have z0 : ∀ j, broadcastInDim S16384x4x15 ![] bcast_S_S16384x4x15 (constant (F := Ideal) S_ .f32 0x00000000#32) j = (0 : EReal) := fun j => by
    rw [broadcastInDim_scalar_apply]; exact Ideal.ofBits_zero_f32
  have z1 : ∀ j, broadcastInDim S16384x4x1 ![] bcast_S_S16384x4x1 (constant (F := Ideal) S_ .f32 0x3F800000#32) j = (1 : EReal) := fun j => by
    rw [broadcastInDim_scalar_apply]; exact one_f32
  have off : ∀ {n : Nat} (q : Fin n) (b : Fin 3), b ≠ 2 → (ix3 (n0 := 16384) (n1 := 4) (n2 := n) r e q b).val = (ix3 r e d b).val := fun q b hb => by
    match b with
    | ⟨0, _⟩ => rfl
    | ⟨1, _⟩ => rfl
    | ⟨2, _⟩ => exact absurd rfl hb
  unfold extended
  by_cases h : d.val < 128
  · rw [dif_pos h]
    refine (concatenate_apply_piece (t := S16384x4x144) 2 _ _ (ix3 r e d) 0 (by simp) S16384x4x128 _ rfl rfl 0 rfl
      (ix3 r e ⟨d.val, h⟩) (off _) (Nat.zero_add _)).trans ?_
    refine shapeCast_apply _ _ _ (ix2 r ⟨128 * e.val + d.val, by omega⟩) ?_
    rw [Shape.rowMajor_val_two, Shape.rowMajor_val_three]
    show r.val * 512 + (128 * e.val + d.val) = (r.val * 4 + e.val) * 128 + d.val
    omega
  · rw [dif_neg h]
    by_cases h1 : d.val = 128
    · rw [if_pos h1]
      exact (concatenate_apply_piece (t := S16384x4x144) 2 _ _ (ix3 r e d) 1 (by simp) S16384x4x1 _ rfl rfl 128 rfl
        (ix3 r e 0) (off _) h1.symm).trans (z1 _)
    · rw [if_neg h1]
      exact (concatenate_apply_piece (t := S16384x4x144) 2 _ _ (ix3 r e d) 2 (by simp) S16384x4x15 _ rfl rfl 129 rfl
        (ix3 r e ⟨d.val - 129, by omega⟩) (off _) (show 129 + (d.val - 129) = d.val by omega)).trans (z0 _)

/-- The reference's second result, read at an entry. -/
theorem values_apply (X : FVec Ideal S16384x1024 .f32) (M : FVec Ideal S1x6144 .f32) (N : FVec Ideal S1x1024 .f32)
    (W : FVec Ideal S1024x2048 .bf16) (K : FVec Ideal S1x256 .f32) (V : FVec Ideal S512x256 .bf16) (e : Fin 4) (d : Fin 144) (r : Fin 16384) :
    values (heads (latents (projected X M N W)) K V) (ix3 e d r)
      = value (row X M N r) (fun k n => W (ix2 k n)) (fun j => K (ix2 0 j)) (fun k j => V (ix2 k j)) e d := by
  have hT : values (heads (latents (projected X M N W)) K V) (ix3 e d r) = extended (heads (latents (projected X M N W)) K V) (ix3 r e d) := by
    refine congrArg (extended _) (funext fun a => Fin.ext ?_)
    match a with
    | ⟨0, _⟩ => rfl
    | ⟨1, _⟩ => rfl
    | ⟨2, _⟩ => rfl
  rw [hT, extended_apply]
  unfold value
  simp only [heads_apply]

end Cert.PlainPrepIdeal.Read

end
-- ==== Proof.lean ====
/-
  The certificate: the attention of one layer, tiled and without a running maximum, equals the causal softmax attention; and the
  experts of the same layer, run over sorted tiles of rows, equal at the rows in use the sum over all experts with each row's one expert selected;
  and the dense feed-forward part of the layer before equals its plain form; and so do the output projection after the attention,
  its residual, and the normalized rows for the experts; and, before the attention, the short convolution and the heads' values.

  The attention's array is `Cert.KernelIdeal.Gen.final` (Spec.lean), its reference's `Cert.ReferenceIdeal.Read.res_eq` (Ref.lean),
  and `Cert.Attn.answer_eq_out` (Same.lean) equates them for finite queries and keys (Finite.lean reads the precondition).

  The experts' frames are `Tiles.keeps` (Tiles.lean, TilesIdeal.lean), for tables that name blocks inside the arrays (TilesOk.lean,
  TilesIdealOk.lean, from the precondition read by Words.lean); their array is `Cert.ExpertsIdeal.Tiles.run_rows` (ExpertsSame.lean).

  The dense part's arrays are `Cert.DenseIdeal.Gen.final6` and `final7` (DenseFinal.lean), its reference's entries
  `Cert.PlainDenseIdeal.Read.answer_apply` (DenseRef.lean).

  The output projection's arrays are `Cert.MixedIdeal.Gen.final8` and `final9` (MixedFinal.lean), its reference's entries
  `Cert.PlainMixedIdeal.Read.answer_apply` and `ready_apply` (MixedRef.lean).

  The odd layer's first arrays are `Cert.PrepIdeal.Gen.final18`, `final21` and `final22` (PrepFinal.lean), its reference's entries
  `Cert.PlainPrepIdeal.Read.convolved_apply` and `values_apply` (PrepRef.lean).
-/
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.Pre_finite
public import proofs.«01_k».proof.Proof.Gen.Experts
public import proofs.«01_k».proof.Proof.Gen.ExpertsIdeal
public import proofs.«01_k».proof.Proof.Gen.AllExpertsIdeal
public import proofs.«01_k».proof.Proof.Gen.AllExpertsIdeal.Run
public import proofs.«01_k».proof.Proof.Gen.Pre_tables
public import proofs.«01_k».proof.Proof.Gen.On_written
public import proofs.«01_k».proof.Proof.Gen.Dense
public import proofs.«01_k».proof.Proof.Gen.Dense.Frame
public import proofs.«01_k».proof.Proof.Gen.DenseIdeal
public import proofs.«01_k».proof.Proof.Gen.DenseIdeal.Frame
public import proofs.«01_k».proof.Proof.Gen.DenseIdeal.Value
public import proofs.«01_k».proof.Proof.Gen.PlainDenseIdeal
public import proofs.«01_k».proof.Proof.Gen.PlainDenseIdeal.Run
public import proofs.«01_k».proof.Proof.Gen.Mixed
public import proofs.«01_k».proof.Proof.Gen.Mixed.Frame
public import proofs.«01_k».proof.Proof.Gen.MixedIdeal
public import proofs.«01_k».proof.Proof.Gen.MixedIdeal.Frame
public import proofs.«01_k».proof.Proof.Gen.MixedIdeal.Value
public import proofs.«01_k».proof.Proof.Gen.PlainMixedIdeal
public import proofs.«01_k».proof.Proof.Gen.PlainMixedIdeal.Run
public import proofs.«01_k».proof.Proof.Gen.Prep
public import proofs.«01_k».proof.Proof.Gen.Prep.Frame
public import proofs.«01_k».proof.Proof.Gen.PrepIdeal
public import proofs.«01_k».proof.Proof.Gen.PrepIdeal.Frame
public import proofs.«01_k».proof.Proof.Gen.PrepIdeal.Value
public import proofs.«01_k».proof.Proof.Gen.PlainPrepIdeal
public import proofs.«01_k».proof.Proof.Gen.PlainPrepIdeal.Run
public import proofs.«01_k».proof.Proof.Spec
public import proofs.«01_k».proof.Proof.Ref
public import proofs.«01_k».proof.Proof.Same
public import proofs.«01_k».proof.Proof.Finite
public import proofs.«01_k».proof.Proof.TilesOk
public import proofs.«01_k».proof.Proof.TilesIdealOk
public import proofs.«01_k».proof.Proof.ExpertsSame
public import proofs.«01_k».proof.Proof.DenseFinal
public import proofs.«01_k».proof.Proof.DenseRef
public import proofs.«01_k».proof.Proof.MixedFinal
public import proofs.«01_k».proof.Proof.MixedRef
public import proofs.«01_k».proof.Proof.PrepFinal
public import proofs.«01_k».proof.Proof.PrepRef
public import Idealize.ShloMosaic.Adequacy
public import Idealize.ShloMosaic.Init

@[expose] public section

noncomputable section

namespace Cert.Proof

open Idealize.ShloMosaic Idealize.SL.Sem

/-- The fact instances of the preconditions' functions and of the mask's. -/
local instance : Cert.Pre_finite.Facts := Cert.Pre_finite.Gen.facts
local instance : Cert.Pre_tables.Facts := Cert.Pre_tables.Gen.facts
local instance : Cert.On_written.Facts := Cert.On_written.Gen.facts

/-! ## The attention -/

/-- Kernel and reference return one array, for finite queries and keys. -/
theorem value : Cert.algebraic_KernelIdeal_ReferenceIdeal_pre_finite (hKernelIdeal := Cert.KernelIdeal.Gen.facts)
    (hReferenceIdeal := Cert.ReferenceIdeal.Gen.facts) (hPre_finite := Cert.Pre_finite.Gen.facts) := by
  intro m g m' g' hpre hm
  refine ⟨fun c => Cert.Attn.out (m (c.tc.loc Cert.KernelIdeal.main_arg0)) (m (c.tc.loc Cert.KernelIdeal.main_arg1))
    (m (c.tc.loc Cert.KernelIdeal.main_arg2)), ?_, ?_⟩
  · exact θ_run_mono (Cert.KernelIdeal.Value.run_blocks m g) fun r h c => ⟨(h c).1.trans (Cert.KernelIdeal.Gen.final m c), (h c).2⟩
  · refine θ_run_mono (Cert.ReferenceIdeal.Value.run m' g') fun r h c => ⟨(h c).1.trans ?_, (h c).2⟩
    obtain ⟨hq, hk⟩ := Cert.Attn.finite_of_pre _ _ _ (hpre c)
    obtain ⟨e0, e1, e2⟩ := hm c
    refine (Cert.ReferenceIdeal.Read.res_eq m' c).trans ?_
    rw [e0, e1, e2]
    exact Cert.Attn.answer_eq_out _ _ _ hq hk

/-- The reference terminates and leaves its arguments alone; it declares no semaphore, so no counter moves. -/
theorem reference_frame : Cert.quiescent_ReferenceIdeal (hReferenceIdeal := Cert.ReferenceIdeal.Gen.facts) := fun m g _ =>
  θ_run_mono (Cert.ReferenceIdeal.Value.run m g) fun r h => ⟨fun c => (h c).2, sem_eq_zero_of_no_sems (by decide) r.2⟩

/-! ## The experts -/

/-- Kernel and reference hold the same entries at the rows in use. -/
theorem experts_value : Cert.algebraic_ExpertsIdeal_AllExpertsIdeal_on_written (hExpertsIdeal := Cert.ExpertsIdeal.Gen.facts)
    (hAllExpertsIdeal := Cert.AllExpertsIdeal.Gen.facts) (hPre_tables := Cert.Pre_tables.Gen.facts)
    (hOn_written := Cert.On_written.Gen.facts) := by
  intro m g m' g' hpre hm
  refine ⟨fun c => Cert.ExpertsIdeal.Tiles.target m c, Cert.ExpertsIdeal.Tiles.run_rows m g hpre, ?_⟩
  refine θ_run_mono (Cert.AllExpertsIdeal.Read.run_answer m' g') fun r h c => ⟨fun i _ => ?_, (h c).2⟩
  obtain ⟨e0, -, -, e3, e4, e5⟩ := hm c
  have e := congrFun (h c).1 i
  rw [e0, e3, e4, e5] at e
  exact e

/-- The reference terminates and leaves its arguments alone; it declares no semaphore, so no counter moves. -/
theorem experts_reference_frame : Cert.quiescent_AllExpertsIdeal (hAllExpertsIdeal := Cert.AllExpertsIdeal.Gen.facts) := fun m g _ =>
  θ_run_mono (Cert.AllExpertsIdeal.Read.run_answer m g) fun r h => ⟨fun c => (h c).2, sem_eq_zero_of_no_sems (by decide) r.2⟩

/-- The dense feed-forward kernel and its reference end with the same two arrays. -/
theorem dense_value : Cert.algebraic_DenseIdeal_PlainDenseIdeal (hDenseIdeal := Cert.DenseIdeal.Gen.facts)
    (hPlainDenseIdeal := Cert.PlainDenseIdeal.Gen.facts) := by
  intro m g m' g' _ hm
  refine ⟨fun c => _, fun c => _, θ_run_mono (Cert.DenseIdeal.Value.run_blocks m g) fun r h c =>
    ⟨(h c).1.trans (Cert.DenseIdeal.Gen.final6 m c), (h c).2.1.trans (Cert.DenseIdeal.Gen.final7 m c), (h c).2.2⟩, ?_⟩
  refine θ_run_mono (Cert.PlainDenseIdeal.Read.run_answer m' g') fun r h c => ?_
  obtain ⟨e0, e1, e2, e3, e4, e5⟩ := hm c
  obtain ⟨h0, h1, hrest⟩ := h c
  rw [e0, e1, e2, e3, e4] at h0
  rw [e5] at h1
  refine ⟨h0.trans (funext fun x => ?_), h1, hrest⟩
  have hx : (x : Cert.PlainDenseIdeal.S16384x1024.Idx) = ix2 (x 0) (x 1) := by
    funext a
    match a with
    | ⟨0, _⟩ => rfl
    | ⟨1, _⟩ => rfl
  refine (congrArg (Cert.PlainDenseIdeal.Read.answer _ _ _ _ _) hx).trans ?_
  exact Cert.PlainDenseIdeal.Read.answer_apply _ _ _ _ _ (x 0) (x 1)

/-- The reference terminates and leaves its arguments alone; it declares no semaphore, so no counter moves. -/
theorem dense_reference_frame : Cert.quiescent_PlainDenseIdeal (hPlainDenseIdeal := Cert.PlainDenseIdeal.Gen.facts) := fun m g _ =>
  θ_run_mono (Cert.PlainDenseIdeal.Read.run_answer m g) fun r h => ⟨fun c => (h c).2.2, sem_eq_zero_of_no_sems (by decide) r.2⟩

/-- The kernel of the output projection and its reference end with the same residual and the same normalized rows. -/
theorem mixed_value : Cert.algebraic_MixedIdeal_PlainMixedIdeal (hMixedIdeal := Cert.MixedIdeal.Gen.facts)
    (hPlainMixedIdeal := Cert.PlainMixedIdeal.Gen.facts) := by
  intro m g m' g' _ hm
  refine ⟨fun c => _, fun c => _, θ_run_mono (Cert.MixedIdeal.Value.run_blocks m g) fun r h c =>
    ⟨(h c).1.trans (Cert.MixedIdeal.Gen.final8 m c), (h c).2.1.trans (Cert.MixedIdeal.Gen.final9 m c), (h c).2.2.2.2.2⟩, ?_⟩
  refine θ_run_mono (Cert.PlainMixedIdeal.Read.run_answer m' g') fun r h c => ?_
  obtain ⟨e0, e1, e2, e3, e4, e5, -⟩ := hm c
  obtain ⟨h0, h1, hrest⟩ := h c
  rw [e0, e1, e2, e3, e5] at h0
  rw [e0, e1, e2, e3, e4, e5] at h1
  have hx : ∀ x : Cert.PlainMixedIdeal.S16384x1024.Idx, x = ix2 (x 0) (x 1) := fun x => by
    funext a
    match a with
    | ⟨0, _⟩ => rfl
    | ⟨1, _⟩ => rfl
  refine ⟨h0.trans (funext fun x => ?_), h1.trans (funext fun x => ?_), hrest⟩
  · refine (congrArg (Cert.PlainMixedIdeal.Read.answer _ _ _ _ _) (hx x)).trans ?_
    exact Cert.PlainMixedIdeal.Read.answer_apply _ _ _ _ _ (x 0) (x 1)
  · refine (congrArg (Cert.PlainDenseIdeal.Read.modulated _ _ _) (hx x)).trans ?_
    exact Cert.PlainMixedIdeal.Read.ready_apply _ _ _ _ _ _ (x 0) (x 1)

/-- The reference terminates and leaves its arguments alone; it declares no semaphore, so no counter moves. -/
theorem mixed_reference_frame : Cert.quiescent_PlainMixedIdeal (hPlainMixedIdeal := Cert.PlainMixedIdeal.Gen.facts) := fun m g _ =>
  θ_run_mono (Cert.PlainMixedIdeal.Read.run_answer m g) fun r h => ⟨fun c => (h c).2.2, sem_eq_zero_of_no_sems (by decide) r.2⟩

/-- The odd layer's first call and its reference end with the same convolution, the same values and the same cast of the weights. -/
theorem prep_value : Cert.algebraic_PrepIdeal_PlainPrepIdeal (hPrepIdeal := Cert.PrepIdeal.Gen.facts)
    (hPlainPrepIdeal := Cert.PlainPrepIdeal.Gen.facts) := by
  intro m g m' g' _ hm
  refine ⟨fun c => _, fun c => _, fun c => _, θ_run_mono (Cert.PrepIdeal.Value.run_blocks m g) fun r h c =>
    ⟨(h c).1.trans (Cert.PrepIdeal.Gen.final18 m c), (h c).2.2.2.1.trans (Cert.PrepIdeal.Gen.final21 m c),
      (h c).2.2.2.2.1.trans (Cert.PrepIdeal.Gen.final22 m c), (h c).2.2.2.2.2⟩, ?_⟩
  refine θ_run_mono (Cert.PlainPrepIdeal.Read.run_answer m' g') fun r h c => ?_
  obtain ⟨e0, e1, e2, e3, -, e5, -, -, e8, -, e10, -, -, -, -, -, -, e17⟩ := hm c
  obtain ⟨h0, h1, h2, hrest⟩ := h c
  rw [e0, e1, e2, e3, e5] at h0
  rw [e0, e1, e2, e3, e8, e10] at h1
  rw [e17] at h2
  have hx : ∀ x : Cert.PlainPrepIdeal.S16384x512.Idx, x = ix2 (x 0) (x 1) := fun x => by
    funext a
    match a with
    | ⟨0, _⟩ => rfl
    | ⟨1, _⟩ => rfl
  have hy : ∀ y : Cert.PlainPrepIdeal.S4x144x16384.Idx, y = ix3 (y 0) (y 1) (y 2) := fun y => by
    funext a
    match a with
    | ⟨0, _⟩ => rfl
    | ⟨1, _⟩ => rfl
    | ⟨2, _⟩ => rfl
  refine ⟨h0.trans (funext fun x => ?_), h1.trans (funext fun y => ?_), h2, hrest⟩
  · refine (congrArg (Cert.PlainPrepIdeal.Read.convolved _ _) (hx x)).trans ?_
    exact Cert.PlainPrepIdeal.Read.convolved_apply _ _ _ _ _ (x 0) (x 1)
  · refine (congrArg (Cert.PlainPrepIdeal.Read.values _) (hy y)).trans ?_
    exact Cert.PlainPrepIdeal.Read.values_apply _ _ _ _ _ _ (y 0) (y 1) (y 2)

/-- The reference terminates and leaves its arguments alone; it declares no semaphore, so no counter moves. -/
theorem prep_reference_frame : Cert.quiescent_PlainPrepIdeal (hPlainPrepIdeal := Cert.PlainPrepIdeal.Gen.facts) := fun m g _ =>
  θ_run_mono (Cert.PlainPrepIdeal.Read.run_answer m g) fun r h => ⟨fun c => (h c).2.2.2, sem_eq_zero_of_no_sems (by decide) r.2⟩

/-- The whole certificate. -/
theorem claim : Cert.Claim := ⟨Cert.Kernel.Gen.facts, Cert.KernelIdeal.Gen.facts, Cert.ReferenceIdeal.Gen.facts,
  Cert.Experts.Gen.facts, Cert.ExpertsIdeal.Gen.facts, Cert.AllExpertsIdeal.Gen.facts,
  Cert.Dense.Gen.facts, Cert.DenseIdeal.Gen.facts, Cert.PlainDenseIdeal.Gen.facts,
  Cert.Mixed.Gen.facts, Cert.MixedIdeal.Gen.facts, Cert.PlainMixedIdeal.Gen.facts,
  Cert.Prep.Gen.facts, Cert.PrepIdeal.Gen.facts, Cert.PlainPrepIdeal.Gen.facts,
  Cert.Pre_finite.Gen.facts, Cert.Pre_tables.Gen.facts, Cert.On_written.Gen.facts,
  fun m g _ => Cert.Kernel.Gen.frame m g,
  fun m g _ => Cert.KernelIdeal.Gen.frame m g,
  fun m g _ => Cert.KernelIdeal.Gen.frame m g,
  fun m g _ => reference_frame m g trivial,
  fun m g _ => reference_frame m g trivial,
  fun m g hp => Cert.Experts.Tiles.keeps m g (Cert.Experts.Tiles.ok_of_bounded _ (Cert.Experts.Tiles.bounded_of_pre m 0 (hp 0))),
  fun m g hp => Cert.ExpertsIdeal.Tiles.keeps m g (Cert.ExpertsIdeal.Tiles.ok_of_bounded _ (Cert.ExpertsIdeal.Tiles.bounded_of_pre m 0 (hp 0))),
  fun m g _ => experts_reference_frame m g trivial,
  fun m g _ => experts_reference_frame m g trivial,
  fun m g _ => Cert.Dense.Gen.frame m g,
  fun m g _ => Cert.DenseIdeal.Gen.frame m g,
  dense_reference_frame,
  fun m g _ => Cert.Mixed.Gen.frame m g,
  fun m g _ => Cert.MixedIdeal.Gen.frame m g,
  mixed_reference_frame,
  fun m g _ => Cert.Prep.Gen.frame m g,
  fun m g _ => Cert.PrepIdeal.Gen.frame m g,
  prep_reference_frame,
  IdealRules.named_const.statement _ _ _ _ _ rfl,
  value,
  trivial,
  experts_value,
  trivial,
  dense_value,
  trivial,
  mixed_value,
  trivial,
  prep_value⟩

end Cert.Proof

end
